-- ==== Defs.lean ====
def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_pre [hPre_pre : Cert.Pre_pre.Facts] (m : (ℓ : Loc Cert.AttendIdeal.nD Cert.AttendIdeal.τ Cert.AttendIdeal.sig) → Buf (Elt Ideal) ℓ) : Prop :=
  ∀ c : Dev Cert.AttendIdeal.nD,
    (Cert.Pre_pre.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendIdeal_pre_pre [hAttendIdeal : Cert.AttendIdeal.Facts] [hPre_pre : Cert.Pre_pre.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_pre m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Attend_AttendIdeal : Prop :=
  True

def algebraic_AttendIdeal_ReferenceIdeal_pre_pre [hAttendIdeal : Cert.AttendIdeal.Facts] [hReferenceIdeal : Cert.ReferenceIdeal.Facts] [hPre_pre : Cert.Pre_pre.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_AttendIdeal_pre m →
    (∀ c : Dev Cert.AttendIdeal.nD,
      m' ((c.tc : Thread Cert.ReferenceIdeal.nD Cert.ReferenceIdeal.τ).loc Cert.ReferenceIdeal.main_arg0) = m ((c.tc : Thread Cert.AttendIdeal.nD Cert.AttendIdeal.τ).loc Cert.AttendIdeal.main_arg0)
      ∧ m' ((c.tc : Thread Cert.ReferenceIdeal.nD Cert.ReferenceIdeal.τ).loc Cert.ReferenceIdeal.main_arg1) = m ((c.tc : Thread Cert.AttendIdeal.nD Cert.AttendIdeal.τ).loc Cert.AttendIdeal.main_arg1)
      ∧ m' ((c.tc : Thread Cert.ReferenceIdeal.nD Cert.ReferenceIdeal.τ).loc Cert.ReferenceIdeal.main_arg2) = m ((c.tc : Thread Cert.AttendIdeal.nD Cert.AttendIdeal.τ).loc Cert.AttendIdeal.main_arg2)
      ∧ m' ((c.tc : Thread Cert.ReferenceIdeal.nD Cert.ReferenceIdeal.τ).loc Cert.ReferenceIdeal.main_arg3) = m ((c.tc : Thread Cert.AttendIdeal.nD Cert.AttendIdeal.τ).loc Cert.AttendIdeal.main_arg3)
      ∧ m' ((c.tc : Thread Cert.ReferenceIdeal.nD Cert.ReferenceIdeal.τ).loc Cert.ReferenceIdeal.main_arg4) = m ((c.tc : Thread Cert.AttendIdeal.nD Cert.AttendIdeal.τ).loc Cert.AttendIdeal.main_arg4)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hAttend : Cert.Attend.Facts) (hAttendIdeal : Cert.AttendIdeal.Facts) (hReferenceIdeal : Cert.ReferenceIdeal.Facts) (hPre_pre : Cert.Pre_pre.Facts),
    quiescent_Attend (hAttend := hAttend)
    ∧ quiescent_AttendIdeal (hAttendIdeal := hAttendIdeal)
    ∧ quiescent_AttendIdeal_pre_pre (hAttendIdeal := hAttendIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Attend_AttendIdeal
    ∧ algebraic_AttendIdeal_ReferenceIdeal_pre_pre (hAttendIdeal := hAttendIdeal) (hReferenceIdeal := hReferenceIdeal) (hPre_pre := hPre_pre)
-- ==== Pre_pre.lean ====
abbrev S2x32768x128 : Shape := ⟨3, ![2, 32768, 128]⟩
abbrev S2x32x8x128 : Shape := ⟨4, ![2, 32, 8, 128]⟩
abbrev S2x128x32768 : Shape := ⟨3, ![2, 128, 32768]⟩
abbrev S2x1024x128x256 : Shape := ⟨4, ![2, 1024, 128, 256]⟩
abbrev S2x1024x1x256 : Shape := ⟨4, ![2, 1024, 1, 256]⟩
abbrev S_ : Shape := ⟨0, ![]⟩

class Facts : Prop where
  bcast_S_S2x1024x1x256 : S_.BroadcastsInDim S2x1024x1x256 (![] : Fin 0 → Fin S2x1024x1x256.rank)
  reducesTo_S2x1024x1x256_S_d0_1_2_3 : S2x1024x1x256.ReducesTo [0, 1, 2, 3] S_
  h_S_ : 0 < S_.numel

variable [Facts]

def fn {F : FTy → Type} [FloatOps F] (main_arg0 : FVec F S2x32768x128 .fp8e4m3) (main_arg1 : FVec F S2x32x8x128 .f32) (main_arg2 : FVec F S2x128x32768 .bf16) (main_arg3 : FVec F S2x1024x128x256 .fp8e4m3) (main_arg4 : FVec F S2x1024x1x256 .f32) : IVec S_ 1 :=
  let main_cst : FVec F S_ .f32 := constant S_ .f32 0x00000000#32
  let main_v0 : FVec F S2x1024x1x256 .f32 := broadcastInDim S2x1024x1x256 ![] bcast_S_S2x1024x1x256 main_cst
  let main_v1 : IVec S2x1024x1x256 1 := cmpf .ogt main_arg4 main_v0
  let main_c : IVec S_ 1 := constantI S_ 1 1#1
  let main_v2 : IVec S_ 1 := (fun x v => Host.reduce IntOp.andi x v reducesTo_S2x1024x1x256_S_d0_1_2_3 h_S_) main_v1 main_c
  main_v2
-- ==== Attend.lean ====
abbrev S2x32768x128 : Shape := ⟨3, ![2, 32768, 128]⟩
abbrev S2x32x8x128 : Shape := ⟨4, ![2, 32, 8, 128]⟩
abbrev S2x128x32768 : Shape := ⟨3, ![2, 128, 32768]⟩
abbrev S2x1024x128x256 : Shape := ⟨4, ![2, 1024, 128, 256]⟩
abbrev S2x1024x1x256 : Shape := ⟨4, ![2, 1024, 1, 256]⟩
abbrev S2x32768x1024 : Shape := ⟨3, ![2, 32768, 1024]⟩
abbrev S1x32768x128 : Shape := ⟨3, ![1, 32768, 128]⟩
abbrev S1x32x8x128 : Shape := ⟨4, ![1, 32, 8, 128]⟩
abbrev S1x128x32768 : Shape := ⟨3, ![1, 128, 32768]⟩
abbrev S1x1x128x256 : Shape := ⟨4, ![1, 1, 128, 256]⟩
abbrev S1x1x1x256 : Shape := ⟨4, ![1, 1, 1, 256]⟩
abbrev S1x32x1024 : Shape := ⟨3, ![1, 32, 1024]⟩
abbrev S32768x256 : Shape := ⟨2, ![32768, 256]⟩
abbrev S128x256 : Shape := ⟨2, ![128, 256]⟩
abbrev S8x256 : Shape := ⟨2, ![8, 256]⟩
abbrev S1x256 : Shape := ⟨2, ![1, 256]⟩
abbrev S1024x256 : Shape := ⟨2, ![1024, 256]⟩
abbrev S1x128x1024 : Shape := ⟨3, ![1, 128, 1024]⟩
abbrev S128x1024 : Shape := ⟨2, ![128, 1024]⟩
abbrev S1x1024x128 : Shape := ⟨3, ![1, 1024, 128]⟩
abbrev S1024x128 : Shape := ⟨2, ![1024, 128]⟩
abbrev S1x1x8x128 : Shape := ⟨4, ![1, 1, 8, 128]⟩
abbrev S8x128 : Shape := ⟨2, ![8, 128]⟩
abbrev S8x1 : Shape := ⟨2, ![8, 1]⟩
abbrev S256 : Shape := ⟨1, ![256]⟩
abbrev S256x128 : Shape := ⟨2, ![256, 128]⟩
abbrev S32x128 : Shape := ⟨2, ![32, 128]⟩
abbrev S1x32x128 : Shape := ⟨3, ![1, 32, 128]⟩

abbrev nBuf : Space → Nat
  | .hbm => 6
  | .vmem => 12
  | .smem => 0
  | _ => 0

abbrev bufTy : (tb : Table) → Fin (tcTables nBuf tb) → BufTy
  | .hbm, ⟨0, _⟩ => ⟨S2x32768x128, .fp8e4m3⟩
  | .hbm, ⟨1, _⟩ => ⟨S2x32x8x128, .f32⟩
  | .hbm, ⟨2, _⟩ => ⟨S2x128x32768, .bf16⟩
  | .hbm, ⟨3, _⟩ => ⟨S2x1024x128x256, .fp8e4m3⟩
  | .hbm, ⟨4, _⟩ => ⟨S2x1024x1x256, .f32⟩
  | .hbm, ⟨5, _⟩ => ⟨S2x32768x1024, .bf16⟩
  | .local _ .vmem, ⟨0, _⟩ => ⟨S1x32768x128, .fp8e4m3⟩
  | .local _ .vmem, ⟨1, _⟩ => ⟨S1x32x8x128, .f32⟩
  | .local _ .vmem, ⟨2, _⟩ => ⟨S1x128x32768, .bf16⟩
  | .local _ .vmem, ⟨3, _⟩ => ⟨S1x1x128x256, .fp8e4m3⟩
  | .local _ .vmem, ⟨4, _⟩ => ⟨S1x1x128x256, .fp8e4m3⟩
  | .local _ .vmem, ⟨5, _⟩ => ⟨S1x1x1x256, .f32⟩
  | .local _ .vmem, ⟨6, _⟩ => ⟨S1x1x1x256, .f32⟩
  | .local _ .vmem, ⟨7, _⟩ => ⟨S1x32x1024, .bf16⟩
  | .local _ .vmem, ⟨8, _⟩ => ⟨S1x32x1024, .bf16⟩
  | .local _ .vmem, ⟨9, _⟩ => ⟨S32768x256, .f32⟩
  | .local _ .vmem, ⟨10, _⟩ => ⟨S128x256, .f32⟩
  | .local _ .vmem, ⟨11, _⟩ => ⟨S8x256, .f32⟩
  | _, _ => ⟨S2x32768x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 1025], ![false, false]⟩

def k0_cond1 (i : grid0.Coords) : BitVec 1 :=
  let arg1 : BitVec 32 := BitVec.ofNat 32 (i 1).val
  let c1024_i32_3 : BitVec 32 := 1024#32
  let v10 : BitVec 1 := Scalar.cmpi .eq arg1 c1024_i32_3
  let v11 : BitVec 32 := Scalar.extui v10
  let c0_i32 : BitVec 32 := 0#32
  let v12 : BitVec 1 := Scalar.cmpi .ne v11 c0_i32
  v12

@[reducible] def k0_t1_loop (i : grid0.Coords) : Scf.Loop 32 :=
  let c0_i32_29 : BitVec 32 := 0#32
  let arg1 : BitVec 32 := BitVec.ofNat 32 (i 1).val
  let c1_i32 : BitVec 32 := 1#32
  let v3 : BitVec 32 := Scalar.subi arg1 c1_i32
  let c32_i32_0 : BitVec 32 := 32#32
  let v4 : BitVec 32 := Scalar.muli v3 c32_i32_0
  let c1024_i32_1 : BitVec 32 := 1024#32
  let v5 : BitVec 32 := Scalar.divsi v4 c1024_i32_1
  let c1_i32_28 : BitVec 32 := 1#32
  let v57 : BitVec 32 := Scalar.addi v5 c1_i32_28
  let v58 : BitVec 32 := Scalar.subi v57 c0_i32_29
  let c1_i32_31 : BitVec 32 := 1#32
  let v60 : BitVec 32 := Scalar.divsi v58 c1_i32_31
  let v61 : BitVec 32 := Scalar.muli v60 c1_i32_31
  let v62 : BitVec 32 := Scalar.addi c0_i32_29 v61
  let c1_i32_32 : BitVec 32 := 1#32
  ⟨c0_i32_29, v62, c1_i32_32⟩
def k0_mult1 (i : grid0.Coords) (k0_t1 : Fin (k0_t1_loop i).trips) : BitVec 32 :=
  let c0_i32_29 : BitVec 32 := 0#32
  let c1_i32_32 : BitVec 32 := 1#32
  let arg11 : BitVec 32 := Scf.iv c0_i32_29 c1_i32_32 k0_t1
  let c1024_i32_36 : BitVec 32 := 1024#32
  let v66 : BitVec 32 := Scalar.muli arg11 c1024_i32_36
  v66
def k0_off1 (i : grid0.Coords) (k0_t1 : Fin (k0_t1_loop i).trips) : Fin 2 → Nat :=
  let c0_i32_29 : BitVec 32 := 0#32
  let c1_i32_32 : BitVec 32 := 1#32
  let arg11 : BitVec 32 := Scf.iv c0_i32_29 c1_i32_32 k0_t1
  let c1024_i32_36 : BitVec 32 := 1024#32
  let v66 : BitVec 32 := Scalar.muli arg11 c1024_i32_36
  let v67 : BitVec 32 := v66
  let v68 : Index := Scalar.indexCast v67
  let c0_37 : Index := 0#32
  ![v68.toNat, 0]
def k0_mult2 (i : grid0.Coords) (k0_t1 : Fin (k0_t1_loop i).trips) : BitVec 32 :=
  let c0_i32_29 : BitVec 32 := 0#32
  let c1_i32_32 : BitVec 32 := 1#32
  let arg11 : BitVec 32 := Scf.iv c0_i32_29 c1_i32_32 k0_t1
  let c1024_i32_40 : BitVec 32 := 1024#32
  let v74 : BitVec 32 := Scalar.muli arg11 c1024_i32_40
  v74
def k0_off2 (i : grid0.Coords) (k0_t1 : Fin (k0_t1_loop i).trips) : Fin 3 → Nat :=
  let c0_41 : Index := 0#32
  let c0_42 : Index := 0#32
  let c0_i32_29 : BitVec 32 := 0#32
  let c1_i32_32 : BitVec 32 := 1#32
  let arg11 : BitVec 32 := Scf.iv c0_i32_29 c1_i32_32 k0_t1
  let c1024_i32_40 : BitVec 32 := 1024#32
  let v74 : BitVec 32 := Scalar.muli arg11 c1024_i32_40
  let v75 : BitVec 32 := v74
  let v76 : Index := Scalar.indexCast v75
  ![0, 0, v76.toNat]
@[reducible] def k0_t2_loop (i : grid0.Coords) : Scf.Loop 32 :=
  let c0_i32_29 : BitVec 32 := 0#32
  let arg1 : BitVec 32 := BitVec.ofNat 32 (i 1).val
  let c1_i32 : BitVec 32 := 1#32
  let v3 : BitVec 32 := Scalar.subi arg1 c1_i32
  let c32_i32_0 : BitVec 32 := 32#32
  let v4 : BitVec 32 := Scalar.muli v3 c32_i32_0
  let c1024_i32_1 : BitVec 32 := 1024#32
  let v5 : BitVec 32 := Scalar.divsi v4 c1024_i32_1
  let c1_i32_28 : BitVec 32 := 1#32
  let v57 : BitVec 32 := Scalar.addi v5 c1_i32_28
  let v58 : BitVec 32 := Scalar.subi v57 c0_i32_29
  let c1_i32_31 : BitVec 32 := 1#32
  let v60 : BitVec 32 := Scalar.divsi v58 c1_i32_31
  let v61 : BitVec 32 := Scalar.muli v60 c1_i32_31
  let v62 : BitVec 32 := Scalar.addi c0_i32_29 v61
  let v59 : BitVec 32 := Scalar.addi c0_i32_29 v58
  let c1_i32_33 : BitVec 32 := 1#32
  ⟨v62, v59, c1_i32_33⟩
def k0_mult3 (i : grid0.Coords) (k0_t2 : Fin (k0_t2_loop i).trips) : BitVec 32 :=
  let c0_i32_29 : BitVec 32 := 0#32
  let arg1 : BitVec 32 := BitVec.ofNat 32 (i 1).val
  let c1_i32 : BitVec 32 := 1#32
  let v3 : BitVec 32 := Scalar.subi arg1 c1_i32
  let c32_i32_0 : BitVec 32 := 32#32
  let v4 : BitVec 32 := Scalar.muli v3 c32_i32_0
  let c1024_i32_1 : BitVec 32 := 1024#32
  let v5 : BitVec 32 := Scalar.divsi v4 c1024_i32_1
  let c1_i32_28 : BitVec 32 := 1#32
  let v57 : BitVec 32 := Scalar.addi v5 c1_i32_28
  let v58 : BitVec 32 := Scalar.subi v57 c0_i32_29
  let c1_i32_31 : BitVec 32 := 1#32
  let v60 : BitVec 32 := Scalar.divsi v58 c1_i32_31
  let v61 : BitVec 32 := Scalar.muli v60 c1_i32_31
  let v62 : BitVec 32 := Scalar.addi c0_i32_29 v61
  let c1_i32_33 : BitVec 32 := 1#32
  let arg11 : BitVec 32 := Scf.iv v62 c1_i32_33 k0_t2
  let c1024_i32_36 : BitVec 32 := 1024#32
  let v66 : BitVec 32 := Scalar.muli arg11 c1024_i32_36
  v66
def k0_off3 (i : grid0.Coords) (k0_t2 : Fin (k0_t2_loop i).trips) : Fin 2 → Nat :=
  let c0_i32_29 : BitVec 32 := 0#32
  let arg1 : BitVec 32 := BitVec.ofNat 32 (i 1).val
  let c1_i32 : BitVec 32 := 1#32
  let v3 : BitVec 32 := Scalar.subi arg1 c1_i32
  let c32_i32_0 : BitVec 32 := 32#32
  let v4 : BitVec 32 := Scalar.muli v3 c32_i32_0
  let c1024_i32_1 : BitVec 32 := 1024#32
  let v5 : BitVec 32 := Scalar.divsi v4 c1024_i32_1
  let c1_i32_28 : BitVec 32 := 1#32
  let v57 : BitVec 32 := Scalar.addi v5 c1_i32_28
  let v58 : BitVec 32 := Scalar.subi v57 c0_i32_29
  let c1_i32_31 : BitVec 32 := 1#32
  let v60 : BitVec 32 := Scalar.divsi v58 c1_i32_31
  let v61 : BitVec 32 := Scalar.muli v60 c1_i32_31
  let v62 : BitVec 32 := Scalar.addi c0_i32_29 v61
  let c1_i32_33 : BitVec 32 := 1#32
  let arg11 : BitVec 32 := Scf.iv v62 c1_i32_33 k0_t2
  let c1024_i32_36 : BitVec 32 := 1024#32
  let v66 : BitVec 32 := Scalar.muli arg11 c1024_i32_36
  let v67 : BitVec 32 := v66
  let v68 : Index := Scalar.indexCast v67
  let c0_37 : Index := 0#32
  ![v68.toNat, 0]
def k0_mult4 (i : grid0.Coords) (k0_t2 : Fin (k0_t2_loop i).trips) : BitVec 32 :=
  let c0_i32_29 : BitVec 32 := 0#32
  let arg1 : BitVec 32 := BitVec.ofNat 32 (i 1).val
  let c1_i32 : BitVec 32 := 1#32
  let v3 : BitVec 32 := Scalar.subi arg1 c1_i32
  let c32_i32_0 : BitVec 32 := 32#32
  let v4 : BitVec 32 := Scalar.muli v3 c32_i32_0
  let c1024_i32_1 : BitVec 32 := 1024#32
  let v5 : BitVec 32 := Scalar.divsi v4 c1024_i32_1
  let c1_i32_28 : BitVec 32 := 1#32
  let v57 : BitVec 32 := Scalar.addi v5 c1_i32_28
  let v58 : BitVec 32 := Scalar.subi v57 c0_i32_29
  let c1_i32_31 : BitVec 32 := 1#32
  let v60 : BitVec 32 := Scalar.divsi v58 c1_i32_31
  let v61 : BitVec 32 := Scalar.muli v60 c1_i32_31
  let v62 : BitVec 32 := Scalar.addi c0_i32_29 v61
  let c1_i32_33 : BitVec 32 := 1#32
  let arg11 : BitVec 32 := Scf.iv v62 c1_i32_33 k0_t2
  let c1024_i32_40 : BitVec 32 := 1024#32
  let v74 : BitVec 32 := Scalar.muli arg11 c1024_i32_40
  v74
def k0_off4 (i : grid0.Coords) (k0_t2 : Fin (k0_t2_loop i).trips) : Fin 3 → Nat :=
  let c0_41 : Index := 0#32
  let c0_42 : Index := 0#32
  let c0_i32_29 : BitVec 32 := 0#32
  let arg1 : BitVec 32 := BitVec.ofNat 32 (i 1).val
  let c1_i32 : BitVec 32 := 1#32
  let v3 : BitVec 32 := Scalar.subi arg1 c1_i32
  let c32_i32_0 : BitVec 32 := 32#32
  let v4 : BitVec 32 := Scalar.muli v3 c32_i32_0
  let c1024_i32_1 : BitVec 32 := 1024#32
  let v5 : BitVec 32 := Scalar.divsi v4 c1024_i32_1
  let c1_i32_28 : BitVec 32 := 1#32
  let v57 : BitVec 32 := Scalar.addi v5 c1_i32_28
  let v58 : BitVec 32 := Scalar.subi v57 c0_i32_29
  let c1_i32_31 : BitVec 32 := 1#32
  let v60 : BitVec 32 := Scalar.divsi v58 c1_i32_31
  let v61 : BitVec 32 := Scalar.muli v60 c1_i32_31
  let v62 : BitVec 32 := Scalar.addi c0_i32_29 v61
  let c1_i32_33 : BitVec 32 := 1#32
  let arg11 : BitVec 32 := Scf.iv v62 c1_i32_33 k0_t2
  let c1024_i32_40 : BitVec 32 := 1024#32
  let v74 : BitVec 32 := Scalar.muli arg11 c1024_i32_40
  let v75 : BitVec 32 := v74
  let v76 : Index := Scalar.indexCast v75
  ![0, 0, v76.toNat]
def k0_cond2 (i : grid0.Coords) : BitVec 1 :=
  let arg1 : BitVec 32 := BitVec.ofNat 32 (i 1).val
  let c1024_i32_4 : BitVec 32 := 1024#32
  let v13 : BitVec 1 := Scalar.cmpi .slt arg1 c1024_i32_4
  let v14 : BitVec 32 := Scalar.extui v13
  let c0_i32_5 : BitVec 32 := 0#32
  let v15 : BitVec 1 := Scalar.cmpi .ne v14 c0_i32_5
  v15

@[reducible] def k0_t3_loop (i : grid0.Coords) : Scf.Loop 32 :=
  let c0_i32_29 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let v58 : BitVec 32 := Scalar.subi v2 c0_i32_29
  let c1_i32_30 : BitVec 32 := 1#32
  let v60 : BitVec 32 := Scalar.divsi v58 c1_i32_30
  let v61 : BitVec 32 := Scalar.muli v60 c1_i32_30
  let v62 : BitVec 32 := Scalar.addi c0_i32_29 v61
  let c1_i32_31 : BitVec 32 := 1#32
  ⟨c0_i32_29, v62, c1_i32_31⟩
def k0_cond3 (i : grid0.Coords) : BitVec 1 :=
  let arg1 : BitVec 32 := BitVec.ofNat 32 (i 1).val
  let c0_i32_613 : BitVec 32 := 0#32
  let v2265 : BitVec 1 := Scalar.cmpi .sgt arg1 c0_i32_613
  let v2266 : BitVec 32 := Scalar.extui v2265
  let c0_i32_614 : BitVec 32 := 0#32
  let v2267 : BitVec 1 := Scalar.cmpi .ne v2266 c0_i32_614
  v2267

def k0_mult5 (i : grid0.Coords) (k0_t3 : Fin (k0_t3_loop i).trips) : BitVec 32 :=
  let c0_i32_29 : BitVec 32 := 0#32
  let c1_i32_31 : BitVec 32 := 1#32
  let arg11 : BitVec 32 := Scf.iv c0_i32_29 c1_i32_31 k0_t3
  let c1024_i32_1012 : BitVec 32 := 1024#32
  let v3817 : BitVec 32 := Scalar.muli arg11 c1024_i32_1012
  v3817
def k0_off5 (i : grid0.Coords) (k0_t3 : Fin (k0_t3_loop i).trips) : Fin 2 → Nat :=
  let c0_i32_29 : BitVec 32 := 0#32
  let c1_i32_31 : BitVec 32 := 1#32
  let arg11 : BitVec 32 := Scf.iv c0_i32_29 c1_i32_31 k0_t3
  let c1024_i32_1012 : BitVec 32 := 1024#32
  let v3817 : BitVec 32 := Scalar.muli arg11 c1024_i32_1012
  let v3818 : BitVec 32 := v3817
  let v3819 : Index := Scalar.indexCast v3818
  let c0_1013 : Index := 0#32
  ![v3819.toNat, 0]
def k0_mult6 (i : grid0.Coords) (k0_t3 : Fin (k0_t3_loop i).trips) : BitVec 32 :=
  let c0_i32_29 : BitVec 32 := 0#32
  let c1_i32_31 : BitVec 32 := 1#32
  let arg11 : BitVec 32 := Scf.iv c0_i32_29 c1_i32_31 k0_t3
  let c1024_i32_1016 : BitVec 32 := 1024#32
  let v3825 : BitVec 32 := Scalar.muli arg11 c1024_i32_1016
  v3825
def k0_off6 (i : grid0.Coords) (k0_t3 : Fin (k0_t3_loop i).trips) : Fin 3 → Nat :=
  let c0_1017 : Index := 0#32
  let c0_1018 : Index := 0#32
  let c0_i32_29 : BitVec 32 := 0#32
  let c1_i32_31 : BitVec 32 := 1#32
  let arg11 : BitVec 32 := Scf.iv c0_i32_29 c1_i32_31 k0_t3
  let c1024_i32_1016 : BitVec 32 := 1024#32
  let v3825 : BitVec 32 := Scalar.muli arg11 c1024_i32_1016
  let v3826 : BitVec 32 := v3825
  let v3827 : Index := Scalar.indexCast v3826
  ![0, 0, v3827.toNat]
def k0_mult7 (i : grid0.Coords) (k0_t3 : Fin (k0_t3_loop i).trips) : BitVec 32 :=
  let c0_i32_29 : BitVec 32 := 0#32
  let c1_i32_31 : BitVec 32 := 1#32
  let arg11 : BitVec 32 := Scf.iv c0_i32_29 c1_i32_31 k0_t3
  let c1024_i32_615 : BitVec 32 := 1024#32
  let v2268 : BitVec 32 := Scalar.muli arg11 c1024_i32_615
  v2268
def k0_off7 (i : grid0.Coords) (k0_t3 : Fin (k0_t3_loop i).trips) : Fin 3 → Nat :=
  let c0_616 : Index := 0#32
  let c0_i32_29 : BitVec 32 := 0#32
  let c1_i32_31 : BitVec 32 := 1#32
  let arg11 : BitVec 32 := Scf.iv c0_i32_29 c1_i32_31 k0_t3
  let c1024_i32_615 : BitVec 32 := 1024#32
  let v2268 : BitVec 32 := Scalar.muli arg11 c1024_i32_615
  let v2269 : BitVec 32 := v2268
  let v2270 : Index := Scalar.indexCast v2269
  let c0_617 : Index := 0#32
  ![0, v2270.toNat, 0]
def k0_off8 (i : grid0.Coords) (k0_t3 : Fin (k0_t3_loop i).trips) : Fin 4 → Nat :=
  let c0_623 : Index := 0#32
  let c0_i32_29 : BitVec 32 := 0#32
  let c1_i32_31 : BitVec 32 := 1#32
  let arg11 : BitVec 32 := Scf.iv c0_i32_29 c1_i32_31 k0_t3
  let v2276 : Index := Scalar.indexCast arg11
  let c0_624 : Index := 0#32
  let c0_625 : Index := 0#32
  ![0, v2276.toNat, 0, 0]
def k0_off9 (i : grid0.Coords) (k0_t3 : Fin (k0_t3_loop i).trips) (c0_i32_627 : BitVec 32) : Fin 2 → Nat :=
  let c0_i32_29 : BitVec 32 := 0#32
  let c1_i32_31 : BitVec 32 := 1#32
  let arg11 : BitVec 32 := Scf.iv c0_i32_29 c1_i32_31 k0_t3
  let c1024_i32_626 : BitVec 32 := 1024#32
  let v2283 : BitVec 32 := Scalar.muli arg11 c1024_i32_626
  let v2284 : BitVec 32 := Scalar.addi v2283 c0_i32_627
  let v2285 : Index := Scalar.indexCast v2284
  let c0_628 : Index := 0#32
  ![v2285.toNat, 0]
@[reducible] def k0_t4_loop (i : grid0.Coords) : Scf.Loop 32 :=
  let c0_i32_29 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let v58 : BitVec 32 := Scalar.subi v2 c0_i32_29
  let c1_i32_30 : BitVec 32 := 1#32
  let v60 : BitVec 32 := Scalar.divsi v58 c1_i32_30
  let v61 : BitVec 32 := Scalar.muli v60 c1_i32_30
  let v62 : BitVec 32 := Scalar.addi c0_i32_29 v61
  let v59 : BitVec 32 := Scalar.addi c0_i32_29 v58
  let c1_i32_32 : BitVec 32 := 1#32
  ⟨v62, v59, c1_i32_32⟩
def k0_cond4 (i : grid0.Coords) : BitVec 1 :=
  let arg1 : BitVec 32 := BitVec.ofNat 32 (i 1).val
  let c0_i32_613 : BitVec 32 := 0#32
  let v2265 : BitVec 1 := Scalar.cmpi .sgt arg1 c0_i32_613
  let v2266 : BitVec 32 := Scalar.extui v2265
  let c0_i32_614 : BitVec 32 := 0#32
  let v2267 : BitVec 1 := Scalar.cmpi .ne v2266 c0_i32_614
  v2267

def k0_mult8 (i : grid0.Coords) (k0_t4 : Fin (k0_t4_loop i).trips) : BitVec 32 :=
  let c0_i32_29 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let v58 : BitVec 32 := Scalar.subi v2 c0_i32_29
  let c1_i32_30 : BitVec 32 := 1#32
  let v60 : BitVec 32 := Scalar.divsi v58 c1_i32_30
  let v61 : BitVec 32 := Scalar.muli v60 c1_i32_30
  let v62 : BitVec 32 := Scalar.addi c0_i32_29 v61
  let c1_i32_32 : BitVec 32 := 1#32
  let arg11 : BitVec 32 := Scf.iv v62 c1_i32_32 k0_t4
  let c1024_i32_1012 : BitVec 32 := 1024#32
  let v3817 : BitVec 32 := Scalar.muli arg11 c1024_i32_1012
  v3817
def k0_off10 (i : grid0.Coords) (k0_t4 : Fin (k0_t4_loop i).trips) : Fin 2 → Nat :=
  let c0_i32_29 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let v58 : BitVec 32 := Scalar.subi v2 c0_i32_29
  let c1_i32_30 : BitVec 32 := 1#32
  let v60 : BitVec 32 := Scalar.divsi v58 c1_i32_30
  let v61 : BitVec 32 := Scalar.muli v60 c1_i32_30
  let v62 : BitVec 32 := Scalar.addi c0_i32_29 v61
  let c1_i32_32 : BitVec 32 := 1#32
  let arg11 : BitVec 32 := Scf.iv v62 c1_i32_32 k0_t4
  let c1024_i32_1012 : BitVec 32 := 1024#32
  let v3817 : BitVec 32 := Scalar.muli arg11 c1024_i32_1012
  let v3818 : BitVec 32 := v3817
  let v3819 : Index := Scalar.indexCast v3818
  let c0_1013 : Index := 0#32
  ![v3819.toNat, 0]
def k0_mult9 (i : grid0.Coords) (k0_t4 : Fin (k0_t4_loop i).trips) : BitVec 32 :=
  let c0_i32_29 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let v58 : BitVec 32 := Scalar.subi v2 c0_i32_29
  let c1_i32_30 : BitVec 32 := 1#32
  let v60 : BitVec 32 := Scalar.divsi v58 c1_i32_30
  let v61 : BitVec 32 := Scalar.muli v60 c1_i32_30
  let v62 : BitVec 32 := Scalar.addi c0_i32_29 v61
  let c1_i32_32 : BitVec 32 := 1#32
  let arg11 : BitVec 32 := Scf.iv v62 c1_i32_32 k0_t4
  let c1024_i32_1016 : BitVec 32 := 1024#32
  let v3825 : BitVec 32 := Scalar.muli arg11 c1024_i32_1016
  v3825
def k0_off11 (i : grid0.Coords) (k0_t4 : Fin (k0_t4_loop i).trips) : Fin 3 → Nat :=
  let c0_1017 : Index := 0#32
  let c0_1018 : Index := 0#32
  let c0_i32_29 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let v58 : BitVec 32 := Scalar.subi v2 c0_i32_29
  let c1_i32_30 : BitVec 32 := 1#32
  let v60 : BitVec 32 := Scalar.divsi v58 c1_i32_30
  let v61 : BitVec 32 := Scalar.muli v60 c1_i32_30
  let v62 : BitVec 32 := Scalar.addi c0_i32_29 v61
  let c1_i32_32 : BitVec 32 := 1#32
  let arg11 : BitVec 32 := Scf.iv v62 c1_i32_32 k0_t4
  let c1024_i32_1016 : BitVec 32 := 1024#32
  let v3825 : BitVec 32 := Scalar.muli arg11 c1024_i32_1016
  let v3826 : BitVec 32 := v3825
  let v3827 : Index := Scalar.indexCast v3826
  ![0, 0, v3827.toNat]
def k0_mult10 (i : grid0.Coords) (k0_t4 : Fin (k0_t4_loop i).trips) : BitVec 32 :=
  let c0_i32_29 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let v58 : BitVec 32 := Scalar.subi v2 c0_i32_29
  let c1_i32_30 : BitVec 32 := 1#32
  let v60 : BitVec 32 := Scalar.divsi v58 c1_i32_30
  let v61 : BitVec 32 := Scalar.muli v60 c1_i32_30
  let v62 : BitVec 32 := Scalar.addi c0_i32_29 v61
  let c1_i32_32 : BitVec 32 := 1#32
  let arg11 : BitVec 32 := Scf.iv v62 c1_i32_32 k0_t4
  let c1024_i32_615 : BitVec 32 := 1024#32
  let v2268 : BitVec 32 := Scalar.muli arg11 c1024_i32_615
  v2268
def k0_off12 (i : grid0.Coords) (k0_t4 : Fin (k0_t4_loop i).trips) : Fin 3 → Nat :=
  let c0_616 : Index := 0#32
  let c0_i32_29 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let v58 : BitVec 32 := Scalar.subi v2 c0_i32_29
  let c1_i32_30 : BitVec 32 := 1#32
  let v60 : BitVec 32 := Scalar.divsi v58 c1_i32_30
  let v61 : BitVec 32 := Scalar.muli v60 c1_i32_30
  let v62 : BitVec 32 := Scalar.addi c0_i32_29 v61
  let c1_i32_32 : BitVec 32 := 1#32
  let arg11 : BitVec 32 := Scf.iv v62 c1_i32_32 k0_t4
  let c1024_i32_615 : BitVec 32 := 1024#32
  let v2268 : BitVec 32 := Scalar.muli arg11 c1024_i32_615
  let v2269 : BitVec 32 := v2268
  let v2270 : Index := Scalar.indexCast v2269
  let c0_617 : Index := 0#32
  ![0, v2270.toNat, 0]
def k0_off13 (i : grid0.Coords) (k0_t4 : Fin (k0_t4_loop i).trips) : Fin 4 → Nat :=
  let c0_623 : Index := 0#32
  let c0_i32_29 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let v58 : BitVec 32 := Scalar.subi v2 c0_i32_29
  let c1_i32_30 : BitVec 32 := 1#32
  let v60 : BitVec 32 := Scalar.divsi v58 c1_i32_30
  let v61 : BitVec 32 := Scalar.muli v60 c1_i32_30
  let v62 : BitVec 32 := Scalar.addi c0_i32_29 v61
  let c1_i32_32 : BitVec 32 := 1#32
  let arg11 : BitVec 32 := Scf.iv v62 c1_i32_32 k0_t4
  let v2276 : Index := Scalar.indexCast arg11
  let c0_624 : Index := 0#32
  let c0_625 : Index := 0#32
  ![0, v2276.toNat, 0, 0]
def k0_off14 (i : grid0.Coords) (k0_t4 : Fin (k0_t4_loop i).trips) (c0_i32_627 : BitVec 32) : Fin 2 → Nat :=
  let c0_i32_29 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let v58 : BitVec 32 := Scalar.subi v2 c0_i32_29
  let c1_i32_30 : BitVec 32 := 1#32
  let v60 : BitVec 32 := Scalar.divsi v58 c1_i32_30
  let v61 : BitVec 32 := Scalar.muli v60 c1_i32_30
  let v62 : BitVec 32 := Scalar.addi c0_i32_29 v61
  let c1_i32_32 : BitVec 32 := 1#32
  let arg11 : BitVec 32 := Scf.iv v62 c1_i32_32 k0_t4
  let c1024_i32_626 : BitVec 32 := 1024#32
  let v2283 : BitVec 32 := Scalar.muli arg11 c1024_i32_626
  let v2284 : BitVec 32 := Scalar.addi v2283 c0_i32_627
  let v2285 : Index := Scalar.indexCast v2284
  let c0_628 : Index := 0#32
  ![v2285.toNat, 0]
def k0_cond5 (i : grid0.Coords) : BitVec 1 :=
  let arg1 : BitVec 32 := BitVec.ofNat 32 (i 1).val
  let c0_i32_33 : BitVec 32 := 0#32
  let v65 : BitVec 1 := Scalar.cmpi .sgt arg1 c0_i32_33
  let c1_i32 : BitVec 32 := 1#32
  let v3 : BitVec 32 := Scalar.subi arg1 c1_i32
  let c32_i32_0 : BitVec 32 := 32#32
  let v4 : BitVec 32 := Scalar.muli v3 c32_i32_0
  let c1024_i32_1 : BitVec 32 := 1024#32
  let v5 : BitVec 32 := Scalar.divsi v4 c1024_i32_1
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let v66 : BitVec 1 := Scalar.cmpi .eq v5 v2
  let v67 : BitVec 1 := Scalar.andi v65 v66
  let v68 : BitVec 32 := Scalar.extui v67
  let c0_i32_34 : BitVec 32 := 0#32
  let v69 : BitVec 1 := Scalar.cmpi .ne v68 c0_i32_34
  v69

def k0_mult11 (i : grid0.Coords) : BitVec 32 :=
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let c1024_i32_615 : BitVec 32 := 1024#32
  let v2266 : BitVec 32 := Scalar.muli v2 c1024_i32_615
  v2266
def k0_off15 (i : grid0.Coords) : Fin 2 → Nat :=
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let c1024_i32_615 : BitVec 32 := 1024#32
  let v2266 : BitVec 32 := Scalar.muli v2 c1024_i32_615
  let v2267 : BitVec 32 := v2266
  let v2268 : Index := Scalar.indexCast v2267
  let c0_616 : Index := 0#32
  ![v2268.toNat, 0]
def k0_mult12 (i : grid0.Coords) : BitVec 32 :=
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let c1024_i32_619 : BitVec 32 := 1024#32
  let v2274 : BitVec 32 := Scalar.muli v2 c1024_i32_619
  v2274
def k0_off16 (i : grid0.Coords) : Fin 3 → Nat :=
  let c0_620 : Index := 0#32
  let c0_621 : Index := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let c1024_i32_619 : BitVec 32 := 1024#32
  let v2274 : BitVec 32 := Scalar.muli v2 c1024_i32_619
  let v2275 : BitVec 32 := v2274
  let v2276 : Index := Scalar.indexCast v2275
  ![0, 0, v2276.toNat]
def k0_mult13 (i : grid0.Coords) : BitVec 32 :=
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let c1024_i32_35 : BitVec 32 := 1024#32
  let v70 : BitVec 32 := Scalar.muli v2 c1024_i32_35
  v70
def k0_off17 (i : grid0.Coords) : Fin 3 → Nat :=
  let c0_36 : Index := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let c1024_i32_35 : BitVec 32 := 1024#32
  let v70 : BitVec 32 := Scalar.muli v2 c1024_i32_35
  let v71 : BitVec 32 := v70
  let v72 : Index := Scalar.indexCast v71
  let c0_37 : Index := 0#32
  ![0, v72.toNat, 0]
def k0_off18 (i : grid0.Coords) : Fin 4 → Nat :=
  let c0_43 : Index := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let v78 : Index := Scalar.indexCast v2
  let c0_44 : Index := 0#32
  let c0_45 : Index := 0#32
  ![0, v78.toNat, 0, 0]
def k0_off19 (i : grid0.Coords) (c0_i32_52 : BitVec 32) : Fin 2 → Nat :=
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let c1024_i32_51 : BitVec 32 := 1024#32
  let v99 : BitVec 32 := Scalar.muli v2 c1024_i32_51
  let v100 : BitVec 32 := Scalar.addi v99 c0_i32_52
  let v101 : Index := Scalar.indexCast v100
  let c0_53 : Index := 0#32
  ![v101.toNat, 0]
@[reducible] def k0_t5_loop (i : grid0.Coords) : Scf.Loop 32 :=
  let c0_i32_572 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let c1_i32_570 : BitVec 32 := 1#32
  let v2146 : BitVec 32 := Scalar.addi v2 c1_i32_570
  let v2148 : BitVec 32 := Scalar.subi v2146 c0_i32_572
  let c1_i32_573 : BitVec 32 := 1#32
  let v2150 : BitVec 32 := Scalar.divsi v2148 c1_i32_573
  let v2151 : BitVec 32 := Scalar.muli v2150 c1_i32_573
  let v2152 : BitVec 32 := Scalar.addi c0_i32_572 v2151
  let c1_i32_574 : BitVec 32 := 1#32
  ⟨c0_i32_572, v2152, c1_i32_574⟩
def k0_mult14 (i : grid0.Coords) (k0_t5 : Fin (k0_t5_loop i).trips) : BitVec 32 :=
  let c0_i32_572 : BitVec 32 := 0#32
  let c1_i32_574 : BitVec 32 := 1#32
  let arg11 : BitVec 32 := Scf.iv c0_i32_572 c1_i32_574 k0_t5
  let c1024_i32_613 : BitVec 32 := 1024#32
  let v2265 : BitVec 32 := Scalar.muli arg11 c1024_i32_613
  v2265
def k0_off20 (i : grid0.Coords) (k0_t5 : Fin (k0_t5_loop i).trips) : Fin 2 → Nat :=
  let c0_i32_572 : BitVec 32 := 0#32
  let c1_i32_574 : BitVec 32 := 1#32
  let arg11 : BitVec 32 := Scf.iv c0_i32_572 c1_i32_574 k0_t5
  let c1024_i32_613 : BitVec 32 := 1024#32
  let v2265 : BitVec 32 := Scalar.muli arg11 c1024_i32_613
  let v2266 : BitVec 32 := v2265
  let v2267 : Index := Scalar.indexCast v2266
  let c0_614 : Index := 0#32
  ![v2267.toNat, 0]
def k0_mult15 (i : grid0.Coords) (k0_t5 : Fin (k0_t5_loop i).trips) : BitVec 32 :=
  let c0_i32_572 : BitVec 32 := 0#32
  let c1_i32_574 : BitVec 32 := 1#32
  let arg11 : BitVec 32 := Scf.iv c0_i32_572 c1_i32_574 k0_t5
  let c1024_i32_615 : BitVec 32 := 1024#32
  let v2274 : BitVec 32 := Scalar.muli arg11 c1024_i32_615
  v2274
@[reducible] def k0_t6_loop (i : grid0.Coords) : Scf.Loop 32 :=
  let c0_i32_572 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let c1_i32_570 : BitVec 32 := 1#32
  let v2146 : BitVec 32 := Scalar.addi v2 c1_i32_570
  let v2148 : BitVec 32 := Scalar.subi v2146 c0_i32_572
  let c1_i32_573 : BitVec 32 := 1#32
  let v2150 : BitVec 32 := Scalar.divsi v2148 c1_i32_573
  let v2151 : BitVec 32 := Scalar.muli v2150 c1_i32_573
  let v2152 : BitVec 32 := Scalar.addi c0_i32_572 v2151
  let v2149 : BitVec 32 := Scalar.addi c0_i32_572 v2148
  let c1_i32_575 : BitVec 32 := 1#32
  ⟨v2152, v2149, c1_i32_575⟩
def k0_mult16 (i : grid0.Coords) (k0_t6 : Fin (k0_t6_loop i).trips) : BitVec 32 :=
  let c0_i32_572 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let c1_i32_570 : BitVec 32 := 1#32
  let v2146 : BitVec 32 := Scalar.addi v2 c1_i32_570
  let v2148 : BitVec 32 := Scalar.subi v2146 c0_i32_572
  let c1_i32_573 : BitVec 32 := 1#32
  let v2150 : BitVec 32 := Scalar.divsi v2148 c1_i32_573
  let v2151 : BitVec 32 := Scalar.muli v2150 c1_i32_573
  let v2152 : BitVec 32 := Scalar.addi c0_i32_572 v2151
  let c1_i32_575 : BitVec 32 := 1#32
  let arg11 : BitVec 32 := Scf.iv v2152 c1_i32_575 k0_t6
  let c1024_i32_613 : BitVec 32 := 1024#32
  let v2265 : BitVec 32 := Scalar.muli arg11 c1024_i32_613
  v2265
def k0_off21 (i : grid0.Coords) (k0_t6 : Fin (k0_t6_loop i).trips) : Fin 2 → Nat :=
  let c0_i32_572 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let c1_i32_570 : BitVec 32 := 1#32
  let v2146 : BitVec 32 := Scalar.addi v2 c1_i32_570
  let v2148 : BitVec 32 := Scalar.subi v2146 c0_i32_572
  let c1_i32_573 : BitVec 32 := 1#32
  let v2150 : BitVec 32 := Scalar.divsi v2148 c1_i32_573
  let v2151 : BitVec 32 := Scalar.muli v2150 c1_i32_573
  let v2152 : BitVec 32 := Scalar.addi c0_i32_572 v2151
  let c1_i32_575 : BitVec 32 := 1#32
  let arg11 : BitVec 32 := Scf.iv v2152 c1_i32_575 k0_t6
  let c1024_i32_613 : BitVec 32 := 1024#32
  let v2265 : BitVec 32 := Scalar.muli arg11 c1024_i32_613
  let v2266 : BitVec 32 := v2265
  let v2267 : Index := Scalar.indexCast v2266
  let c0_614 : Index := 0#32
  ![v2267.toNat, 0]
def k0_mult17 (i : grid0.Coords) (k0_t6 : Fin (k0_t6_loop i).trips) : BitVec 32 :=
  let c0_i32_572 : BitVec 32 := 0#32
  let arg1 : BitVec 32 := BitVec.ofNat 32 (i 1).val
  let c32_i32 : BitVec 32 := 32#32
  let v0 : BitVec 32 := Scalar.muli arg1 c32_i32
  let c1024_i32 : BitVec 32 := 1024#32
  let v1 : BitVec 32 := Scalar.divsi v0 c1024_i32
  let c31_i32 : BitVec 32 := 31#32
  let v2 : BitVec 32 := Scalar.minsi v1 c31_i32
  let c1_i32_570 : BitVec 32 := 1#32
  let v2146 : BitVec 32 := Scalar.addi v2 c1_i32_570
  let v2148 : BitVec 32 := Scalar.subi v2146 c0_i32_572
  let c1_i32_573 : BitVec 32 := 1#32
  let v2150 : BitVec 32 := Scalar.divsi v2148 c1_i32_573
  let v2151 : BitVec 32 := Scalar.muli v2150 c1_i32_573
  let v2152 : BitVec 32 := Scalar.addi c0_i32_572 v2151
  let c1_i32_575 : BitVec 32 := 1#32
  let arg11 : BitVec 32 := Scf.iv v2152 c1_i32_575 k0_t6
  let c1024_i32_615 : BitVec 32 := 1024#32
  let v2274 : BitVec 32 := Scalar.muli arg11 c1024_i32_615
  v2274
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1023_i32 : BitVec 32 := 1023#32
  let v0 : BitVec 32 := Scalar.minsi arg1 c1023_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1023_i32 : BitVec 32 := 1023#32
  let v0 : BitVec 32 := Scalar.minsi arg1 c1023_i32
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 1 → Memref sig .tc .vmem S1x32768x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x32x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128x32768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1x128x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x32768x128 : Shape := ⟨3, ![2, 32768, 128]⟩
abbrev S2x32x8x128 : Shape := ⟨4, ![2, 32, 8, 128]⟩
abbrev S2x128x32768 : Shape := ⟨3, ![2, 128, 32768]⟩
abbrev S2x1024x128x256 : Shape := ⟨4, ![2, 1024, 128, 256]⟩
abbrev S2x1024x1x256 : Shape := ⟨4, ![2, 1024, 1, 256]⟩
abbrev S2x1024x128x8x32 : Shape := ⟨5, ![2, 1024, 128, 8, 32]⟩
abbrev S2x1024x32x8x128 : Shape := ⟨5, ![2, 1024, 32, 8, 128]⟩
abbrev S2x32768x8x128 : Shape := ⟨4, ![2, 32768, 8, 128]⟩
abbrev S2x1024x8x32 : Shape := ⟨4, ![2, 1024, 8, 32]⟩
abbrev S2x1024x32x8 : Shape := ⟨4, ![2, 1024, 32, 8]⟩
abbrev S2x32768x8 : Shape := ⟨3, ![2, 32768, 8]⟩
abbrev S2x32x128x8 : Shape := ⟨4, ![2, 32, 128, 8]⟩
abbrev S2x32768 : Shape := ⟨2, ![2, 32768]⟩
abbrev S2x32768x8x32768 : Shape := ⟨4, ![2, 32768, 8, 32768]⟩
abbrev S2x32768x8x1 : Shape := ⟨4, ![2, 32768, 8, 1]⟩
abbrev S2x1x1x32768 : Shape := ⟨4, ![2, 1, 1, 32768]⟩
abbrev S32768 : Shape := ⟨1, ![32768]⟩
abbrev S1x32768 : Shape := ⟨2, ![1, 32768]⟩
abbrev S32768x1 : Shape := ⟨2, ![32768, 1]⟩
abbrev S32768x32768 : Shape := ⟨2, ![32768, 32768]⟩
abbrev S1x32768x1x32768 : Shape := ⟨4, ![1, 32768, 1, 32768]⟩
abbrev S_ : Shape := ⟨0, ![]⟩
abbrev S254 : Shape := ⟨1, ![254]⟩
abbrev S1x1x1x254 : Shape := ⟨4, ![1, 1, 1, 254]⟩
abbrev S2x32768x8x254 : Shape := ⟨4, ![2, 32768, 8, 254]⟩
abbrev S2x32768x1024 : Shape := ⟨3, ![2, 32768, 1024]⟩

abbrev nBuf : Space → Nat
  | .hbm => 102
  | .vmem => 4
  | .smem => 0
  | _ => 0

abbrev bufTy : (tb : Table) → Fin (tcTables nBuf tb) → BufTy
  | .hbm, ⟨0, _⟩ => ⟨S2x32768x128, .fp8e4m3⟩
  | .hbm, ⟨1, _⟩ => ⟨S2x32x8x128, .f32⟩
  | .hbm, ⟨2, _⟩ => ⟨S2x128x32768, .bf16⟩
  | .hbm, ⟨3, _⟩ => ⟨S2x1024x128x256, .fp8e4m3⟩
  | .hbm, ⟨4, _⟩ => ⟨S2x1024x1x256, .f32⟩
  | .hbm, ⟨5, _⟩ => ⟨S2x32768x128, .f32⟩
  | .hbm, ⟨6, _⟩ => ⟨S2x1024x128x256, .f32⟩
  | .hbm, ⟨7, _⟩ => ⟨S2x1024x128x8x32, .f32⟩
  | .hbm, ⟨8, _⟩ => ⟨S2x1024x32x8x128, .f32⟩
  | .hbm, ⟨9, _⟩ => ⟨S2x32768x8x128, .f32⟩
  | .hbm, ⟨10, _⟩ => ⟨S2x1024x8x32, .f32⟩
  | .hbm, ⟨11, _⟩ => ⟨S2x1024x32x8, .f32⟩
  | .hbm, ⟨12, _⟩ => ⟨S2x32768x8, .f32⟩
  | .hbm, ⟨13, _⟩ => ⟨S2x32x128x8, .f32⟩
  | .hbm, ⟨14, _⟩ => ⟨S2x32768, .f32⟩
  | .hbm, ⟨15, _⟩ => ⟨S2x32768x128, .bf16⟩
  | .hbm, ⟨16, _⟩ => ⟨S2x32768x8x32768, .f32⟩
  | .hbm, ⟨17, _⟩ => ⟨S2x32768x8x1, .f32⟩
  | .hbm, ⟨18, _⟩ => ⟨S2x32768x8x32768, .f32⟩
  | .hbm, ⟨19, _⟩ => ⟨S2x32768x8x32768, .f32⟩
  | .hbm, ⟨20, _⟩ => ⟨S2x1x1x32768, .f32⟩
  | .hbm, ⟨21, _⟩ => ⟨S2x32768x8x32768, .f32⟩
  | .hbm, ⟨22, _⟩ => ⟨S2x32768x8x32768, .f32⟩
  | .hbm, ⟨23, _⟩ => ⟨S32768, .i32⟩
  | .hbm, ⟨24, _⟩ => ⟨S1x32768, .i32⟩
  | .hbm, ⟨25, _⟩ => ⟨S32768x1, .i32⟩
  | .hbm, ⟨26, _⟩ => ⟨S32768x32768, .i32⟩
  | .hbm, ⟨27, _⟩ => ⟨S32768x32768, .i32⟩
  | .hbm, ⟨28, _⟩ => ⟨S32768x32768, .i1⟩
  | .hbm, ⟨29, _⟩ => ⟨S1x32768x1x32768, .i1⟩
  | .hbm, ⟨30, _⟩ => ⟨S_, .f32⟩
  | .hbm, ⟨31, _⟩ => ⟨S_, .f32⟩
  | .hbm, ⟨32, _⟩ => ⟨S2x32768x8x32768, .i1⟩
  | .hbm, ⟨33, _⟩ => ⟨S2x32768x8x32768, .f32⟩
  | .hbm, ⟨34, _⟩ => ⟨S2x32768x8x32768, .f32⟩
  | .hbm, ⟨35, _⟩ => ⟨S_, .f32⟩
  | .hbm, ⟨36, _⟩ => ⟨S2x32768x8, .f32⟩
  | .hbm, ⟨37, _⟩ => ⟨S2x32768x8x1, .f32⟩
  | .hbm, ⟨38, _⟩ => ⟨S2x32768x8x32768, .f32⟩
  | .hbm, ⟨39, _⟩ => ⟨S2x32768x8x32768, .f32⟩
  | .hbm, ⟨40, _⟩ => ⟨S_, .f32⟩
  | .hbm, ⟨41, _⟩ => ⟨S2x32768x8x32768, .f32⟩
  | .hbm, ⟨42, _⟩ => ⟨S2x32768x8x32768, .f32⟩
  | .hbm, ⟨43, _⟩ => ⟨S_, .f32⟩
  | .hbm, ⟨44, _⟩ => ⟨S2x32768x8, .f32⟩
  | .hbm, ⟨45, _⟩ => ⟨S2x32768x8x1, .f32⟩
  | .hbm, ⟨46, _⟩ => ⟨S2x32768x8x32768, .f32⟩
  | .hbm, ⟨47, _⟩ => ⟨S2x32768x8x32768, .f32⟩
  | .hbm, ⟨48, _⟩ => ⟨S2x32768x8x32768, .f32⟩
  | .hbm, ⟨49, _⟩ => ⟨S_, .f32⟩
  | .hbm, ⟨50, _⟩ => ⟨S2x32768x8, .f32⟩
  | .hbm, ⟨51, _⟩ => ⟨S254, .i32⟩
  | .hbm, ⟨52, _⟩ => ⟨S_, .i32⟩
  | .hbm, ⟨53, _⟩ => ⟨S254, .i32⟩
  | .hbm, ⟨54, _⟩ => ⟨S254, .i32⟩
  | .hbm, ⟨55, _⟩ => ⟨S254, .f32⟩
  | .hbm, ⟨56, _⟩ => ⟨S_, .f32⟩
  | .hbm, ⟨57, _⟩ => ⟨S254, .f32⟩
  | .hbm, ⟨58, _⟩ => ⟨S254, .f32⟩
  | .hbm, ⟨59, _⟩ => ⟨S_, .f32⟩
  | .hbm, ⟨60, _⟩ => ⟨S2x32768x8, .f32⟩
  | .hbm, ⟨61, _⟩ => ⟨S2x32768x8, .f32⟩
  | .hbm, ⟨62, _⟩ => ⟨S2x32768x8x1, .f32⟩
  | .hbm, ⟨63, _⟩ => ⟨S1x1x1x254, .f32⟩
  | .hbm, ⟨64, _⟩ => ⟨S2x32768x8x254, .f32⟩
  | .hbm, ⟨65, _⟩ => ⟨S2x32768x8x254, .f32⟩
  | .hbm, ⟨66, _⟩ => ⟨S2x32768x8x254, .i1⟩
  | .hbm, ⟨67, _⟩ => ⟨S_, .f32⟩
  | .hbm, ⟨68, _⟩ => ⟨S_, .f32⟩
  | .hbm, ⟨69, _⟩ => ⟨S2x32768x8x254, .f32⟩
  | .hbm, ⟨70, _⟩ => ⟨S2x32768x8x254, .f32⟩
  | .hbm, ⟨71, _⟩ => ⟨S2x32768x8x254, .f32⟩
  | .hbm, ⟨72, _⟩ => ⟨S_, .f32⟩
  | .hbm, ⟨73, _⟩ => ⟨S2x32768x8, .f32⟩
  | .hbm, ⟨74, _⟩ => ⟨S_, .f32⟩
  | .hbm, ⟨75, _⟩ => ⟨S2x32768x8, .f32⟩
  | .hbm, ⟨76, _⟩ => ⟨S2x32768x8, .i1⟩
  | .hbm, ⟨77, _⟩ => ⟨S_, .f32⟩
  | .hbm, ⟨78, _⟩ => ⟨S_, .f32⟩
  | .hbm, ⟨79, _⟩ => ⟨S2x32768x8, .f32⟩
  | .hbm, ⟨80, _⟩ => ⟨S2x32768x8, .f32⟩
  | .hbm, ⟨81, _⟩ => ⟨S_, .f32⟩
  | .hbm, ⟨82, _⟩ => ⟨S2x32768x8, .f32⟩
  | .hbm, ⟨83, _⟩ => ⟨S2x32768x8, .f32⟩
  | .hbm, ⟨84, _⟩ => ⟨S2x32768x8x1, .f32⟩
  | .hbm, ⟨85, _⟩ => ⟨S2x32768x8x32768, .f32⟩
  | .hbm, ⟨86, _⟩ => ⟨S2x32768x8x32768, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S2x32768x8x32768, .f32⟩
  | .hbm, ⟨91, _⟩ => ⟨S2x32768x8x32768, .f32⟩
  | .hbm, ⟨92, _⟩ => ⟨S_, .f32⟩
  | .hbm, ⟨93, _⟩ => ⟨S2x32768x8x32768, .f32⟩
  | .hbm, ⟨94, _⟩ => ⟨S2x32768x8x32768, .f32⟩
  | .hbm, ⟨95, _⟩ => ⟨S2x32768x8x32768, .bf16⟩
  | .hbm, ⟨96, _⟩ => ⟨S2x32768x8x128, .f32⟩
  | .hbm, ⟨97, _⟩ => ⟨S2x32768x8x1, .f32⟩
  | .hbm, ⟨98, _⟩ => ⟨S2x32768x8x128, .f32⟩
  | .hbm, ⟨99, _⟩ => ⟨S2x32768x8x128, .f32⟩
  | .hbm, ⟨100, _⟩ => ⟨S2x32768x8x128, .bf16⟩
  | .hbm, ⟨101, _⟩ => ⟨S2x32768x1024, .bf16⟩
  | .local _ .vmem, ⟨0, _⟩ => ⟨S2x32768x128, .fp8e4m3⟩
  | .local _ .vmem, ⟨1, _⟩ => ⟨S2x1024x128x256, .fp8e4m3⟩
  | .local _ .vmem, ⟨2, _⟩ => ⟨S2x32768x128, .f32⟩
  | .local _ .vmem, ⟨3, _⟩ => ⟨S2x1024x128x256, .f32⟩
  | _, _ => ⟨S2x32768x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_c : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_call2_v0 : Ref sig .tc := ⟨.hbm, 78, rfl⟩
abbrev main_call2_v1 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_cst_12 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x32768x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x128x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Geo.lean ====
module

public import proofs.«01_k».proof.Proof.Gen.Attend.Loops
public import proofs.«01_k».proof.Proof.Gen.Attend.Frame

@[expose] public section

set_option maxRecDepth 16384

noncomputable section

namespace Cert.Attend.Hand

open Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The span a query tile's own keys lie in: its last span. -/
def lastSpan (i : grid0.Coords) : Nat := min ((i 1).val / 32) 31

theorem off9_eq (i : grid0.Coords) (k : Fin (k0_t3_loop i).trips) (n : Nat) (hn : n < 1024) :
    k0_off9 i k (BitVec.ofNat 32 n) = ![1024 * k.val + n, 0] := by
  have hk : k.val < 31 := Nat.lt_of_lt_of_le k.isLt (k0_t3_abs i).2.1
  have h0 : Affine.IsInt 0#32 (0) := Affine.ofNat _ (by omega)
  have h1 : Affine.IsInt 1#32 (1) := Affine.ofNat _ (by omega)
  have ha : Affine.IsInt _ ((k.val : Int)) := Affine.iv h0 h1 k.val (by omega)
  have hb : Affine.IsInt 1024#32 (1024) := Affine.ofNat _ (by omega)
  have hc : Affine.IsInt _ (1024 * (k.val : Int)) := Affine.muli ha hb (by omega)
  have hd : Affine.IsInt (BitVec.ofNat 32 n) (n : Int) := Affine.ofNat _ (by omega)
  have he : Affine.IsInt _ (1024 * (k.val : Int) + n) := Affine.addi hc hd (by omega)
  exact Affine.vec_cons (Affine.indexCast he) (by omega) (Affine.vec_cons (Affine.ofNat 0 (by omega) : Affine.IsInt 0#32 0) (by omega) Affine.vec_nil)

theorem off19_eq (i : grid0.Coords) (n : Nat) (hn : n < 1024) :
    k0_off19 i (BitVec.ofNat 32 n) = ![1024 * lastSpan i + n, 0] := by
  have r_i1 : (i 1).val < 1025 := (i 1).isLt
  have h_arg1 : Affine.IsInt (BitVec.ofNat 32 (i 1).val) (((i 1).val : Int)) := Affine.ofNat _ (by omega)
  have h_c32 : Affine.IsInt 32#32 (32) := Affine.ofNat _ (by omega)
  have h_v0 : Affine.IsInt _ (32 * ((i 1).val : Int)) := Affine.muli h_arg1 h_c32 (by omega)
  have hb : Affine.IsInt 1024#32 (1024) := Affine.ofNat _ (by omega)
  have h_v1 : Affine.IsInt _ (((32 * ((i 1).val : Int)) / 1024)) := Affine.divsi h_v0 hb (by omega)
  have h31 : Affine.IsInt 31#32 (31) := Affine.ofNat _ (by omega)
  have h_v2 : Affine.IsInt _ ((lastSpan i : Int)) := Affine.minsi h_v1 h31 (by unfold lastSpan; omega)
  have hl : lastSpan i ≤ 31 := by unfold lastSpan; omega
  have hc : Affine.IsInt _ (1024 * (lastSpan i : Int)) := Affine.muli h_v2 hb (by omega)
  have hd : Affine.IsInt (BitVec.ofNat 32 n) (n : Int) := Affine.ofNat _ (by omega)
  have he : Affine.IsInt _ (1024 * (lastSpan i : Int) + n) := Affine.addi hc hd (by omega)
  exact Affine.vec_cons (Affine.indexCast he) (by omega) (Affine.vec_cons (Affine.ofNat 0 (by omega) : Affine.IsInt 0#32 0) (by omega) Affine.vec_nil)

instance (i : grid0.Coords) (k : Fin (k0_t3_loop i).trips) : ClosedOff (k0_off9 i k 0#32) := ⟨![1024 * k.val + 0, 0], off9_eq i k 0 (by decide)⟩
instance (i : grid0.Coords) (k : Fin (k0_t3_loop i).trips) : ClosedOff (k0_off9 i k 8#32) := ⟨![1024 * k.val + 8, 0], off9_eq i k 8 (by decide)⟩
instance (i : grid0.Coords) (k : Fin (k0_t3_loop i).trips) : ClosedOff (k0_off9 i k 16#32) := ⟨![1024 * k.val + 16, 0], off9_eq i k 16 (by decide)⟩
instance (i : grid0.Coords) (k : Fin (k0_t3_loop i).trips) : ClosedOff (k0_off9 i k 24#32) := ⟨![1024 * k.val + 24, 0], off9_eq i k 24 (by decide)⟩
instance (i : grid0.Coords) (k : Fin (k0_t3_loop i).trips) : ClosedOff (k0_off9 i k 32#32) := ⟨![1024 * k.val + 32, 0], off9_eq i k 32 (by decide)⟩
instance (i : grid0.Coords) (k : Fin (k0_t3_loop i).trips) : ClosedOff (k0_off9 i k 40#32) := ⟨![1024 * k.val + 40, 0], off9_eq i k 40 (by decide)⟩
instance (i : grid0.Coords) (k : Fin (k0_t3_loop i).trips) : ClosedOff (k0_off9 i k 48#32) := ⟨![1024 * k.val + 48, 0], off9_eq i k 48 (by decide)⟩
instance (i : grid0.Coords) (k : Fin (k0_t3_loop i).trips) : ClosedOff (k0_off9 i k 56#32) := ⟨![1024 * k.val + 56, 0], off9_eq i k 56 (by decide)⟩
instance (i : grid0.Coords) (k : Fin (k0_t3_loop i).trips) : ClosedOff (k0_off9 i k 64#32) := ⟨![1024 * k.val + 64, 0], off9_eq i k 64 (by decide)⟩
instance (i : grid0.Coords) (k : Fin (k0_t3_loop i).trips) : ClosedOff (k0_off9 i k 72#32) := ⟨![1024 * k.val + 72, 0], off9_eq i k 72 (by decide)⟩
instance (i : grid0.Coords) (k : Fin (k0_t3_loop i).trips) : ClosedOff (k0_off9 i k 80#32) := ⟨![1024 * k.val + 80, 0], off9_eq i k 80 (by decide)⟩
instance (i : grid0.Coords) (k : Fin (k0_t3_loop i).trips) : ClosedOff (k0_off9 i k 88#32) := ⟨![1024 * k.val + 88, 0], off9_eq i k 88 (by decide)⟩
instance (i : grid0.Coords) (k : Fin (k0_t3_loop i).trips) : ClosedOff (k0_off9 i k 96#32) := ⟨![1024 * k.val + 96, 0], off9_eq i k 96 (by decide)⟩
instance (i : grid0.Coords) (k : Fin (k0_t3_loop i).trips) : ClosedOff (k0_off9 i k 104#32) := ⟨![1024 * k.val + 104, 0], off9_eq i k 104 (by decide)⟩
instance (i : grid0.Coords) (k : Fin (k0_t3_loop i).trips) : ClosedOff (k0_off9 i k 112#32) := ⟨![1024 * k.val + 112, 0], off9_eq i k 112 (by decide)⟩
instance (i : grid0.Coords) (k : Fin (k0_t3_loop i).trips) : ClosedOff (k0_off9 i k 120#32) := ⟨![1024 * k.val + 120, 0], off9_eq i k 120 (by decide)⟩
instance (i : grid0.Coords) (k : Fin (k0_t3_loop i).trips) : ClosedOff (k0_off9 i k 128#32) := ⟨![1024 * k.val + 128, 0], off9_eq i k 128 (by decide)⟩
instance (i : grid0.Coords) (k : Fin (k0_t3_loop i).trips) : ClosedOff (k0_off9 i k 136#32) := ⟨![1024 * k.val + 136, 0], off9_eq i k 136 (by decide)⟩
instance (i : grid0.Coords) (k : Fin (k0_t3_loop i).trips) : ClosedOff (k0_off9 i k 144#32) := ⟨![1024 * k.val + 144, 0], off9_eq i k 144 (by decide)⟩
instance (i : grid0.Coords) (k : Fin (k0_t3_loop i).trips) : ClosedOff (k0_off9 i k 152#32) := ⟨![1024 * k.val + 152, 0], off9_eq i k 152 (by decide)⟩
instance (i : grid0.Coords) (k : Fin (k0_t3_loop i).trips) : ClosedOff (k0_off9 i k 160#32) := ⟨![1024 * k.val + 160, 0], off9_eq i k 160 (by decide)⟩
instance (i : grid0.Coords) (k : Fin (k0_t3_loop i).trips) : ClosedOff (k0_off9 i k 168#32) := ⟨![1024 * k.val + 168, 0], off9_eq i k 168 (by decide)⟩
instance (i : grid0.Coords) (k : Fin (k0_t3_loop i).trips) : ClosedOff (k0_off9 i k 176#32) := ⟨![1024 * k.val + 176, 0], off9_eq i k 176 (by decide)⟩
instance (i : grid0.Coords) (k : Fin (k0_t3_loop i).trips) : ClosedOff (k0_off9 i k 184#32) := ⟨![1024 * k.val + 184, 0], off9_eq i k 184 (by decide)⟩
instance (i : grid0.Coords) (k : Fin (k0_t3_loop i).trips) : ClosedOff (k0_off9 i k 192#32) := ⟨![1024 * k.val + 192, 0], off9_eq i k 192 (by decide)⟩
instance (i : grid0.Coords) (k : Fin (k0_t3_loop i).trips) : ClosedOff (k0_off9 i k 200#32) := ⟨![1024 * k.val + 200, 0], off9_eq i k 200 (by decide)⟩
instance (i : grid0.Coords) (k : Fin (k0_t3_loop i).trips) : ClosedOff (k0_off9 i k 208#32) := ⟨![1024 * k.val + 208, 0], off9_eq i k 208 (by decide)⟩
instance (i : grid0.Coords) (k : Fin (k0_t3_loop i).trips) : ClosedOff (k0_off9 i k 216#32) := ⟨![1024 * k.val + 216, 0], off9_eq i k 216 (by decide)⟩
instance (i : grid0.Coords) (k : Fin (k0_t3_loop i).trips) : ClosedOff (k0_off9 i k 224#32) := ⟨![1024 * k.val + 224, 0], off9_eq i k 224 (by decide)⟩
instance (i : grid0.Coords) (k : Fin (k0_t3_loop i).trips) : ClosedOff (k0_off9 i k 232#32) := ⟨![1024 * k.val + 232, 0], off9_eq i k 232 (by decide)⟩
instance (i : grid0.Coords) (k : Fin (k0_t3_loop i).trips) : ClosedOff (k0_off9 i k 240#32) := ⟨![1024 * k.val + 240, 0], off9_eq i k 240 (by decide)⟩
instance (i : grid0.Coords) (k : Fin (k0_t3_loop i).trips) : ClosedOff (k0_off9 i k 248#32) := ⟨![1024 * k.val + 248, 0], off9_eq i k 248 (by decide)⟩
instance (i : grid0.Coords) (k : Fin (k0_t3_loop i).trips) : ClosedOff (k0_off9 i k 256#32) := ⟨![1024 * k.val + 256, 0], off9_eq i k 256 (by decide)⟩
instance (i : grid0.Coords) (k : Fin (k0_t3_loop i).trips) : ClosedOff (k0_off9 i k 264#32) := ⟨![1024 * k.val + 264, 0], off9_eq i k 264 (by decide)⟩
instance (i : grid0.Coords) (k : Fin (k0_t3_loop i).trips) : ClosedOff (k0_off9 i k 272#32) := ⟨![1024 * k.val + 272, 0], off9_eq i k 272 (by decide)⟩
instance (i : grid0.Coords) (k : Fin (k0_t3_loop i).trips) : ClosedOff (k0_off9 i k 280#32) := ⟨![1024 * k.val + 280, 0], off9_eq i k 280 (by decide)⟩
instance (i : grid0.Coords) (k : Fin (k0_t3_loop i).trips) : ClosedOff (k0_off9 i k 288#32) := ⟨![1024 * k.val + 288, 0], off9_eq i k 288 (by decide)⟩
instance (i : grid0.Coords) (k : Fin (k0_t3_loop i).trips) : ClosedOff (k0_off9 i k 296#32) := ⟨![1024 * k.val + 296, 0], off9_eq i k 296 (by decide)⟩
instance (i : grid0.Coords) (k : Fin (k0_t3_loop i).trips) : ClosedOff (k0_off9 i k 304#32) := ⟨![1024 * k.val + 304, 0], off9_eq i k 304 (by decide)⟩
instance (i : grid0.Coords) (k : Fin (k0_t3_loop i).trips) : ClosedOff (k0_off9 i k 312#32) := ⟨![1024 * k.val + 312, 0], off9_eq i k 312 (by decide)⟩
instance (i : grid0.Coords) (k : Fin (k0_t3_loop i).trips) : ClosedOff (k0_off9 i k 320#32) := ⟨![1024 * k.val + 320, 0], off9_eq i k 320 (by decide)⟩
instance (i : grid0.Coords) (k : Fin (k0_t3_loop i).trips) : ClosedOff (k0_off9 i k 328#32) := ⟨![1024 * k.val + 328, 0], off9_eq i k 328 (by decide)⟩
instance (i : grid0.Coords) (k : Fin (k0_t3_loop i).trips) : ClosedOff (k0_off9 i k 336#32) := ⟨![1024 * k.val + 336, 0], off9_eq i k 336 (by decide)⟩
instance (i : grid0.Coords) (k : Fin (k0_t3_loop i).trips) : ClosedOff (k0_off9 i k 344#32) := ⟨![1024 * k.val + 344, 0], off9_eq i k 344 (by decide)⟩
instance (i : grid0.Coords) (k : Fin (k0_t3_loop i).trips) : ClosedOff (k0_off9 i k 352#32) := ⟨![1024 * k.val + 352, 0], off9_eq i k 352 (by decide)⟩
instance (i : grid0.Coords) (k : Fin (k0_t3_loop i).trips) : ClosedOff (k0_off9 i k 360#32) := ⟨![1024 * k.val + 360, 0], off9_eq i k 360 (by decide)⟩
instance (i : grid0.Coords) (k : Fin (k0_t3_loop i).trips) : ClosedOff (k0_off9 i k 368#32) := ⟨![1024 * k.val + 368, 0], off9_eq i k 368 (by decide)⟩
instance (i : grid0.Coords) (k : Fin (k0_t3_loop i).trips) : ClosedOff (k0_off9 i k 376#32) := ⟨![1024 * k.val + 376, 0], off9_eq i k 376 (by decide)⟩
instance (i : grid0.Coords) (k : Fin (k0_t3_loop i).trips) : ClosedOff (k0_off9 i k 384#32) := ⟨![1024 * k.val + 384, 0], off9_eq i k 384 (by decide)⟩
instance (i : grid0.Coords) (k : Fin (k0_t3_loop i).trips) : ClosedOff (k0_off9 i k 392#32) := ⟨![1024 * k.val + 392, 0], off9_eq i k 392 (by decide)⟩
instance (i : grid0.Coords) (k : Fin (k0_t3_loop i).trips) : ClosedOff (k0_off9 i k 400#32) := ⟨![1024 * k.val + 400, 0], off9_eq i k 400 (by decide)⟩
instance (i : grid0.Coords) (k : Fin (k0_t3_loop i).trips) : ClosedOff (k0_off9 i k 408#32) := ⟨![1024 * k.val + 408, 0], off9_eq i k 408 (by decide)⟩
instance (i : grid0.Coords) (k : Fin (k0_t3_loop i).trips) : ClosedOff (k0_off9 i k 416#32) := ⟨![1024 * k.val + 416, 0], off9_eq i k 416 (by decide)⟩
instance (i : grid0.Coords) (k : Fin (k0_t3_loop i).trips) : ClosedOff (k0_off9 i k 424#32) := ⟨![1024 * k.val + 424, 0], off9_eq i k 424 (by decide)⟩
instance (i : grid0.Coords) (k : Fin (k0_t3_loop i).trips) : ClosedOff (k0_off9 i k 432#32) := ⟨![1024 * k.val + 432, 0], off9_eq i k 432 (by decide)⟩
instance (i : grid0.Coords) (k : Fin (k0_t3_loop i).trips) : ClosedOff (k0_off9 i k 440#32) := ⟨![1024 * k.val + 440, 0], off9_eq i k 440 (by decide)⟩
instance (i : grid0.Coords) (k : Fin (k0_t3_loop i).trips) : ClosedOff (k0_off9 i k 448#32) := ⟨![1024 * k.val + 448, 0], off9_eq i k 448 (by decide)⟩
instance (i : grid0.Coords) (k : Fin (k0_t3_loop i).trips) : ClosedOff (k0_off9 i k 456#32) := ⟨![1024 * k.val + 456, 0], off9_eq i k 456 (by decide)⟩
instance (i : grid0.Coords) (k : Fin (k0_t3_loop i).trips) : ClosedOff (k0_off9 i k 464#32) := ⟨![1024 * k.val + 464, 0], off9_eq i k 464 (by decide)⟩
instance (i : grid0.Coords) (k : Fin (k0_t3_loop i).trips) : ClosedOff (k0_off9 i k 472#32) := ⟨![1024 * k.val + 472, 0], off9_eq i k 472 (by decide)⟩
instance (i : grid0.Coords) (k : Fin (k0_t3_loop i).trips) : ClosedOff (k0_off9 i k 480#32) := ⟨![1024 * k.val + 480, 0], off9_eq i k 480 (by decide)⟩
instance (i : grid0.Coords) (k : Fin (k0_t3_loop i).trips) : ClosedOff (k0_off9 i k 488#32) := ⟨![1024 * k.val + 488, 0], off9_eq i k 488 (by decide)⟩
instance (i : grid0.Coords) (k : Fin (k0_t3_loop i).trips) : ClosedOff (k0_off9 i k 496#32) := ⟨![1024 * k.val + 496, 0], off9_eq i k 496 (by decide)⟩
instance (i : grid0.Coords) (k : Fin (k0_t3_loop i).trips) : ClosedOff (k0_off9 i k 504#32) := ⟨![1024 * k.val + 504, 0], off9_eq i k 504 (by decide)⟩
instance (i : grid0.Coords) (k : Fin (k0_t3_loop i).trips) : ClosedOff (k0_off9 i k 512#32) := ⟨![1024 * k.val + 512, 0], off9_eq i k 512 (by decide)⟩
instance (i : grid0.Coords) (k : Fin (k0_t3_loop i).trips) : ClosedOff (k0_off9 i k 520#32) := ⟨![1024 * k.val + 520, 0], off9_eq i k 520 (by decide)⟩
instance (i : grid0.Coords) (k : Fin (k0_t3_loop i).trips) : ClosedOff (k0_off9 i k 528#32) := ⟨![1024 * k.val + 528, 0], off9_eq i k 528 (by decide)⟩
instance (i : grid0.Coords) (k : Fin (k0_t3_loop i).trips) : ClosedOff (k0_off9 i k 536#32) := ⟨![1024 * k.val + 536, 0], off9_eq i k 536 (by decide)⟩
instance (i : grid0.Coords) (k : Fin (k0_t3_loop i).trips) : ClosedOff (k0_off9 i k 544#32) := ⟨![1024 * k.val + 544, 0], off9_eq i k 544 (by decide)⟩
instance (i : grid0.Coords) (k : Fin (k0_t3_loop i).trips) : ClosedOff (k0_off9 i k 552#32) := ⟨![1024 * k.val + 552, 0], off9_eq i k 552 (by decide)⟩
instance (i : grid0.Coords) (k : Fin (k0_t3_loop i).trips) : ClosedOff (k0_off9 i k 560#32) := ⟨![1024 * k.val + 560, 0], off9_eq i k 560 (by decide)⟩
instance (i : grid0.Coords) (k : Fin (k0_t3_loop i).trips) : ClosedOff (k0_off9 i k 568#32) := ⟨![1024 * k.val + 568, 0], off9_eq i k 568 (by decide)⟩
instance (i : grid0.Coords) (k : Fin (k0_t3_loop i).trips) : ClosedOff (k0_off9 i k 576#32) := ⟨![1024 * k.val + 576, 0], off9_eq i k 576 (by decide)⟩
instance (i : grid0.Coords) (k : Fin (k0_t3_loop i).trips) : ClosedOff (k0_off9 i k 584#32) := ⟨![1024 * k.val + 584, 0], off9_eq i k 584 (by decide)⟩
instance (i : grid0.Coords) (k : Fin (k0_t3_loop i).trips) : ClosedOff (k0_off9 i k 592#32) := ⟨![1024 * k.val + 592, 0], off9_eq i k 592 (by decide)⟩
instance (i : grid0.Coords) (k : Fin (k0_t3_loop i).trips) : ClosedOff (k0_off9 i k 600#32) := ⟨![1024 * k.val + 600, 0], off9_eq i k 600 (by decide)⟩
instance (i : grid0.Coords) (k : Fin (k0_t3_loop i).trips) : ClosedOff (k0_off9 i k 608#32) := ⟨![1024 * k.val + 608, 0], off9_eq i k 608 (by decide)⟩
instance (i : grid0.Coords) (k : Fin (k0_t3_loop i).trips) : ClosedOff (k0_off9 i k 616#32) := ⟨![1024 * k.val + 616, 0], off9_eq i k 616 (by decide)⟩
instance (i : grid0.Coords) (k : Fin (k0_t3_loop i).trips) : ClosedOff (k0_off9 i k 624#32) := ⟨![1024 * k.val + 624, 0], off9_eq i k 624 (by decide)⟩
instance (i : grid0.Coords) (k : Fin (k0_t3_loop i).trips) : ClosedOff (k0_off9 i k 632#32) := ⟨![1024 * k.val + 632, 0], off9_eq i k 632 (by decide)⟩
instance (i : grid0.Coords) (k : Fin (k0_t3_loop i).trips) : ClosedOff (k0_off9 i k 640#32) := ⟨![1024 * k.val + 640, 0], off9_eq i k 640 (by decide)⟩
instance (i : grid0.Coords) (k : Fin (k0_t3_loop i).trips) : ClosedOff (k0_off9 i k 648#32) := ⟨![1024 * k.val + 648, 0], off9_eq i k 648 (by decide)⟩
instance (i : grid0.Coords) (k : Fin (k0_t3_loop i).trips) : ClosedOff (k0_off9 i k 656#32) := ⟨![1024 * k.val + 656, 0], off9_eq i k 656 (by decide)⟩
instance (i : grid0.Coords) (k : Fin (k0_t3_loop i).trips) : ClosedOff (k0_off9 i k 664#32) := ⟨![1024 * k.val + 664, 0], off9_eq i k 664 (by decide)⟩
instance (i : grid0.Coords) (k : Fin (k0_t3_loop i).trips) : ClosedOff (k0_off9 i k 672#32) := ⟨![1024 * k.val + 672, 0], off9_eq i k 672 (by decide)⟩
instance (i : grid0.Coords) (k : Fin (k0_t3_loop i).trips) : ClosedOff (k0_off9 i k 680#32) := ⟨![1024 * k.val + 680, 0], off9_eq i k 680 (by decide)⟩
instance (i : grid0.Coords) (k : Fin (k0_t3_loop i).trips) : ClosedOff (k0_off9 i k 688#32) := ⟨![1024 * k.val + 688, 0], off9_eq i k 688 (by decide)⟩
instance (i : grid0.Coords) (k : Fin (k0_t3_loop i).trips) : ClosedOff (k0_off9 i k 696#32) := ⟨![1024 * k.val + 696, 0], off9_eq i k 696 (by decide)⟩
instance (i : grid0.Coords) (k : Fin (k0_t3_loop i).trips) : ClosedOff (k0_off9 i k 704#32) := ⟨![1024 * k.val + 704, 0], off9_eq i k 704 (by decide)⟩
instance (i : grid0.Coords) (k : Fin (k0_t3_loop i).trips) : ClosedOff (k0_off9 i k 712#32) := ⟨![1024 * k.val + 712, 0], off9_eq i k 712 (by decide)⟩
instance (i : grid0.Coords) (k : Fin (k0_t3_loop i).trips) : ClosedOff (k0_off9 i k 720#32) := ⟨![1024 * k.val + 720, 0], off9_eq i k 720 (by decide)⟩
instance (i : grid0.Coords) (k : Fin (k0_t3_loop i).trips) : ClosedOff (k0_off9 i k 728#32) := ⟨![1024 * k.val + 728, 0], off9_eq i k 728 (by decide)⟩
instance (i : grid0.Coords) (k : Fin (k0_t3_loop i).trips) : ClosedOff (k0_off9 i k 736#32) := ⟨![1024 * k.val + 736, 0], off9_eq i k 736 (by decide)⟩
instance (i : grid0.Coords) (k : Fin (k0_t3_loop i).trips) : ClosedOff (k0_off9 i k 744#32) := ⟨![1024 * k.val + 744, 0], off9_eq i k 744 (by decide)⟩
instance (i : grid0.Coords) (k : Fin (k0_t3_loop i).trips) : ClosedOff (k0_off9 i k 752#32) := ⟨![1024 * k.val + 752, 0], off9_eq i k 752 (by decide)⟩
instance (i : grid0.Coords) (k : Fin (k0_t3_loop i).trips) : ClosedOff (k0_off9 i k 760#32) := ⟨![1024 * k.val + 760, 0], off9_eq i k 760 (by decide)⟩
instance (i : grid0.Coords) (k : Fin (k0_t3_loop i).trips) : ClosedOff (k0_off9 i k 768#32) := ⟨![1024 * k.val + 768, 0], off9_eq i k 768 (by decide)⟩
instance (i : grid0.Coords) (k : Fin (k0_t3_loop i).trips) : ClosedOff (k0_off9 i k 776#32) := ⟨![1024 * k.val + 776, 0], off9_eq i k 776 (by decide)⟩
instance (i : grid0.Coords) (k : Fin (k0_t3_loop i).trips) : ClosedOff (k0_off9 i k 784#32) := ⟨![1024 * k.val + 784, 0], off9_eq i k 784 (by decide)⟩
instance (i : grid0.Coords) (k : Fin (k0_t3_loop i).trips) : ClosedOff (k0_off9 i k 792#32) := ⟨![1024 * k.val + 792, 0], off9_eq i k 792 (by decide)⟩
instance (i : grid0.Coords) (k : Fin (k0_t3_loop i).trips) : ClosedOff (k0_off9 i k 800#32) := ⟨![1024 * k.val + 800, 0], off9_eq i k 800 (by decide)⟩
instance (i : grid0.Coords) (k : Fin (k0_t3_loop i).trips) : ClosedOff (k0_off9 i k 808#32) := ⟨![1024 * k.val + 808, 0], off9_eq i k 808 (by decide)⟩
instance (i : grid0.Coords) (k : Fin (k0_t3_loop i).trips) : ClosedOff (k0_off9 i k 816#32) := ⟨![1024 * k.val + 816, 0], off9_eq i k 816 (by decide)⟩
instance (i : grid0.Coords) (k : Fin (k0_t3_loop i).trips) : ClosedOff (k0_off9 i k 824#32) := ⟨![1024 * k.val + 824, 0], off9_eq i k 824 (by decide)⟩
instance (i : grid0.Coords) (k : Fin (k0_t3_loop i).trips) : ClosedOff (k0_off9 i k 832#32) := ⟨![1024 * k.val + 832, 0], off9_eq i k 832 (by decide)⟩
instance (i : grid0.Coords) (k : Fin (k0_t3_loop i).trips) : ClosedOff (k0_off9 i k 840#32) := ⟨![1024 * k.val + 840, 0], off9_eq i k 840 (by decide)⟩
instance (i : grid0.Coords) (k : Fin (k0_t3_loop i).trips) : ClosedOff (k0_off9 i k 848#32) := ⟨![1024 * k.val + 848, 0], off9_eq i k 848 (by decide)⟩
instance (i : grid0.Coords) (k : Fin (k0_t3_loop i).trips) : ClosedOff (k0_off9 i k 856#32) := ⟨![1024 * k.val + 856, 0], off9_eq i k 856 (by decide)⟩
instance (i : grid0.Coords) (k : Fin (k0_t3_loop i).trips) : ClosedOff (k0_off9 i k 864#32) := ⟨![1024 * k.val + 864, 0], off9_eq i k 864 (by decide)⟩
instance (i : grid0.Coords) (k : Fin (k0_t3_loop i).trips) : ClosedOff (k0_off9 i k 872#32) := ⟨![1024 * k.val + 872, 0], off9_eq i k 872 (by decide)⟩
instance (i : grid0.Coords) (k : Fin (k0_t3_loop i).trips) : ClosedOff (k0_off9 i k 880#32) := ⟨![1024 * k.val + 880, 0], off9_eq i k 880 (by decide)⟩
instance (i : grid0.Coords) (k : Fin (k0_t3_loop i).trips) : ClosedOff (k0_off9 i k 888#32) := ⟨![1024 * k.val + 888, 0], off9_eq i k 888 (by decide)⟩
instance (i : grid0.Coords) (k : Fin (k0_t3_loop i).trips) : ClosedOff (k0_off9 i k 896#32) := ⟨![1024 * k.val + 896, 0], off9_eq i k 896 (by decide)⟩
instance (i : grid0.Coords) (k : Fin (k0_t3_loop i).trips) : ClosedOff (k0_off9 i k 904#32) := ⟨![1024 * k.val + 904, 0], off9_eq i k 904 (by decide)⟩
instance (i : grid0.Coords) (k : Fin (k0_t3_loop i).trips) : ClosedOff (k0_off9 i k 912#32) := ⟨![1024 * k.val + 912, 0], off9_eq i k 912 (by decide)⟩
instance (i : grid0.Coords) (k : Fin (k0_t3_loop i).trips) : ClosedOff (k0_off9 i k 920#32) := ⟨![1024 * k.val + 920, 0], off9_eq i k 920 (by decide)⟩
instance (i : grid0.Coords) (k : Fin (k0_t3_loop i).trips) : ClosedOff (k0_off9 i k 928#32) := ⟨![1024 * k.val + 928, 0], off9_eq i k 928 (by decide)⟩
instance (i : grid0.Coords) (k : Fin (k0_t3_loop i).trips) : ClosedOff (k0_off9 i k 936#32) := ⟨![1024 * k.val + 936, 0], off9_eq i k 936 (by decide)⟩
instance (i : grid0.Coords) (k : Fin (k0_t3_loop i).trips) : ClosedOff (k0_off9 i k 944#32) := ⟨![1024 * k.val + 944, 0], off9_eq i k 944 (by decide)⟩
instance (i : grid0.Coords) (k : Fin (k0_t3_loop i).trips) : ClosedOff (k0_off9 i k 952#32) := ⟨![1024 * k.val + 952, 0], off9_eq i k 952 (by decide)⟩
instance (i : grid0.Coords) (k : Fin (k0_t3_loop i).trips) : ClosedOff (k0_off9 i k 960#32) := ⟨![1024 * k.val + 960, 0], off9_eq i k 960 (by decide)⟩
instance (i : grid0.Coords) (k : Fin (k0_t3_loop i).trips) : ClosedOff (k0_off9 i k 968#32) := ⟨![1024 * k.val + 968, 0], off9_eq i k 968 (by decide)⟩
instance (i : grid0.Coords) (k : Fin (k0_t3_loop i).trips) : ClosedOff (k0_off9 i k 976#32) := ⟨![1024 * k.val + 976, 0], off9_eq i k 976 (by decide)⟩
instance (i : grid0.Coords) (k : Fin (k0_t3_loop i).trips) : ClosedOff (k0_off9 i k 984#32) := ⟨![1024 * k.val + 984, 0], off9_eq i k 984 (by decide)⟩
instance (i : grid0.Coords) (k : Fin (k0_t3_loop i).trips) : ClosedOff (k0_off9 i k 992#32) := ⟨![1024 * k.val + 992, 0], off9_eq i k 992 (by decide)⟩
instance (i : grid0.Coords) (k : Fin (k0_t3_loop i).trips) : ClosedOff (k0_off9 i k 1000#32) := ⟨![1024 * k.val + 1000, 0], off9_eq i k 1000 (by decide)⟩
instance (i : grid0.Coords) (k : Fin (k0_t3_loop i).trips) : ClosedOff (k0_off9 i k 1008#32) := ⟨![1024 * k.val + 1008, 0], off9_eq i k 1008 (by decide)⟩
instance (i : grid0.Coords) (k : Fin (k0_t3_loop i).trips) : ClosedOff (k0_off9 i k 1016#32) := ⟨![1024 * k.val + 1016, 0], off9_eq i k 1016 (by decide)⟩
instance (i : grid0.Coords) : ClosedOff (k0_off19 i 0#32) := ⟨![1024 * lastSpan i + 0, 0], off19_eq i 0 (by decide)⟩
instance (i : grid0.Coords) : ClosedOff (k0_off19 i 8#32) := ⟨![1024 * lastSpan i + 8, 0], off19_eq i 8 (by decide)⟩
instance (i : grid0.Coords) : ClosedOff (k0_off19 i 16#32) := ⟨![1024 * lastSpan i + 16, 0], off19_eq i 16 (by decide)⟩
instance (i : grid0.Coords) : ClosedOff (k0_off19 i 24#32) := ⟨![1024 * lastSpan i + 24, 0], off19_eq i 24 (by decide)⟩
instance (i : grid0.Coords) : ClosedOff (k0_off19 i 32#32) := ⟨![1024 * lastSpan i + 32, 0], off19_eq i 32 (by decide)⟩
instance (i : grid0.Coords) : ClosedOff (k0_off19 i 40#32) := ⟨![1024 * lastSpan i + 40, 0], off19_eq i 40 (by decide)⟩
instance (i : grid0.Coords) : ClosedOff (k0_off19 i 48#32) := ⟨![1024 * lastSpan i + 48, 0], off19_eq i 48 (by decide)⟩
instance (i : grid0.Coords) : ClosedOff (k0_off19 i 56#32) := ⟨![1024 * lastSpan i + 56, 0], off19_eq i 56 (by decide)⟩
instance (i : grid0.Coords) : ClosedOff (k0_off19 i 64#32) := ⟨![1024 * lastSpan i + 64, 0], off19_eq i 64 (by decide)⟩
instance (i : grid0.Coords) : ClosedOff (k0_off19 i 72#32) := ⟨![1024 * lastSpan i + 72, 0], off19_eq i 72 (by decide)⟩
instance (i : grid0.Coords) : ClosedOff (k0_off19 i 80#32) := ⟨![1024 * lastSpan i + 80, 0], off19_eq i 80 (by decide)⟩
instance (i : grid0.Coords) : ClosedOff (k0_off19 i 88#32) := ⟨![1024 * lastSpan i + 88, 0], off19_eq i 88 (by decide)⟩
instance (i : grid0.Coords) : ClosedOff (k0_off19 i 96#32) := ⟨![1024 * lastSpan i + 96, 0], off19_eq i 96 (by decide)⟩
instance (i : grid0.Coords) : ClosedOff (k0_off19 i 104#32) := ⟨![1024 * lastSpan i + 104, 0], off19_eq i 104 (by decide)⟩
instance (i : grid0.Coords) : ClosedOff (k0_off19 i 112#32) := ⟨![1024 * lastSpan i + 112, 0], off19_eq i 112 (by decide)⟩
instance (i : grid0.Coords) : ClosedOff (k0_off19 i 120#32) := ⟨![1024 * lastSpan i + 120, 0], off19_eq i 120 (by decide)⟩
instance (i : grid0.Coords) : ClosedOff (k0_off19 i 128#32) := ⟨![1024 * lastSpan i + 128, 0], off19_eq i 128 (by decide)⟩
instance (i : grid0.Coords) : ClosedOff (k0_off19 i 136#32) := ⟨![1024 * lastSpan i + 136, 0], off19_eq i 136 (by decide)⟩
instance (i : grid0.Coords) : ClosedOff (k0_off19 i 144#32) := ⟨![1024 * lastSpan i + 144, 0], off19_eq i 144 (by decide)⟩
instance (i : grid0.Coords) : ClosedOff (k0_off19 i 152#32) := ⟨![1024 * lastSpan i + 152, 0], off19_eq i 152 (by decide)⟩
instance (i : grid0.Coords) : ClosedOff (k0_off19 i 160#32) := ⟨![1024 * lastSpan i + 160, 0], off19_eq i 160 (by decide)⟩
instance (i : grid0.Coords) : ClosedOff (k0_off19 i 168#32) := ⟨![1024 * lastSpan i + 168, 0], off19_eq i 168 (by decide)⟩
instance (i : grid0.Coords) : ClosedOff (k0_off19 i 176#32) := ⟨![1024 * lastSpan i + 176, 0], off19_eq i 176 (by decide)⟩
instance (i : grid0.Coords) : ClosedOff (k0_off19 i 184#32) := ⟨![1024 * lastSpan i + 184, 0], off19_eq i 184 (by decide)⟩
instance (i : grid0.Coords) : ClosedOff (k0_off19 i 192#32) := ⟨![1024 * lastSpan i + 192, 0], off19_eq i 192 (by decide)⟩
instance (i : grid0.Coords) : ClosedOff (k0_off19 i 200#32) := ⟨![1024 * lastSpan i + 200, 0], off19_eq i 200 (by decide)⟩
instance (i : grid0.Coords) : ClosedOff (k0_off19 i 208#32) := ⟨![1024 * lastSpan i + 208, 0], off19_eq i 208 (by decide)⟩
instance (i : grid0.Coords) : ClosedOff (k0_off19 i 216#32) := ⟨![1024 * lastSpan i + 216, 0], off19_eq i 216 (by decide)⟩
instance (i : grid0.Coords) : ClosedOff (k0_off19 i 224#32) := ⟨![1024 * lastSpan i + 224, 0], off19_eq i 224 (by decide)⟩
instance (i : grid0.Coords) : ClosedOff (k0_off19 i 232#32) := ⟨![1024 * lastSpan i + 232, 0], off19_eq i 232 (by decide)⟩
instance (i : grid0.Coords) : ClosedOff (k0_off19 i 240#32) := ⟨![1024 * lastSpan i + 240, 0], off19_eq i 240 (by decide)⟩
instance (i : grid0.Coords) : ClosedOff (k0_off19 i 248#32) := ⟨![1024 * lastSpan i + 248, 0], off19_eq i 248 (by decide)⟩
instance (i : grid0.Coords) : ClosedOff (k0_off19 i 256#32) := ⟨![1024 * lastSpan i + 256, 0], off19_eq i 256 (by decide)⟩
instance (i : grid0.Coords) : ClosedOff (k0_off19 i 264#32) := ⟨![1024 * lastSpan i + 264, 0], off19_eq i 264 (by decide)⟩
instance (i : grid0.Coords) : ClosedOff (k0_off19 i 272#32) := ⟨![1024 * lastSpan i + 272, 0], off19_eq i 272 (by decide)⟩
instance (i : grid0.Coords) : ClosedOff (k0_off19 i 280#32) := ⟨![1024 * lastSpan i + 280, 0], off19_eq i 280 (by decide)⟩
instance (i : grid0.Coords) : ClosedOff (k0_off19 i 288#32) := ⟨![1024 * lastSpan i + 288, 0], off19_eq i 288 (by decide)⟩
instance (i : grid0.Coords) : ClosedOff (k0_off19 i 296#32) := ⟨![1024 * lastSpan i + 296, 0], off19_eq i 296 (by decide)⟩
instance (i : grid0.Coords) : ClosedOff (k0_off19 i 304#32) := ⟨![1024 * lastSpan i + 304, 0], off19_eq i 304 (by decide)⟩
instance (i : grid0.Coords) : ClosedOff (k0_off19 i 312#32) := ⟨![1024 * lastSpan i + 312, 0], off19_eq i 312 (by decide)⟩
instance (i : grid0.Coords) : ClosedOff (k0_off19 i 320#32) := ⟨![1024 * lastSpan i + 320, 0], off19_eq i 320 (by decide)⟩
instance (i : grid0.Coords) : ClosedOff (k0_off19 i 328#32) := ⟨![1024 * lastSpan i + 328, 0], off19_eq i 328 (by decide)⟩
instance (i : grid0.Coords) : ClosedOff (k0_off19 i 336#32) := ⟨![1024 * lastSpan i + 336, 0], off19_eq i 336 (by decide)⟩
instance (i : grid0.Coords) : ClosedOff (k0_off19 i 344#32) := ⟨![1024 * lastSpan i + 344, 0], off19_eq i 344 (by decide)⟩
instance (i : grid0.Coords) : ClosedOff (k0_off19 i 352#32) := ⟨![1024 * lastSpan i + 352, 0], off19_eq i 352 (by decide)⟩
instance (i : grid0.Coords) : ClosedOff (k0_off19 i 360#32) := ⟨![1024 * lastSpan i + 360, 0], off19_eq i 360 (by decide)⟩
instance (i : grid0.Coords) : ClosedOff (k0_off19 i 368#32) := ⟨![1024 * lastSpan i + 368, 0], off19_eq i 368 (by decide)⟩
instance (i : grid0.Coords) : ClosedOff (k0_off19 i 376#32) := ⟨![1024 * lastSpan i + 376, 0], off19_eq i 376 (by decide)⟩
instance (i : grid0.Coords) : ClosedOff (k0_off19 i 384#32) := ⟨![1024 * lastSpan i + 384, 0], off19_eq i 384 (by decide)⟩
instance (i : grid0.Coords) : ClosedOff (k0_off19 i 392#32) := ⟨![1024 * lastSpan i + 392, 0], off19_eq i 392 (by decide)⟩
instance (i : grid0.Coords) : ClosedOff (k0_off19 i 400#32) := ⟨![1024 * lastSpan i + 400, 0], off19_eq i 400 (by decide)⟩
instance (i : grid0.Coords) : ClosedOff (k0_off19 i 408#32) := ⟨![1024 * lastSpan i + 408, 0], off19_eq i 408 (by decide)⟩
instance (i : grid0.Coords) : ClosedOff (k0_off19 i 416#32) := ⟨![1024 * lastSpan i + 416, 0], off19_eq i 416 (by decide)⟩
instance (i : grid0.Coords) : ClosedOff (k0_off19 i 424#32) := ⟨![1024 * lastSpan i + 424, 0], off19_eq i 424 (by decide)⟩
instance (i : grid0.Coords) : ClosedOff (k0_off19 i 432#32) := ⟨![1024 * lastSpan i + 432, 0], off19_eq i 432 (by decide)⟩
instance (i : grid0.Coords) : ClosedOff (k0_off19 i 440#32) := ⟨![1024 * lastSpan i + 440, 0], off19_eq i 440 (by decide)⟩
instance (i : grid0.Coords) : ClosedOff (k0_off19 i 448#32) := ⟨![1024 * lastSpan i + 448, 0], off19_eq i 448 (by decide)⟩
instance (i : grid0.Coords) : ClosedOff (k0_off19 i 456#32) := ⟨![1024 * lastSpan i + 456, 0], off19_eq i 456 (by decide)⟩
instance (i : grid0.Coords) : ClosedOff (k0_off19 i 464#32) := ⟨![1024 * lastSpan i + 464, 0], off19_eq i 464 (by decide)⟩
instance (i : grid0.Coords) : ClosedOff (k0_off19 i 472#32) := ⟨![1024 * lastSpan i + 472, 0], off19_eq i 472 (by decide)⟩
instance (i : grid0.Coords) : ClosedOff (k0_off19 i 480#32) := ⟨![1024 * lastSpan i + 480, 0], off19_eq i 480 (by decide)⟩
instance (i : grid0.Coords) : ClosedOff (k0_off19 i 488#32) := ⟨![1024 * lastSpan i + 488, 0], off19_eq i 488 (by decide)⟩
instance (i : grid0.Coords) : ClosedOff (k0_off19 i 496#32) := ⟨![1024 * lastSpan i + 496, 0], off19_eq i 496 (by decide)⟩
instance (i : grid0.Coords) : ClosedOff (k0_off19 i 504#32) := ⟨![1024 * lastSpan i + 504, 0], off19_eq i 504 (by decide)⟩
instance (i : grid0.Coords) : ClosedOff (k0_off19 i 512#32) := ⟨![1024 * lastSpan i + 512, 0], off19_eq i 512 (by decide)⟩
instance (i : grid0.Coords) : ClosedOff (k0_off19 i 520#32) := ⟨![1024 * lastSpan i + 520, 0], off19_eq i 520 (by decide)⟩
instance (i : grid0.Coords) : ClosedOff (k0_off19 i 528#32) := ⟨![1024 * lastSpan i + 528, 0], off19_eq i 528 (by decide)⟩
instance (i : grid0.Coords) : ClosedOff (k0_off19 i 536#32) := ⟨![1024 * lastSpan i + 536, 0], off19_eq i 536 (by decide)⟩
instance (i : grid0.Coords) : ClosedOff (k0_off19 i 544#32) := ⟨![1024 * lastSpan i + 544, 0], off19_eq i 544 (by decide)⟩
instance (i : grid0.Coords) : ClosedOff (k0_off19 i 552#32) := ⟨![1024 * lastSpan i + 552, 0], off19_eq i 552 (by decide)⟩
instance (i : grid0.Coords) : ClosedOff (k0_off19 i 560#32) := ⟨![1024 * lastSpan i + 560, 0], off19_eq i 560 (by decide)⟩
instance (i : grid0.Coords) : ClosedOff (k0_off19 i 568#32) := ⟨![1024 * lastSpan i + 568, 0], off19_eq i 568 (by decide)⟩
instance (i : grid0.Coords) : ClosedOff (k0_off19 i 576#32) := ⟨![1024 * lastSpan i + 576, 0], off19_eq i 576 (by decide)⟩
instance (i : grid0.Coords) : ClosedOff (k0_off19 i 584#32) := ⟨![1024 * lastSpan i + 584, 0], off19_eq i 584 (by decide)⟩
instance (i : grid0.Coords) : ClosedOff (k0_off19 i 592#32) := ⟨![1024 * lastSpan i + 592, 0], off19_eq i 592 (by decide)⟩
instance (i : grid0.Coords) : ClosedOff (k0_off19 i 600#32) := ⟨![1024 * lastSpan i + 600, 0], off19_eq i 600 (by decide)⟩
instance (i : grid0.Coords) : ClosedOff (k0_off19 i 608#32) := ⟨![1024 * lastSpan i + 608, 0], off19_eq i 608 (by decide)⟩
instance (i : grid0.Coords) : ClosedOff (k0_off19 i 616#32) := ⟨![1024 * lastSpan i + 616, 0], off19_eq i 616 (by decide)⟩
instance (i : grid0.Coords) : ClosedOff (k0_off19 i 624#32) := ⟨![1024 * lastSpan i + 624, 0], off19_eq i 624 (by decide)⟩
instance (i : grid0.Coords) : ClosedOff (k0_off19 i 632#32) := ⟨![1024 * lastSpan i + 632, 0], off19_eq i 632 (by decide)⟩
instance (i : grid0.Coords) : ClosedOff (k0_off19 i 640#32) := ⟨![1024 * lastSpan i + 640, 0], off19_eq i 640 (by decide)⟩
instance (i : grid0.Coords) : ClosedOff (k0_off19 i 648#32) := ⟨![1024 * lastSpan i + 648, 0], off19_eq i 648 (by decide)⟩
instance (i : grid0.Coords) : ClosedOff (k0_off19 i 656#32) := ⟨![1024 * lastSpan i + 656, 0], off19_eq i 656 (by decide)⟩
instance (i : grid0.Coords) : ClosedOff (k0_off19 i 664#32) := ⟨![1024 * lastSpan i + 664, 0], off19_eq i 664 (by decide)⟩
instance (i : grid0.Coords) : ClosedOff (k0_off19 i 672#32) := ⟨![1024 * lastSpan i + 672, 0], off19_eq i 672 (by decide)⟩
instance (i : grid0.Coords) : ClosedOff (k0_off19 i 680#32) := ⟨![1024 * lastSpan i + 680, 0], off19_eq i 680 (by decide)⟩
instance (i : grid0.Coords) : ClosedOff (k0_off19 i 688#32) := ⟨![1024 * lastSpan i + 688, 0], off19_eq i 688 (by decide)⟩
instance (i : grid0.Coords) : ClosedOff (k0_off19 i 696#32) := ⟨![1024 * lastSpan i + 696, 0], off19_eq i 696 (by decide)⟩
instance (i : grid0.Coords) : ClosedOff (k0_off19 i 704#32) := ⟨![1024 * lastSpan i + 704, 0], off19_eq i 704 (by decide)⟩
instance (i : grid0.Coords) : ClosedOff (k0_off19 i 712#32) := ⟨![1024 * lastSpan i + 712, 0], off19_eq i 712 (by decide)⟩
instance (i : grid0.Coords) : ClosedOff (k0_off19 i 720#32) := ⟨![1024 * lastSpan i + 720, 0], off19_eq i 720 (by decide)⟩
instance (i : grid0.Coords) : ClosedOff (k0_off19 i 728#32) := ⟨![1024 * lastSpan i + 728, 0], off19_eq i 728 (by decide)⟩
instance (i : grid0.Coords) : ClosedOff (k0_off19 i 736#32) := ⟨![1024 * lastSpan i + 736, 0], off19_eq i 736 (by decide)⟩
instance (i : grid0.Coords) : ClosedOff (k0_off19 i 744#32) := ⟨![1024 * lastSpan i + 744, 0], off19_eq i 744 (by decide)⟩
instance (i : grid0.Coords) : ClosedOff (k0_off19 i 752#32) := ⟨![1024 * lastSpan i + 752, 0], off19_eq i 752 (by decide)⟩
instance (i : grid0.Coords) : ClosedOff (k0_off19 i 760#32) := ⟨![1024 * lastSpan i + 760, 0], off19_eq i 760 (by decide)⟩
instance (i : grid0.Coords) : ClosedOff (k0_off19 i 768#32) := ⟨![1024 * lastSpan i + 768, 0], off19_eq i 768 (by decide)⟩
instance (i : grid0.Coords) : ClosedOff (k0_off19 i 776#32) := ⟨![1024 * lastSpan i + 776, 0], off19_eq i 776 (by decide)⟩
instance (i : grid0.Coords) : ClosedOff (k0_off19 i 784#32) := ⟨![1024 * lastSpan i + 784, 0], off19_eq i 784 (by decide)⟩
instance (i : grid0.Coords) : ClosedOff (k0_off19 i 792#32) := ⟨![1024 * lastSpan i + 792, 0], off19_eq i 792 (by decide)⟩
instance (i : grid0.Coords) : ClosedOff (k0_off19 i 800#32) := ⟨![1024 * lastSpan i + 800, 0], off19_eq i 800 (by decide)⟩
instance (i : grid0.Coords) : ClosedOff (k0_off19 i 808#32) := ⟨![1024 * lastSpan i + 808, 0], off19_eq i 808 (by decide)⟩
instance (i : grid0.Coords) : ClosedOff (k0_off19 i 816#32) := ⟨![1024 * lastSpan i + 816, 0], off19_eq i 816 (by decide)⟩
instance (i : grid0.Coords) : ClosedOff (k0_off19 i 824#32) := ⟨![1024 * lastSpan i + 824, 0], off19_eq i 824 (by decide)⟩
instance (i : grid0.Coords) : ClosedOff (k0_off19 i 832#32) := ⟨![1024 * lastSpan i + 832, 0], off19_eq i 832 (by decide)⟩
instance (i : grid0.Coords) : ClosedOff (k0_off19 i 840#32) := ⟨![1024 * lastSpan i + 840, 0], off19_eq i 840 (by decide)⟩
instance (i : grid0.Coords) : ClosedOff (k0_off19 i 848#32) := ⟨![1024 * lastSpan i + 848, 0], off19_eq i 848 (by decide)⟩
instance (i : grid0.Coords) : ClosedOff (k0_off19 i 856#32) := ⟨![1024 * lastSpan i + 856, 0], off19_eq i 856 (by decide)⟩
instance (i : grid0.Coords) : ClosedOff (k0_off19 i 864#32) := ⟨![1024 * lastSpan i + 864, 0], off19_eq i 864 (by decide)⟩
instance (i : grid0.Coords) : ClosedOff (k0_off19 i 872#32) := ⟨![1024 * lastSpan i + 872, 0], off19_eq i 872 (by decide)⟩
instance (i : grid0.Coords) : ClosedOff (k0_off19 i 880#32) := ⟨![1024 * lastSpan i + 880, 0], off19_eq i 880 (by decide)⟩
instance (i : grid0.Coords) : ClosedOff (k0_off19 i 888#32) := ⟨![1024 * lastSpan i + 888, 0], off19_eq i 888 (by decide)⟩
instance (i : grid0.Coords) : ClosedOff (k0_off19 i 896#32) := ⟨![1024 * lastSpan i + 896, 0], off19_eq i 896 (by decide)⟩
instance (i : grid0.Coords) : ClosedOff (k0_off19 i 904#32) := ⟨![1024 * lastSpan i + 904, 0], off19_eq i 904 (by decide)⟩
instance (i : grid0.Coords) : ClosedOff (k0_off19 i 912#32) := ⟨![1024 * lastSpan i + 912, 0], off19_eq i 912 (by decide)⟩
instance (i : grid0.Coords) : ClosedOff (k0_off19 i 920#32) := ⟨![1024 * lastSpan i + 920, 0], off19_eq i 920 (by decide)⟩
instance (i : grid0.Coords) : ClosedOff (k0_off19 i 928#32) := ⟨![1024 * lastSpan i + 928, 0], off19_eq i 928 (by decide)⟩
instance (i : grid0.Coords) : ClosedOff (k0_off19 i 936#32) := ⟨![1024 * lastSpan i + 936, 0], off19_eq i 936 (by decide)⟩
instance (i : grid0.Coords) : ClosedOff (k0_off19 i 944#32) := ⟨![1024 * lastSpan i + 944, 0], off19_eq i 944 (by decide)⟩
instance (i : grid0.Coords) : ClosedOff (k0_off19 i 952#32) := ⟨![1024 * lastSpan i + 952, 0], off19_eq i 952 (by decide)⟩
instance (i : grid0.Coords) : ClosedOff (k0_off19 i 960#32) := ⟨![1024 * lastSpan i + 960, 0], off19_eq i 960 (by decide)⟩
instance (i : grid0.Coords) : ClosedOff (k0_off19 i 968#32) := ⟨![1024 * lastSpan i + 968, 0], off19_eq i 968 (by decide)⟩
instance (i : grid0.Coords) : ClosedOff (k0_off19 i 976#32) := ⟨![1024 * lastSpan i + 976, 0], off19_eq i 976 (by decide)⟩
instance (i : grid0.Coords) : ClosedOff (k0_off19 i 984#32) := ⟨![1024 * lastSpan i + 984, 0], off19_eq i 984 (by decide)⟩
instance (i : grid0.Coords) : ClosedOff (k0_off19 i 992#32) := ⟨![1024 * lastSpan i + 992, 0], off19_eq i 992 (by decide)⟩
instance (i : grid0.Coords) : ClosedOff (k0_off19 i 1000#32) := ⟨![1024 * lastSpan i + 1000, 0], off19_eq i 1000 (by decide)⟩
instance (i : grid0.Coords) : ClosedOff (k0_off19 i 1008#32) := ⟨![1024 * lastSpan i + 1008, 0], off19_eq i 1008 (by decide)⟩
instance (i : grid0.Coords) : ClosedOff (k0_off19 i 1016#32) := ⟨![1024 * lastSpan i + 1016, 0], off19_eq i 1016 (by decide)⟩

end Cert.Attend.Hand

end
-- ==== Proof.Spans.lean ====
module

public import proofs.«01_k».proof.Proof.Geo
public import proofs.«01_k».proof.Proof.Gen.Attend.Frame

@[expose] public section

set_option maxRecDepth 16384

noncomputable section

namespace Cert.Attend.Hand

open Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 16000000 in
/-- One trip of the loop over full spans when there is a previous tile: its codes for this span
   are contracted before its exponentials are overwritten. -/
@[irreducible] def trip3_read (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1) (h3 : k0_cond3 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (k : Fin (k0_t3_loop i).trips) (acc : FVec F S8x256 .f32) (f8 : BufTy.Contents (Elt F) arg8.view.ty) (f9 : BufTy.Contents (Elt F) arg9.view.ty) :
   Σ' (R : FVec F S8x256 .f32), Σ' (C8 : BufTy.Contents (Elt F) arg8.view.ty), { L9 : List (View.Piece (Elt F) S128x256 .f32) // ∀ (E : Set ℕ),
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} f8) ∗ (arg9.view.loc (c : Thread nD τ) ↦[arg9.view.set]{fullShare} f9)) : sProp 𝕄)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg1 v1 v4 k0_h2 k acc)
          (fun yld => iprop(⌜yld = R⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} C8) ∗ (arg9.view.loc (c : Thread nD τ) ↦[arg9.view.set]{fullShare} arg9.view.writes (Elt F) f9 L9))) } := by
  refine ⟨?_, ?_, ?_, fun E => ?run⟩
  case run =>
    unfold k0_t3_body
    iintro ⟨H2, H3, H4, H5, H10, H8, H9⟩
    sl_exec
    sl_step
    sl_close

set_option maxHeartbeats 16000000 in
/-- One trip of the loop over full spans at the first tile, with nothing to read out. -/
@[irreducible] def trip3_first (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1) (h3 : ¬ k0_cond3 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (k : Fin (k0_t3_loop i).trips) (acc : FVec F S8x256 .f32) (f8 : BufTy.Contents (Elt F) arg8.view.ty) (f9 : BufTy.Contents (Elt F) arg9.view.ty) :
   Σ' (R : FVec F S8x256 .f32), { C8 : BufTy.Contents (Elt F) arg8.view.ty // ∀ (E : Set ℕ),
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} f8) ∗ (arg9.view.loc (c : Thread nD τ) ↦[arg9.view.set]{fullShare} f9)) : sProp 𝕄)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg1 v1 v4 k0_h2 k acc)
          (fun yld => iprop(⌜yld = R⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} C8) ∗ (arg9.view.loc (c : Thread nD τ) ↦[arg9.view.set]{fullShare} f9))) } := by
  refine ⟨?_, ?_, fun E => ?run⟩
  case run =>
    unfold k0_t3_body
    iintro ⟨H2, H3, H4, H5, H10, H8, H9⟩
    sl_exec
    sl_step
    sl_close

/-- What the loop over full spans carries: the running maximum, the exponents and the stores into the sum. -/
structure St3 (F : FTy → Type) [FloatOps F] (arg8 : Memref sig .tc .vmem S32768x256 .f32) (arg9 : Memref sig .tc .vmem S128x256 .f32) where
  mx : FVec F S8x256 .f32
  y : BufTy.Contents (Elt F) arg8.view.ty
  sum : List (View.Piece (Elt F) S128x256 .f32)

/-- One trip on what is carried. -/
def step3 (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (G9 : BufTy.Contents (Elt F) arg9.view.ty) (k : Fin (k0_t3_loop i).trips) (s : St3 F arg8 arg9) : St3 F arg8 arg9 :=
  if h3 : k0_cond3 i = 1#1 then
    ⟨(trip3_read 𝒱 c bd i arg2 harg2 arg3 harg3 arg4 harg4 arg5 harg5 arg6 harg6 arg7 harg7 arg8 harg8 arg9 harg9 arg10 harg10 arg1 v1 v4 k0_h2 h3 X2 X3 X4 X5 X10 k s.mx s.y (arg9.view.writes (Elt F) G9 s.sum)).1, (trip3_read 𝒱 c bd i arg2 harg2 arg3 harg3 arg4 harg4 arg5 harg5 arg6 harg6 arg7 harg7 arg8 harg8 arg9 harg9 arg10 harg10 arg1 v1 v4 k0_h2 h3 X2 X3 X4 X5 X10 k s.mx s.y (arg9.view.writes (Elt F) G9 s.sum)).2.1,
     (trip3_read 𝒱 c bd i arg2 harg2 arg3 harg3 arg4 harg4 arg5 harg5 arg6 harg6 arg7 harg7 arg8 harg8 arg9 harg9 arg10 harg10 arg1 v1 v4 k0_h2 h3 X2 X3 X4 X5 X10 k s.mx s.y (arg9.view.writes (Elt F) G9 s.sum)).2.2.1 ++ s.sum⟩
  else
    ⟨(trip3_first 𝒱 c bd i arg2 harg2 arg3 harg3 arg4 harg4 arg5 harg5 arg6 harg6 arg7 harg7 arg8 harg8 arg9 harg9 arg10 harg10 arg1 v1 v4 k0_h2 h3 X2 X3 X4 X5 X10 k s.mx s.y (arg9.view.writes (Elt F) G9 s.sum)).1, (trip3_first 𝒱 c bd i arg2 harg2 arg3 harg3 arg4 harg4 arg5 harg5 arg6 harg6 arg7 harg7 arg8 harg8 arg9 harg9 arg10 harg10 arg1 v1 v4 k0_h2 h3 X2 X3 X4 X5 X10 k s.mx s.y (arg9.view.writes (Elt F) G9 s.sum)).2.1, s.sum⟩

theorem step3_run (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (G9 : BufTy.Contents (Elt F) arg9.view.ty) (k : Fin (k0_t3_loop i).trips) (s : St3 F arg8 arg9) (E : Set ℕ) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} s.y) ∗ (arg9.view.loc (c : Thread nD τ) ↦[arg9.view.set]{fullShare} arg9.view.writes (Elt F) G9 s.sum)) : sProp 𝕄)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg1 v1 v4 k0_h2 k s.mx)
          (fun yld => iprop(⌜yld = (step3 𝒱 c bd i arg2 harg2 arg3 harg3 arg4 harg4 arg5 harg5 arg6 harg6 arg7 harg7 arg8 harg8 arg9 harg9 arg10 harg10 arg1 v1 v4 k0_h2 X2 X3 X4 X5 X10 G9 k s).mx⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} (step3 𝒱 c bd i arg2 harg2 arg3 harg3 arg4 harg4 arg5 harg5 arg6 harg6 arg7 harg7 arg8 harg8 arg9 harg9 arg10 harg10 arg1 v1 v4 k0_h2 X2 X3 X4 X5 X10 G9 k s).y) ∗ (arg9.view.loc (c : Thread nD τ) ↦[arg9.view.set]{fullShare} arg9.view.writes (Elt F) G9 (step3 𝒱 c bd i arg2 harg2 arg3 harg3 arg4 harg4 arg5 harg5 arg6 harg6 arg7 harg7 arg8 harg8 arg9 harg9 arg10 harg10 arg1 v1 v4 k0_h2 X2 X3 X4 X5 X10 G9 k s).sum))) := by
  unfold step3
  split
  · rw [View.writes_append]
    exact (trip3_read 𝒱 c bd i arg2 harg2 arg3 harg3 arg4 harg4 arg5 harg5 arg6 harg6 arg7 harg7 arg8 harg8 arg9 harg9 arg10 harg10 arg1 v1 v4 k0_h2 ‹_› X2 X3 X4 X5 X10 k s.mx s.y (arg9.view.writes (Elt F) G9 s.sum)).2.2.2 E
  · exact (trip3_first 𝒱 c bd i arg2 harg2 arg3 harg3 arg4 harg4 arg5 harg5 arg6 harg6 arg7 harg7 arg8 harg8 arg9 harg9 arg10 harg10 arg1 v1 v4 k0_h2 ‹_› X2 X3 X4 X5 X10 k s.mx s.y (arg9.view.writes (Elt F) G9 s.sum)).2.2 E

/-- What is carried before trip `k`. -/
def st3 (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (G8 : BufTy.Contents (Elt F) arg8.view.ty) (G9 : BufTy.Contents (Elt F) arg9.view.ty) (init : FVec F S8x256 .f32) : ℕ → St3 F arg8 arg9
  | 0 => ⟨init, G8, []⟩
  | k + 1 => if h : k < (k0_t3_loop i).trips then step3 𝒱 c bd i arg2 harg2 arg3 harg3 arg4 harg4 arg5 harg5 arg6 harg6 arg7 harg7 arg8 harg8 arg9 harg9 arg10 harg10 arg1 v1 v4 k0_h2 X2 X3 X4 X5 X10 G9 ⟨k, h⟩ (st3 𝒱 c bd i arg2 harg2 arg3 harg3 arg4 harg4 arg5 harg5 arg6 harg6 arg7 harg7 arg8 harg8 arg9 harg9 arg10 harg10 arg1 v1 v4 k0_h2 X2 X3 X4 X5 X10 G8 G9 init k) else st3 𝒱 c bd i arg2 harg2 arg3 harg3 arg4 harg4 arg5 harg5 arg6 harg6 arg7 harg7 arg8 harg8 arg9 harg9 arg10 harg10 arg1 v1 v4 k0_h2 X2 X3 X4 X5 X10 G8 G9 init k

theorem st3_succ (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (G8 : BufTy.Contents (Elt F) arg8.view.ty) (G9 : BufTy.Contents (Elt F) arg9.view.ty) (init : FVec F S8x256 .f32) (k : Fin (k0_t3_loop i).trips) :
    st3 𝒱 c bd i arg2 harg2 arg3 harg3 arg4 harg4 arg5 harg5 arg6 harg6 arg7 harg7 arg8 harg8 arg9 harg9 arg10 harg10 arg1 v1 v4 k0_h2 X2 X3 X4 X5 X10 G8 G9 init (k.val + 1) = step3 𝒱 c bd i arg2 harg2 arg3 harg3 arg4 harg4 arg5 harg5 arg6 harg6 arg7 harg7 arg8 harg8 arg9 harg9 arg10 harg10 arg1 v1 v4 k0_h2 X2 X3 X4 X5 X10 G9 k (st3 𝒱 c bd i arg2 harg2 arg3 harg3 arg4 harg4 arg5 harg5 arg6 harg6 arg7 harg7 arg8 harg8 arg9 harg9 arg10 harg10 arg1 v1 v4 k0_h2 X2 X3 X4 X5 X10 G8 G9 init k.val) := by
  rw [st3.eq_2]; exact dif_pos k.isLt

set_option warn.classDefReducibility false in
/-- The loop over full spans: before trip `k` the buffers hold what `st3` says. -/
@[sl_loop] def loop3 (𝒱 : Variants) (c : Dev nD) (bd : Option 𝒱.V) (E : Set ℕ) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (G8 : BufTy.Contents (Elt F) arg8.view.ty) (G9 : BufTy.Contents (Elt F) arg9.view.ty) (init : FVec F S8x256 .f32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg1 v1 v4 k0_h2 init where
  inv k acc := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (∃ f, (arg8.view.loc (c : Thread nD τ) ↦[arg8.view.set]{fullShare} f) ∗ ⌜f = (st3 𝒱 c bd i arg2 harg2 arg3 harg3 arg4 harg4 arg5 harg5 arg6 harg6 arg7 harg7 arg8 harg8 arg9 harg9 arg10 harg10 arg1 v1 v4 k0_h2 X2 X3 X4 X5 X10 G8 G9 init k).y⌝)
    ∗ (∃ f, (arg9.view.loc (c : Thread nD τ) ↦[arg9.view.set]{fullShare} f) ∗ ⌜f = arg9.view.writes (Elt F) G9 (st3 𝒱 c bd i arg2 harg2 arg3 harg3 arg4 harg4 arg5 harg5 arg6 harg6 arg7 harg7 arg8 harg8 arg9 harg9 arg10 harg10 arg1 v1 v4 k0_h2 X2 X3 X4 X5 X10 G8 G9 init k).sum⌝)
    ∗ ⌜acc = (st3 𝒱 c bd i arg2 harg2 arg3 harg3 arg4 harg4 arg5 harg5 arg6 harg6 arg7 harg7 arg8 harg8 arg9 harg9 arg10 harg10 arg1 v1 v4 k0_h2 X2 X3 X4 X5 X10 G8 G9 init k).mx⌝)
  step k acc := by
    iintro ⟨H2, H3, H4, H5, H10, ⟨%f8, H8, %h8⟩, ⟨%f9, H9, %h9⟩, %hacc⟩
    subst hacc; subst h8; subst h9
    iapply (wp_wand_r Idealize.ShloMosaic.frame (wpE (defs₀ (F := F)) 𝒱 (c : Thread nD τ) bd) E)
    isplitl [H2 H3 H4 H5 H10 H8 H9]
    · iapply (step3_run 𝒱 c bd i arg2 harg2 arg3 harg3 arg4 harg4 arg5 harg5 arg6 harg6 arg7 harg7 arg8 harg8 arg9 harg9 arg10 harg10 arg1 v1 v4 k0_h2 X2 X3 X4 X5 X10 G9 k (st3 𝒱 c bd i arg2 harg2 arg3 harg3 arg4 harg4 arg5 harg5 arg6 harg6 arg7 harg7 arg8 harg8 arg9 harg9 arg10 harg10 arg1 v1 v4 k0_h2 X2 X3 X4 X5 X10 G8 G9 init k.val) E)
      isplitl [H2]; · iexact H2
      isplitl [H3]; · iexact H3
      isplitl [H4]; · iexact H4
      isplitl [H5]; · iexact H5
      isplitl [H10]; · iexact H10
      isplitl [H8]; · iexact H8
      iexact H9
    · iintro %yld ⟨%hres, H2, H3, H4, H5, H10, H8, H9⟩
      isplitl [H2]; · iexact H2
      isplitl [H3]; · iexact H3
      isplitl [H4]; · iexact H4
      isplitl [H5]; · iexact H5
      isplitl [H10]; · iexact H10
      simp only [st3_succ]
      isplitl [H8]
      · iexists _; isplitl [H8]; · iexact H8
        ipureintro; rfl
      isplitl [H9]
      · iexists _; isplitl [H9]; · iexact H9
        ipureintro; rfl
      ipureintro; exact hres

set_option warn.classDefReducibility false in
/-- The remainder loop makes no trip. -/
@[sl_loop] def loop4 (𝒱 : Variants) (c : Dev nD) (bd : Option 𝒱.V) (E : Set ℕ) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1) (v62 : BitVec 32) (init : FVec F S8x256 .f32) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg1 v1 v4 k0_h2 v62 init where
  inv _ acc := iprop(⌜acc = init⌝)
  step k acc := absurd k.isLt (Nat.not_lt.2 (Nat.le_trans (k0_t4_abs i).2.1 (Nat.zero_le _)))

end Cert.Attend.Hand

end
-- ==== Proof.BodyTile.lean ====
module

public import proofs.«01_k».proof.Proof.Spans
public import proofs.«01_k».proof.Proof.Gen.Attend.Frame

@[expose] public section

set_option maxRecDepth 16384

noncomputable section

namespace Cert.Attend.Hand

open Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 64000000 in
/-- A point whose tile and the tile before end in the same span. -/
@[irreducible] def body_same (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : ¬ k0_cond1 i = 1#1) (h2 : k0_cond2 i = 1#1) (h5 : k0_cond5 i = 1#1)
   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
   Σ' (C7 : BufTy.Contents (Elt F) arg7.view.ty) (C8 : BufTy.Contents (Elt F) arg8.view.ty) (C9 : BufTy.Contents (Elt F) arg9.view.ty), { C10 : BufTy.Contents (Elt F) arg10.view.ty // ∀ (E : Set ℕ),
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) 𝒱 (c : Thread nD τ) bd) E (cc0_attend (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} C7) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10))) } := by
  have h6 : ¬ Scalar.cmpi .ne (Scalar.extui (Scalar.cmpi .eq (BitVec.ofNat 32 (i 1).val) 1024#32) : BitVec 32) 0#32 = 1#1 := h1
  refine ⟨?_, ?_, ?_, ?_, fun E => ?run⟩
  case run =>
    sl_unfold [cc0_attend]
    iintro ⟨H2, H3, H4, H5, H6, H7, H8, H9, H10⟩
    sl_exec
    sl_step
    sl_close

set_option maxHeartbeats 64000000 in
/-- A point whose tile is the first to reach its span. -/
@[irreducible] def body_new (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : ¬ k0_cond1 i = 1#1) (h2 : k0_cond2 i = 1#1) (h5 : ¬ k0_cond5 i = 1#1)
   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
   Σ' (C7 : BufTy.Contents (Elt F) arg7.view.ty) (C8 : BufTy.Contents (Elt F) arg8.view.ty) (C9 : BufTy.Contents (Elt F) arg9.view.ty), { C10 : BufTy.Contents (Elt F) arg10.view.ty // ∀ (E : Set ℕ),
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) 𝒱 (c : Thread nD τ) bd) E (cc0_attend (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} C7) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10))) } := by
  have h6 : ¬ Scalar.cmpi .ne (Scalar.extui (Scalar.cmpi .eq (BitVec.ofNat 32 (i 1).val) 1024#32) : BitVec 32) 0#32 = 1#1 := h1
  refine ⟨?_, ?_, ?_, ?_, fun E => ?run⟩
  case run =>
    sl_unfold [cc0_attend]
    iintro ⟨H2, H3, H4, H5, H6, H7, H8, H9, H10⟩
    sl_exec
    sl_step
    sl_close

end Cert.Attend.Hand

end
-- ==== Proof.BodyLast.lean ====
module

public import proofs.«01_k».proof.Proof.Spans
public import proofs.«01_k».proof.Proof.Gen.Attend.Frame

@[expose] public section

set_option maxRecDepth 16384

noncomputable section

namespace Cert.Attend.Hand

open Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 64000000 in
/-- The point after the last tile: it only reads the last tile out. -/
@[irreducible] def body_last (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : k0_cond1 i = 1#1) (h2 : ¬ k0_cond2 i = 1#1)
   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
   Σ' (C7 : BufTy.Contents (Elt F) arg7.view.ty) (C8 : BufTy.Contents (Elt F) arg8.view.ty) (C9 : BufTy.Contents (Elt F) arg9.view.ty), { C10 : BufTy.Contents (Elt F) arg10.view.ty // ∀ (E : Set ℕ),
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) 𝒱 (c : Thread nD τ) bd) E (cc0_attend (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} C7) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10))) } := by
  have h6 : Scalar.cmpi .ne (Scalar.extui (Scalar.cmpi .eq (BitVec.ofNat 32 (i 1).val) 1024#32) : BitVec 32) 0#32 = 1#1 := h1
  refine ⟨?_, ?_, ?_, ?_, fun E => ?run⟩
  case run =>
    sl_unfold [cc0_attend]
    iintro ⟨H2, H3, H4, H5, H6, H7, H8, H9, H10⟩
    sl_exec
    sl_step
    sl_close

end Cert.Attend.Hand

end
-- ==== Proof.Run.lean ====
module

public import proofs.«01_k».proof.Proof.BodyTile
public import proofs.«01_k».proof.Proof.BodyLast
public import Idealize.ShloMosaic.Lib.Pipeline.DatRel
public import Idealize.ShloMosaic.Lib.Pipeline.ArrRel
public import proofs.«01_k».proof.Proof.Gen.Attend.Frame

@[expose] public section

set_option maxRecDepth 16384

noncomputable section

namespace Cert.Attend.Hand

open Cert.Attend.Gen
open Idealize.ShloMosaic Idealize.ShloMosaic.TcCoe Idealize.ShloMosaic.Tactic
open Idealize.ShloMosaic.Pipeline (Dat RDat Cfg Window BodyObligation cellOf)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem cond_all : ∀ n : Fin 1025,
    (¬ Scalar.cmpi .ne (Scalar.extui (Scalar.cmpi .eq (BitVec.ofNat 32 n.val) 1024#32) : BitVec 32) 0#32 = 1#1 →
      Scalar.cmpi .ne (Scalar.extui (Scalar.cmpi .slt (BitVec.ofNat 32 n.val) 1024#32) : BitVec 32) 0#32 = 1#1)
    ∧ (Scalar.cmpi .ne (Scalar.extui (Scalar.cmpi .eq (BitVec.ofNat 32 n.val) 1024#32) : BitVec 32) 0#32 = 1#1 →
      ¬ Scalar.cmpi .ne (Scalar.extui (Scalar.cmpi .slt (BitVec.ofNat 32 n.val) 1024#32) : BitVec 32) 0#32 = 1#1) := by
  decide +kernel

/-- A point either reads the last tile out or starts a tile. -/
theorem cond_cases : ∀ i : grid0.Coords, (¬ k0_cond1 i = 1#1 → k0_cond2 i = 1#1) ∧ (k0_cond1 i = 1#1 → ¬ k0_cond2 i = 1#1) := by
  have key : ∀ n : Fin 1025, ∀ m : Fin 2, ∀ i : grid0.Coords, (i 0 = m) → (i 1 = n) →
      (¬ k0_cond1 i = 1#1 → k0_cond2 i = 1#1) ∧ (k0_cond1 i = 1#1 → ¬ k0_cond2 i = 1#1) := by
    intro n m i _ h1
    unfold k0_cond1 k0_cond2
    rw [h1]
    exact cond_all n
  exact fun i => key (i 1) (i 0) i rfl rfl

/-- What the body leaves: the output block, the exponents, the sum and the rows of per-query numbers. -/
structure After (F : FTy → Type) [FloatOps F] (arg7 : Memref sig .tc .vmem S1x32x1024 .bf16) (arg8 : Memref sig .tc .vmem S32768x256 .f32)
    (arg9 : Memref sig .tc .vmem S128x256 .f32) (arg10 : Memref sig .tc .vmem S8x256 .f32) where
  c7 : BufTy.Contents (Elt F) arg7.view.ty
  c8 : BufTy.Contents (Elt F) arg8.view.ty
  c9 : BufTy.Contents (Elt F) arg9.view.ty
  c10 : BufTy.Contents (Elt F) arg10.view.ty

/-- What the body leaves from what it finds. -/
def after (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole)
   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) : After F arg7 arg8 arg9 arg10 :=
  if h1 : k0_cond1 i = 1#1 then
    let r := body_last 𝒱 c bd i arg2 harg2 arg3 harg3 arg4 harg4 arg5 harg5 arg6 harg6 arg7 harg7 arg8 harg8 arg9 harg9 arg10 harg10 h1 ((cond_cases i).2 h1) X2 X3 X4 X5 X6 f7 f8 f9 f10
    ⟨r.1, r.2.1, r.2.2.1, r.2.2.2.1⟩
  else if h5 : k0_cond5 i = 1#1 then
    let r := body_same 𝒱 c bd i arg2 harg2 arg3 harg3 arg4 harg4 arg5 harg5 arg6 harg6 arg7 harg7 arg8 harg8 arg9 harg9 arg10 harg10 h1 ((cond_cases i).1 h1) h5 X2 X3 X4 X5 X6 f7 f8 f9 f10
    ⟨r.1, r.2.1, r.2.2.1, r.2.2.2.1⟩
  else
    let r := body_new 𝒱 c bd i arg2 harg2 arg3 harg3 arg4 harg4 arg5 harg5 arg6 harg6 arg7 harg7 arg8 harg8 arg9 harg9 arg10 harg10 h1 ((cond_cases i).1 h1) h5 X2 X3 X4 X5 X6 f7 f8 f9 f10
    ⟨r.1, r.2.1, r.2.2.1, r.2.2.2.1⟩

/-- The body runs, from any contents to those. -/
theorem body_run (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole)
   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) 𝒱 (c : Thread nD τ) bd) E (cc0_attend (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (after 𝒱 c bd i arg2 harg2 arg3 harg3 arg4 harg4 arg5 harg5 arg6 harg6 arg7 harg7 arg8 harg8 arg9 harg9 arg10 harg10 X2 X3 X4 X5 X6 f7 f8 f9 f10).c7) ∗ (arg8.view.loc (c : Thread nD τ) ↦[arg8.view.set]{fullShare} (after 𝒱 c bd i arg2 harg2 arg3 harg3 arg4 harg4 arg5 harg5 arg6 harg6 arg7 harg7 arg8 harg8 arg9 harg9 arg10 harg10 X2 X3 X4 X5 X6 f7 f8 f9 f10).c8) ∗ (arg9.view.loc (c : Thread nD τ) ↦[arg9.view.set]{fullShare} (after 𝒱 c bd i arg2 harg2 arg3 harg3 arg4 harg4 arg5 harg5 arg6 harg6 arg7 harg7 arg8 harg8 arg9 harg9 arg10 harg10 X2 X3 X4 X5 X6 f7 f8 f9 f10).c9) ∗ (arg10.view.loc (c : Thread nD τ) ↦[arg10.view.set]{fullShare} (after 𝒱 c bd i arg2 harg2 arg3 harg3 arg4 harg4 arg5 harg5 arg6 harg6 arg7 harg7 arg8 harg8 arg9 harg9 arg10 harg10 X2 X3 X4 X5 X6 f7 f8 f9 f10).c10))) := by
  unfold after
  split
  · exact (body_last 𝒱 c bd i arg2 harg2 arg3 harg3 arg4 harg4 arg5 harg5 arg6 harg6 arg7 harg7 arg8 harg8 arg9 harg9 arg10 harg10 ‹_› ((cond_cases i).2 ‹_›) X2 X3 X4 X5 X6 f7 f8 f9 f10).2.2.2.2 E
  · split
    · exact (body_same 𝒱 c bd i arg2 harg2 arg3 harg3 arg4 harg4 arg5 harg5 arg6 harg6 arg7 harg7 arg8 harg8 arg9 harg9 arg10 harg10 ‹_› ((cond_cases i).1 ‹_›) ‹_› X2 X3 X4 X5 X6 f7 f8 f9 f10).2.2.2.2 E
    · exact (body_new 𝒱 c bd i arg2 harg2 arg3 harg3 arg4 harg4 arg5 harg5 arg6 harg6 arg7 harg7 arg8 harg8 arg9 harg9 arg10 harg10 ‹_› ((cond_cases i).1 ‹_›) ‹_› X2 X3 X4 X5 X6 f7 f8 f9 f10).2.2.2.2 E

/-! ## The launch, for any relation the body keeps -/

variable (m : (ℓ : Loc nD τ sig) → Buf (Elt F) ℓ) (ρ : Dev nD → PrngReg)

/-- The contents of the exponents' scratch and of the scratch of rows. -/
abbrev C8 (F : FTy → Type) [FloatOps F] := BufTy.Contents (Elt F) (Memref.whole cc0_scratch0).view.ty
abbrev C9 (F : FTy → Type) [FloatOps F] := BufTy.Contents (Elt F) (Memref.whole cc0_scratch1).view.ty
abbrev C10 (F : FTy → Type) [FloatOps F] := BufTy.Contents (Elt F) (Memref.whole cc0_scratch2).view.ty

variable (Inv : Dev nD → ℕ → C8 F → C10 F → Prop) (Out : Dev nD → Fin cfg0.N → Vec F S1x32x1024 .bf16 → Prop)

/-- The body at point `t` keeps `Inv` and leaves a block that meets `Out`. -/
def Keeps : Prop := ∀ (c : Dev nD) (t : Fin cfg0.N) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : C8 F) (f9 : C9 F) (f10 : C10 F),
    arg2.view.read (Elt F) X2 = iblk m c 0 t → arg3.view.read (Elt F) X3 = iblk m c 1 t → arg4.view.read (Elt F) X4 = iblk m c 2 t →
    arg5.view.read (Elt F) X5 = iblk m c 3 t → arg6.view.read (Elt F) X6 = iblk m c 4 t → Inv c t.val f8 f10 →
    Inv c (t.val + 1)
      (after Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) X2 X3 X4 X5 X6 f7 f8 f9 f10).c8
      (after Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) X2 X3 X4 X5 X6 f7 f8 f9 f10).c10
    ∧ Out c t (arg7.view.read (Elt F) (after Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) X2 X3 X4 X5 X6 f7 f8 f9 f10).c7)

/-- The proof data: the arrays as launched, each input's block as fetched; between points the scratch at contents
   that meet `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
  Φ t := iprop((∃ (f8 : C8 F) (f9 : C9 F) (f10 : C10 F), ⌜Inv c t.val f8 f10⌝
      ∗ ((c : Thread nD τ).loc cc0_scratch0 ↦{fullShare} f8) ∗ ((c : Thread nD τ).loc cc0_scratch1 ↦{fullShare} f9)
      ∗ ((c : Thread nD τ).loc cc0_scratch2 ↦{fullShare} f10)) ∗ ∃ r, prngReg c r)
  q _ := fullShare
  owed _ := 0

theorem A_eq (c : Dev nD) (w : Fin cfg0.W) : (dats m Inv 0 c).A w = V m c (Pipeline.arrRef spec0 w) := by
  dsimp only [dats]
theorem after0_0 (c : Dev nD) (t : Fin cfg0.N) : (dats m Inv 0 c).after 0 t = iblk m c 0 t := by dsimp only [dats]
theorem after0_1 (c : Dev nD) (t : Fin cfg0.N) : (dats m Inv 0 c).after 1 t = iblk m c 1 t := by dsimp only [dats]
theorem after0_2 (c : Dev nD) (t : Fin cfg0.N) : (dats m Inv 0 c).after 2 t = iblk m c 2 t := by dsimp only [dats]
theorem after0_3 (c : Dev nD) (t : Fin cfg0.N) : (dats m Inv 0 c).after 3 t = iblk m c 3 t := by dsimp only [dats]
theorem after0_4 (c : Dev nD) (t : Fin cfg0.N) : (dats m Inv 0 c).after 4 t = iblk m c 4 t := by dsimp only [dats]
theorem before0_0 (c : Dev nD) (t : Fin cfg0.N) (d) : (dats m Inv 0 c).before 0 t d = iblk m c 0 t :=
  before0_0_of m (dats m Inv 0 c) (A_eq m Inv c 0) (after0_0 m Inv c) t d
theorem before0_1 (c : Dev nD) (t : Fin cfg0.N) (d) : (dats m Inv 0 c).before 1 t d = iblk m c 1 t :=
  before0_1_of m (dats m Inv 0 c) (A_eq m Inv c 1) (after0_1 m Inv c) t d
theorem before0_2 (c : Dev nD) (t : Fin cfg0.N) (d) : (dats m Inv 0 c).before 2 t d = iblk m c 2 t :=
  before0_2_of m (dats m Inv 0 c) (A_eq m Inv c 2) (after0_2 m Inv c) t d
theorem before0_3 (c : Dev nD) (t : Fin cfg0.N) (d) : (dats m Inv 0 c).before 3 t d = iblk m c 3 t :=
  before0_3_of m (dats m Inv 0 c) (A_eq m Inv c 3) (after0_3 m Inv c) t d
theorem before0_4 (c : Dev nD) (t : Fin cfg0.N) (d) : (dats m Inv 0 c).before 4 t d = iblk m c 4 t :=
  before0_4_of m (dats m Inv 0 c) (A_eq m Inv c 4) (after0_4 m Inv c) t d

/-- Only the output window is held to a relation. -/
def marked : Fin cfg0.W → Bool := fun w => decide (w = 5)

/-- The relation of the output window. -/
def Rl (c : Dev nD) : (w : Fin cfg0.W) → Fin cfg0.N → ((cfg0.win w).block.Idx → Elt F (cfg0.win w).elt) → Prop
  | ⟨5, _⟩ => fun t X => Out c t X
  | _ => fun _ _ => True

theorem Rl_5 (c : Dev nD) (t : Fin cfg0.N) (X) : Rl Out c 5 t X = Out c t X := by unfold Rl; rfl

def bodyPre (c : Dev nD) (t : Fin cfg0.N) : sProp 𝕄 :=
  iprop((dats m Inv 0 c).Φ t.castSucc ∗ (dats m Inv 0 c).owesAt () t.castSucc
    ∗ (∃ d, owns (c : Thread nD τ) (st0_0 t) fullShare ((dats m Inv 0 c).before 0 t d)) ∗ (∃ d, owns (c : Thread nD τ) (st0_1 t) fullShare ((dats m Inv 0 c).before 1 t d)) ∗ (∃ d, owns (c : Thread nD τ) (st0_2 t) fullShare ((dats m Inv 0 c).before 2 t d)) ∗ (∃ d, owns (c : Thread nD τ) (st0_3 t) fullShare ((dats m Inv 0 c).before 3 t d)) ∗ (∃ d, owns (c : Thread nD τ) (st0_4 t) fullShare ((dats m Inv 0 c).before 4 t d))
    ∗ (∃ Y, ⌜((dats m Inv 0 c).toRRel marked (Rl Out c)).Finds 5 t Y⌝ ∗ owns (c : Thread nD τ) (st0_5 t) fullShare Y))

def bodyPost (c : Dev nD) (t : Fin cfg0.N) : sProp 𝕄 :=
  iprop((dats m Inv 0 c).Φ t.succ ∗ (dats m Inv 0 c).owesAt () t.succ
    ∗ owns (c : Thread nD τ) (st0_0 t) fullShare ((dats m Inv 0 c).after 0 t) ∗ owns (c : Thread nD τ) (st0_1 t) fullShare ((dats m Inv 0 c).after 1 t) ∗ owns (c : Thread nD τ) (st0_2 t) fullShare ((dats m Inv 0 c).after 2 t) ∗ owns (c : Thread nD τ) (st0_3 t) fullShare ((dats m Inv 0 c).after 3 t) ∗ owns (c : Thread nD τ) (st0_4 t) fullShare ((dats m Inv 0 c).after 4 t)
    ∗ (∃ X, ⌜Rl Out c 5 t X⌝ ∗ owns (c : Thread nD τ) (st0_5 t) fullShare X))

set_option maxHeartbeats 4000000 in
theorem sound_body (hk : Keeps m Inv Out) (c : Dev nD) (t : Fin cfg0.N) :
    bodyPre m Inv Out c t ⊢ wp frame (wpE (defs₀ (F := F)) Variants.none c none) Set.univ (bodyAt0 t) (fun _ => bodyPost m Inv Out c t) := by
  unfold bodyPre bodyPost bodyAt0
  simp only [before0_0, before0_1, before0_2, before0_3, before0_4, after0_0, after0_1, after0_2, after0_3, after0_4, Rl_5]
  rw [show (dats m Inv 0 c).owesAt () t.succ = (dats m Inv 0 c).owesAt () t.castSucc from rfl]
  dsimp only [dats]
  unfold owns
  iintro ⟨⟨⟨%f8, %f9, %f10, %hI, S8, S9, S10⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%Y, -, %f5, -, H5⟩⟩
  have hK := hk c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) f0 f1 f2 f3 f4 f5 f8 f9 f10 hf0 hf1 hf2 hf3 hf4 hI
  have hR := body_run Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) f0 f1 f2 f3 f4 f5 f8 f9 f10 Set.univ
  simp only [View.set_whole] at hR
  iapply (wp_wand_r Idealize.ShloMosaic.frame (wpE (defs₀ (F := F)) Variants.none (c : Thread nD τ) none) Set.univ)
  isplitl [S8 S9 S10 H0 H1 H2 H3 H4 H5]
  · iapply hR
    isplitl [H0]; · iexact H0
    isplitl [H1]; · iexact H1
    isplitl [H2]; · iexact H2
    isplitl [H3]; · iexact H3
    isplitl [H4]; · iexact H4
    isplitl [H5]; · iexact H5
    isplitl [S8]; · iexact S8
    isplitl [S9]; · iexact S9
    iexact S10
  · iintro %u ⟨H0, H1, H2, H3, H4, H5, S8, S9, S10⟩
    isplitl [S8 S9 S10 Hr]
    · isplitr [Hr]
      · iexists _; iexists _; iexists _
        isplitr [S8 S9 S10]
        · ipureintro; exact hK.1
        isplitl [S8]; · iexact S8
        isplitl [S9]; · iexact S9
        iexact S10
      · iexact Hr
    isplitl [Ho]; · iexact Ho
    isplitl [H0]; · iexists f0; isplitr; · ipureintro; exact hf0
                    iexact H0
    isplitl [H1]; · iexists f1; isplitr; · ipureintro; exact hf1
                    iexact H1
    isplitl [H2]; · iexists f2; isplitr; · ipureintro; exact hf2
                    iexact H2
    isplitl [H3]; · iexists f3; isplitr; · ipureintro; exact hf3
                    iexact H3
    isplitl [H4]; · iexists f4; isplitr; · ipureintro; exact hf4
                    iexact H4
    iexists _; isplitr [H5]
    · ipureintro; exact hK.2
    iexists _; isplitr; · ipureintro; rfl
    iexact H5

theorem defs₀_row (t : Fin cfg0.N) :
    defs₀ (F := F) .tc cfg0.body (cfg0.bodyArgs t (cfg0.slots t)) = bodyAt0 t := by
  unfold defs₀; rw [Defs.onTc_tc]

theorem body_obligation (hk : Keeps m Inv Out) (c : Dev nD) :
    Pipeline.BodyObligationRel (dats m Inv 0 c) (defs₀ (F := F)) Variants.none () Set.univ marked (Rl Out c) := fun t => by
  rw [bigSep_W0, bigSep_W0, defs₀_row]
  exact triple_restated (sound_body m Inv Out hk c t) rfl .rfl fun _ => .rfl

/-- What the output array ends at: its blocks from contents that meet `Out`. -/
abbrev rdat (c : Dev nD) : RDat τ (Elt F) Unit ℕ (UR sig nD τ) ℕ cfg0 c := (dats m Inv 0 c).toRRel marked (Rl Out c)

set_option backward.isDefEq.respectTransparency.types false in
set_option maxHeartbeats 4000000 in
/-- The launch: it ends, the counters are back at zero and the arrays are at what the relation says. -/
theorem run_main (hk : Keeps m Inv Out) (h0 : ∀ c f8 f10, Inv c 0 f8 f10) :
    θ_run defs (onTc (τ := τ) (main (F := F))) (s₀ m ρ)
      (fun r => Pipeline.RDat.FramePost cfg0 (fun c => rdat m Inv Out c) (V m) r ∧ r.2.sem = fun _ => 0) :=
  Pipeline.RDat.θ_run_frame_track (Q' := _) cfgs (0 : Fin 1) launch0 defs₀ Variants.none (fun c => rdat m Inv Out c) m ρ main
    (hbody := fun c => (body_obligation m Inv Out hk c).toRRel) (hshare := fun c => (dats m Inv 0 c).share_full fun _ => rfl)
    (howed := fun _ _ => rfl) (V := V m) (hmain := hmain m Variants.none) (hA := A_eq m Inv)
    (hin := fun c => by
      show _ ⊢ (dats m Inv 0 c).Φ 0
      dsimp only [dats]
      unfold Pipeline.ΦA
      rw [scopedRest0_eq]
      iintro ⟨⟨⟨%f8, H8⟩, ⟨%f9, H9⟩, ⟨%f10, H10⟩⟩, Hr⟩
      isplitr [Hr]
      · iexists f8; iexists f9; iexists f10
        isplitr [H8 H9 H10]; · ipureintro; exact h0 c f8 f10
        isplitl [H8]; · iexact H8
        isplitl [H9]; · iexact H9
        iexact H10
      · iexact Hr)
    (hout := fun c => by
      show (dats m Inv 0 c).Φ (Fin.last _) ⊢ _
      dsimp only [dats]
      unfold Pipeline.ΦA
      rw [scopedRest0_eq]
      iintro ⟨⟨%f8, %f9, %f10, -, H8, H9, H10⟩, Hr⟩
      isplitr [Hr]
      · isplitl [H8]; · iexists f8; iexact H8
        isplitl [H9]; · iexists f9; iexact H9
        iexists f10; iexact H10
      · iexact Hr)

/-- The frame: the kernel ends, its arguments are unchanged and every counter is back at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨h.1.arr_in c 0 rfl, h.1.arr_in c 1 rfl, h.1.arr_in c 2 rfl, h.1.arr_in c 3 rfl, h.1.arr_in c 4 rfl⟩, h.2⟩)
    (run_main m ρ (fun _ _ _ _ => True) (fun _ _ _ => True)
      (by unfold Keeps; intros; exact ⟨trivial, trivial⟩) (fun _ _ _ => trivial))

end Cert.Attend.Hand

end
-- ==== Proof.IdealGeo.lean ====
module

public import proofs.«01_k».proof.Proof.Gen.AttendIdeal.Loops
public import proofs.«01_k».proof.Proof.Gen.AttendIdeal.Frame

@[expose] public section

set_option maxRecDepth 16384

noncomputable section

namespace Cert.AttendIdeal.Hand

open Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The span a query tile's own keys lie in: its last span. -/
def lastSpan (i : grid0.Coords) : Nat := min ((i 1).val / 32) 31

theorem off9_eq (i : grid0.Coords) (k : Fin (k0_t3_loop i).trips) (n : Nat) (hn : n < 1024) :
    k0_off9 i k (BitVec.ofNat 32 n) = ![1024 * k.val + n, 0] := by
  have hk : k.val < 31 := Nat.lt_of_lt_of_le k.isLt (k0_t3_abs i).2.1
  have h0 : Affine.IsInt 0#32 (0) := Affine.ofNat _ (by omega)
  have h1 : Affine.IsInt 1#32 (1) := Affine.ofNat _ (by omega)
  have ha : Affine.IsInt _ ((k.val : Int)) := Affine.iv h0 h1 k.val (by omega)
  have hb : Affine.IsInt 1024#32 (1024) := Affine.ofNat _ (by omega)
  have hc : Affine.IsInt _ (1024 * (k.val : Int)) := Affine.muli ha hb (by omega)
  have hd : Affine.IsInt (BitVec.ofNat 32 n) (n : Int) := Affine.ofNat _ (by omega)
  have he : Affine.IsInt _ (1024 * (k.val : Int) + n) := Affine.addi hc hd (by omega)
  exact Affine.vec_cons (Affine.indexCast he) (by omega) (Affine.vec_cons (Affine.ofNat 0 (by omega) : Affine.IsInt 0#32 0) (by omega) Affine.vec_nil)

theorem off19_eq (i : grid0.Coords) (n : Nat) (hn : n < 1024) :
    k0_off19 i (BitVec.ofNat 32 n) = ![1024 * lastSpan i + n, 0] := by
  have r_i1 : (i 1).val < 1025 := (i 1).isLt
  have h_arg1 : Affine.IsInt (BitVec.ofNat 32 (i 1).val) (((i 1).val : Int)) := Affine.ofNat _ (by omega)
  have h_c32 : Affine.IsInt 32#32 (32) := Affine.ofNat _ (by omega)
  have h_v0 : Affine.IsInt _ (32 * ((i 1).val : Int)) := Affine.muli h_arg1 h_c32 (by omega)
  have hb : Affine.IsInt 1024#32 (1024) := Affine.ofNat _ (by omega)
  have h_v1 : Affine.IsInt _ (((32 * ((i 1).val : Int)) / 1024)) := Affine.divsi h_v0 hb (by omega)
  have h31 : Affine.IsInt 31#32 (31) := Affine.ofNat _ (by omega)
  have h_v2 : Affine.IsInt _ ((lastSpan i : Int)) := Affine.minsi h_v1 h31 (by unfold lastSpan; omega)
  have hl : lastSpan i ≤ 31 := by unfold lastSpan; omega
  have hc : Affine.IsInt _ (1024 * (lastSpan i : Int)) := Affine.muli h_v2 hb (by omega)
  have hd : Affine.IsInt (BitVec.ofNat 32 n) (n : Int) := Affine.ofNat _ (by omega)
  have he : Affine.IsInt _ (1024 * (lastSpan i : Int) + n) := Affine.addi hc hd (by omega)
  exact Affine.vec_cons (Affine.indexCast he) (by omega) (Affine.vec_cons (Affine.ofNat 0 (by omega) : Affine.IsInt 0#32 0) (by omega) Affine.vec_nil)

instance (i : grid0.Coords) (k : Fin (k0_t3_loop i).trips) : ClosedOff (k0_off9 i k 0#32) := ⟨![1024 * k.val + 0, 0], off9_eq i k 0 (by decide)⟩
instance (i : grid0.Coords) (k : Fin (k0_t3_loop i).trips) : ClosedOff (k0_off9 i k 8#32) := ⟨![1024 * k.val + 8, 0], off9_eq i k 8 (by decide)⟩
instance (i : grid0.Coords) (k : Fin (k0_t3_loop i).trips) : ClosedOff (k0_off9 i k 16#32) := ⟨![1024 * k.val + 16, 0], off9_eq i k 16 (by decide)⟩
instance (i : grid0.Coords) (k : Fin (k0_t3_loop i).trips) : ClosedOff (k0_off9 i k 24#32) := ⟨![1024 * k.val + 24, 0], off9_eq i k 24 (by decide)⟩
instance (i : grid0.Coords) (k : Fin (k0_t3_loop i).trips) : ClosedOff (k0_off9 i k 32#32) := ⟨![1024 * k.val + 32, 0], off9_eq i k 32 (by decide)⟩
instance (i : grid0.Coords) (k : Fin (k0_t3_loop i).trips) : ClosedOff (k0_off9 i k 40#32) := ⟨![1024 * k.val + 40, 0], off9_eq i k 40 (by decide)⟩
instance (i : grid0.Coords) (k : Fin (k0_t3_loop i).trips) : ClosedOff (k0_off9 i k 48#32) := ⟨![1024 * k.val + 48, 0], off9_eq i k 48 (by decide)⟩
instance (i : grid0.Coords) (k : Fin (k0_t3_loop i).trips) : ClosedOff (k0_off9 i k 56#32) := ⟨![1024 * k.val + 56, 0], off9_eq i k 56 (by decide)⟩
instance (i : grid0.Coords) (k : Fin (k0_t3_loop i).trips) : ClosedOff (k0_off9 i k 64#32) := ⟨![1024 * k.val + 64, 0], off9_eq i k 64 (by decide)⟩
instance (i : grid0.Coords) (k : Fin (k0_t3_loop i).trips) : ClosedOff (k0_off9 i k 72#32) := ⟨![1024 * k.val + 72, 0], off9_eq i k 72 (by decide)⟩
instance (i : grid0.Coords) (k : Fin (k0_t3_loop i).trips) : ClosedOff (k0_off9 i k 80#32) := ⟨![1024 * k.val + 80, 0], off9_eq i k 80 (by decide)⟩
instance (i : grid0.Coords) (k : Fin (k0_t3_loop i).trips) : ClosedOff (k0_off9 i k 88#32) := ⟨![1024 * k.val + 88, 0], off9_eq i k 88 (by decide)⟩
instance (i : grid0.Coords) (k : Fin (k0_t3_loop i).trips) : ClosedOff (k0_off9 i k 96#32) := ⟨![1024 * k.val + 96, 0], off9_eq i k 96 (by decide)⟩
instance (i : grid0.Coords) (k : Fin (k0_t3_loop i).trips) : ClosedOff (k0_off9 i k 104#32) := ⟨![1024 * k.val + 104, 0], off9_eq i k 104 (by decide)⟩
instance (i : grid0.Coords) (k : Fin (k0_t3_loop i).trips) : ClosedOff (k0_off9 i k 112#32) := ⟨![1024 * k.val + 112, 0], off9_eq i k 112 (by decide)⟩
instance (i : grid0.Coords) (k : Fin (k0_t3_loop i).trips) : ClosedOff (k0_off9 i k 120#32) := ⟨![1024 * k.val + 120, 0], off9_eq i k 120 (by decide)⟩
instance (i : grid0.Coords) (k : Fin (k0_t3_loop i).trips) : ClosedOff (k0_off9 i k 128#32) := ⟨![1024 * k.val + 128, 0], off9_eq i k 128 (by decide)⟩
instance (i : grid0.Coords) (k : Fin (k0_t3_loop i).trips) : ClosedOff (k0_off9 i k 136#32) := ⟨![1024 * k.val + 136, 0], off9_eq i k 136 (by decide)⟩
instance (i : grid0.Coords) (k : Fin (k0_t3_loop i).trips) : ClosedOff (k0_off9 i k 144#32) := ⟨![1024 * k.val + 144, 0], off9_eq i k 144 (by decide)⟩
instance (i : grid0.Coords) (k : Fin (k0_t3_loop i).trips) : ClosedOff (k0_off9 i k 152#32) := ⟨![1024 * k.val + 152, 0], off9_eq i k 152 (by decide)⟩
instance (i : grid0.Coords) (k : Fin (k0_t3_loop i).trips) : ClosedOff (k0_off9 i k 160#32) := ⟨![1024 * k.val + 160, 0], off9_eq i k 160 (by decide)⟩
instance (i : grid0.Coords) (k : Fin (k0_t3_loop i).trips) : ClosedOff (k0_off9 i k 168#32) := ⟨![1024 * k.val + 168, 0], off9_eq i k 168 (by decide)⟩
instance (i : grid0.Coords) (k : Fin (k0_t3_loop i).trips) : ClosedOff (k0_off9 i k 176#32) := ⟨![1024 * k.val + 176, 0], off9_eq i k 176 (by decide)⟩
instance (i : grid0.Coords) (k : Fin (k0_t3_loop i).trips) : ClosedOff (k0_off9 i k 184#32) := ⟨![1024 * k.val + 184, 0], off9_eq i k 184 (by decide)⟩
instance (i : grid0.Coords) (k : Fin (k0_t3_loop i).trips) : ClosedOff (k0_off9 i k 192#32) := ⟨![1024 * k.val + 192, 0], off9_eq i k 192 (by decide)⟩
instance (i : grid0.Coords) (k : Fin (k0_t3_loop i).trips) : ClosedOff (k0_off9 i k 200#32) := ⟨![1024 * k.val + 200, 0], off9_eq i k 200 (by decide)⟩
instance (i : grid0.Coords) (k : Fin (k0_t3_loop i).trips) : ClosedOff (k0_off9 i k 208#32) := ⟨![1024 * k.val + 208, 0], off9_eq i k 208 (by decide)⟩
instance (i : grid0.Coords) (k : Fin (k0_t3_loop i).trips) : ClosedOff (k0_off9 i k 216#32) := ⟨![1024 * k.val + 216, 0], off9_eq i k 216 (by decide)⟩
instance (i : grid0.Coords) (k : Fin (k0_t3_loop i).trips) : ClosedOff (k0_off9 i k 224#32) := ⟨![1024 * k.val + 224, 0], off9_eq i k 224 (by decide)⟩
instance (i : grid0.Coords) (k : Fin (k0_t3_loop i).trips) : ClosedOff (k0_off9 i k 232#32) := ⟨![1024 * k.val + 232, 0], off9_eq i k 232 (by decide)⟩
instance (i : grid0.Coords) (k : Fin (k0_t3_loop i).trips) : ClosedOff (k0_off9 i k 240#32) := ⟨![1024 * k.val + 240, 0], off9_eq i k 240 (by decide)⟩
instance (i : grid0.Coords) (k : Fin (k0_t3_loop i).trips) : ClosedOff (k0_off9 i k 248#32) := ⟨![1024 * k.val + 248, 0], off9_eq i k 248 (by decide)⟩
instance (i : grid0.Coords) (k : Fin (k0_t3_loop i).trips) : ClosedOff (k0_off9 i k 256#32) := ⟨![1024 * k.val + 256, 0], off9_eq i k 256 (by decide)⟩
instance (i : grid0.Coords) (k : Fin (k0_t3_loop i).trips) : ClosedOff (k0_off9 i k 264#32) := ⟨![1024 * k.val + 264, 0], off9_eq i k 264 (by decide)⟩
instance (i : grid0.Coords) (k : Fin (k0_t3_loop i).trips) : ClosedOff (k0_off9 i k 272#32) := ⟨![1024 * k.val + 272, 0], off9_eq i k 272 (by decide)⟩
instance (i : grid0.Coords) (k : Fin (k0_t3_loop i).trips) : ClosedOff (k0_off9 i k 280#32) := ⟨![1024 * k.val + 280, 0], off9_eq i k 280 (by decide)⟩
instance (i : grid0.Coords) (k : Fin (k0_t3_loop i).trips) : ClosedOff (k0_off9 i k 288#32) := ⟨![1024 * k.val + 288, 0], off9_eq i k 288 (by decide)⟩
instance (i : grid0.Coords) (k : Fin (k0_t3_loop i).trips) : ClosedOff (k0_off9 i k 296#32) := ⟨![1024 * k.val + 296, 0], off9_eq i k 296 (by decide)⟩
instance (i : grid0.Coords) (k : Fin (k0_t3_loop i).trips) : ClosedOff (k0_off9 i k 304#32) := ⟨![1024 * k.val + 304, 0], off9_eq i k 304 (by decide)⟩
instance (i : grid0.Coords) (k : Fin (k0_t3_loop i).trips) : ClosedOff (k0_off9 i k 312#32) := ⟨![1024 * k.val + 312, 0], off9_eq i k 312 (by decide)⟩
instance (i : grid0.Coords) (k : Fin (k0_t3_loop i).trips) : ClosedOff (k0_off9 i k 320#32) := ⟨![1024 * k.val + 320, 0], off9_eq i k 320 (by decide)⟩
instance (i : grid0.Coords) (k : Fin (k0_t3_loop i).trips) : ClosedOff (k0_off9 i k 328#32) := ⟨![1024 * k.val + 328, 0], off9_eq i k 328 (by decide)⟩
instance (i : grid0.Coords) (k : Fin (k0_t3_loop i).trips) : ClosedOff (k0_off9 i k 336#32) := ⟨![1024 * k.val + 336, 0], off9_eq i k 336 (by decide)⟩
instance (i : grid0.Coords) (k : Fin (k0_t3_loop i).trips) : ClosedOff (k0_off9 i k 344#32) := ⟨![1024 * k.val + 344, 0], off9_eq i k 344 (by decide)⟩
instance (i : grid0.Coords) (k : Fin (k0_t3_loop i).trips) : ClosedOff (k0_off9 i k 352#32) := ⟨![1024 * k.val + 352, 0], off9_eq i k 352 (by decide)⟩
instance (i : grid0.Coords) (k : Fin (k0_t3_loop i).trips) : ClosedOff (k0_off9 i k 360#32) := ⟨![1024 * k.val + 360, 0], off9_eq i k 360 (by decide)⟩
instance (i : grid0.Coords) (k : Fin (k0_t3_loop i).trips) : ClosedOff (k0_off9 i k 368#32) := ⟨![1024 * k.val + 368, 0], off9_eq i k 368 (by decide)⟩
instance (i : grid0.Coords) (k : Fin (k0_t3_loop i).trips) : ClosedOff (k0_off9 i k 376#32) := ⟨![1024 * k.val + 376, 0], off9_eq i k 376 (by decide)⟩
instance (i : grid0.Coords) (k : Fin (k0_t3_loop i).trips) : ClosedOff (k0_off9 i k 384#32) := ⟨![1024 * k.val + 384, 0], off9_eq i k 384 (by decide)⟩
instance (i : grid0.Coords) (k : Fin (k0_t3_loop i).trips) : ClosedOff (k0_off9 i k 392#32) := ⟨![1024 * k.val + 392, 0], off9_eq i k 392 (by decide)⟩
instance (i : grid0.Coords) (k : Fin (k0_t3_loop i).trips) : ClosedOff (k0_off9 i k 400#32) := ⟨![1024 * k.val + 400, 0], off9_eq i k 400 (by decide)⟩
instance (i : grid0.Coords) (k : Fin (k0_t3_loop i).trips) : ClosedOff (k0_off9 i k 408#32) := ⟨![1024 * k.val + 408, 0], off9_eq i k 408 (by decide)⟩
instance (i : grid0.Coords) (k : Fin (k0_t3_loop i).trips) : ClosedOff (k0_off9 i k 416#32) := ⟨![1024 * k.val + 416, 0], off9_eq i k 416 (by decide)⟩
instance (i : grid0.Coords) (k : Fin (k0_t3_loop i).trips) : ClosedOff (k0_off9 i k 424#32) := ⟨![1024 * k.val + 424, 0], off9_eq i k 424 (by decide)⟩
instance (i : grid0.Coords) (k : Fin (k0_t3_loop i).trips) : ClosedOff (k0_off9 i k 432#32) := ⟨![1024 * k.val + 432, 0], off9_eq i k 432 (by decide)⟩
instance (i : grid0.Coords) (k : Fin (k0_t3_loop i).trips) : ClosedOff (k0_off9 i k 440#32) := ⟨![1024 * k.val + 440, 0], off9_eq i k 440 (by decide)⟩
instance (i : grid0.Coords) (k : Fin (k0_t3_loop i).trips) : ClosedOff (k0_off9 i k 448#32) := ⟨![1024 * k.val + 448, 0], off9_eq i k 448 (by decide)⟩
instance (i : grid0.Coords) (k : Fin (k0_t3_loop i).trips) : ClosedOff (k0_off9 i k 456#32) := ⟨![1024 * k.val + 456, 0], off9_eq i k 456 (by decide)⟩
instance (i : grid0.Coords) (k : Fin (k0_t3_loop i).trips) : ClosedOff (k0_off9 i k 464#32) := ⟨![1024 * k.val + 464, 0], off9_eq i k 464 (by decide)⟩
instance (i : grid0.Coords) (k : Fin (k0_t3_loop i).trips) : ClosedOff (k0_off9 i k 472#32) := ⟨![1024 * k.val + 472, 0], off9_eq i k 472 (by decide)⟩
instance (i : grid0.Coords) (k : Fin (k0_t3_loop i).trips) : ClosedOff (k0_off9 i k 480#32) := ⟨![1024 * k.val + 480, 0], off9_eq i k 480 (by decide)⟩
instance (i : grid0.Coords) (k : Fin (k0_t3_loop i).trips) : ClosedOff (k0_off9 i k 488#32) := ⟨![1024 * k.val + 488, 0], off9_eq i k 488 (by decide)⟩
instance (i : grid0.Coords) (k : Fin (k0_t3_loop i).trips) : ClosedOff (k0_off9 i k 496#32) := ⟨![1024 * k.val + 496, 0], off9_eq i k 496 (by decide)⟩
instance (i : grid0.Coords) (k : Fin (k0_t3_loop i).trips) : ClosedOff (k0_off9 i k 504#32) := ⟨![1024 * k.val + 504, 0], off9_eq i k 504 (by decide)⟩
instance (i : grid0.Coords) (k : Fin (k0_t3_loop i).trips) : ClosedOff (k0_off9 i k 512#32) := ⟨![1024 * k.val + 512, 0], off9_eq i k 512 (by decide)⟩
instance (i : grid0.Coords) (k : Fin (k0_t3_loop i).trips) : ClosedOff (k0_off9 i k 520#32) := ⟨![1024 * k.val + 520, 0], off9_eq i k 520 (by decide)⟩
instance (i : grid0.Coords) (k : Fin (k0_t3_loop i).trips) : ClosedOff (k0_off9 i k 528#32) := ⟨![1024 * k.val + 528, 0], off9_eq i k 528 (by decide)⟩
instance (i : grid0.Coords) (k : Fin (k0_t3_loop i).trips) : ClosedOff (k0_off9 i k 536#32) := ⟨![1024 * k.val + 536, 0], off9_eq i k 536 (by decide)⟩
instance (i : grid0.Coords) (k : Fin (k0_t3_loop i).trips) : ClosedOff (k0_off9 i k 544#32) := ⟨![1024 * k.val + 544, 0], off9_eq i k 544 (by decide)⟩
instance (i : grid0.Coords) (k : Fin (k0_t3_loop i).trips) : ClosedOff (k0_off9 i k 552#32) := ⟨![1024 * k.val + 552, 0], off9_eq i k 552 (by decide)⟩
instance (i : grid0.Coords) (k : Fin (k0_t3_loop i).trips) : ClosedOff (k0_off9 i k 560#32) := ⟨![1024 * k.val + 560, 0], off9_eq i k 560 (by decide)⟩
instance (i : grid0.Coords) (k : Fin (k0_t3_loop i).trips) : ClosedOff (k0_off9 i k 568#32) := ⟨![1024 * k.val + 568, 0], off9_eq i k 568 (by decide)⟩
instance (i : grid0.Coords) (k : Fin (k0_t3_loop i).trips) : ClosedOff (k0_off9 i k 576#32) := ⟨![1024 * k.val + 576, 0], off9_eq i k 576 (by decide)⟩
instance (i : grid0.Coords) (k : Fin (k0_t3_loop i).trips) : ClosedOff (k0_off9 i k 584#32) := ⟨![1024 * k.val + 584, 0], off9_eq i k 584 (by decide)⟩
instance (i : grid0.Coords) (k : Fin (k0_t3_loop i).trips) : ClosedOff (k0_off9 i k 592#32) := ⟨![1024 * k.val + 592, 0], off9_eq i k 592 (by decide)⟩
instance (i : grid0.Coords) (k : Fin (k0_t3_loop i).trips) : ClosedOff (k0_off9 i k 600#32) := ⟨![1024 * k.val + 600, 0], off9_eq i k 600 (by decide)⟩
instance (i : grid0.Coords) (k : Fin (k0_t3_loop i).trips) : ClosedOff (k0_off9 i k 608#32) := ⟨![1024 * k.val + 608, 0], off9_eq i k 608 (by decide)⟩
instance (i : grid0.Coords) (k : Fin (k0_t3_loop i).trips) : ClosedOff (k0_off9 i k 616#32) := ⟨![1024 * k.val + 616, 0], off9_eq i k 616 (by decide)⟩
instance (i : grid0.Coords) (k : Fin (k0_t3_loop i).trips) : ClosedOff (k0_off9 i k 624#32) := ⟨![1024 * k.val + 624, 0], off9_eq i k 624 (by decide)⟩
instance (i : grid0.Coords) (k : Fin (k0_t3_loop i).trips) : ClosedOff (k0_off9 i k 632#32) := ⟨![1024 * k.val + 632, 0], off9_eq i k 632 (by decide)⟩
instance (i : grid0.Coords) (k : Fin (k0_t3_loop i).trips) : ClosedOff (k0_off9 i k 640#32) := ⟨![1024 * k.val + 640, 0], off9_eq i k 640 (by decide)⟩
instance (i : grid0.Coords) (k : Fin (k0_t3_loop i).trips) : ClosedOff (k0_off9 i k 648#32) := ⟨![1024 * k.val + 648, 0], off9_eq i k 648 (by decide)⟩
instance (i : grid0.Coords) (k : Fin (k0_t3_loop i).trips) : ClosedOff (k0_off9 i k 656#32) := ⟨![1024 * k.val + 656, 0], off9_eq i k 656 (by decide)⟩
instance (i : grid0.Coords) (k : Fin (k0_t3_loop i).trips) : ClosedOff (k0_off9 i k 664#32) := ⟨![1024 * k.val + 664, 0], off9_eq i k 664 (by decide)⟩
instance (i : grid0.Coords) (k : Fin (k0_t3_loop i).trips) : ClosedOff (k0_off9 i k 672#32) := ⟨![1024 * k.val + 672, 0], off9_eq i k 672 (by decide)⟩
instance (i : grid0.Coords) (k : Fin (k0_t3_loop i).trips) : ClosedOff (k0_off9 i k 680#32) := ⟨![1024 * k.val + 680, 0], off9_eq i k 680 (by decide)⟩
instance (i : grid0.Coords) (k : Fin (k0_t3_loop i).trips) : ClosedOff (k0_off9 i k 688#32) := ⟨![1024 * k.val + 688, 0], off9_eq i k 688 (by decide)⟩
instance (i : grid0.Coords) (k : Fin (k0_t3_loop i).trips) : ClosedOff (k0_off9 i k 696#32) := ⟨![1024 * k.val + 696, 0], off9_eq i k 696 (by decide)⟩
instance (i : grid0.Coords) (k : Fin (k0_t3_loop i).trips) : ClosedOff (k0_off9 i k 704#32) := ⟨![1024 * k.val + 704, 0], off9_eq i k 704 (by decide)⟩
instance (i : grid0.Coords) (k : Fin (k0_t3_loop i).trips) : ClosedOff (k0_off9 i k 712#32) := ⟨![1024 * k.val + 712, 0], off9_eq i k 712 (by decide)⟩
instance (i : grid0.Coords) (k : Fin (k0_t3_loop i).trips) : ClosedOff (k0_off9 i k 720#32) := ⟨![1024 * k.val + 720, 0], off9_eq i k 720 (by decide)⟩
instance (i : grid0.Coords) (k : Fin (k0_t3_loop i).trips) : ClosedOff (k0_off9 i k 728#32) := ⟨![1024 * k.val + 728, 0], off9_eq i k 728 (by decide)⟩
instance (i : grid0.Coords) (k : Fin (k0_t3_loop i).trips) : ClosedOff (k0_off9 i k 736#32) := ⟨![1024 * k.val + 736, 0], off9_eq i k 736 (by decide)⟩
instance (i : grid0.Coords) (k : Fin (k0_t3_loop i).trips) : ClosedOff (k0_off9 i k 744#32) := ⟨![1024 * k.val + 744, 0], off9_eq i k 744 (by decide)⟩
instance (i : grid0.Coords) (k : Fin (k0_t3_loop i).trips) : ClosedOff (k0_off9 i k 752#32) := ⟨![1024 * k.val + 752, 0], off9_eq i k 752 (by decide)⟩
instance (i : grid0.Coords) (k : Fin (k0_t3_loop i).trips) : ClosedOff (k0_off9 i k 760#32) := ⟨![1024 * k.val + 760, 0], off9_eq i k 760 (by decide)⟩
instance (i : grid0.Coords) (k : Fin (k0_t3_loop i).trips) : ClosedOff (k0_off9 i k 768#32) := ⟨![1024 * k.val + 768, 0], off9_eq i k 768 (by decide)⟩
instance (i : grid0.Coords) (k : Fin (k0_t3_loop i).trips) : ClosedOff (k0_off9 i k 776#32) := ⟨![1024 * k.val + 776, 0], off9_eq i k 776 (by decide)⟩
instance (i : grid0.Coords) (k : Fin (k0_t3_loop i).trips) : ClosedOff (k0_off9 i k 784#32) := ⟨![1024 * k.val + 784, 0], off9_eq i k 784 (by decide)⟩
instance (i : grid0.Coords) (k : Fin (k0_t3_loop i).trips) : ClosedOff (k0_off9 i k 792#32) := ⟨![1024 * k.val + 792, 0], off9_eq i k 792 (by decide)⟩
instance (i : grid0.Coords) (k : Fin (k0_t3_loop i).trips) : ClosedOff (k0_off9 i k 800#32) := ⟨![1024 * k.val + 800, 0], off9_eq i k 800 (by decide)⟩
instance (i : grid0.Coords) (k : Fin (k0_t3_loop i).trips) : ClosedOff (k0_off9 i k 808#32) := ⟨![1024 * k.val + 808, 0], off9_eq i k 808 (by decide)⟩
instance (i : grid0.Coords) (k : Fin (k0_t3_loop i).trips) : ClosedOff (k0_off9 i k 816#32) := ⟨![1024 * k.val + 816, 0], off9_eq i k 816 (by decide)⟩
instance (i : grid0.Coords) (k : Fin (k0_t3_loop i).trips) : ClosedOff (k0_off9 i k 824#32) := ⟨![1024 * k.val + 824, 0], off9_eq i k 824 (by decide)⟩
instance (i : grid0.Coords) (k : Fin (k0_t3_loop i).trips) : ClosedOff (k0_off9 i k 832#32) := ⟨![1024 * k.val + 832, 0], off9_eq i k 832 (by decide)⟩
instance (i : grid0.Coords) (k : Fin (k0_t3_loop i).trips) : ClosedOff (k0_off9 i k 840#32) := ⟨![1024 * k.val + 840, 0], off9_eq i k 840 (by decide)⟩
instance (i : grid0.Coords) (k : Fin (k0_t3_loop i).trips) : ClosedOff (k0_off9 i k 848#32) := ⟨![1024 * k.val + 848, 0], off9_eq i k 848 (by decide)⟩
instance (i : grid0.Coords) (k : Fin (k0_t3_loop i).trips) : ClosedOff (k0_off9 i k 856#32) := ⟨![1024 * k.val + 856, 0], off9_eq i k 856 (by decide)⟩
instance (i : grid0.Coords) (k : Fin (k0_t3_loop i).trips) : ClosedOff (k0_off9 i k 864#32) := ⟨![1024 * k.val + 864, 0], off9_eq i k 864 (by decide)⟩
instance (i : grid0.Coords) (k : Fin (k0_t3_loop i).trips) : ClosedOff (k0_off9 i k 872#32) := ⟨![1024 * k.val + 872, 0], off9_eq i k 872 (by decide)⟩
instance (i : grid0.Coords) (k : Fin (k0_t3_loop i).trips) : ClosedOff (k0_off9 i k 880#32) := ⟨![1024 * k.val + 880, 0], off9_eq i k 880 (by decide)⟩
instance (i : grid0.Coords) (k : Fin (k0_t3_loop i).trips) : ClosedOff (k0_off9 i k 888#32) := ⟨![1024 * k.val + 888, 0], off9_eq i k 888 (by decide)⟩
instance (i : grid0.Coords) (k : Fin (k0_t3_loop i).trips) : ClosedOff (k0_off9 i k 896#32) := ⟨![1024 * k.val + 896, 0], off9_eq i k 896 (by decide)⟩
instance (i : grid0.Coords) (k : Fin (k0_t3_loop i).trips) : ClosedOff (k0_off9 i k 904#32) := ⟨![1024 * k.val + 904, 0], off9_eq i k 904 (by decide)⟩
instance (i : grid0.Coords) (k : Fin (k0_t3_loop i).trips) : ClosedOff (k0_off9 i k 912#32) := ⟨![1024 * k.val + 912, 0], off9_eq i k 912 (by decide)⟩
instance (i : grid0.Coords) (k : Fin (k0_t3_loop i).trips) : ClosedOff (k0_off9 i k 920#32) := ⟨![1024 * k.val + 920, 0], off9_eq i k 920 (by decide)⟩
instance (i : grid0.Coords) (k : Fin (k0_t3_loop i).trips) : ClosedOff (k0_off9 i k 928#32) := ⟨![1024 * k.val + 928, 0], off9_eq i k 928 (by decide)⟩
instance (i : grid0.Coords) (k : Fin (k0_t3_loop i).trips) : ClosedOff (k0_off9 i k 936#32) := ⟨![1024 * k.val + 936, 0], off9_eq i k 936 (by decide)⟩
instance (i : grid0.Coords) (k : Fin (k0_t3_loop i).trips) : ClosedOff (k0_off9 i k 944#32) := ⟨![1024 * k.val + 944, 0], off9_eq i k 944 (by decide)⟩
instance (i : grid0.Coords) (k : Fin (k0_t3_loop i).trips) : ClosedOff (k0_off9 i k 952#32) := ⟨![1024 * k.val + 952, 0], off9_eq i k 952 (by decide)⟩
instance (i : grid0.Coords) (k : Fin (k0_t3_loop i).trips) : ClosedOff (k0_off9 i k 960#32) := ⟨![1024 * k.val + 960, 0], off9_eq i k 960 (by decide)⟩
instance (i : grid0.Coords) (k : Fin (k0_t3_loop i).trips) : ClosedOff (k0_off9 i k 968#32) := ⟨![1024 * k.val + 968, 0], off9_eq i k 968 (by decide)⟩
instance (i : grid0.Coords) (k : Fin (k0_t3_loop i).trips) : ClosedOff (k0_off9 i k 976#32) := ⟨![1024 * k.val + 976, 0], off9_eq i k 976 (by decide)⟩
instance (i : grid0.Coords) (k : Fin (k0_t3_loop i).trips) : ClosedOff (k0_off9 i k 984#32) := ⟨![1024 * k.val + 984, 0], off9_eq i k 984 (by decide)⟩
instance (i : grid0.Coords) (k : Fin (k0_t3_loop i).trips) : ClosedOff (k0_off9 i k 992#32) := ⟨![1024 * k.val + 992, 0], off9_eq i k 992 (by decide)⟩
instance (i : grid0.Coords) (k : Fin (k0_t3_loop i).trips) : ClosedOff (k0_off9 i k 1000#32) := ⟨![1024 * k.val + 1000, 0], off9_eq i k 1000 (by decide)⟩
instance (i : grid0.Coords) (k : Fin (k0_t3_loop i).trips) : ClosedOff (k0_off9 i k 1008#32) := ⟨![1024 * k.val + 1008, 0], off9_eq i k 1008 (by decide)⟩
instance (i : grid0.Coords) (k : Fin (k0_t3_loop i).trips) : ClosedOff (k0_off9 i k 1016#32) := ⟨![1024 * k.val + 1016, 0], off9_eq i k 1016 (by decide)⟩
instance (i : grid0.Coords) : ClosedOff (k0_off19 i 0#32) := ⟨![1024 * lastSpan i + 0, 0], off19_eq i 0 (by decide)⟩
instance (i : grid0.Coords) : ClosedOff (k0_off19 i 8#32) := ⟨![1024 * lastSpan i + 8, 0], off19_eq i 8 (by decide)⟩
instance (i : grid0.Coords) : ClosedOff (k0_off19 i 16#32) := ⟨![1024 * lastSpan i + 16, 0], off19_eq i 16 (by decide)⟩
instance (i : grid0.Coords) : ClosedOff (k0_off19 i 24#32) := ⟨![1024 * lastSpan i + 24, 0], off19_eq i 24 (by decide)⟩
instance (i : grid0.Coords) : ClosedOff (k0_off19 i 32#32) := ⟨![1024 * lastSpan i + 32, 0], off19_eq i 32 (by decide)⟩
instance (i : grid0.Coords) : ClosedOff (k0_off19 i 40#32) := ⟨![1024 * lastSpan i + 40, 0], off19_eq i 40 (by decide)⟩
instance (i : grid0.Coords) : ClosedOff (k0_off19 i 48#32) := ⟨![1024 * lastSpan i + 48, 0], off19_eq i 48 (by decide)⟩
instance (i : grid0.Coords) : ClosedOff (k0_off19 i 56#32) := ⟨![1024 * lastSpan i + 56, 0], off19_eq i 56 (by decide)⟩
instance (i : grid0.Coords) : ClosedOff (k0_off19 i 64#32) := ⟨![1024 * lastSpan i + 64, 0], off19_eq i 64 (by decide)⟩
instance (i : grid0.Coords) : ClosedOff (k0_off19 i 72#32) := ⟨![1024 * lastSpan i + 72, 0], off19_eq i 72 (by decide)⟩
instance (i : grid0.Coords) : ClosedOff (k0_off19 i 80#32) := ⟨![1024 * lastSpan i + 80, 0], off19_eq i 80 (by decide)⟩
instance (i : grid0.Coords) : ClosedOff (k0_off19 i 88#32) := ⟨![1024 * lastSpan i + 88, 0], off19_eq i 88 (by decide)⟩
instance (i : grid0.Coords) : ClosedOff (k0_off19 i 96#32) := ⟨![1024 * lastSpan i + 96, 0], off19_eq i 96 (by decide)⟩
instance (i : grid0.Coords) : ClosedOff (k0_off19 i 104#32) := ⟨![1024 * lastSpan i + 104, 0], off19_eq i 104 (by decide)⟩
instance (i : grid0.Coords) : ClosedOff (k0_off19 i 112#32) := ⟨![1024 * lastSpan i + 112, 0], off19_eq i 112 (by decide)⟩
instance (i : grid0.Coords) : ClosedOff (k0_off19 i 120#32) := ⟨![1024 * lastSpan i + 120, 0], off19_eq i 120 (by decide)⟩
instance (i : grid0.Coords) : ClosedOff (k0_off19 i 128#32) := ⟨![1024 * lastSpan i + 128, 0], off19_eq i 128 (by decide)⟩
instance (i : grid0.Coords) : ClosedOff (k0_off19 i 136#32) := ⟨![1024 * lastSpan i + 136, 0], off19_eq i 136 (by decide)⟩
instance (i : grid0.Coords) : ClosedOff (k0_off19 i 144#32) := ⟨![1024 * lastSpan i + 144, 0], off19_eq i 144 (by decide)⟩
instance (i : grid0.Coords) : ClosedOff (k0_off19 i 152#32) := ⟨![1024 * lastSpan i + 152, 0], off19_eq i 152 (by decide)⟩
instance (i : grid0.Coords) : ClosedOff (k0_off19 i 160#32) := ⟨![1024 * lastSpan i + 160, 0], off19_eq i 160 (by decide)⟩
instance (i : grid0.Coords) : ClosedOff (k0_off19 i 168#32) := ⟨![1024 * lastSpan i + 168, 0], off19_eq i 168 (by decide)⟩
instance (i : grid0.Coords) : ClosedOff (k0_off19 i 176#32) := ⟨![1024 * lastSpan i + 176, 0], off19_eq i 176 (by decide)⟩
instance (i : grid0.Coords) : ClosedOff (k0_off19 i 184#32) := ⟨![1024 * lastSpan i + 184, 0], off19_eq i 184 (by decide)⟩
instance (i : grid0.Coords) : ClosedOff (k0_off19 i 192#32) := ⟨![1024 * lastSpan i + 192, 0], off19_eq i 192 (by decide)⟩
instance (i : grid0.Coords) : ClosedOff (k0_off19 i 200#32) := ⟨![1024 * lastSpan i + 200, 0], off19_eq i 200 (by decide)⟩
instance (i : grid0.Coords) : ClosedOff (k0_off19 i 208#32) := ⟨![1024 * lastSpan i + 208, 0], off19_eq i 208 (by decide)⟩
instance (i : grid0.Coords) : ClosedOff (k0_off19 i 216#32) := ⟨![1024 * lastSpan i + 216, 0], off19_eq i 216 (by decide)⟩
instance (i : grid0.Coords) : ClosedOff (k0_off19 i 224#32) := ⟨![1024 * lastSpan i + 224, 0], off19_eq i 224 (by decide)⟩
instance (i : grid0.Coords) : ClosedOff (k0_off19 i 232#32) := ⟨![1024 * lastSpan i + 232, 0], off19_eq i 232 (by decide)⟩
instance (i : grid0.Coords) : ClosedOff (k0_off19 i 240#32) := ⟨![1024 * lastSpan i + 240, 0], off19_eq i 240 (by decide)⟩
instance (i : grid0.Coords) : ClosedOff (k0_off19 i 248#32) := ⟨![1024 * lastSpan i + 248, 0], off19_eq i 248 (by decide)⟩
instance (i : grid0.Coords) : ClosedOff (k0_off19 i 256#32) := ⟨![1024 * lastSpan i + 256, 0], off19_eq i 256 (by decide)⟩
instance (i : grid0.Coords) : ClosedOff (k0_off19 i 264#32) := ⟨![1024 * lastSpan i + 264, 0], off19_eq i 264 (by decide)⟩
instance (i : grid0.Coords) : ClosedOff (k0_off19 i 272#32) := ⟨![1024 * lastSpan i + 272, 0], off19_eq i 272 (by decide)⟩
instance (i : grid0.Coords) : ClosedOff (k0_off19 i 280#32) := ⟨![1024 * lastSpan i + 280, 0], off19_eq i 280 (by decide)⟩
instance (i : grid0.Coords) : ClosedOff (k0_off19 i 288#32) := ⟨![1024 * lastSpan i + 288, 0], off19_eq i 288 (by decide)⟩
instance (i : grid0.Coords) : ClosedOff (k0_off19 i 296#32) := ⟨![1024 * lastSpan i + 296, 0], off19_eq i 296 (by decide)⟩
instance (i : grid0.Coords) : ClosedOff (k0_off19 i 304#32) := ⟨![1024 * lastSpan i + 304, 0], off19_eq i 304 (by decide)⟩
instance (i : grid0.Coords) : ClosedOff (k0_off19 i 312#32) := ⟨![1024 * lastSpan i + 312, 0], off19_eq i 312 (by decide)⟩
instance (i : grid0.Coords) : ClosedOff (k0_off19 i 320#32) := ⟨![1024 * lastSpan i + 320, 0], off19_eq i 320 (by decide)⟩
instance (i : grid0.Coords) : ClosedOff (k0_off19 i 328#32) := ⟨![1024 * lastSpan i + 328, 0], off19_eq i 328 (by decide)⟩
instance (i : grid0.Coords) : ClosedOff (k0_off19 i 336#32) := ⟨![1024 * lastSpan i + 336, 0], off19_eq i 336 (by decide)⟩
instance (i : grid0.Coords) : ClosedOff (k0_off19 i 344#32) := ⟨![1024 * lastSpan i + 344, 0], off19_eq i 344 (by decide)⟩
instance (i : grid0.Coords) : ClosedOff (k0_off19 i 352#32) := ⟨![1024 * lastSpan i + 352, 0], off19_eq i 352 (by decide)⟩
instance (i : grid0.Coords) : ClosedOff (k0_off19 i 360#32) := ⟨![1024 * lastSpan i + 360, 0], off19_eq i 360 (by decide)⟩
instance (i : grid0.Coords) : ClosedOff (k0_off19 i 368#32) := ⟨![1024 * lastSpan i + 368, 0], off19_eq i 368 (by decide)⟩
instance (i : grid0.Coords) : ClosedOff (k0_off19 i 376#32) := ⟨![1024 * lastSpan i + 376, 0], off19_eq i 376 (by decide)⟩
instance (i : grid0.Coords) : ClosedOff (k0_off19 i 384#32) := ⟨![1024 * lastSpan i + 384, 0], off19_eq i 384 (by decide)⟩
instance (i : grid0.Coords) : ClosedOff (k0_off19 i 392#32) := ⟨![1024 * lastSpan i + 392, 0], off19_eq i 392 (by decide)⟩
instance (i : grid0.Coords) : ClosedOff (k0_off19 i 400#32) := ⟨![1024 * lastSpan i + 400, 0], off19_eq i 400 (by decide)⟩
instance (i : grid0.Coords) : ClosedOff (k0_off19 i 408#32) := ⟨![1024 * lastSpan i + 408, 0], off19_eq i 408 (by decide)⟩
instance (i : grid0.Coords) : ClosedOff (k0_off19 i 416#32) := ⟨![1024 * lastSpan i + 416, 0], off19_eq i 416 (by decide)⟩
instance (i : grid0.Coords) : ClosedOff (k0_off19 i 424#32) := ⟨![1024 * lastSpan i + 424, 0], off19_eq i 424 (by decide)⟩
instance (i : grid0.Coords) : ClosedOff (k0_off19 i 432#32) := ⟨![1024 * lastSpan i + 432, 0], off19_eq i 432 (by decide)⟩
instance (i : grid0.Coords) : ClosedOff (k0_off19 i 440#32) := ⟨![1024 * lastSpan i + 440, 0], off19_eq i 440 (by decide)⟩
instance (i : grid0.Coords) : ClosedOff (k0_off19 i 448#32) := ⟨![1024 * lastSpan i + 448, 0], off19_eq i 448 (by decide)⟩
instance (i : grid0.Coords) : ClosedOff (k0_off19 i 456#32) := ⟨![1024 * lastSpan i + 456, 0], off19_eq i 456 (by decide)⟩
instance (i : grid0.Coords) : ClosedOff (k0_off19 i 464#32) := ⟨![1024 * lastSpan i + 464, 0], off19_eq i 464 (by decide)⟩
instance (i : grid0.Coords) : ClosedOff (k0_off19 i 472#32) := ⟨![1024 * lastSpan i + 472, 0], off19_eq i 472 (by decide)⟩
instance (i : grid0.Coords) : ClosedOff (k0_off19 i 480#32) := ⟨![1024 * lastSpan i + 480, 0], off19_eq i 480 (by decide)⟩
instance (i : grid0.Coords) : ClosedOff (k0_off19 i 488#32) := ⟨![1024 * lastSpan i + 488, 0], off19_eq i 488 (by decide)⟩
instance (i : grid0.Coords) : ClosedOff (k0_off19 i 496#32) := ⟨![1024 * lastSpan i + 496, 0], off19_eq i 496 (by decide)⟩
instance (i : grid0.Coords) : ClosedOff (k0_off19 i 504#32) := ⟨![1024 * lastSpan i + 504, 0], off19_eq i 504 (by decide)⟩
instance (i : grid0.Coords) : ClosedOff (k0_off19 i 512#32) := ⟨![1024 * lastSpan i + 512, 0], off19_eq i 512 (by decide)⟩
instance (i : grid0.Coords) : ClosedOff (k0_off19 i 520#32) := ⟨![1024 * lastSpan i + 520, 0], off19_eq i 520 (by decide)⟩
instance (i : grid0.Coords) : ClosedOff (k0_off19 i 528#32) := ⟨![1024 * lastSpan i + 528, 0], off19_eq i 528 (by decide)⟩
instance (i : grid0.Coords) : ClosedOff (k0_off19 i 536#32) := ⟨![1024 * lastSpan i + 536, 0], off19_eq i 536 (by decide)⟩
instance (i : grid0.Coords) : ClosedOff (k0_off19 i 544#32) := ⟨![1024 * lastSpan i + 544, 0], off19_eq i 544 (by decide)⟩
instance (i : grid0.Coords) : ClosedOff (k0_off19 i 552#32) := ⟨![1024 * lastSpan i + 552, 0], off19_eq i 552 (by decide)⟩
instance (i : grid0.Coords) : ClosedOff (k0_off19 i 560#32) := ⟨![1024 * lastSpan i + 560, 0], off19_eq i 560 (by decide)⟩
instance (i : grid0.Coords) : ClosedOff (k0_off19 i 568#32) := ⟨![1024 * lastSpan i + 568, 0], off19_eq i 568 (by decide)⟩
instance (i : grid0.Coords) : ClosedOff (k0_off19 i 576#32) := ⟨![1024 * lastSpan i + 576, 0], off19_eq i 576 (by decide)⟩
instance (i : grid0.Coords) : ClosedOff (k0_off19 i 584#32) := ⟨![1024 * lastSpan i + 584, 0], off19_eq i 584 (by decide)⟩
instance (i : grid0.Coords) : ClosedOff (k0_off19 i 592#32) := ⟨![1024 * lastSpan i + 592, 0], off19_eq i 592 (by decide)⟩
instance (i : grid0.Coords) : ClosedOff (k0_off19 i 600#32) := ⟨![1024 * lastSpan i + 600, 0], off19_eq i 600 (by decide)⟩
instance (i : grid0.Coords) : ClosedOff (k0_off19 i 608#32) := ⟨![1024 * lastSpan i + 608, 0], off19_eq i 608 (by decide)⟩
instance (i : grid0.Coords) : ClosedOff (k0_off19 i 616#32) := ⟨![1024 * lastSpan i + 616, 0], off19_eq i 616 (by decide)⟩
instance (i : grid0.Coords) : ClosedOff (k0_off19 i 624#32) := ⟨![1024 * lastSpan i + 624, 0], off19_eq i 624 (by decide)⟩
instance (i : grid0.Coords) : ClosedOff (k0_off19 i 632#32) := ⟨![1024 * lastSpan i + 632, 0], off19_eq i 632 (by decide)⟩
instance (i : grid0.Coords) : ClosedOff (k0_off19 i 640#32) := ⟨![1024 * lastSpan i + 640, 0], off19_eq i 640 (by decide)⟩
instance (i : grid0.Coords) : ClosedOff (k0_off19 i 648#32) := ⟨![1024 * lastSpan i + 648, 0], off19_eq i 648 (by decide)⟩
instance (i : grid0.Coords) : ClosedOff (k0_off19 i 656#32) := ⟨![1024 * lastSpan i + 656, 0], off19_eq i 656 (by decide)⟩
instance (i : grid0.Coords) : ClosedOff (k0_off19 i 664#32) := ⟨![1024 * lastSpan i + 664, 0], off19_eq i 664 (by decide)⟩
instance (i : grid0.Coords) : ClosedOff (k0_off19 i 672#32) := ⟨![1024 * lastSpan i + 672, 0], off19_eq i 672 (by decide)⟩
instance (i : grid0.Coords) : ClosedOff (k0_off19 i 680#32) := ⟨![1024 * lastSpan i + 680, 0], off19_eq i 680 (by decide)⟩
instance (i : grid0.Coords) : ClosedOff (k0_off19 i 688#32) := ⟨![1024 * lastSpan i + 688, 0], off19_eq i 688 (by decide)⟩
instance (i : grid0.Coords) : ClosedOff (k0_off19 i 696#32) := ⟨![1024 * lastSpan i + 696, 0], off19_eq i 696 (by decide)⟩
instance (i : grid0.Coords) : ClosedOff (k0_off19 i 704#32) := ⟨![1024 * lastSpan i + 704, 0], off19_eq i 704 (by decide)⟩
instance (i : grid0.Coords) : ClosedOff (k0_off19 i 712#32) := ⟨![1024 * lastSpan i + 712, 0], off19_eq i 712 (by decide)⟩
instance (i : grid0.Coords) : ClosedOff (k0_off19 i 720#32) := ⟨![1024 * lastSpan i + 720, 0], off19_eq i 720 (by decide)⟩
instance (i : grid0.Coords) : ClosedOff (k0_off19 i 728#32) := ⟨![1024 * lastSpan i + 728, 0], off19_eq i 728 (by decide)⟩
instance (i : grid0.Coords) : ClosedOff (k0_off19 i 736#32) := ⟨![1024 * lastSpan i + 736, 0], off19_eq i 736 (by decide)⟩
instance (i : grid0.Coords) : ClosedOff (k0_off19 i 744#32) := ⟨![1024 * lastSpan i + 744, 0], off19_eq i 744 (by decide)⟩
instance (i : grid0.Coords) : ClosedOff (k0_off19 i 752#32) := ⟨![1024 * lastSpan i + 752, 0], off19_eq i 752 (by decide)⟩
instance (i : grid0.Coords) : ClosedOff (k0_off19 i 760#32) := ⟨![1024 * lastSpan i + 760, 0], off19_eq i 760 (by decide)⟩
instance (i : grid0.Coords) : ClosedOff (k0_off19 i 768#32) := ⟨![1024 * lastSpan i + 768, 0], off19_eq i 768 (by decide)⟩
instance (i : grid0.Coords) : ClosedOff (k0_off19 i 776#32) := ⟨![1024 * lastSpan i + 776, 0], off19_eq i 776 (by decide)⟩
instance (i : grid0.Coords) : ClosedOff (k0_off19 i 784#32) := ⟨![1024 * lastSpan i + 784, 0], off19_eq i 784 (by decide)⟩
instance (i : grid0.Coords) : ClosedOff (k0_off19 i 792#32) := ⟨![1024 * lastSpan i + 792, 0], off19_eq i 792 (by decide)⟩
instance (i : grid0.Coords) : ClosedOff (k0_off19 i 800#32) := ⟨![1024 * lastSpan i + 800, 0], off19_eq i 800 (by decide)⟩
instance (i : grid0.Coords) : ClosedOff (k0_off19 i 808#32) := ⟨![1024 * lastSpan i + 808, 0], off19_eq i 808 (by decide)⟩
instance (i : grid0.Coords) : ClosedOff (k0_off19 i 816#32) := ⟨![1024 * lastSpan i + 816, 0], off19_eq i 816 (by decide)⟩
instance (i : grid0.Coords) : ClosedOff (k0_off19 i 824#32) := ⟨![1024 * lastSpan i + 824, 0], off19_eq i 824 (by decide)⟩
instance (i : grid0.Coords) : ClosedOff (k0_off19 i 832#32) := ⟨![1024 * lastSpan i + 832, 0], off19_eq i 832 (by decide)⟩
instance (i : grid0.Coords) : ClosedOff (k0_off19 i 840#32) := ⟨![1024 * lastSpan i + 840, 0], off19_eq i 840 (by decide)⟩
instance (i : grid0.Coords) : ClosedOff (k0_off19 i 848#32) := ⟨![1024 * lastSpan i + 848, 0], off19_eq i 848 (by decide)⟩
instance (i : grid0.Coords) : ClosedOff (k0_off19 i 856#32) := ⟨![1024 * lastSpan i + 856, 0], off19_eq i 856 (by decide)⟩
instance (i : grid0.Coords) : ClosedOff (k0_off19 i 864#32) := ⟨![1024 * lastSpan i + 864, 0], off19_eq i 864 (by decide)⟩
instance (i : grid0.Coords) : ClosedOff (k0_off19 i 872#32) := ⟨![1024 * lastSpan i + 872, 0], off19_eq i 872 (by decide)⟩
instance (i : grid0.Coords) : ClosedOff (k0_off19 i 880#32) := ⟨![1024 * lastSpan i + 880, 0], off19_eq i 880 (by decide)⟩
instance (i : grid0.Coords) : ClosedOff (k0_off19 i 888#32) := ⟨![1024 * lastSpan i + 888, 0], off19_eq i 888 (by decide)⟩
instance (i : grid0.Coords) : ClosedOff (k0_off19 i 896#32) := ⟨![1024 * lastSpan i + 896, 0], off19_eq i 896 (by decide)⟩
instance (i : grid0.Coords) : ClosedOff (k0_off19 i 904#32) := ⟨![1024 * lastSpan i + 904, 0], off19_eq i 904 (by decide)⟩
instance (i : grid0.Coords) : ClosedOff (k0_off19 i 912#32) := ⟨![1024 * lastSpan i + 912, 0], off19_eq i 912 (by decide)⟩
instance (i : grid0.Coords) : ClosedOff (k0_off19 i 920#32) := ⟨![1024 * lastSpan i + 920, 0], off19_eq i 920 (by decide)⟩
instance (i : grid0.Coords) : ClosedOff (k0_off19 i 928#32) := ⟨![1024 * lastSpan i + 928, 0], off19_eq i 928 (by decide)⟩
instance (i : grid0.Coords) : ClosedOff (k0_off19 i 936#32) := ⟨![1024 * lastSpan i + 936, 0], off19_eq i 936 (by decide)⟩
instance (i : grid0.Coords) : ClosedOff (k0_off19 i 944#32) := ⟨![1024 * lastSpan i + 944, 0], off19_eq i 944 (by decide)⟩
instance (i : grid0.Coords) : ClosedOff (k0_off19 i 952#32) := ⟨![1024 * lastSpan i + 952, 0], off19_eq i 952 (by decide)⟩
instance (i : grid0.Coords) : ClosedOff (k0_off19 i 960#32) := ⟨![1024 * lastSpan i + 960, 0], off19_eq i 960 (by decide)⟩
instance (i : grid0.Coords) : ClosedOff (k0_off19 i 968#32) := ⟨![1024 * lastSpan i + 968, 0], off19_eq i 968 (by decide)⟩
instance (i : grid0.Coords) : ClosedOff (k0_off19 i 976#32) := ⟨![1024 * lastSpan i + 976, 0], off19_eq i 976 (by decide)⟩
instance (i : grid0.Coords) : ClosedOff (k0_off19 i 984#32) := ⟨![1024 * lastSpan i + 984, 0], off19_eq i 984 (by decide)⟩
instance (i : grid0.Coords) : ClosedOff (k0_off19 i 992#32) := ⟨![1024 * lastSpan i + 992, 0], off19_eq i 992 (by decide)⟩
instance (i : grid0.Coords) : ClosedOff (k0_off19 i 1000#32) := ⟨![1024 * lastSpan i + 1000, 0], off19_eq i 1000 (by decide)⟩
instance (i : grid0.Coords) : ClosedOff (k0_off19 i 1008#32) := ⟨![1024 * lastSpan i + 1008, 0], off19_eq i 1008 (by decide)⟩
instance (i : grid0.Coords) : ClosedOff (k0_off19 i 1016#32) := ⟨![1024 * lastSpan i + 1016, 0], off19_eq i 1016 (by decide)⟩

end Cert.AttendIdeal.Hand

end
-- ==== Proof.IdealSpans.lean ====
module

public import proofs.«01_k».proof.Proof.IdealGeo
public import proofs.«01_k».proof.Proof.Gen.AttendIdeal.Frame

@[expose] public section

set_option maxRecDepth 16384

noncomputable section

namespace Cert.AttendIdeal.Hand

open Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 16000000 in
/-- One trip of the loop over full spans when there is a previous tile: its codes for this span
   are contracted before its exponentials are overwritten. -/
@[irreducible] def trip3_read (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1) (h3 : k0_cond3 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (k : Fin (k0_t3_loop i).trips) (acc : FVec F S8x256 .f32) (f8 : BufTy.Contents (Elt F) arg8.view.ty) (f9 : BufTy.Contents (Elt F) arg9.view.ty) :
   Σ' (R : FVec F S8x256 .f32), Σ' (C8 : BufTy.Contents (Elt F) arg8.view.ty), { L9 : List (View.Piece (Elt F) S128x256 .f32) // ∀ (E : Set ℕ),
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} f8) ∗ (arg9.view.loc (c : Thread nD τ) ↦[arg9.view.set]{fullShare} f9)) : sProp 𝕄)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg1 v1 v4 k0_h2 k acc)
          (fun yld => iprop(⌜yld = R⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} C8) ∗ (arg9.view.loc (c : Thread nD τ) ↦[arg9.view.set]{fullShare} arg9.view.writes (Elt F) f9 L9))) } := by
  refine ⟨?_, ?_, ?_, fun E => ?run⟩
  case run =>
    unfold k0_t3_body
    iintro ⟨H2, H3, H4, H5, H10, H8, H9⟩
    sl_exec
    sl_step
    sl_close

set_option maxHeartbeats 16000000 in
/-- One trip of the loop over full spans at the first tile, with nothing to read out. -/
@[irreducible] def trip3_first (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1) (h3 : ¬ k0_cond3 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (k : Fin (k0_t3_loop i).trips) (acc : FVec F S8x256 .f32) (f8 : BufTy.Contents (Elt F) arg8.view.ty) (f9 : BufTy.Contents (Elt F) arg9.view.ty) :
   Σ' (R : FVec F S8x256 .f32), { C8 : BufTy.Contents (Elt F) arg8.view.ty // ∀ (E : Set ℕ),
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} f8) ∗ (arg9.view.loc (c : Thread nD τ) ↦[arg9.view.set]{fullShare} f9)) : sProp 𝕄)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg1 v1 v4 k0_h2 k acc)
          (fun yld => iprop(⌜yld = R⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} C8) ∗ (arg9.view.loc (c : Thread nD τ) ↦[arg9.view.set]{fullShare} f9))) } := by
  refine ⟨?_, ?_, fun E => ?run⟩
  case run =>
    unfold k0_t3_body
    iintro ⟨H2, H3, H4, H5, H10, H8, H9⟩
    sl_exec
    sl_step
    sl_close

/-- What the loop over full spans carries: the running maximum, the exponents and the stores into the sum. -/
structure St3 (F : FTy → Type) [FloatOps F] (arg8 : Memref sig .tc .vmem S32768x256 .f32) (arg9 : Memref sig .tc .vmem S128x256 .f32) where
  mx : FVec F S8x256 .f32
  y : BufTy.Contents (Elt F) arg8.view.ty
  sum : List (View.Piece (Elt F) S128x256 .f32)

/-- One trip on what is carried. -/
def step3 (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (G9 : BufTy.Contents (Elt F) arg9.view.ty) (k : Fin (k0_t3_loop i).trips) (s : St3 F arg8 arg9) : St3 F arg8 arg9 :=
  if h3 : k0_cond3 i = 1#1 then
    ⟨(trip3_read 𝒱 c bd i arg2 harg2 arg3 harg3 arg4 harg4 arg5 harg5 arg6 harg6 arg7 harg7 arg8 harg8 arg9 harg9 arg10 harg10 arg1 v1 v4 k0_h2 h3 X2 X3 X4 X5 X10 k s.mx s.y (arg9.view.writes (Elt F) G9 s.sum)).1, (trip3_read 𝒱 c bd i arg2 harg2 arg3 harg3 arg4 harg4 arg5 harg5 arg6 harg6 arg7 harg7 arg8 harg8 arg9 harg9 arg10 harg10 arg1 v1 v4 k0_h2 h3 X2 X3 X4 X5 X10 k s.mx s.y (arg9.view.writes (Elt F) G9 s.sum)).2.1,
     (trip3_read 𝒱 c bd i arg2 harg2 arg3 harg3 arg4 harg4 arg5 harg5 arg6 harg6 arg7 harg7 arg8 harg8 arg9 harg9 arg10 harg10 arg1 v1 v4 k0_h2 h3 X2 X3 X4 X5 X10 k s.mx s.y (arg9.view.writes (Elt F) G9 s.sum)).2.2.1 ++ s.sum⟩
  else
    ⟨(trip3_first 𝒱 c bd i arg2 harg2 arg3 harg3 arg4 harg4 arg5 harg5 arg6 harg6 arg7 harg7 arg8 harg8 arg9 harg9 arg10 harg10 arg1 v1 v4 k0_h2 h3 X2 X3 X4 X5 X10 k s.mx s.y (arg9.view.writes (Elt F) G9 s.sum)).1, (trip3_first 𝒱 c bd i arg2 harg2 arg3 harg3 arg4 harg4 arg5 harg5 arg6 harg6 arg7 harg7 arg8 harg8 arg9 harg9 arg10 harg10 arg1 v1 v4 k0_h2 h3 X2 X3 X4 X5 X10 k s.mx s.y (arg9.view.writes (Elt F) G9 s.sum)).2.1, s.sum⟩

theorem step3_run (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (G9 : BufTy.Contents (Elt F) arg9.view.ty) (k : Fin (k0_t3_loop i).trips) (s : St3 F arg8 arg9) (E : Set ℕ) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} s.y) ∗ (arg9.view.loc (c : Thread nD τ) ↦[arg9.view.set]{fullShare} arg9.view.writes (Elt F) G9 s.sum)) : sProp 𝕄)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg1 v1 v4 k0_h2 k s.mx)
          (fun yld => iprop(⌜yld = (step3 𝒱 c bd i arg2 harg2 arg3 harg3 arg4 harg4 arg5 harg5 arg6 harg6 arg7 harg7 arg8 harg8 arg9 harg9 arg10 harg10 arg1 v1 v4 k0_h2 X2 X3 X4 X5 X10 G9 k s).mx⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} (step3 𝒱 c bd i arg2 harg2 arg3 harg3 arg4 harg4 arg5 harg5 arg6 harg6 arg7 harg7 arg8 harg8 arg9 harg9 arg10 harg10 arg1 v1 v4 k0_h2 X2 X3 X4 X5 X10 G9 k s).y) ∗ (arg9.view.loc (c : Thread nD τ) ↦[arg9.view.set]{fullShare} arg9.view.writes (Elt F) G9 (step3 𝒱 c bd i arg2 harg2 arg3 harg3 arg4 harg4 arg5 harg5 arg6 harg6 arg7 harg7 arg8 harg8 arg9 harg9 arg10 harg10 arg1 v1 v4 k0_h2 X2 X3 X4 X5 X10 G9 k s).sum))) := by
  unfold step3
  split
  · rw [View.writes_append]
    exact (trip3_read 𝒱 c bd i arg2 harg2 arg3 harg3 arg4 harg4 arg5 harg5 arg6 harg6 arg7 harg7 arg8 harg8 arg9 harg9 arg10 harg10 arg1 v1 v4 k0_h2 ‹_› X2 X3 X4 X5 X10 k s.mx s.y (arg9.view.writes (Elt F) G9 s.sum)).2.2.2 E
  · exact (trip3_first 𝒱 c bd i arg2 harg2 arg3 harg3 arg4 harg4 arg5 harg5 arg6 harg6 arg7 harg7 arg8 harg8 arg9 harg9 arg10 harg10 arg1 v1 v4 k0_h2 ‹_› X2 X3 X4 X5 X10 k s.mx s.y (arg9.view.writes (Elt F) G9 s.sum)).2.2 E

/-- What is carried before trip `k`. -/
def st3 (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (G8 : BufTy.Contents (Elt F) arg8.view.ty) (G9 : BufTy.Contents (Elt F) arg9.view.ty) (init : FVec F S8x256 .f32) : ℕ → St3 F arg8 arg9
  | 0 => ⟨init, G8, []⟩
  | k + 1 => if h : k < (k0_t3_loop i).trips then step3 𝒱 c bd i arg2 harg2 arg3 harg3 arg4 harg4 arg5 harg5 arg6 harg6 arg7 harg7 arg8 harg8 arg9 harg9 arg10 harg10 arg1 v1 v4 k0_h2 X2 X3 X4 X5 X10 G9 ⟨k, h⟩ (st3 𝒱 c bd i arg2 harg2 arg3 harg3 arg4 harg4 arg5 harg5 arg6 harg6 arg7 harg7 arg8 harg8 arg9 harg9 arg10 harg10 arg1 v1 v4 k0_h2 X2 X3 X4 X5 X10 G8 G9 init k) else st3 𝒱 c bd i arg2 harg2 arg3 harg3 arg4 harg4 arg5 harg5 arg6 harg6 arg7 harg7 arg8 harg8 arg9 harg9 arg10 harg10 arg1 v1 v4 k0_h2 X2 X3 X4 X5 X10 G8 G9 init k

theorem st3_succ (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (G8 : BufTy.Contents (Elt F) arg8.view.ty) (G9 : BufTy.Contents (Elt F) arg9.view.ty) (init : FVec F S8x256 .f32) (k : Fin (k0_t3_loop i).trips) :
    st3 𝒱 c bd i arg2 harg2 arg3 harg3 arg4 harg4 arg5 harg5 arg6 harg6 arg7 harg7 arg8 harg8 arg9 harg9 arg10 harg10 arg1 v1 v4 k0_h2 X2 X3 X4 X5 X10 G8 G9 init (k.val + 1) = step3 𝒱 c bd i arg2 harg2 arg3 harg3 arg4 harg4 arg5 harg5 arg6 harg6 arg7 harg7 arg8 harg8 arg9 harg9 arg10 harg10 arg1 v1 v4 k0_h2 X2 X3 X4 X5 X10 G9 k (st3 𝒱 c bd i arg2 harg2 arg3 harg3 arg4 harg4 arg5 harg5 arg6 harg6 arg7 harg7 arg8 harg8 arg9 harg9 arg10 harg10 arg1 v1 v4 k0_h2 X2 X3 X4 X5 X10 G8 G9 init k.val) := by
  rw [st3.eq_2]; exact dif_pos k.isLt

set_option warn.classDefReducibility false in
/-- The loop over full spans: before trip `k` the buffers hold what `st3` says. -/
@[sl_loop] def loop3 (𝒱 : Variants) (c : Dev nD) (bd : Option 𝒱.V) (E : Set ℕ) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1)
   (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (G8 : BufTy.Contents (Elt F) arg8.view.ty) (G9 : BufTy.Contents (Elt F) arg9.view.ty) (init : FVec F S8x256 .f32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg1 v1 v4 k0_h2 init where
  inv k acc := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (∃ f, (arg8.view.loc (c : Thread nD τ) ↦[arg8.view.set]{fullShare} f) ∗ ⌜f = (st3 𝒱 c bd i arg2 harg2 arg3 harg3 arg4 harg4 arg5 harg5 arg6 harg6 arg7 harg7 arg8 harg8 arg9 harg9 arg10 harg10 arg1 v1 v4 k0_h2 X2 X3 X4 X5 X10 G8 G9 init k).y⌝)
    ∗ (∃ f, (arg9.view.loc (c : Thread nD τ) ↦[arg9.view.set]{fullShare} f) ∗ ⌜f = arg9.view.writes (Elt F) G9 (st3 𝒱 c bd i arg2 harg2 arg3 harg3 arg4 harg4 arg5 harg5 arg6 harg6 arg7 harg7 arg8 harg8 arg9 harg9 arg10 harg10 arg1 v1 v4 k0_h2 X2 X3 X4 X5 X10 G8 G9 init k).sum⌝)
    ∗ ⌜acc = (st3 𝒱 c bd i arg2 harg2 arg3 harg3 arg4 harg4 arg5 harg5 arg6 harg6 arg7 harg7 arg8 harg8 arg9 harg9 arg10 harg10 arg1 v1 v4 k0_h2 X2 X3 X4 X5 X10 G8 G9 init k).mx⌝)
  step k acc := by
    iintro ⟨H2, H3, H4, H5, H10, ⟨%f8, H8, %h8⟩, ⟨%f9, H9, %h9⟩, %hacc⟩
    subst hacc; subst h8; subst h9
    iapply (wp_wand_r Idealize.ShloMosaic.frame (wpE (defs₀ (F := F)) 𝒱 (c : Thread nD τ) bd) E)
    isplitl [H2 H3 H4 H5 H10 H8 H9]
    · iapply (step3_run 𝒱 c bd i arg2 harg2 arg3 harg3 arg4 harg4 arg5 harg5 arg6 harg6 arg7 harg7 arg8 harg8 arg9 harg9 arg10 harg10 arg1 v1 v4 k0_h2 X2 X3 X4 X5 X10 G9 k (st3 𝒱 c bd i arg2 harg2 arg3 harg3 arg4 harg4 arg5 harg5 arg6 harg6 arg7 harg7 arg8 harg8 arg9 harg9 arg10 harg10 arg1 v1 v4 k0_h2 X2 X3 X4 X5 X10 G8 G9 init k.val) E)
      isplitl [H2]; · iexact H2
      isplitl [H3]; · iexact H3
      isplitl [H4]; · iexact H4
      isplitl [H5]; · iexact H5
      isplitl [H10]; · iexact H10
      isplitl [H8]; · iexact H8
      iexact H9
    · iintro %yld ⟨%hres, H2, H3, H4, H5, H10, H8, H9⟩
      isplitl [H2]; · iexact H2
      isplitl [H3]; · iexact H3
      isplitl [H4]; · iexact H4
      isplitl [H5]; · iexact H5
      isplitl [H10]; · iexact H10
      simp only [st3_succ]
      isplitl [H8]
      · iexists _; isplitl [H8]; · iexact H8
        ipureintro; rfl
      isplitl [H9]
      · iexists _; isplitl [H9]; · iexact H9
        ipureintro; rfl
      ipureintro; exact hres

set_option warn.classDefReducibility false in
/-- The remainder loop makes no trip. -/
@[sl_loop] def loop4 (𝒱 : Variants) (c : Dev nD) (bd : Option 𝒱.V) (E : Set ℕ) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 : BitVec 32) (v1 : BitVec 32) (v4 : BitVec 32) (k0_h2 : k0_cond2 i = 1#1) (v62 : BitVec 32) (init : FVec F S8x256 .f32) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg1 v1 v4 k0_h2 v62 init where
  inv _ acc := iprop(⌜acc = init⌝)
  step k acc := absurd k.isLt (Nat.not_lt.2 (Nat.le_trans (k0_t4_abs i).2.1 (Nat.zero_le _)))

end Cert.AttendIdeal.Hand

end
-- ==== Proof.IdealBodyTile.lean ====
module

public import proofs.«01_k».proof.Proof.IdealSpans
public import proofs.«01_k».proof.Proof.Gen.AttendIdeal.Frame

@[expose] public section

set_option maxRecDepth 16384

noncomputable section

namespace Cert.AttendIdeal.Hand

open Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 64000000 in
/-- A point whose tile and the tile before end in the same span. -/
@[irreducible] def body_same (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : ¬ k0_cond1 i = 1#1) (h2 : k0_cond2 i = 1#1) (h5 : k0_cond5 i = 1#1)
   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
   Σ' (C7 : BufTy.Contents (Elt F) arg7.view.ty) (C8 : BufTy.Contents (Elt F) arg8.view.ty) (C9 : BufTy.Contents (Elt F) arg9.view.ty), { C10 : BufTy.Contents (Elt F) arg10.view.ty // ∀ (E : Set ℕ),
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) 𝒱 (c : Thread nD τ) bd) E (cc0_attend (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} C7) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10))) } := by
  have h6 : ¬ Scalar.cmpi .ne (Scalar.extui (Scalar.cmpi .eq (BitVec.ofNat 32 (i 1).val) 1024#32) : BitVec 32) 0#32 = 1#1 := h1
  refine ⟨?_, ?_, ?_, ?_, fun E => ?run⟩
  case run =>
    sl_unfold [cc0_attend]
    iintro ⟨H2, H3, H4, H5, H6, H7, H8, H9, H10⟩
    sl_exec
    sl_step
    sl_close

set_option maxHeartbeats 64000000 in
/-- A point whose tile is the first to reach its span. -/
@[irreducible] def body_new (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : ¬ k0_cond1 i = 1#1) (h2 : k0_cond2 i = 1#1) (h5 : ¬ k0_cond5 i = 1#1)
   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
   Σ' (C7 : BufTy.Contents (Elt F) arg7.view.ty) (C8 : BufTy.Contents (Elt F) arg8.view.ty) (C9 : BufTy.Contents (Elt F) arg9.view.ty), { C10 : BufTy.Contents (Elt F) arg10.view.ty // ∀ (E : Set ℕ),
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) 𝒱 (c : Thread nD τ) bd) E (cc0_attend (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} C7) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10))) } := by
  have h6 : ¬ Scalar.cmpi .ne (Scalar.extui (Scalar.cmpi .eq (BitVec.ofNat 32 (i 1).val) 1024#32) : BitVec 32) 0#32 = 1#1 := h1
  refine ⟨?_, ?_, ?_, ?_, fun E => ?run⟩
  case run =>
    sl_unfold [cc0_attend]
    iintro ⟨H2, H3, H4, H5, H6, H7, H8, H9, H10⟩
    sl_exec
    sl_step
    sl_close

end Cert.AttendIdeal.Hand

end
-- ==== Proof.IdealBodyLast.lean ====
module

public import proofs.«01_k».proof.Proof.IdealSpans
public import proofs.«01_k».proof.Proof.Gen.AttendIdeal.Frame

@[expose] public section

set_option maxRecDepth 16384

noncomputable section

namespace Cert.AttendIdeal.Hand

open Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 64000000 in
/-- The point after the last tile: it only reads the last tile out. -/
@[irreducible] def body_last (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : k0_cond1 i = 1#1) (h2 : ¬ k0_cond2 i = 1#1)
   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
   Σ' (C7 : BufTy.Contents (Elt F) arg7.view.ty) (C8 : BufTy.Contents (Elt F) arg8.view.ty) (C9 : BufTy.Contents (Elt F) arg9.view.ty), { C10 : BufTy.Contents (Elt F) arg10.view.ty // ∀ (E : Set ℕ),
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) 𝒱 (c : Thread nD τ) bd) E (cc0_attend (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} C7) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10))) } := by
  have h6 : Scalar.cmpi .ne (Scalar.extui (Scalar.cmpi .eq (BitVec.ofNat 32 (i 1).val) 1024#32) : BitVec 32) 0#32 = 1#1 := h1
  refine ⟨?_, ?_, ?_, ?_, fun E => ?run⟩
  case run =>
    sl_unfold [cc0_attend]
    iintro ⟨H2, H3, H4, H5, H6, H7, H8, H9, H10⟩
    sl_exec
    sl_step
    sl_close

end Cert.AttendIdeal.Hand

end
-- ==== Proof.IdealRun.lean ====
module

public import proofs.«01_k».proof.Proof.IdealBodyTile
public import proofs.«01_k».proof.Proof.IdealBodyLast
public import Idealize.ShloMosaic.Lib.Pipeline.DatRel
public import Idealize.ShloMosaic.Lib.Pipeline.ArrRel
public import proofs.«01_k».proof.Proof.Gen.AttendIdeal.Frame

@[expose] public section

set_option maxRecDepth 16384

noncomputable section

namespace Cert.AttendIdeal.Hand

open Cert.AttendIdeal.Gen
open Idealize.ShloMosaic Idealize.ShloMosaic.TcCoe Idealize.ShloMosaic.Tactic
open Idealize.ShloMosaic.Pipeline (Dat RDat Cfg Window BodyObligation cellOf)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem cond_all : ∀ n : Fin 1025,
    (¬ Scalar.cmpi .ne (Scalar.extui (Scalar.cmpi .eq (BitVec.ofNat 32 n.val) 1024#32) : BitVec 32) 0#32 = 1#1 →
      Scalar.cmpi .ne (Scalar.extui (Scalar.cmpi .slt (BitVec.ofNat 32 n.val) 1024#32) : BitVec 32) 0#32 = 1#1)
    ∧ (Scalar.cmpi .ne (Scalar.extui (Scalar.cmpi .eq (BitVec.ofNat 32 n.val) 1024#32) : BitVec 32) 0#32 = 1#1 →
      ¬ Scalar.cmpi .ne (Scalar.extui (Scalar.cmpi .slt (BitVec.ofNat 32 n.val) 1024#32) : BitVec 32) 0#32 = 1#1) := by
  decide +kernel

/-- A point either reads the last tile out or starts a tile. -/
theorem cond_cases : ∀ i : grid0.Coords, (¬ k0_cond1 i = 1#1 → k0_cond2 i = 1#1) ∧ (k0_cond1 i = 1#1 → ¬ k0_cond2 i = 1#1) := by
  have key : ∀ n : Fin 1025, ∀ m : Fin 2, ∀ i : grid0.Coords, (i 0 = m) → (i 1 = n) →
      (¬ k0_cond1 i = 1#1 → k0_cond2 i = 1#1) ∧ (k0_cond1 i = 1#1 → ¬ k0_cond2 i = 1#1) := by
    intro n m i _ h1
    unfold k0_cond1 k0_cond2
    rw [h1]
    exact cond_all n
  exact fun i => key (i 1) (i 0) i rfl rfl

/-- What the body leaves: the output block, the exponents, the sum and the rows of per-query numbers. -/
structure After (F : FTy → Type) [FloatOps F] (arg7 : Memref sig .tc .vmem S1x32x1024 .bf16) (arg8 : Memref sig .tc .vmem S32768x256 .f32)
    (arg9 : Memref sig .tc .vmem S128x256 .f32) (arg10 : Memref sig .tc .vmem S8x256 .f32) where
  c7 : BufTy.Contents (Elt F) arg7.view.ty
  c8 : BufTy.Contents (Elt F) arg8.view.ty
  c9 : BufTy.Contents (Elt F) arg9.view.ty
  c10 : BufTy.Contents (Elt F) arg10.view.ty

/-- What the body leaves from what it finds. -/
def after (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole)
   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) : After F arg7 arg8 arg9 arg10 :=
  if h1 : k0_cond1 i = 1#1 then
    let r := body_last 𝒱 c bd i arg2 harg2 arg3 harg3 arg4 harg4 arg5 harg5 arg6 harg6 arg7 harg7 arg8 harg8 arg9 harg9 arg10 harg10 h1 ((cond_cases i).2 h1) X2 X3 X4 X5 X6 f7 f8 f9 f10
    ⟨r.1, r.2.1, r.2.2.1, r.2.2.2.1⟩
  else if h5 : k0_cond5 i = 1#1 then
    let r := body_same 𝒱 c bd i arg2 harg2 arg3 harg3 arg4 harg4 arg5 harg5 arg6 harg6 arg7 harg7 arg8 harg8 arg9 harg9 arg10 harg10 h1 ((cond_cases i).1 h1) h5 X2 X3 X4 X5 X6 f7 f8 f9 f10
    ⟨r.1, r.2.1, r.2.2.1, r.2.2.2.1⟩
  else
    let r := body_new 𝒱 c bd i arg2 harg2 arg3 harg3 arg4 harg4 arg5 harg5 arg6 harg6 arg7 harg7 arg8 harg8 arg9 harg9 arg10 harg10 h1 ((cond_cases i).1 h1) h5 X2 X3 X4 X5 X6 f7 f8 f9 f10
    ⟨r.1, r.2.1, r.2.2.1, r.2.2.2.1⟩

/-- The body runs, from any contents to those. -/
theorem body_run (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole)
   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) 𝒱 (c : Thread nD τ) bd) E (cc0_attend (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (after 𝒱 c bd i arg2 harg2 arg3 harg3 arg4 harg4 arg5 harg5 arg6 harg6 arg7 harg7 arg8 harg8 arg9 harg9 arg10 harg10 X2 X3 X4 X5 X6 f7 f8 f9 f10).c7) ∗ (arg8.view.loc (c : Thread nD τ) ↦[arg8.view.set]{fullShare} (after 𝒱 c bd i arg2 harg2 arg3 harg3 arg4 harg4 arg5 harg5 arg6 harg6 arg7 harg7 arg8 harg8 arg9 harg9 arg10 harg10 X2 X3 X4 X5 X6 f7 f8 f9 f10).c8) ∗ (arg9.view.loc (c : Thread nD τ) ↦[arg9.view.set]{fullShare} (after 𝒱 c bd i arg2 harg2 arg3 harg3 arg4 harg4 arg5 harg5 arg6 harg6 arg7 harg7 arg8 harg8 arg9 harg9 arg10 harg10 X2 X3 X4 X5 X6 f7 f8 f9 f10).c9) ∗ (arg10.view.loc (c : Thread nD τ) ↦[arg10.view.set]{fullShare} (after 𝒱 c bd i arg2 harg2 arg3 harg3 arg4 harg4 arg5 harg5 arg6 harg6 arg7 harg7 arg8 harg8 arg9 harg9 arg10 harg10 X2 X3 X4 X5 X6 f7 f8 f9 f10).c10))) := by
  unfold after
  split
  · exact (body_last 𝒱 c bd i arg2 harg2 arg3 harg3 arg4 harg4 arg5 harg5 arg6 harg6 arg7 harg7 arg8 harg8 arg9 harg9 arg10 harg10 ‹_› ((cond_cases i).2 ‹_›) X2 X3 X4 X5 X6 f7 f8 f9 f10).2.2.2.2 E
  · split
    · exact (body_same 𝒱 c bd i arg2 harg2 arg3 harg3 arg4 harg4 arg5 harg5 arg6 harg6 arg7 harg7 arg8 harg8 arg9 harg9 arg10 harg10 ‹_› ((cond_cases i).1 ‹_›) ‹_› X2 X3 X4 X5 X6 f7 f8 f9 f10).2.2.2.2 E
    · exact (body_new 𝒱 c bd i arg2 harg2 arg3 harg3 arg4 harg4 arg5 harg5 arg6 harg6 arg7 harg7 arg8 harg8 arg9 harg9 arg10 harg10 ‹_› ((cond_cases i).1 ‹_›) ‹_› X2 X3 X4 X5 X6 f7 f8 f9 f10).2.2.2.2 E

/-! ## The launch, for any relation the body keeps -/

variable (m : (ℓ : Loc nD τ sig) → Buf (Elt F) ℓ) (ρ : Dev nD → PrngReg)

/-- The contents of the exponents' scratch and of the scratch of rows. -/
abbrev C8 (F : FTy → Type) [FloatOps F] := BufTy.Contents (Elt F) (Memref.whole cc0_scratch0).view.ty
abbrev C9 (F : FTy → Type) [FloatOps F] := BufTy.Contents (Elt F) (Memref.whole cc0_scratch1).view.ty
abbrev C10 (F : FTy → Type) [FloatOps F] := BufTy.Contents (Elt F) (Memref.whole cc0_scratch2).view.ty

variable (Inv : Dev nD → ℕ → C8 F → C10 F → Prop) (Out : Dev nD → Fin cfg0.N → Vec F S1x32x1024 .bf16 → Prop)

/-- The body at point `t` keeps `Inv` and leaves a block that meets `Out`. -/
def Keeps : Prop := ∀ (c : Dev nD) (t : Fin cfg0.N) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : C8 F) (f9 : C9 F) (f10 : C10 F),
    arg2.view.read (Elt F) X2 = iblk m c 0 t → arg3.view.read (Elt F) X3 = iblk m c 1 t → arg4.view.read (Elt F) X4 = iblk m c 2 t →
    arg5.view.read (Elt F) X5 = iblk m c 3 t → arg6.view.read (Elt F) X6 = iblk m c 4 t → Inv c t.val f8 f10 →
    Inv c (t.val + 1)
      (after Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) X2 X3 X4 X5 X6 f7 f8 f9 f10).c8
      (after Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) X2 X3 X4 X5 X6 f7 f8 f9 f10).c10
    ∧ Out c t (arg7.view.read (Elt F) (after Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) X2 X3 X4 X5 X6 f7 f8 f9 f10).c7)

/-- The proof data: the arrays as launched, each input's block as fetched; between points the scratch at contents
   that meet `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
  Φ t := iprop((∃ (f8 : C8 F) (f9 : C9 F) (f10 : C10 F), ⌜Inv c t.val f8 f10⌝
      ∗ ((c : Thread nD τ).loc cc0_scratch0 ↦{fullShare} f8) ∗ ((c : Thread nD τ).loc cc0_scratch1 ↦{fullShare} f9)
      ∗ ((c : Thread nD τ).loc cc0_scratch2 ↦{fullShare} f10)) ∗ ∃ r, prngReg c r)
  q _ := fullShare
  owed _ := 0

theorem A_eq (c : Dev nD) (w : Fin cfg0.W) : (dats m Inv 0 c).A w = V m c (Pipeline.arrRef spec0 w) := by
  dsimp only [dats]
theorem after0_0 (c : Dev nD) (t : Fin cfg0.N) : (dats m Inv 0 c).after 0 t = iblk m c 0 t := by dsimp only [dats]
theorem after0_1 (c : Dev nD) (t : Fin cfg0.N) : (dats m Inv 0 c).after 1 t = iblk m c 1 t := by dsimp only [dats]
theorem after0_2 (c : Dev nD) (t : Fin cfg0.N) : (dats m Inv 0 c).after 2 t = iblk m c 2 t := by dsimp only [dats]
theorem after0_3 (c : Dev nD) (t : Fin cfg0.N) : (dats m Inv 0 c).after 3 t = iblk m c 3 t := by dsimp only [dats]
theorem after0_4 (c : Dev nD) (t : Fin cfg0.N) : (dats m Inv 0 c).after 4 t = iblk m c 4 t := by dsimp only [dats]
theorem before0_0 (c : Dev nD) (t : Fin cfg0.N) (d) : (dats m Inv 0 c).before 0 t d = iblk m c 0 t :=
  before0_0_of m (dats m Inv 0 c) (A_eq m Inv c 0) (after0_0 m Inv c) t d
theorem before0_1 (c : Dev nD) (t : Fin cfg0.N) (d) : (dats m Inv 0 c).before 1 t d = iblk m c 1 t :=
  before0_1_of m (dats m Inv 0 c) (A_eq m Inv c 1) (after0_1 m Inv c) t d
theorem before0_2 (c : Dev nD) (t : Fin cfg0.N) (d) : (dats m Inv 0 c).before 2 t d = iblk m c 2 t :=
  before0_2_of m (dats m Inv 0 c) (A_eq m Inv c 2) (after0_2 m Inv c) t d
theorem before0_3 (c : Dev nD) (t : Fin cfg0.N) (d) : (dats m Inv 0 c).before 3 t d = iblk m c 3 t :=
  before0_3_of m (dats m Inv 0 c) (A_eq m Inv c 3) (after0_3 m Inv c) t d
theorem before0_4 (c : Dev nD) (t : Fin cfg0.N) (d) : (dats m Inv 0 c).before 4 t d = iblk m c 4 t :=
  before0_4_of m (dats m Inv 0 c) (A_eq m Inv c 4) (after0_4 m Inv c) t d

/-- Only the output window is held to a relation. -/
def marked : Fin cfg0.W → Bool := fun w => decide (w = 5)

/-- The relation of the output window. -/
def Rl (c : Dev nD) : (w : Fin cfg0.W) → Fin cfg0.N → ((cfg0.win w).block.Idx → Elt F (cfg0.win w).elt) → Prop
  | ⟨5, _⟩ => fun t X => Out c t X
  | _ => fun _ _ => True

theorem Rl_5 (c : Dev nD) (t : Fin cfg0.N) (X) : Rl Out c 5 t X = Out c t X := by unfold Rl; rfl

def bodyPre (c : Dev nD) (t : Fin cfg0.N) : sProp 𝕄 :=
  iprop((dats m Inv 0 c).Φ t.castSucc ∗ (dats m Inv 0 c).owesAt () t.castSucc
    ∗ (∃ d, owns (c : Thread nD τ) (st0_0 t) fullShare ((dats m Inv 0 c).before 0 t d)) ∗ (∃ d, owns (c : Thread nD τ) (st0_1 t) fullShare ((dats m Inv 0 c).before 1 t d)) ∗ (∃ d, owns (c : Thread nD τ) (st0_2 t) fullShare ((dats m Inv 0 c).before 2 t d)) ∗ (∃ d, owns (c : Thread nD τ) (st0_3 t) fullShare ((dats m Inv 0 c).before 3 t d)) ∗ (∃ d, owns (c : Thread nD τ) (st0_4 t) fullShare ((dats m Inv 0 c).before 4 t d))
    ∗ (∃ Y, ⌜((dats m Inv 0 c).toRRel marked (Rl Out c)).Finds 5 t Y⌝ ∗ owns (c : Thread nD τ) (st0_5 t) fullShare Y))

def bodyPost (c : Dev nD) (t : Fin cfg0.N) : sProp 𝕄 :=
  iprop((dats m Inv 0 c).Φ t.succ ∗ (dats m Inv 0 c).owesAt () t.succ
    ∗ owns (c : Thread nD τ) (st0_0 t) fullShare ((dats m Inv 0 c).after 0 t) ∗ owns (c : Thread nD τ) (st0_1 t) fullShare ((dats m Inv 0 c).after 1 t) ∗ owns (c : Thread nD τ) (st0_2 t) fullShare ((dats m Inv 0 c).after 2 t) ∗ owns (c : Thread nD τ) (st0_3 t) fullShare ((dats m Inv 0 c).after 3 t) ∗ owns (c : Thread nD τ) (st0_4 t) fullShare ((dats m Inv 0 c).after 4 t)
    ∗ (∃ X, ⌜Rl Out c 5 t X⌝ ∗ owns (c : Thread nD τ) (st0_5 t) fullShare X))

set_option maxHeartbeats 4000000 in
theorem sound_body (hk : Keeps m Inv Out) (c : Dev nD) (t : Fin cfg0.N) :
    bodyPre m Inv Out c t ⊢ wp frame (wpE (defs₀ (F := F)) Variants.none c none) Set.univ (bodyAt0 t) (fun _ => bodyPost m Inv Out c t) := by
  unfold bodyPre bodyPost bodyAt0
  simp only [before0_0, before0_1, before0_2, before0_3, before0_4, after0_0, after0_1, after0_2, after0_3, after0_4, Rl_5]
  rw [show (dats m Inv 0 c).owesAt () t.succ = (dats m Inv 0 c).owesAt () t.castSucc from rfl]
  dsimp only [dats]
  unfold owns
  iintro ⟨⟨⟨%f8, %f9, %f10, %hI, S8, S9, S10⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%Y, -, %f5, -, H5⟩⟩
  have hK := hk c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) f0 f1 f2 f3 f4 f5 f8 f9 f10 hf0 hf1 hf2 hf3 hf4 hI
  have hR := body_run Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) f0 f1 f2 f3 f4 f5 f8 f9 f10 Set.univ
  simp only [View.set_whole] at hR
  iapply (wp_wand_r Idealize.ShloMosaic.frame (wpE (defs₀ (F := F)) Variants.none (c : Thread nD τ) none) Set.univ)
  isplitl [S8 S9 S10 H0 H1 H2 H3 H4 H5]
  · iapply hR
    isplitl [H0]; · iexact H0
    isplitl [H1]; · iexact H1
    isplitl [H2]; · iexact H2
    isplitl [H3]; · iexact H3
    isplitl [H4]; · iexact H4
    isplitl [H5]; · iexact H5
    isplitl [S8]; · iexact S8
    isplitl [S9]; · iexact S9
    iexact S10
  · iintro %u ⟨H0, H1, H2, H3, H4, H5, S8, S9, S10⟩
    isplitl [S8 S9 S10 Hr]
    · isplitr [Hr]
      · iexists _; iexists _; iexists _
        isplitr [S8 S9 S10]
        · ipureintro; exact hK.1
        isplitl [S8]; · iexact S8
        isplitl [S9]; · iexact S9
        iexact S10
      · iexact Hr
    isplitl [Ho]; · iexact Ho
    isplitl [H0]; · iexists f0; isplitr; · ipureintro; exact hf0
                    iexact H0
    isplitl [H1]; · iexists f1; isplitr; · ipureintro; exact hf1
                    iexact H1
    isplitl [H2]; · iexists f2; isplitr; · ipureintro; exact hf2
                    iexact H2
    isplitl [H3]; · iexists f3; isplitr; · ipureintro; exact hf3
                    iexact H3
    isplitl [H4]; · iexists f4; isplitr; · ipureintro; exact hf4
                    iexact H4
    iexists _; isplitr [H5]
    · ipureintro; exact hK.2
    iexists _; isplitr; · ipureintro; rfl
    iexact H5

theorem defs₀_row (t : Fin cfg0.N) :
    defs₀ (F := F) .tc cfg0.body (cfg0.bodyArgs t (cfg0.slots t)) = bodyAt0 t := by
  unfold defs₀; rw [Defs.onTc_tc]

theorem body_obligation (hk : Keeps m Inv Out) (c : Dev nD) :
    Pipeline.BodyObligationRel (dats m Inv 0 c) (defs₀ (F := F)) Variants.none () Set.univ marked (Rl Out c) := fun t => by
  rw [bigSep_W0, bigSep_W0, defs₀_row]
  exact triple_restated (sound_body m Inv Out hk c t) rfl .rfl fun _ => .rfl

/-- What the output array ends at: its blocks from contents that meet `Out`. -/
abbrev rdat (c : Dev nD) : RDat τ (Elt F) Unit ℕ (UR sig nD τ) ℕ cfg0 c := (dats m Inv 0 c).toRRel marked (Rl Out c)

set_option backward.isDefEq.respectTransparency.types false in
set_option maxHeartbeats 4000000 in
/-- The launch: it ends, the counters are back at zero and the arrays are at what the relation says. -/
theorem run_main (hk : Keeps m Inv Out) (h0 : ∀ c f8 f10, Inv c 0 f8 f10) :
    θ_run defs (onTc (τ := τ) (main (F := F))) (s₀ m ρ)
      (fun r => Pipeline.RDat.FramePost cfg0 (fun c => rdat m Inv Out c) (V m) r ∧ r.2.sem = fun _ => 0) :=
  Pipeline.RDat.θ_run_frame_track (Q' := _) cfgs (0 : Fin 1) launch0 defs₀ Variants.none (fun c => rdat m Inv Out c) m ρ main
    (hbody := fun c => (body_obligation m Inv Out hk c).toRRel) (hshare := fun c => (dats m Inv 0 c).share_full fun _ => rfl)
    (howed := fun _ _ => rfl) (V := V m) (hmain := hmain m Variants.none) (hA := A_eq m Inv)
    (hin := fun c => by
      show _ ⊢ (dats m Inv 0 c).Φ 0
      dsimp only [dats]
      unfold Pipeline.ΦA
      rw [scopedRest0_eq]
      iintro ⟨⟨⟨%f8, H8⟩, ⟨%f9, H9⟩, ⟨%f10, H10⟩⟩, Hr⟩
      isplitr [Hr]
      · iexists f8; iexists f9; iexists f10
        isplitr [H8 H9 H10]; · ipureintro; exact h0 c f8 f10
        isplitl [H8]; · iexact H8
        isplitl [H9]; · iexact H9
        iexact H10
      · iexact Hr)
    (hout := fun c => by
      show (dats m Inv 0 c).Φ (Fin.last _) ⊢ _
      dsimp only [dats]
      unfold Pipeline.ΦA
      rw [scopedRest0_eq]
      iintro ⟨⟨%f8, %f9, %f10, -, H8, H9, H10⟩, Hr⟩
      isplitr [Hr]
      · isplitl [H8]; · iexists f8; iexact H8
        isplitl [H9]; · iexists f9; iexact H9
        iexists f10; iexact H10
      · iexact Hr)

/-- The frame: the kernel ends, its arguments are unchanged and every counter is back at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨h.1.arr_in c 0 rfl, h.1.arr_in c 1 rfl, h.1.arr_in c 2 rfl, h.1.arr_in c 3 rfl, h.1.arr_in c 4 rfl⟩, h.2⟩)
    (run_main m ρ (fun _ _ _ _ => True) (fun _ _ _ => True)
      (by unfold Keeps; intros; exact ⟨trivial, trivial⟩) (fun _ _ _ => trivial))

end Cert.AttendIdeal.Hand

end
-- ==== Proof.Fold.lean ====
module

public import proofs.«01_k».proof.Proof.IdealRun
public import proofs.«01_k».proof.Proof.Gen.AttendIdeal.Frame
public import Idealize.ShloMosaic.Lib.Pointwise
public import Idealize.ShloMosaic.Lib.WritesUnit

@[expose] public section

set_option maxRecDepth 16384

noncomputable section

namespace Cert.AttendIdeal.Hand

open Cert.AttendIdeal.Gen
open Idealize.ShloMosaic Idealize.ShloMosaic.TcCoe Idealize.ShloMosaic.Tactic
open Idealize.ShloMosaic.Pipeline (Dat RDat Cfg Window BodyObligation cellOf)
open Idealize.ShloMosaic.Rounds
open Idealize.SL Idealize.SL.RA Idealize.SL.BI
open scoped Idealize.SL.BI
open Idealize.SL.BI.BIBase Idealize.SL.BI.Laws Idealize.SL.ProofMode Idealize.SL.Sem

/-! # Folding rows of keys, and writing them in slabs of eight -/

section Tree
variable {α : Type}

/-- A balanced tree of `2 ^ n` values of `f`, the first being `f o`. -/
def tree (op : α → α → α) : ℕ → ℕ → (ℕ → α) → α
  | 0, o, f => f o
  | n + 1, o, f => op (tree op n o f) (tree op n (o + 2 ^ n) f)

theorem tree_max_le (n : ℕ) : ∀ (o : ℕ) (f : ℕ → EReal) (z : EReal),
    tree max n o f ≤ z ↔ ∀ r < 2 ^ n, f (o + r) ≤ z := by
  induction n with
  | zero => intro o f z; simp [tree]
  | succ n ih =>
    intro o f z
    rw [tree, max_le_iff, ih, ih]
    constructor
    · rintro ⟨h1, h2⟩ r hr
      by_cases h : r < 2 ^ n
      · exact h1 r h
      · have := h2 (r - 2 ^ n) (by rw [pow_succ] at hr; omega)
        rwa [show o + 2 ^ n + (r - 2 ^ n) = o + r by omega] at this
    · intro h
      refine ⟨fun r hr => h r (by rw [pow_succ]; omega), fun r hr => ?_⟩
      rw [add_assoc]
      exact h _ (by rw [pow_succ]; omega)

theorem tree_add (n : ℕ) : ∀ (o : ℕ) (f : ℕ → EReal),
    tree (· + ·) n o f = ∑ r ∈ Finset.range (2 ^ n), f (o + r) := by
  induction n with
  | zero => intro o f; simp [tree]
  | succ n ih =>
    intro o f
    rw [tree, ih, ih, pow_succ, mul_two, Finset.sum_range_add]
    simp only [add_assoc]

end Tree

theorem slab_slices (r : ℕ) (h : r < 128) : S1024x256.Slices ![8 * r, 0] S8x256 :=
  ⟨rfl, by intro a; fin_cases a <;> simp [Shape.size] <;> omega⟩

/-- Rows `8 r` to `8 r + 8` of a span. -/
def slab (C : FVec Ideal S1024x256 .f32) (x : S8x256.Idx) (r : ℕ) : EReal :=
  if h : r < 128 then extractStridedSlice S8x256 ![8 * r, 0] C (slab_slices r h) x else 0

/-- The slabs of a span folded into an accumulator. -/
def foldV (op : EReal → EReal → EReal) (acc : FVec Ideal S8x256 .f32) (C : FVec Ideal S1024x256 .f32) :
    FVec Ideal S8x256 .f32 :=
  fun x => op (acc x) (tree op 7 0 (slab C x))

theorem slab_apply (C : FVec Ideal S1024x256 .f32) (x : S8x256.Idx) (r : ℕ) (h : r < 128) :
    slab C x r = C (ix2 ⟨8 * r + (x 0).val, by have : (x 0).val < 8 := (x 0).isLt; omega⟩ (x 1)) := by
  rw [slab, dif_pos h]
  exact congrArg C (by
    funext a; fin_cases a <;> exact Fin.ext (by simp))

theorem foldV_max_le (acc : FVec Ideal S8x256 .f32) (C : FVec Ideal S1024x256 .f32) (x : S8x256.Idx) (z : EReal) :
    foldV max acc C x ≤ z ↔ acc x ≤ z ∧ ∀ r (h : r < 128), C (ix2 ⟨8 * r + (x 0).val, by have : (x 0).val < 8 := (x 0).isLt; omega⟩ (x 1)) ≤ z := by
  rw [foldV, max_le_iff, tree_max_le]
  refine and_congr_right fun _ => forall_congr' fun r => ?_
  simp only [Nat.reducePow, Nat.zero_add]
  exact forall_congr' fun h => by rw [slab_apply C x r h]

theorem foldV_add (acc : FVec Ideal S8x256 .f32) (C : FVec Ideal S1024x256 .f32) (x : S8x256.Idx) :
    foldV (· + ·) acc C x = acc x + ∑ r : Fin 128, C (ix2 ⟨8 * r.val + (x 0).val, by have : (x 0).val < 8 := (x 0).isLt; omega⟩ (x 1)) := by
  rw [foldV, tree_add, Finset.sum_range]
  congr 1
  refine Finset.sum_congr rfl fun r _ => ?_
  rw [Nat.zero_add, slab_apply C x r.val r.isLt]

/-- Rows `8 r` to `8 r + 8` of the scores, each times its key's scale. -/
def rowPay (S : FVec Ideal S1024x256 .f32) (KS : FVec Ideal S8x128 .f32) (r : Fin 128) : FVec Ideal S8x256 .f32 :=
  mulf (extractStridedSlice S8x256 ![8 * r.val, 0] S (slab_slices r.val r.isLt))
    (broadcastTo S8x256 (extractStridedSlice S8x1 ![0, r.val] KS
      ⟨rfl, by intro a; fin_cases a <;> simp [Shape.size] <;> omega⟩) broadcasts_S8x1_S8x256)

/-- The same rows with the keys ahead of the query at the bottom of the order. -/
def rowPayD (A : IVec S8x256 32) (S : FVec Ideal S1024x256 .f32) (KS : FVec Ideal S8x128 .f32) (r : Fin 128) : FVec Ideal S8x256 .f32 :=
  select (cmpi .sge A (broadcast S8x256 (BitVec.ofNat 32 (8 * r.val)))) (rowPay S KS r)
    (broadcast S8x256 (Scalar.ofBits (F := Ideal) .f32 0xFF800000#32))

theorem rowPay_apply (S : FVec Ideal S1024x256 .f32) (KS : FVec Ideal S8x128 .f32) (r : Fin 128) (x : S8x256.Idx) :
    rowPay S KS r x = S (ix2 ⟨8 * r.val + (x 0).val, by have : (x 0).val < 8 := (x 0).isLt; omega⟩ (x 1)) * KS (ix2 (x 0) r) := by
  show S _ * KS _ = _
  congr 1
  · exact congrArg S (by funext a; fin_cases a <;> exact Fin.ext (by simp))
  · exact congrArg KS (by funext a; fin_cases a <;> exact Fin.ext (by simp))

theorem rows_cat : Shape.Concatenates ((List.ofFn fun n : Fin 128 => (⟨S8x256, fun _ => (0 : EReal)⟩ : (s : Shape) × (s.Idx → EReal))).map (·.1)) S1024x256 0 := by
  have e : ((List.ofFn fun n : Fin 128 => (⟨S8x256, fun _ => (0 : EReal)⟩ : (s : Shape) × (s.Idx → EReal))).map (·.1)) = List.replicate 128 S8x256 := by
    rw [List.map_ofFn]
    exact List.ofFn_const 128 S8x256
  rw [e]
  exact of_decide_eq_true (by decide +kernel)

/-- The slabs `f 0, f 1, …` one below another. -/
def stack (f : Fin 128 → FVec Ideal S8x256 .f32) : FVec Ideal S1024x256 .f32 :=
  concatenate S1024x256 0 (List.ofFn fun n : Fin 128 => (⟨S8x256, f n⟩ : (s : Shape) × (s.Idx → EReal))) rows_cat

theorem stack_apply (f : Fin 128 → FVec Ideal S8x256 .f32) (r : ℕ) (hr : r < 128) (x : S8x256.Idx) :
    stack f (ix2 ⟨8 * r + (x 0).val, by have : (x 0).val < 8 := (x 0).isLt; omega⟩ (x 1)) = f ⟨r, hr⟩ x := by
  have hx : (x 0).val < 8 := (x 0).isLt
  refine concatenate_ofFn_apply 0 f rows_cat rfl 8 rfl _ ⟨r, hr⟩ ?_ x ?_ ?_
  · show (8 * r + (x 0).val) / 8 = r
    omega
  · show (x 0).val = (8 * r + (x 0).val) % 8
    omega
  · intro b hb
    fin_cases b
    · exact absurd rfl hb
    · rfl

section Filled
variable {v : View sig .tc .vmem S32768x256 .f32}

/-- After the writes `L`, rows `[b, b + 8 n)` hold `G` and the others what they held. -/
def Filled (v : View sig .tc .vmem S32768x256 .f32) (f : v.ty.Contents (Elt Ideal)) (L : List (View.Piece (Elt Ideal) S32768x256 .f32))
    (b n : ℕ) (G : ℕ → Fin 256 → EReal) : Prop :=
  ∀ y : S32768x256.Idx, v.read (Elt Ideal) (v.writes (Elt Ideal) f L) y
    = if b ≤ (y 0).val ∧ (y 0).val < b + 8 * n then G (y 0).val (y 1) else v.read (Elt Ideal) f y

theorem Filled.nil (f : v.ty.Contents (Elt Ideal)) (b : ℕ) (G : ℕ → Fin 256 → EReal) : Filled v f [] b 0 G := by
  intro y
  rw [if_neg (by omega)]
  rfl

theorem Filled.cons {f : v.ty.Contents (Elt Ideal)} {L : List (View.Piece (Elt Ideal) S32768x256 .f32)} {b n : ℕ} {G : ℕ → Fin 256 → EReal}
    (h : Filled v f L b n G) {off : Fin 2 → ℕ} (inb : ∀ a : Fin 2, off a + (![8, 256] : Fin 2 → ℕ) a ≤ S32768x256.size a)
    (w : S8x256.Idx → EReal) (hoff : off = ![b + 8 * n, 0])
    (hw : ∀ x : S8x256.Idx, w x = G (b + 8 * n + (x 0).val) (x 1)) :
    Filled v f ((⟨Rect.unit (s := S32768x256) off ![8, 256] inb, w⟩ : View.Piece (Elt Ideal) S32768x256 .f32) :: L) b (n + 1) G := by
  intro y
  by_cases hy : b + 8 * n ≤ (y 0).val ∧ (y 0).val < b + 8 * n + 8
  · rw [if_pos ⟨by omega, by omega⟩]
    have e := View.read_writes_cons_rows_of_mem v f inb w L y (o := b + 8 * n)
      (ix2 (⟨(y 0).val - (b + 8 * n), by omega⟩ : Fin 8) (y 1) : S8x256.Idx) hoff
      (by show _ = b + 8 * n + ((y 0).val - (b + 8 * n)); omega) rfl
    refine e.trans ((hw _).trans ?_)
    show G (b + 8 * n + ((y 0).val - (b + 8 * n))) (y 1) = _
    rw [show b + 8 * n + ((y 0).val - (b + 8 * n)) = (y 0).val by omega]
  · have e := View.read_writes_cons_rows_of_not_mem v f inb w L y (o := b + 8 * n) (W := 8) hoff rfl (by omega)
    refine e.trans ((h y).trans ?_)
    by_cases hz : b ≤ (y 0).val ∧ (y 0).val < b + 8 * n
    · rw [if_pos hz, if_pos ⟨by omega, by omega⟩]
    · rw [if_neg hz, if_neg (by omega)]

theorem Filled.slab {f : v.ty.Contents (Elt Ideal)} {L : List (View.Piece (Elt Ideal) S32768x256 .f32)} {b n : ℕ} {G : ℕ → Fin 256 → EReal}
    (h : Filled v f L b n G) {off : Fin 2 → ℕ} (inb : ∀ a : Fin 2, off a + (![8, 256] : Fin 2 → ℕ) a ≤ S32768x256.size a)
    (w : S8x256.Idx → EReal) (w' : FVec Ideal S8x256 .f32) (hoff : off = ![b + 8 * n, 0]) (hc : w = shapeCast S8x256 w' shapeCasts_S8x256_S8x256)
    (hw : ∀ x : S8x256.Idx, w' x = G (b + 8 * n + (x 0).val) (x 1)) :
    Filled v f ((⟨Rect.unit (s := S32768x256) off ![8, 256] inb, w⟩ : View.Piece (Elt Ideal) S32768x256 .f32) :: L) b (n + 1) G :=
  h.cons inb w hoff fun x => (congrFun (hc.trans (shapeCast_self w' _)) x).trans (hw x)

end Filled

end Cert.AttendIdeal.Hand

end
-- ==== Proof.Scores.lean ====
module

public import proofs.«01_k».proof.Proof.IdealRun
public import proofs.«01_k».proof.Proof.Gen.AttendIdeal.Frame
public import proofs.«01_k».proof.Proof.Fold
public import Idealize.ShloMosaic.Lib.Pointwise
public import Idealize.ShloMosaic.Lib.WritesUnit

@[expose] public section

set_option maxRecDepth 16384

noncomputable section

namespace Cert.AttendIdeal.Hand

open Cert.AttendIdeal.Gen
open Idealize.ShloMosaic Idealize.ShloMosaic.TcCoe Idealize.ShloMosaic.Tactic
open Idealize.ShloMosaic.Pipeline (Dat RDat Cfg Window BodyObligation cellOf)
open Idealize.ShloMosaic.Rounds
open Idealize.SL Idealize.SL.RA Idealize.SL.BI
open scoped Idealize.SL.BI
open Idealize.SL.BI.BIBase Idealize.SL.BI.Laws Idealize.SL.ProofMode Idealize.SL.Sem

/-! # The scores of a span -/

theorem readAt_off {s : Shape} {e : EltTy} (v : View sig .tc .vmem s e) {off off' size : Fin s.rank → ℕ} (inb : ∀ a, off a + size a ≤ s.size a)
    (f : v.ty.Contents (Elt Ideal)) (x : (Rect.unit off size inb).shape.Idx) (y : s.Idx) (ho : off = off')
    (h : ∀ a, (y a).val = off' a + (x a).val) :
    v.readAt (Elt Ideal) (Rect.unit off size inb).toLoadRect f x = v.read (Elt Ideal) f y := by
  subst ho
  refine congrArg (v.read (Elt Ideal) f) (funext fun a => Fin.ext ?_)
  show off a + 1 * (x a).val = (y a).val
  rw [h a, one_mul]

/-- A key's score at a query column, times the key's scale. -/
def Yf (K : Vec Ideal S1x32768x128 .fp8e4m3) (C : Vec Ideal S1x32x8x128 .f32) (Q : Vec Ideal S1x1x128x256 .fp8e4m3) (key : ℕ) (col : Fin 256) : EReal :=
  (∑ d : Fin 128, (K (ix3 0 (Fin.ofNat 32768 key) d) : EReal) * (Q (ix4 0 0 d col) : EReal))
    * (C (ix4 0 (Fin.ofNat 32 (key / 1024)) (Fin.ofNat 8 (key % 8)) (Fin.ofNat 128 (key % 1024 / 8))) : EReal)

theorem score_apply (K : Vec Ideal S1x1024x128 .fp8e4m3) (Q : Vec Ideal S1x1x128x256 .fp8e4m3) (j : S1024x256.Idx) :
    k0_pay9 K Q j = ∑ d : Fin 128, (K (ix3 0 (j 0) d) : EReal) * (Q (ix4 0 0 d (j 1)) : EReal) := by
  pointwise [k0_pay9]

theorem scale_apply (C : Vec Ideal S1x1x8x128 .f32) (j : S8x128.Idx) : k0_pay10 C j = C (ix4 0 0 (j 0) (j 1)) := by
  pointwise [k0_pay10]

theorem trip3_stack (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (k0_h2 : k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (k : Fin (k0_t3_loop i).trips) :
    trip3_read.sl.r_147 i arg2 arg3 arg5 k0_h2 X2 X3 X5 k = stack (rowPay (trip3_read.sl.r i arg2 arg5 k0_h2 X2 X5 k) (trip3_read.sl.r_1 i arg3 k0_h2 X3 k)) := rfl

set_option maxHeartbeats 0 in
theorem trip3_fold (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 v1 v4 : BitVec 32) (k0_h2 : k0_cond2 i = 1#1) (h3 : k0_cond3 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (k : Fin (k0_t3_loop i).trips) (acc : FVec Ideal S8x256 .f32) (f8 : BufTy.Contents (Elt Ideal) arg8.view.ty) (f9 : BufTy.Contents (Elt Ideal) arg9.view.ty) : (trip3_read 𝒱 c bd i arg2 harg2 arg3 harg3 arg4 harg4 arg5 harg5 arg6 harg6 arg7 harg7 arg8 harg8 arg9 harg9 arg10 harg10 arg1 v1 v4 k0_h2 h3 X2 X3 X4 X5 X10 k acc f8 f9).1 = foldV max acc (trip3_read.sl.r_147 i arg2 arg3 arg5 k0_h2 X2 X3 X5 k) := by
  unfold trip3_read
  dsimp only
  funext x
  rfl

set_option maxHeartbeats 0 in
theorem trip3_filled (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 v1 v4 : BitVec 32) (k0_h2 : k0_cond2 i = 1#1) (h3 : k0_cond3 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (k : Fin (k0_t3_loop i).trips) (acc : FVec Ideal S8x256 .f32) (f8 : BufTy.Contents (Elt Ideal) arg8.view.ty) (f9 : BufTy.Contents (Elt Ideal) arg9.view.ty) (G : ℕ → Fin 256 → EReal)
    (hG : ∀ (r : ℕ) (hr : r < 128) (x : S8x256.Idx), rowPay (trip3_read.sl.r i arg2 arg5 k0_h2 X2 X5 k) (trip3_read.sl.r_1 i arg3 k0_h2 X3 k) ⟨r, hr⟩ x = G (1024 * k.val + 8 * r + (x 0).val) (x 1)) :
    ∃ L, (trip3_read 𝒱 c bd i arg2 harg2 arg3 harg3 arg4 harg4 arg5 harg5 arg6 harg6 arg7 harg7 arg8 harg8 arg9 harg9 arg10 harg10 arg1 v1 v4 k0_h2 h3 X2 X3 X4 X5 X10 k acc f8 f9).2.1 = arg8.view.writes (Elt Ideal) f8 L ∧ Filled arg8.view f8 L (1024 * k.val) 128 G := by
  unfold trip3_read
  dsimp only
  refine ⟨_, rfl, ?_⟩
  refine Filled.slab ?_ _ _ (rowPay (trip3_read.sl.r i arg2 arg5 k0_h2 X2 X5 k) (trip3_read.sl.r_1 i arg3 k0_h2 X3 k) ⟨127, by decide⟩) (off9_eq i k 1016 (by decide)) rfl (hG 127 (by decide))
  refine Filled.slab ?_ _ _ (rowPay (trip3_read.sl.r i arg2 arg5 k0_h2 X2 X5 k) (trip3_read.sl.r_1 i arg3 k0_h2 X3 k) ⟨126, by decide⟩) (off9_eq i k 1008 (by decide)) rfl (hG 126 (by decide))
  refine Filled.slab ?_ _ _ (rowPay (trip3_read.sl.r i arg2 arg5 k0_h2 X2 X5 k) (trip3_read.sl.r_1 i arg3 k0_h2 X3 k) ⟨125, by decide⟩) (off9_eq i k 1000 (by decide)) rfl (hG 125 (by decide))
  refine Filled.slab ?_ _ _ (rowPay (trip3_read.sl.r i arg2 arg5 k0_h2 X2 X5 k) (trip3_read.sl.r_1 i arg3 k0_h2 X3 k) ⟨124, by decide⟩) (off9_eq i k 992 (by decide)) rfl (hG 124 (by decide))
  refine Filled.slab ?_ _ _ (rowPay (trip3_read.sl.r i arg2 arg5 k0_h2 X2 X5 k) (trip3_read.sl.r_1 i arg3 k0_h2 X3 k) ⟨123, by decide⟩) (off9_eq i k 984 (by decide)) rfl (hG 123 (by decide))
  refine Filled.slab ?_ _ _ (rowPay (trip3_read.sl.r i arg2 arg5 k0_h2 X2 X5 k) (trip3_read.sl.r_1 i arg3 k0_h2 X3 k) ⟨122, by decide⟩) (off9_eq i k 976 (by decide)) rfl (hG 122 (by decide))
  refine Filled.slab ?_ _ _ (rowPay (trip3_read.sl.r i arg2 arg5 k0_h2 X2 X5 k) (trip3_read.sl.r_1 i arg3 k0_h2 X3 k) ⟨121, by decide⟩) (off9_eq i k 968 (by decide)) rfl (hG 121 (by decide))
  refine Filled.slab ?_ _ _ (rowPay (trip3_read.sl.r i arg2 arg5 k0_h2 X2 X5 k) (trip3_read.sl.r_1 i arg3 k0_h2 X3 k) ⟨120, by decide⟩) (off9_eq i k 960 (by decide)) rfl (hG 120 (by decide))
  refine Filled.slab ?_ _ _ (rowPay (trip3_read.sl.r i arg2 arg5 k0_h2 X2 X5 k) (trip3_read.sl.r_1 i arg3 k0_h2 X3 k) ⟨119, by decide⟩) (off9_eq i k 952 (by decide)) rfl (hG 119 (by decide))
  refine Filled.slab ?_ _ _ (rowPay (trip3_read.sl.r i arg2 arg5 k0_h2 X2 X5 k) (trip3_read.sl.r_1 i arg3 k0_h2 X3 k) ⟨118, by decide⟩) (off9_eq i k 944 (by decide)) rfl (hG 118 (by decide))
  refine Filled.slab ?_ _ _ (rowPay (trip3_read.sl.r i arg2 arg5 k0_h2 X2 X5 k) (trip3_read.sl.r_1 i arg3 k0_h2 X3 k) ⟨117, by decide⟩) (off9_eq i k 936 (by decide)) rfl (hG 117 (by decide))
  refine Filled.slab ?_ _ _ (rowPay (trip3_read.sl.r i arg2 arg5 k0_h2 X2 X5 k) (trip3_read.sl.r_1 i arg3 k0_h2 X3 k) ⟨116, by decide⟩) (off9_eq i k 928 (by decide)) rfl (hG 116 (by decide))
  refine Filled.slab ?_ _ _ (rowPay (trip3_read.sl.r i arg2 arg5 k0_h2 X2 X5 k) (trip3_read.sl.r_1 i arg3 k0_h2 X3 k) ⟨115, by decide⟩) (off9_eq i k 920 (by decide)) rfl (hG 115 (by decide))
  refine Filled.slab ?_ _ _ (rowPay (trip3_read.sl.r i arg2 arg5 k0_h2 X2 X5 k) (trip3_read.sl.r_1 i arg3 k0_h2 X3 k) ⟨114, by decide⟩) (off9_eq i k 912 (by decide)) rfl (hG 114 (by decide))
  refine Filled.slab ?_ _ _ (rowPay (trip3_read.sl.r i arg2 arg5 k0_h2 X2 X5 k) (trip3_read.sl.r_1 i arg3 k0_h2 X3 k) ⟨113, by decide⟩) (off9_eq i k 904 (by decide)) rfl (hG 113 (by decide))
  refine Filled.slab ?_ _ _ (rowPay (trip3_read.sl.r i arg2 arg5 k0_h2 X2 X5 k) (trip3_read.sl.r_1 i arg3 k0_h2 X3 k) ⟨112, by decide⟩) (off9_eq i k 896 (by decide)) rfl (hG 112 (by decide))
  refine Filled.slab ?_ _ _ (rowPay (trip3_read.sl.r i arg2 arg5 k0_h2 X2 X5 k) (trip3_read.sl.r_1 i arg3 k0_h2 X3 k) ⟨111, by decide⟩) (off9_eq i k 888 (by decide)) rfl (hG 111 (by decide))
  refine Filled.slab ?_ _ _ (rowPay (trip3_read.sl.r i arg2 arg5 k0_h2 X2 X5 k) (trip3_read.sl.r_1 i arg3 k0_h2 X3 k) ⟨110, by decide⟩) (off9_eq i k 880 (by decide)) rfl (hG 110 (by decide))
  refine Filled.slab ?_ _ _ (rowPay (trip3_read.sl.r i arg2 arg5 k0_h2 X2 X5 k) (trip3_read.sl.r_1 i arg3 k0_h2 X3 k) ⟨109, by decide⟩) (off9_eq i k 872 (by decide)) rfl (hG 109 (by decide))
  refine Filled.slab ?_ _ _ (rowPay (trip3_read.sl.r i arg2 arg5 k0_h2 X2 X5 k) (trip3_read.sl.r_1 i arg3 k0_h2 X3 k) ⟨108, by decide⟩) (off9_eq i k 864 (by decide)) rfl (hG 108 (by decide))
  refine Filled.slab ?_ _ _ (rowPay (trip3_read.sl.r i arg2 arg5 k0_h2 X2 X5 k) (trip3_read.sl.r_1 i arg3 k0_h2 X3 k) ⟨107, by decide⟩) (off9_eq i k 856 (by decide)) rfl (hG 107 (by decide))
  refine Filled.slab ?_ _ _ (rowPay (trip3_read.sl.r i arg2 arg5 k0_h2 X2 X5 k) (trip3_read.sl.r_1 i arg3 k0_h2 X3 k) ⟨106, by decide⟩) (off9_eq i k 848 (by decide)) rfl (hG 106 (by decide))
  refine Filled.slab ?_ _ _ (rowPay (trip3_read.sl.r i arg2 arg5 k0_h2 X2 X5 k) (trip3_read.sl.r_1 i arg3 k0_h2 X3 k) ⟨105, by decide⟩) (off9_eq i k 840 (by decide)) rfl (hG 105 (by decide))
  refine Filled.slab ?_ _ _ (rowPay (trip3_read.sl.r i arg2 arg5 k0_h2 X2 X5 k) (trip3_read.sl.r_1 i arg3 k0_h2 X3 k) ⟨104, by decide⟩) (off9_eq i k 832 (by decide)) rfl (hG 104 (by decide))
  refine Filled.slab ?_ _ _ (rowPay (trip3_read.sl.r i arg2 arg5 k0_h2 X2 X5 k) (trip3_read.sl.r_1 i arg3 k0_h2 X3 k) ⟨103, by decide⟩) (off9_eq i k 824 (by decide)) rfl (hG 103 (by decide))
  refine Filled.slab ?_ _ _ (rowPay (trip3_read.sl.r i arg2 arg5 k0_h2 X2 X5 k) (trip3_read.sl.r_1 i arg3 k0_h2 X3 k) ⟨102, by decide⟩) (off9_eq i k 816 (by decide)) rfl (hG 102 (by decide))
  refine Filled.slab ?_ _ _ (rowPay (trip3_read.sl.r i arg2 arg5 k0_h2 X2 X5 k) (trip3_read.sl.r_1 i arg3 k0_h2 X3 k) ⟨101, by decide⟩) (off9_eq i k 808 (by decide)) rfl (hG 101 (by decide))
  refine Filled.slab ?_ _ _ (rowPay (trip3_read.sl.r i arg2 arg5 k0_h2 X2 X5 k) (trip3_read.sl.r_1 i arg3 k0_h2 X3 k) ⟨100, by decide⟩) (off9_eq i k 800 (by decide)) rfl (hG 100 (by decide))
  refine Filled.slab ?_ _ _ (rowPay (trip3_read.sl.r i arg2 arg5 k0_h2 X2 X5 k) (trip3_read.sl.r_1 i arg3 k0_h2 X3 k) ⟨99, by decide⟩) (off9_eq i k 792 (by decide)) rfl (hG 99 (by decide))
  refine Filled.slab ?_ _ _ (rowPay (trip3_read.sl.r i arg2 arg5 k0_h2 X2 X5 k) (trip3_read.sl.r_1 i arg3 k0_h2 X3 k) ⟨98, by decide⟩) (off9_eq i k 784 (by decide)) rfl (hG 98 (by decide))
  refine Filled.slab ?_ _ _ (rowPay (trip3_read.sl.r i arg2 arg5 k0_h2 X2 X5 k) (trip3_read.sl.r_1 i arg3 k0_h2 X3 k) ⟨97, by decide⟩) (off9_eq i k 776 (by decide)) rfl (hG 97 (by decide))
  refine Filled.slab ?_ _ _ (rowPay (trip3_read.sl.r i arg2 arg5 k0_h2 X2 X5 k) (trip3_read.sl.r_1 i arg3 k0_h2 X3 k) ⟨96, by decide⟩) (off9_eq i k 768 (by decide)) rfl (hG 96 (by decide))
  refine Filled.slab ?_ _ _ (rowPay (trip3_read.sl.r i arg2 arg5 k0_h2 X2 X5 k) (trip3_read.sl.r_1 i arg3 k0_h2 X3 k) ⟨95, by decide⟩) (off9_eq i k 760 (by decide)) rfl (hG 95 (by decide))
  refine Filled.slab ?_ _ _ (rowPay (trip3_read.sl.r i arg2 arg5 k0_h2 X2 X5 k) (trip3_read.sl.r_1 i arg3 k0_h2 X3 k) ⟨94, by decide⟩) (off9_eq i k 752 (by decide)) rfl (hG 94 (by decide))
  refine Filled.slab ?_ _ _ (rowPay (trip3_read.sl.r i arg2 arg5 k0_h2 X2 X5 k) (trip3_read.sl.r_1 i arg3 k0_h2 X3 k) ⟨93, by decide⟩) (off9_eq i k 744 (by decide)) rfl (hG 93 (by decide))
  refine Filled.slab ?_ _ _ (rowPay (trip3_read.sl.r i arg2 arg5 k0_h2 X2 X5 k) (trip3_read.sl.r_1 i arg3 k0_h2 X3 k) ⟨92, by decide⟩) (off9_eq i k 736 (by decide)) rfl (hG 92 (by decide))
  refine Filled.slab ?_ _ _ (rowPay (trip3_read.sl.r i arg2 arg5 k0_h2 X2 X5 k) (trip3_read.sl.r_1 i arg3 k0_h2 X3 k) ⟨91, by decide⟩) (off9_eq i k 728 (by decide)) rfl (hG 91 (by decide))
  refine Filled.slab ?_ _ _ (rowPay (trip3_read.sl.r i arg2 arg5 k0_h2 X2 X5 k) (trip3_read.sl.r_1 i arg3 k0_h2 X3 k) ⟨90, by decide⟩) (off9_eq i k 720 (by decide)) rfl (hG 90 (by decide))
  refine Filled.slab ?_ _ _ (rowPay (trip3_read.sl.r i arg2 arg5 k0_h2 X2 X5 k) (trip3_read.sl.r_1 i arg3 k0_h2 X3 k) ⟨89, by decide⟩) (off9_eq i k 712 (by decide)) rfl (hG 89 (by decide))
  refine Filled.slab ?_ _ _ (rowPay (trip3_read.sl.r i arg2 arg5 k0_h2 X2 X5 k) (trip3_read.sl.r_1 i arg3 k0_h2 X3 k) ⟨88, by decide⟩) (off9_eq i k 704 (by decide)) rfl (hG 88 (by decide))
  refine Filled.slab ?_ _ _ (rowPay (trip3_read.sl.r i arg2 arg5 k0_h2 X2 X5 k) (trip3_read.sl.r_1 i arg3 k0_h2 X3 k) ⟨87, by decide⟩) (off9_eq i k 696 (by decide)) rfl (hG 87 (by decide))
  refine Filled.slab ?_ _ _ (rowPay (trip3_read.sl.r i arg2 arg5 k0_h2 X2 X5 k) (trip3_read.sl.r_1 i arg3 k0_h2 X3 k) ⟨86, by decide⟩) (off9_eq i k 688 (by decide)) rfl (hG 86 (by decide))
  refine Filled.slab ?_ _ _ (rowPay (trip3_read.sl.r i arg2 arg5 k0_h2 X2 X5 k) (trip3_read.sl.r_1 i arg3 k0_h2 X3 k) ⟨85, by decide⟩) (off9_eq i k 680 (by decide)) rfl (hG 85 (by decide))
  refine Filled.slab ?_ _ _ (rowPay (trip3_read.sl.r i arg2 arg5 k0_h2 X2 X5 k) (trip3_read.sl.r_1 i arg3 k0_h2 X3 k) ⟨84, by decide⟩) (off9_eq i k 672 (by decide)) rfl (hG 84 (by decide))
  refine Filled.slab ?_ _ _ (rowPay (trip3_read.sl.r i arg2 arg5 k0_h2 X2 X5 k) (trip3_read.sl.r_1 i arg3 k0_h2 X3 k) ⟨83, by decide⟩) (off9_eq i k 664 (by decide)) rfl (hG 83 (by decide))
  refine Filled.slab ?_ _ _ (rowPay (trip3_read.sl.r i arg2 arg5 k0_h2 X2 X5 k) (trip3_read.sl.r_1 i arg3 k0_h2 X3 k) ⟨82, by decide⟩) (off9_eq i k 656 (by decide)) rfl (hG 82 (by decide))
  refine Filled.slab ?_ _ _ (rowPay (trip3_read.sl.r i arg2 arg5 k0_h2 X2 X5 k) (trip3_read.sl.r_1 i arg3 k0_h2 X3 k) ⟨81, by decide⟩) (off9_eq i k 648 (by decide)) rfl (hG 81 (by decide))
  refine Filled.slab ?_ _ _ (rowPay (trip3_read.sl.r i arg2 arg5 k0_h2 X2 X5 k) (trip3_read.sl.r_1 i arg3 k0_h2 X3 k) ⟨80, by decide⟩) (off9_eq i k 640 (by decide)) rfl (hG 80 (by decide))
  refine Filled.slab ?_ _ _ (rowPay (trip3_read.sl.r i arg2 arg5 k0_h2 X2 X5 k) (trip3_read.sl.r_1 i arg3 k0_h2 X3 k) ⟨79, by decide⟩) (off9_eq i k 632 (by decide)) rfl (hG 79 (by decide))
  refine Filled.slab ?_ _ _ (rowPay (trip3_read.sl.r i arg2 arg5 k0_h2 X2 X5 k) (trip3_read.sl.r_1 i arg3 k0_h2 X3 k) ⟨78, by decide⟩) (off9_eq i k 624 (by decide)) rfl (hG 78 (by decide))
  refine Filled.slab ?_ _ _ (rowPay (trip3_read.sl.r i arg2 arg5 k0_h2 X2 X5 k) (trip3_read.sl.r_1 i arg3 k0_h2 X3 k) ⟨77, by decide⟩) (off9_eq i k 616 (by decide)) rfl (hG 77 (by decide))
  refine Filled.slab ?_ _ _ (rowPay (trip3_read.sl.r i arg2 arg5 k0_h2 X2 X5 k) (trip3_read.sl.r_1 i arg3 k0_h2 X3 k) ⟨76, by decide⟩) (off9_eq i k 608 (by decide)) rfl (hG 76 (by decide))
  refine Filled.slab ?_ _ _ (rowPay (trip3_read.sl.r i arg2 arg5 k0_h2 X2 X5 k) (trip3_read.sl.r_1 i arg3 k0_h2 X3 k) ⟨75, by decide⟩) (off9_eq i k 600 (by decide)) rfl (hG 75 (by decide))
  refine Filled.slab ?_ _ _ (rowPay (trip3_read.sl.r i arg2 arg5 k0_h2 X2 X5 k) (trip3_read.sl.r_1 i arg3 k0_h2 X3 k) ⟨74, by decide⟩) (off9_eq i k 592 (by decide)) rfl (hG 74 (by decide))
  refine Filled.slab ?_ _ _ (rowPay (trip3_read.sl.r i arg2 arg5 k0_h2 X2 X5 k) (trip3_read.sl.r_1 i arg3 k0_h2 X3 k) ⟨73, by decide⟩) (off9_eq i k 584 (by decide)) rfl (hG 73 (by decide))
  refine Filled.slab ?_ _ _ (rowPay (trip3_read.sl.r i arg2 arg5 k0_h2 X2 X5 k) (trip3_read.sl.r_1 i arg3 k0_h2 X3 k) ⟨72, by decide⟩) (off9_eq i k 576 (by decide)) rfl (hG 72 (by decide))
  refine Filled.slab ?_ _ _ (rowPay (trip3_read.sl.r i arg2 arg5 k0_h2 X2 X5 k) (trip3_read.sl.r_1 i arg3 k0_h2 X3 k) ⟨71, by decide⟩) (off9_eq i k 568 (by decide)) rfl (hG 71 (by decide))
  refine Filled.slab ?_ _ _ (rowPay (trip3_read.sl.r i arg2 arg5 k0_h2 X2 X5 k) (trip3_read.sl.r_1 i arg3 k0_h2 X3 k) ⟨70, by decide⟩) (off9_eq i k 560 (by decide)) rfl (hG 70 (by decide))
  refine Filled.slab ?_ _ _ (rowPay (trip3_read.sl.r i arg2 arg5 k0_h2 X2 X5 k) (trip3_read.sl.r_1 i arg3 k0_h2 X3 k) ⟨69, by decide⟩) (off9_eq i k 552 (by decide)) rfl (hG 69 (by decide))
  refine Filled.slab ?_ _ _ (rowPay (trip3_read.sl.r i arg2 arg5 k0_h2 X2 X5 k) (trip3_read.sl.r_1 i arg3 k0_h2 X3 k) ⟨68, by decide⟩) (off9_eq i k 544 (by decide)) rfl (hG 68 (by decide))
  refine Filled.slab ?_ _ _ (rowPay (trip3_read.sl.r i arg2 arg5 k0_h2 X2 X5 k) (trip3_read.sl.r_1 i arg3 k0_h2 X3 k) ⟨67, by decide⟩) (off9_eq i k 536 (by decide)) rfl (hG 67 (by decide))
  refine Filled.slab ?_ _ _ (rowPay (trip3_read.sl.r i arg2 arg5 k0_h2 X2 X5 k) (trip3_read.sl.r_1 i arg3 k0_h2 X3 k) ⟨66, by decide⟩) (off9_eq i k 528 (by decide)) rfl (hG 66 (by decide))
  refine Filled.slab ?_ _ _ (rowPay (trip3_read.sl.r i arg2 arg5 k0_h2 X2 X5 k) (trip3_read.sl.r_1 i arg3 k0_h2 X3 k) ⟨65, by decide⟩) (off9_eq i k 520 (by decide)) rfl (hG 65 (by decide))
  refine Filled.slab ?_ _ _ (rowPay (trip3_read.sl.r i arg2 arg5 k0_h2 X2 X5 k) (trip3_read.sl.r_1 i arg3 k0_h2 X3 k) ⟨64, by decide⟩) (off9_eq i k 512 (by decide)) rfl (hG 64 (by decide))
  refine Filled.slab ?_ _ _ (rowPay (trip3_read.sl.r i arg2 arg5 k0_h2 X2 X5 k) (trip3_read.sl.r_1 i arg3 k0_h2 X3 k) ⟨63, by decide⟩) (off9_eq i k 504 (by decide)) rfl (hG 63 (by decide))
  refine Filled.slab ?_ _ _ (rowPay (trip3_read.sl.r i arg2 arg5 k0_h2 X2 X5 k) (trip3_read.sl.r_1 i arg3 k0_h2 X3 k) ⟨62, by decide⟩) (off9_eq i k 496 (by decide)) rfl (hG 62 (by decide))
  refine Filled.slab ?_ _ _ (rowPay (trip3_read.sl.r i arg2 arg5 k0_h2 X2 X5 k) (trip3_read.sl.r_1 i arg3 k0_h2 X3 k) ⟨61, by decide⟩) (off9_eq i k 488 (by decide)) rfl (hG 61 (by decide))
  refine Filled.slab ?_ _ _ (rowPay (trip3_read.sl.r i arg2 arg5 k0_h2 X2 X5 k) (trip3_read.sl.r_1 i arg3 k0_h2 X3 k) ⟨60, by decide⟩) (off9_eq i k 480 (by decide)) rfl (hG 60 (by decide))
  refine Filled.slab ?_ _ _ (rowPay (trip3_read.sl.r i arg2 arg5 k0_h2 X2 X5 k) (trip3_read.sl.r_1 i arg3 k0_h2 X3 k) ⟨59, by decide⟩) (off9_eq i k 472 (by decide)) rfl (hG 59 (by decide))
  refine Filled.slab ?_ _ _ (rowPay (trip3_read.sl.r i arg2 arg5 k0_h2 X2 X5 k) (trip3_read.sl.r_1 i arg3 k0_h2 X3 k) ⟨58, by decide⟩) (off9_eq i k 464 (by decide)) rfl (hG 58 (by decide))
  refine Filled.slab ?_ _ _ (rowPay (trip3_read.sl.r i arg2 arg5 k0_h2 X2 X5 k) (trip3_read.sl.r_1 i arg3 k0_h2 X3 k) ⟨57, by decide⟩) (off9_eq i k 456 (by decide)) rfl (hG 57 (by decide))
  refine Filled.slab ?_ _ _ (rowPay (trip3_read.sl.r i arg2 arg5 k0_h2 X2 X5 k) (trip3_read.sl.r_1 i arg3 k0_h2 X3 k) ⟨56, by decide⟩) (off9_eq i k 448 (by decide)) rfl (hG 56 (by decide))
  refine Filled.slab ?_ _ _ (rowPay (trip3_read.sl.r i arg2 arg5 k0_h2 X2 X5 k) (trip3_read.sl.r_1 i arg3 k0_h2 X3 k) ⟨55, by decide⟩) (off9_eq i k 440 (by decide)) rfl (hG 55 (by decide))
  refine Filled.slab ?_ _ _ (rowPay (trip3_read.sl.r i arg2 arg5 k0_h2 X2 X5 k) (trip3_read.sl.r_1 i arg3 k0_h2 X3 k) ⟨54, by decide⟩) (off9_eq i k 432 (by decide)) rfl (hG 54 (by decide))
  refine Filled.slab ?_ _ _ (rowPay (trip3_read.sl.r i arg2 arg5 k0_h2 X2 X5 k) (trip3_read.sl.r_1 i arg3 k0_h2 X3 k) ⟨53, by decide⟩) (off9_eq i k 424 (by decide)) rfl (hG 53 (by decide))
  refine Filled.slab ?_ _ _ (rowPay (trip3_read.sl.r i arg2 arg5 k0_h2 X2 X5 k) (trip3_read.sl.r_1 i arg3 k0_h2 X3 k) ⟨52, by decide⟩) (off9_eq i k 416 (by decide)) rfl (hG 52 (by decide))
  refine Filled.slab ?_ _ _ (rowPay (trip3_read.sl.r i arg2 arg5 k0_h2 X2 X5 k) (trip3_read.sl.r_1 i arg3 k0_h2 X3 k) ⟨51, by decide⟩) (off9_eq i k 408 (by decide)) rfl (hG 51 (by decide))
  refine Filled.slab ?_ _ _ (rowPay (trip3_read.sl.r i arg2 arg5 k0_h2 X2 X5 k) (trip3_read.sl.r_1 i arg3 k0_h2 X3 k) ⟨50, by decide⟩) (off9_eq i k 400 (by decide)) rfl (hG 50 (by decide))
  refine Filled.slab ?_ _ _ (rowPay (trip3_read.sl.r i arg2 arg5 k0_h2 X2 X5 k) (trip3_read.sl.r_1 i arg3 k0_h2 X3 k) ⟨49, by decide⟩) (off9_eq i k 392 (by decide)) rfl (hG 49 (by decide))
  refine Filled.slab ?_ _ _ (rowPay (trip3_read.sl.r i arg2 arg5 k0_h2 X2 X5 k) (trip3_read.sl.r_1 i arg3 k0_h2 X3 k) ⟨48, by decide⟩) (off9_eq i k 384 (by decide)) rfl (hG 48 (by decide))
  refine Filled.slab ?_ _ _ (rowPay (trip3_read.sl.r i arg2 arg5 k0_h2 X2 X5 k) (trip3_read.sl.r_1 i arg3 k0_h2 X3 k) ⟨47, by decide⟩) (off9_eq i k 376 (by decide)) rfl (hG 47 (by decide))
  refine Filled.slab ?_ _ _ (rowPay (trip3_read.sl.r i arg2 arg5 k0_h2 X2 X5 k) (trip3_read.sl.r_1 i arg3 k0_h2 X3 k) ⟨46, by decide⟩) (off9_eq i k 368 (by decide)) rfl (hG 46 (by decide))
  refine Filled.slab ?_ _ _ (rowPay (trip3_read.sl.r i arg2 arg5 k0_h2 X2 X5 k) (trip3_read.sl.r_1 i arg3 k0_h2 X3 k) ⟨45, by decide⟩) (off9_eq i k 360 (by decide)) rfl (hG 45 (by decide))
  refine Filled.slab ?_ _ _ (rowPay (trip3_read.sl.r i arg2 arg5 k0_h2 X2 X5 k) (trip3_read.sl.r_1 i arg3 k0_h2 X3 k) ⟨44, by decide⟩) (off9_eq i k 352 (by decide)) rfl (hG 44 (by decide))
  refine Filled.slab ?_ _ _ (rowPay (trip3_read.sl.r i arg2 arg5 k0_h2 X2 X5 k) (trip3_read.sl.r_1 i arg3 k0_h2 X3 k) ⟨43, by decide⟩) (off9_eq i k 344 (by decide)) rfl (hG 43 (by decide))
  refine Filled.slab ?_ _ _ (rowPay (trip3_read.sl.r i arg2 arg5 k0_h2 X2 X5 k) (trip3_read.sl.r_1 i arg3 k0_h2 X3 k) ⟨42, by decide⟩) (off9_eq i k 336 (by decide)) rfl (hG 42 (by decide))
  refine Filled.slab ?_ _ _ (rowPay (trip3_read.sl.r i arg2 arg5 k0_h2 X2 X5 k) (trip3_read.sl.r_1 i arg3 k0_h2 X3 k) ⟨41, by decide⟩) (off9_eq i k 328 (by decide)) rfl (hG 41 (by decide))
  refine Filled.slab ?_ _ _ (rowPay (trip3_read.sl.r i arg2 arg5 k0_h2 X2 X5 k) (trip3_read.sl.r_1 i arg3 k0_h2 X3 k) ⟨40, by decide⟩) (off9_eq i k 320 (by decide)) rfl (hG 40 (by decide))
  refine Filled.slab ?_ _ _ (rowPay (trip3_read.sl.r i arg2 arg5 k0_h2 X2 X5 k) (trip3_read.sl.r_1 i arg3 k0_h2 X3 k) ⟨39, by decide⟩) (off9_eq i k 312 (by decide)) rfl (hG 39 (by decide))
  refine Filled.slab ?_ _ _ (rowPay (trip3_read.sl.r i arg2 arg5 k0_h2 X2 X5 k) (trip3_read.sl.r_1 i arg3 k0_h2 X3 k) ⟨38, by decide⟩) (off9_eq i k 304 (by decide)) rfl (hG 38 (by decide))
  refine Filled.slab ?_ _ _ (rowPay (trip3_read.sl.r i arg2 arg5 k0_h2 X2 X5 k) (trip3_read.sl.r_1 i arg3 k0_h2 X3 k) ⟨37, by decide⟩) (off9_eq i k 296 (by decide)) rfl (hG 37 (by decide))
  refine Filled.slab ?_ _ _ (rowPay (trip3_read.sl.r i arg2 arg5 k0_h2 X2 X5 k) (trip3_read.sl.r_1 i arg3 k0_h2 X3 k) ⟨36, by decide⟩) (off9_eq i k 288 (by decide)) rfl (hG 36 (by decide))
  refine Filled.slab ?_ _ _ (rowPay (trip3_read.sl.r i arg2 arg5 k0_h2 X2 X5 k) (trip3_read.sl.r_1 i arg3 k0_h2 X3 k) ⟨35, by decide⟩) (off9_eq i k 280 (by decide)) rfl (hG 35 (by decide))
  refine Filled.slab ?_ _ _ (rowPay (trip3_read.sl.r i arg2 arg5 k0_h2 X2 X5 k) (trip3_read.sl.r_1 i arg3 k0_h2 X3 k) ⟨34, by decide⟩) (off9_eq i k 272 (by decide)) rfl (hG 34 (by decide))
  refine Filled.slab ?_ _ _ (rowPay (trip3_read.sl.r i arg2 arg5 k0_h2 X2 X5 k) (trip3_read.sl.r_1 i arg3 k0_h2 X3 k) ⟨33, by decide⟩) (off9_eq i k 264 (by decide)) rfl (hG 33 (by decide))
  refine Filled.slab ?_ _ _ (rowPay (trip3_read.sl.r i arg2 arg5 k0_h2 X2 X5 k) (trip3_read.sl.r_1 i arg3 k0_h2 X3 k) ⟨32, by decide⟩) (off9_eq i k 256 (by decide)) rfl (hG 32 (by decide))
  refine Filled.slab ?_ _ _ (rowPay (trip3_read.sl.r i arg2 arg5 k0_h2 X2 X5 k) (trip3_read.sl.r_1 i arg3 k0_h2 X3 k) ⟨31, by decide⟩) (off9_eq i k 248 (by decide)) rfl (hG 31 (by decide))
  refine Filled.slab ?_ _ _ (rowPay (trip3_read.sl.r i arg2 arg5 k0_h2 X2 X5 k) (trip3_read.sl.r_1 i arg3 k0_h2 X3 k) ⟨30, by decide⟩) (off9_eq i k 240 (by decide)) rfl (hG 30 (by decide))
  refine Filled.slab ?_ _ _ (rowPay (trip3_read.sl.r i arg2 arg5 k0_h2 X2 X5 k) (trip3_read.sl.r_1 i arg3 k0_h2 X3 k) ⟨29, by decide⟩) (off9_eq i k 232 (by decide)) rfl (hG 29 (by decide))
  refine Filled.slab ?_ _ _ (rowPay (trip3_read.sl.r i arg2 arg5 k0_h2 X2 X5 k) (trip3_read.sl.r_1 i arg3 k0_h2 X3 k) ⟨28, by decide⟩) (off9_eq i k 224 (by decide)) rfl (hG 28 (by decide))
  refine Filled.slab ?_ _ _ (rowPay (trip3_read.sl.r i arg2 arg5 k0_h2 X2 X5 k) (trip3_read.sl.r_1 i arg3 k0_h2 X3 k) ⟨27, by decide⟩) (off9_eq i k 216 (by decide)) rfl (hG 27 (by decide))
  refine Filled.slab ?_ _ _ (rowPay (trip3_read.sl.r i arg2 arg5 k0_h2 X2 X5 k) (trip3_read.sl.r_1 i arg3 k0_h2 X3 k) ⟨26, by decide⟩) (off9_eq i k 208 (by decide)) rfl (hG 26 (by decide))
  refine Filled.slab ?_ _ _ (rowPay (trip3_read.sl.r i arg2 arg5 k0_h2 X2 X5 k) (trip3_read.sl.r_1 i arg3 k0_h2 X3 k) ⟨25, by decide⟩) (off9_eq i k 200 (by decide)) rfl (hG 25 (by decide))
  refine Filled.slab ?_ _ _ (rowPay (trip3_read.sl.r i arg2 arg5 k0_h2 X2 X5 k) (trip3_read.sl.r_1 i arg3 k0_h2 X3 k) ⟨24, by decide⟩) (off9_eq i k 192 (by decide)) rfl (hG 24 (by decide))
  refine Filled.slab ?_ _ _ (rowPay (trip3_read.sl.r i arg2 arg5 k0_h2 X2 X5 k) (trip3_read.sl.r_1 i arg3 k0_h2 X3 k) ⟨23, by decide⟩) (off9_eq i k 184 (by decide)) rfl (hG 23 (by decide))
  refine Filled.slab ?_ _ _ (rowPay (trip3_read.sl.r i arg2 arg5 k0_h2 X2 X5 k) (trip3_read.sl.r_1 i arg3 k0_h2 X3 k) ⟨22, by decide⟩) (off9_eq i k 176 (by decide)) rfl (hG 22 (by decide))
  refine Filled.slab ?_ _ _ (rowPay (trip3_read.sl.r i arg2 arg5 k0_h2 X2 X5 k) (trip3_read.sl.r_1 i arg3 k0_h2 X3 k) ⟨21, by decide⟩) (off9_eq i k 168 (by decide)) rfl (hG 21 (by decide))
  refine Filled.slab ?_ _ _ (rowPay (trip3_read.sl.r i arg2 arg5 k0_h2 X2 X5 k) (trip3_read.sl.r_1 i arg3 k0_h2 X3 k) ⟨20, by decide⟩) (off9_eq i k 160 (by decide)) rfl (hG 20 (by decide))
  refine Filled.slab ?_ _ _ (rowPay (trip3_read.sl.r i arg2 arg5 k0_h2 X2 X5 k) (trip3_read.sl.r_1 i arg3 k0_h2 X3 k) ⟨19, by decide⟩) (off9_eq i k 152 (by decide)) rfl (hG 19 (by decide))
  refine Filled.slab ?_ _ _ (rowPay (trip3_read.sl.r i arg2 arg5 k0_h2 X2 X5 k) (trip3_read.sl.r_1 i arg3 k0_h2 X3 k) ⟨18, by decide⟩) (off9_eq i k 144 (by decide)) rfl (hG 18 (by decide))
  refine Filled.slab ?_ _ _ (rowPay (trip3_read.sl.r i arg2 arg5 k0_h2 X2 X5 k) (trip3_read.sl.r_1 i arg3 k0_h2 X3 k) ⟨17, by decide⟩) (off9_eq i k 136 (by decide)) rfl (hG 17 (by decide))
  refine Filled.slab ?_ _ _ (rowPay (trip3_read.sl.r i arg2 arg5 k0_h2 X2 X5 k) (trip3_read.sl.r_1 i arg3 k0_h2 X3 k) ⟨16, by decide⟩) (off9_eq i k 128 (by decide)) rfl (hG 16 (by decide))
  refine Filled.slab ?_ _ _ (rowPay (trip3_read.sl.r i arg2 arg5 k0_h2 X2 X5 k) (trip3_read.sl.r_1 i arg3 k0_h2 X3 k) ⟨15, by decide⟩) (off9_eq i k 120 (by decide)) rfl (hG 15 (by decide))
  refine Filled.slab ?_ _ _ (rowPay (trip3_read.sl.r i arg2 arg5 k0_h2 X2 X5 k) (trip3_read.sl.r_1 i arg3 k0_h2 X3 k) ⟨14, by decide⟩) (off9_eq i k 112 (by decide)) rfl (hG 14 (by decide))
  refine Filled.slab ?_ _ _ (rowPay (trip3_read.sl.r i arg2 arg5 k0_h2 X2 X5 k) (trip3_read.sl.r_1 i arg3 k0_h2 X3 k) ⟨13, by decide⟩) (off9_eq i k 104 (by decide)) rfl (hG 13 (by decide))
  refine Filled.slab ?_ _ _ (rowPay (trip3_read.sl.r i arg2 arg5 k0_h2 X2 X5 k) (trip3_read.sl.r_1 i arg3 k0_h2 X3 k) ⟨12, by decide⟩) (off9_eq i k 96 (by decide)) rfl (hG 12 (by decide))
  refine Filled.slab ?_ _ _ (rowPay (trip3_read.sl.r i arg2 arg5 k0_h2 X2 X5 k) (trip3_read.sl.r_1 i arg3 k0_h2 X3 k) ⟨11, by decide⟩) (off9_eq i k 88 (by decide)) rfl (hG 11 (by decide))
  refine Filled.slab ?_ _ _ (rowPay (trip3_read.sl.r i arg2 arg5 k0_h2 X2 X5 k) (trip3_read.sl.r_1 i arg3 k0_h2 X3 k) ⟨10, by decide⟩) (off9_eq i k 80 (by decide)) rfl (hG 10 (by decide))
  refine Filled.slab ?_ _ _ (rowPay (trip3_read.sl.r i arg2 arg5 k0_h2 X2 X5 k) (trip3_read.sl.r_1 i arg3 k0_h2 X3 k) ⟨9, by decide⟩) (off9_eq i k 72 (by decide)) rfl (hG 9 (by decide))
  refine Filled.slab ?_ _ _ (rowPay (trip3_read.sl.r i arg2 arg5 k0_h2 X2 X5 k) (trip3_read.sl.r_1 i arg3 k0_h2 X3 k) ⟨8, by decide⟩) (off9_eq i k 64 (by decide)) rfl (hG 8 (by decide))
  refine Filled.slab ?_ _ _ (rowPay (trip3_read.sl.r i arg2 arg5 k0_h2 X2 X5 k) (trip3_read.sl.r_1 i arg3 k0_h2 X3 k) ⟨7, by decide⟩) (off9_eq i k 56 (by decide)) rfl (hG 7 (by decide))
  refine Filled.slab ?_ _ _ (rowPay (trip3_read.sl.r i arg2 arg5 k0_h2 X2 X5 k) (trip3_read.sl.r_1 i arg3 k0_h2 X3 k) ⟨6, by decide⟩) (off9_eq i k 48 (by decide)) rfl (hG 6 (by decide))
  refine Filled.slab ?_ _ _ (rowPay (trip3_read.sl.r i arg2 arg5 k0_h2 X2 X5 k) (trip3_read.sl.r_1 i arg3 k0_h2 X3 k) ⟨5, by decide⟩) (off9_eq i k 40 (by decide)) rfl (hG 5 (by decide))
  refine Filled.slab ?_ _ _ (rowPay (trip3_read.sl.r i arg2 arg5 k0_h2 X2 X5 k) (trip3_read.sl.r_1 i arg3 k0_h2 X3 k) ⟨4, by decide⟩) (off9_eq i k 32 (by decide)) rfl (hG 4 (by decide))
  refine Filled.slab ?_ _ _ (rowPay (trip3_read.sl.r i arg2 arg5 k0_h2 X2 X5 k) (trip3_read.sl.r_1 i arg3 k0_h2 X3 k) ⟨3, by decide⟩) (off9_eq i k 24 (by decide)) rfl (hG 3 (by decide))
  refine Filled.slab ?_ _ _ (rowPay (trip3_read.sl.r i arg2 arg5 k0_h2 X2 X5 k) (trip3_read.sl.r_1 i arg3 k0_h2 X3 k) ⟨2, by decide⟩) (off9_eq i k 16 (by decide)) rfl (hG 2 (by decide))
  refine Filled.slab ?_ _ _ (rowPay (trip3_read.sl.r i arg2 arg5 k0_h2 X2 X5 k) (trip3_read.sl.r_1 i arg3 k0_h2 X3 k) ⟨1, by decide⟩) (off9_eq i k 8 (by decide)) rfl (hG 1 (by decide))
  refine Filled.slab ?_ _ _ (rowPay (trip3_read.sl.r i arg2 arg5 k0_h2 X2 X5 k) (trip3_read.sl.r_1 i arg3 k0_h2 X3 k) ⟨0, by decide⟩) (off9_eq i k 0 (by decide)) rfl (hG 0 (by decide))
  exact Filled.nil _ _ _

theorem trip3_rows (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (k0_h2 : k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (k : Fin (k0_t3_loop i).trips) (r : ℕ) (hr : r < 128) (x : S8x256.Idx) :
    rowPay (trip3_read.sl.r i arg2 arg5 k0_h2 X2 X5 k) (trip3_read.sl.r_1 i arg3 k0_h2 X3 k) ⟨r, hr⟩ x = Yf (arg2.view.read (Elt Ideal) X2) (arg3.view.read (Elt Ideal) X3) (arg5.view.read (Elt Ideal) X5) (1024 * k.val + 8 * r + (x 0).val) (x 1) := by
  have hx : (x 0).val < 8 := (x 0).isLt
  have hk : k.val < 31 := Nat.lt_of_lt_of_le k.isLt (k0_t3_abs i).2.1
  rw [rowPay_apply]
  unfold Yf
  unfold trip3_read.sl.r trip3_read.sl.r_1
  rw [score_apply, scale_apply]
  congr 1
  · refine Finset.sum_congr rfl fun d _ => ?_
    congr 1
    · refine readAt_off arg2.view _ X2 _ _ (k0_off7_eq i k) ?_
      intro a; fin_cases a
      · rfl
      · show (1024 * k.val + 8 * r + (x 0).val) % 32768 = 1024 * k.val + (8 * r + (x 0).val)
        omega
      · exact (Nat.zero_add _).symm
    · refine readAt_off arg5.view _ X5 _ _ rfl ?_
      intro a; fin_cases a
      · rfl
      · rfl
      · exact (Nat.zero_add _).symm
      · exact (Nat.zero_add _).symm
  · refine readAt_off arg3.view _ X3 _ _ (k0_off8_eq i k) ?_
    intro a; fin_cases a
    · rfl
    · show (1024 * k.val + 8 * r + (x 0).val) / 1024 % 32 = k.val + 0
      omega
    · show (1024 * k.val + 8 * r + (x 0).val) % 8 % 8 = 0 + (x 0).val
      omega
    · show (1024 * k.val + 8 * r + (x 0).val) % 1024 / 8 % 128 = 0 + r
      omega

theorem trip3_list (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 v1 v4 : BitVec 32) (k0_h2 : k0_cond2 i = 1#1) (h3 : k0_cond3 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (k : Fin (k0_t3_loop i).trips) (acc : FVec Ideal S8x256 .f32) (f8 : BufTy.Contents (Elt Ideal) arg8.view.ty) (f9 : BufTy.Contents (Elt Ideal) arg9.view.ty) : (trip3_read 𝒱 c bd i arg2 harg2 arg3 harg3 arg4 harg4 arg5 harg5 arg6 harg6 arg7 harg7 arg8 harg8 arg9 harg9 arg10 harg10 arg1 v1 v4 k0_h2 h3 X2 X3 X4 X5 X10 k acc f8 f9).2.2.1 = [⟨Rect.unit ![0, 0] ![128, 256] inb_S128x256_S128x256_0_0,
    k0_pay8 (arg10.view.readAt (Elt Ideal) (Rect.unit ![0, 0] ![1, 256] inb_S8x256_S1x256_0_0).toLoadRect X10)
      (arg8.view.readAt (Elt Ideal) (Rect.unit (k0_off5 i k) ![1024, 256] (k0_off5_inb i k k0_h2 h3)).toLoadRect f8)
      (arg9.view.readAt (Elt Ideal) (Rect.unit ![0, 0] ![128, 256] inb_S128x256_S128x256_0_0).toLoadRect f9)
      (arg4.view.readAt (Elt Ideal) (Rect.unit (k0_off6 i k) ![1, 128, 1024] (k0_off6_inb i k k0_h2 h3)).toLoadRect X4)⟩] := by
  unfold trip3_read
  dsimp only

theorem read_out_apply (c : Vec Ideal S1x256 .f32) (E : Vec Ideal S1024x256 .f32) (s : Vec Ideal S128x256 .f32) (V : Vec Ideal S1x128x1024 .bf16) (j : S128x256.Idx) :
    k0_pay8 c E s V j = (s j : EReal) + ∑ r : Fin 1024, (V (ix3 0 (j 0) r) : EReal) * ((E (ix2 r (j 1)) : EReal) * (c (ix2 0 (j 1)) : EReal)) := by
  pointwise [k0_pay8]

theorem read_sum {v : View sig .tc .vmem S128x256 .f32} (f : v.ty.Contents (Elt Ideal)) (w : S128x256.Idx → EReal) (L : List (View.Piece (Elt Ideal) S128x256 .f32))
    (inb : ∀ a : Fin 2, (![0, 0] : Fin 2 → ℕ) a + (![128, 256] : Fin 2 → ℕ) a ≤ S128x256.size a) (j : S128x256.Idx) :
    v.read (Elt Ideal) (v.writes (Elt Ideal) f ((⟨Rect.unit (s := S128x256) ![0, 0] ![128, 256] inb, w⟩ : View.Piece (Elt Ideal) S128x256 .f32) :: L)) j = w j :=
  View.read_writes_cons_unit_of_mem v f inb w L j j rfl (by intro a; fin_cases a <;> exact (Nat.zero_add _).symm)

/-- Rows `b` to `b + 1024` of the exponents, as a load of them reads. -/
theorem sum_span (A : ℕ → EReal) (b : ℕ) : (∑ r : Fin 1024, A (1024 * b + r.val)) = ∑ r ∈ Finset.range 1024, A (1024 * b + r) :=
  Finset.sum_range (fun r => A (1024 * b + r)) |>.symm

theorem sum_step (A : ℕ → EReal) (b : ℕ) : (∑ key ∈ Finset.range (1024 * (b + 1)), A key) = (∑ key ∈ Finset.range (1024 * b), A key) + ∑ r : Fin 1024, A (1024 * b + r.val) := by
  rw [sum_span, mul_add, mul_one, Finset.sum_range_add]

theorem keys_step (P : ℕ → Prop) (k a : ℕ) (ha : a < 8) :
    (∀ key < 1024 * (k + 1), key % 8 = a → P key) ↔ (∀ key < 1024 * k, key % 8 = a → P key) ∧ ∀ r < 128, P (1024 * k + 8 * r + a) := by
  constructor
  · exact fun h => ⟨fun key hk => h key (by omega), fun r hr => h _ (by omega) (by omega)⟩
  · rintro ⟨h1, h2⟩ key hk hm
    by_cases hl : key < 1024 * k
    · exact h1 key hl hm
    · have := h2 ((key - 1024 * k) / 8) (by omega)
      rwa [show 1024 * k + 8 * ((key - 1024 * k) / 8) + a = key by omega] at this

/-- A key's weight times its value, summed over the first `N` keys. -/
def Of (V : Vec Ideal S1x128x32768 .bf16) (E : ℕ → Fin 256 → EReal) (c : Fin 256 → EReal) (N : ℕ) (d : Fin 128) (col : Fin 256) : EReal :=
  ∑ key ∈ Finset.range N, (V (ix3 0 d (Fin.ofNat 32768 key)) : EReal) * (E key col * c col)

/-- What a buffer of a column of numbers per key holds at a key. -/
def rowsOf {v : View sig .tc .vmem S32768x256 .f32} (f : v.ty.Contents (Elt Ideal)) (key : ℕ) (col : Fin 256) : EReal :=
  v.read (Elt Ideal) f (ix2 (Fin.ofNat 32768 key) col)

/-- A row of per-query numbers. -/
def rowOf {v : View sig .tc .vmem S8x256 .f32} (f : v.ty.Contents (Elt Ideal)) (a : Fin 8) (col : Fin 256) : EReal :=
  v.read (Elt Ideal) f (ix2 a col)

theorem read_out_span {v8 : View sig .tc .vmem S32768x256 .f32} {v10 : View sig .tc .vmem S8x256 .f32} {v4 : View sig .tc .vmem S1x128x32768 .bf16}
    (f8 : v8.ty.Contents (Elt Ideal)) (f10 : v10.ty.Contents (Elt Ideal)) (X4 : v4.ty.Contents (Elt Ideal)) (s : Vec Ideal S128x256 .f32) (k : ℕ) (hk : k < 32)
    {o8 : Fin 2 → ℕ} {o4 : Fin 3 → ℕ} (h8 : o8 = ![1024 * k, 0]) (h4 : o4 = ![0, 0, 1024 * k])
    (inb8 : ∀ a : Fin 2, o8 a + (![1024, 256] : Fin 2 → ℕ) a ≤ S32768x256.size a)
    (inb4 : ∀ a : Fin 3, o4 a + (![1, 128, 1024] : Fin 3 → ℕ) a ≤ S1x128x32768.size a)
    (inb10 : ∀ a : Fin 2, (![0, 0] : Fin 2 → ℕ) a + (![1, 256] : Fin 2 → ℕ) a ≤ S8x256.size a) (j : S128x256.Idx) :
    k0_pay8 (v10.readAt (Elt Ideal) (Rect.unit (s := S8x256) ![0, 0] ![1, 256] inb10).toLoadRect f10) (v8.readAt (Elt Ideal) (Rect.unit (s := S32768x256) o8 ![1024, 256] inb8).toLoadRect f8) s
      (v4.readAt (Elt Ideal) (Rect.unit (s := S1x128x32768) o4 ![1, 128, 1024] inb4).toLoadRect X4) j
    = (s j : EReal) + ∑ r : Fin 1024, (fun key => (v4.read (Elt Ideal) X4 (ix3 0 (j 0) (Fin.ofNat 32768 key)) : EReal) * (rowsOf f8 key (j 1) * rowOf f10 0 (j 1))) (1024 * k + r.val) := by
  rw [read_out_apply]
  congr 1
  refine Finset.sum_congr rfl fun r _ => ?_
  have hr := r.isLt
  congr 1
  · refine readAt_off v4 _ X4 _ _ h4 ?_
    intro a; fin_cases a
    · rfl
    · exact (Nat.zero_add _).symm
    · show (1024 * k + r.val) % 32768 = 1024 * k + r.val
      omega
  · congr 1
    · refine readAt_off v8 _ f8 _ _ h8 ?_
      intro a; fin_cases a
      · show (1024 * k + r.val) % 32768 = 1024 * k + r.val
        omega
      · exact (Nat.zero_add _).symm
    · refine readAt_off v10 _ f10 _ _ rfl ?_
      intro a; fin_cases a
      · rfl
      · exact (Nat.zero_add _).symm

/-- What the loop over full spans carries: the greatest score by row, the scores of the spans so far, and the spans
    so far of the tile before read out. -/
theorem st3_value (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (arg1 v1 v4 : BitVec 32) (k0_h2 : k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (G8 : BufTy.Contents (Elt Ideal) arg8.view.ty) (G9 : BufTy.Contents (Elt Ideal) arg9.view.ty) (init : FVec Ideal S8x256 .f32) (h3 : 0 < (k0_t3_loop i).trips → k0_cond3 i = 1#1) (n : ℕ) (hn : n ≤ (k0_t3_loop i).trips) :
    (∀ (x : S8x256.Idx) (z : EReal), (st3 𝒱 c bd i arg2 harg2 arg3 harg3 arg4 harg4 arg5 harg5 arg6 harg6 arg7 harg7 arg8 harg8 arg9 harg9 arg10 harg10 arg1 v1 v4 k0_h2 X2 X3 X4 X5 X10 G8 G9 init n).mx x ≤ z ↔ init x ≤ z ∧ ∀ key < 1024 * n, key % 8 = (x 0).val → Yf (arg2.view.read (Elt Ideal) X2) (arg3.view.read (Elt Ideal) X3) (arg5.view.read (Elt Ideal) X5) key (x 1) ≤ z)
    ∧ (∀ y : S32768x256.Idx, arg8.view.read (Elt Ideal) (st3 𝒱 c bd i arg2 harg2 arg3 harg3 arg4 harg4 arg5 harg5 arg6 harg6 arg7 harg7 arg8 harg8 arg9 harg9 arg10 harg10 arg1 v1 v4 k0_h2 X2 X3 X4 X5 X10 G8 G9 init n).y y = if (y 0).val < 1024 * n then Yf (arg2.view.read (Elt Ideal) X2) (arg3.view.read (Elt Ideal) X3) (arg5.view.read (Elt Ideal) X5) (y 0).val (y 1) else arg8.view.read (Elt Ideal) G8 y)
    ∧ (∀ j : S128x256.Idx, arg9.view.read (Elt Ideal) (arg9.view.writes (Elt Ideal) G9 (st3 𝒱 c bd i arg2 harg2 arg3 harg3 arg4 harg4 arg5 harg5 arg6 harg6 arg7 harg7 arg8 harg8 arg9 harg9 arg10 harg10 arg1 v1 v4 k0_h2 X2 X3 X4 X5 X10 G8 G9 init n).sum) j
        = (arg9.view.read (Elt Ideal) G9 j : EReal) + Of (arg4.view.read (Elt Ideal) X4) (rowsOf G8) (rowOf X10 0) (1024 * n) (j 0) (j 1)) := by
  induction n with
  | zero =>
    refine ⟨fun x z => ?_, fun y => ?_, fun j => ?_⟩
    · rw [st3.eq_1]
      exact ⟨fun h => ⟨h, fun key hk => absurd hk (by omega)⟩, fun h => h.1⟩
    · rw [st3.eq_1, if_neg (by omega)]
    · rw [st3.eq_1]
      simp only [Of, Nat.mul_zero, Finset.range_zero, Finset.sum_empty, add_zero]
      rfl
  | succ n ih =>
    obtain ⟨ih1, ih2, ih3⟩ := ih (by omega)
    have hk : n < (k0_t3_loop i).trips := by omega
    have hk31 : n < 31 := Nat.lt_of_lt_of_le hk (k0_t3_abs i).2.1
    have hc : k0_cond3 i = 1#1 := h3 (by omega)
    have hs := st3_succ 𝒱 c bd i arg2 harg2 arg3 harg3 arg4 harg4 arg5 harg5 arg6 harg6 arg7 harg7 arg8 harg8 arg9 harg9 arg10 harg10 arg1 v1 v4 k0_h2 X2 X3 X4 X5 X10 G8 G9 init ⟨n, hk⟩
    simp only [] at hs
    generalize hS : st3 𝒱 c bd i arg2 harg2 arg3 harg3 arg4 harg4 arg5 harg5 arg6 harg6 arg7 harg7 arg8 harg8 arg9 harg9 arg10 harg10 arg1 v1 v4 k0_h2 X2 X3 X4 X5 X10 G8 G9 init n = s at hs ih1 ih2 ih3
    refine ⟨fun x z => ?_, fun y => ?_, fun j => ?_⟩
    · rw [hs]
      unfold step3
      rw [dif_pos hc]
      dsimp only
      rw [trip3_fold, trip3_stack 𝒱 c bd i arg2 harg2 arg3 harg3 arg4 harg4 arg5 harg5 arg6 harg6 arg7 harg7 arg8 harg8 arg9 harg9 arg10 harg10 k0_h2 X2 X3 X4 X5 X10, foldV_max_le, ih1, and_assoc, keys_step _ n _ (x 0).isLt]
      refine and_congr_right fun _ => and_congr_right fun _ => forall_congr' fun r => forall_congr' fun hr => ?_
      rw [stack_apply _ r hr x, trip3_rows 𝒱 c bd i arg2 harg2 arg3 harg3 arg4 harg4 arg5 harg5 arg6 harg6 arg7 harg7 arg8 harg8 arg9 harg9 arg10 harg10 k0_h2 X2 X3 X4 X5 X10]
    · rw [hs]
      unfold step3
      rw [dif_pos hc]
      dsimp only
      obtain ⟨L, hL, hF⟩ := trip3_filled 𝒱 c bd i arg2 harg2 arg3 harg3 arg4 harg4 arg5 harg5 arg6 harg6 arg7 harg7 arg8 harg8 arg9 harg9 arg10 harg10 arg1 v1 v4 k0_h2 hc X2 X3 X4 X5 X10 ⟨n, hk⟩ s.mx s.y (arg9.view.writes (Elt Ideal) G9 s.sum) (Yf (arg2.view.read (Elt Ideal) X2) (arg3.view.read (Elt Ideal) X3) (arg5.view.read (Elt Ideal) X5))
        (trip3_rows 𝒱 c bd i arg2 harg2 arg3 harg3 arg4 harg4 arg5 harg5 arg6 harg6 arg7 harg7 arg8 harg8 arg9 harg9 arg10 harg10 k0_h2 X2 X3 X4 X5 X10 ⟨n, hk⟩)
      rw [hL, hF y, ih2 y]
      dsimp only
      by_cases h1 : (y 0).val < 1024 * n
      · rw [if_neg (by omega), if_pos h1, if_pos (by omega)]
      · by_cases h2 : (y 0).val < 1024 * (n + 1)
        · rw [if_pos ⟨by omega, by omega⟩, if_pos h2]
        · rw [if_neg (by omega), if_neg h1, if_neg h2]
    · rw [hs]
      unfold step3
      rw [dif_pos hc]
      dsimp only
      rw [trip3_list]
      refine (read_sum _ _ _ _ j).trans ?_
      refine (read_out_span s.y X10 X4 _ n (by omega) (k0_off5_eq i ⟨n, hk⟩) (k0_off6_eq i ⟨n, hk⟩) _ _ _ j).trans ?_
      unfold Of
      rw [sum_step, ← add_assoc]
      refine congrArg₂ (· + ·) ?_ ?_
      · refine Eq.trans ?_ (ih3 j)
        refine readAt_off arg9.view _ _ _ _ rfl ?_
        intro a; fin_cases a <;> exact (Nat.zero_add _).symm
      · refine Finset.sum_congr rfl fun r _ => ?_
        have hr := r.isLt
        dsimp only
        unfold rowsOf
        rw [ih2, if_neg]
        show ¬ (1024 * n + r.val) % 32768 < 1024 * n
        omega

end Cert.AttendIdeal.Hand

end
-- ==== Proof.Tile.lean ====
module

public import proofs.«01_k».proof.Proof.IdealRun
public import proofs.«01_k».proof.Proof.Gen.AttendIdeal.Frame
public import proofs.«01_k».proof.Proof.Scores
public import Idealize.ShloMosaic.Lib.Pointwise
public import Idealize.ShloMosaic.Lib.WritesUnit

@[expose] public section

set_option maxRecDepth 16384

noncomputable section

namespace Cert.AttendIdeal.Hand

open Cert.AttendIdeal.Gen
open Idealize.ShloMosaic Idealize.ShloMosaic.TcCoe Idealize.ShloMosaic.Tactic
open Idealize.ShloMosaic.Pipeline (Dat RDat Cfg Window BodyObligation cellOf)
open Idealize.ShloMosaic.Rounds
open Idealize.SL Idealize.SL.RA Idealize.SL.BI
open scoped Idealize.SL.BI
open Idealize.SL.BI.BIBase Idealize.SL.BI.Laws Idealize.SL.ProofMode Idealize.SL.Sem

/-! # Which spans a tile visits -/

/-- A grid point of the first head. -/
def pointAt (n : Fin 1025) : grid0.Coords := fun a => match a with
  | ⟨0, _⟩ => (0 : Fin 2)
  | ⟨1, _⟩ => n

theorem spans_all : ∀ n : Fin 1025, (n.val < 1024 → (k0_t3_loop (pointAt n)).trips = min (n.val / 32) 31
      ∧ (k0_t5_loop (pointAt n)).trips = min (n.val / 32) 31 + 1
      ∧ Scalar.minsi (Scalar.divsi (Scalar.muli (BitVec.ofNat 32 n.val) 32#32) 1024#32) 31#32 = BitVec.ofNat 32 (min (n.val / 32) 31)
      ∧ Scalar.subi (Scalar.muli (BitVec.ofNat 32 n.val) 32#32) (Scalar.muli (BitVec.ofNat 32 (min (n.val / 32) 31)) 1024#32) = BitVec.ofNat 32 (32 * n.val - 1024 * min (n.val / 32) 31)
      ∧ (k0_cond3 (pointAt n) = 1#1 ↔ 0 < n.val)
      ∧ (k0_cond5 (pointAt n) = 1#1 ↔ 0 < n.val ∧ (n.val - 1) / 32 = n.val / 32)
      ∧ ¬ k0_cond1 (pointAt n) = 1#1)
    ∧ (n.val = 1024 → (k0_t1_loop (pointAt n)).trips = 32 ∧ k0_cond1 (pointAt n) = 1#1) := by
  decide +kernel

theorem cond1_iff (i : grid0.Coords) : k0_cond1 i = 1#1 ↔ (i 1).val = 1024 := by
  have hi : (i 1).val < 1025 := (i 1).isLt
  have h := spans_all (i 1)
  constructor
  · intro h1
    by_contra hn
    exact (h.1 (by omega)).2.2.2.2.2.2 h1
  · exact fun hn => (h.2 hn).2

theorem trips1 (i : grid0.Coords) (hn : (i 1).val = 1024) : (k0_t1_loop i).trips = 32 := ((spans_all (i 1)).2 hn).1

theorem trips3 (i : grid0.Coords) (hn : (i 1).val < 1024) : (k0_t3_loop i).trips = lastSpan i := ((spans_all (i 1)).1 hn).1

theorem trips5 (i : grid0.Coords) (hn : (i 1).val < 1024) : (k0_t5_loop i).trips = lastSpan i + 1 := ((spans_all (i 1)).1 hn).2.1

theorem cond3_of (i : grid0.Coords) (hn : (i 1).val < 1024) (h : 0 < (k0_t3_loop i).trips) : k0_cond3 i = 1#1 :=
  ((spans_all (i 1)).1 hn).2.2.2.2.1.mpr (by rw [trips3 i hn] at h; unfold lastSpan at h; omega)

theorem cond5_iff (i : grid0.Coords) (hn : (i 1).val < 1024) : k0_cond5 i = 1#1 ↔ 0 < (i 1).val ∧ ((i 1).val - 1) / 32 = (i 1).val / 32 :=
  ((spans_all (i 1)).1 hn).2.2.2.2.2.1

theorem last_eq (i : grid0.Coords) (hn : (i 1).val < 1024) :
    Scalar.minsi (Scalar.divsi (Scalar.muli (BitVec.ofNat 32 (i 1).val) 32#32) 1024#32) 31#32 = BitVec.ofNat 32 (lastSpan i) :=
  ((spans_all (i 1)).1 hn).2.2.1

theorem and31 : ∀ w : Fin 256, IntOp.andi (BitVec.ofNat 32 w.val) 31#32 = BitVec.ofNat 32 (w.val % 32) := by decide +kernel

/-- How far a row of the last span is behind its query. -/
theorem ahead_apply (i : grid0.Coords) (hn : (i 1).val < 1024) (x : S8x256.Idx) (r : ℕ) (hr : r < 128) :
    cmpi .sge (k0_pay1374 (BitVec.ofNat 32 (i 1).val) (BitVec.ofNat 32 (lastSpan i))) (broadcast S8x256 (BitVec.ofNat 32 (8 * r))) x = 1#1
      ↔ 1024 * lastSpan i + 8 * r + (x 0).val ≤ 32 * (i 1).val + (x 1).val % 32 := by
  have hx : (x 0).val < 8 := (x 0).isLt
  have hx1 : (x 1).val < 256 := (x 1).isLt
  have hl : 1024 * lastSpan i ≤ 32 * (i 1).val ∧ 32 * (i 1).val - 1024 * lastSpan i < 1024 := by unfold lastSpan; omega
  have h0 := ((spans_all (i 1)).1 hn).2.2.2.1
  have e : k0_pay1374 (BitVec.ofNat 32 (i 1).val) (BitVec.ofNat 32 (lastSpan i)) x
      = Scalar.subi (Scalar.addi (BitVec.ofNat 32 (32 * (i 1).val - 1024 * lastSpan i)) (BitVec.ofNat 32 ((x 1).val % 32))) (BitVec.ofNat 32 (x 0).val) := by
    have h1 : k0_pay1374 (BitVec.ofNat 32 (i 1).val) (BitVec.ofNat 32 (lastSpan i)) x
      = Scalar.subi (Scalar.addi (Scalar.subi (Scalar.muli (BitVec.ofNat 32 (i 1).val) 32#32) (Scalar.muli (BitVec.ofNat 32 (lastSpan i)) 1024#32))
          (IntOp.andi (BitVec.ofNat 32 (x 1).val) 31#32)) (BitVec.ofNat 32 (x 0).val) := by
      pointwise [k0_pay1374]
      rfl
    rw [h1, and31 (x 1)]
    exact congrArg (fun u => Scalar.subi (Scalar.addi u _) _) h0
  show Scalar.cmpi .sge (k0_pay1374 _ _ x) (BitVec.ofNat 32 (8 * r)) = 1#1 ↔ _
  rw [e]
  have ha : Affine.IsInt (BitVec.ofNat 32 (32 * (i 1).val - 1024 * lastSpan i)) ((32 * (i 1).val - 1024 * lastSpan i : ℕ) : ℤ) := Affine.ofNat _ (by omega)
  have hb : Affine.IsInt (BitVec.ofNat 32 ((x 1).val % 32)) (((x 1).val % 32 : ℕ) : ℤ) := Affine.ofNat _ (by omega)
  have hc : Affine.IsInt (BitVec.ofNat 32 (x 0).val) (((x 0).val : ℕ) : ℤ) := Affine.ofNat _ (by omega)
  have hd : Affine.IsInt (BitVec.ofNat 32 (8 * r)) ((8 * r : ℕ) : ℤ) := Affine.ofNat _ (by omega)
  have hs := Affine.subi (Affine.addi ha hb (e := ((32 * (i 1).val - 1024 * lastSpan i : ℕ) : ℤ) + (((x 1).val % 32 : ℕ) : ℤ)) (by omega)) hc
    (e := ((32 * (i 1).val - 1024 * lastSpan i : ℕ) : ℤ) + (((x 1).val % 32 : ℕ) : ℤ) - (((x 0).val : ℕ) : ℤ)) (by omega)
  constructor
  · intro h
    by_contra hlt
    exact Affine.sge_fails hs hd (by omega) h
  · exact fun h => Affine.sge_holds hs hd (by omega)

theorem trip5_fold (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (v2 : BitVec 32) (k0_h2 : k0_cond2 i = 1#1) (v2139 : FVec Ideal S8x256 .f32) (v2141 : FVec Ideal S1x256 .f32) (k : Fin (k0_t5_loop i).trips) (acc : FVec Ideal S8x256 .f32) (f8 : BufTy.Contents (Elt Ideal) arg8.view.ty) : tripR_k0_t5 𝒱 c bd i arg2 harg2 arg3 harg3 arg4 harg4 arg5 harg5 arg6 harg6 arg7 harg7 arg8 harg8 arg9 harg9 arg10 harg10 v2 k0_h2 v2139 v2141 k acc f8 = foldV (· + ·) acc (k0_pay972 v2141 (k0_pay1873 v2139 v2141) (arg8.view.readAt (Elt Ideal) (Rect.unit (s := S32768x256) (k0_off20 i k) ![1024, 256] (k0_off20_inb i k k0_h2)).toLoadRect f8)) := by
  unfold tripR_k0_t5 trip_k0_t5
  dsimp only
  funext x
  rfl

theorem trip5_list (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (v2 : BitVec 32) (k0_h2 : k0_cond2 i = 1#1) (v2139 : FVec Ideal S8x256 .f32) (v2141 : FVec Ideal S1x256 .f32) (k : Fin (k0_t5_loop i).trips) (acc : FVec Ideal S8x256 .f32) (f8 : BufTy.Contents (Elt Ideal) arg8.view.ty) : tripL_k0_t5 𝒱 c bd i arg2 harg2 arg3 harg3 arg4 harg4 arg5 harg5 arg6 harg6 arg7 harg7 arg8 harg8 arg9 harg9 arg10 harg10 v2 k0_h2 v2139 v2141 k acc f8 = [⟨Rect.unit (s := S32768x256) (k0_off20 i k) ![1024, 256] (k0_off20_inb i k k0_h2), k0_pay973 v2141 (k0_pay1873 v2139 v2141) (arg8.view.readAt (Elt Ideal) (Rect.unit (s := S32768x256) (k0_off20 i k) ![1024, 256] (k0_off20_inb i k k0_h2)).toLoadRect f8)⟩] := by
  unfold tripL_k0_t5 trip_k0_t5
  dsimp only

/-- The field of the least power of two above a row's greatest probability over 448, by the kernel's eight steps. -/
def fieldOf (l : FVec Ideal S8x256 .f32) : IVec S1x256 32 :=
  k0_pay1889 (k0_pay1884 l) (k0_pay1887 (k0_pay1884 l) (k0_pay1885 l) (k0_pay1886 l) 23#32) (k0_pay1888 (k0_pay1884 l) (k0_pay1885 l) (k0_pay1886 l) 23#32) 23#32

/-- What a tile leaves of its sums: the factor of its codes, the scale of the tile before, its own scale. -/
def leave (l : FVec Ideal S8x256 .f32) (old : FVec Ideal S8x256 .f32) : List (View.Piece (Elt Ideal) S8x256 .f32) :=
  [⟨Rect.unit (s := S8x256) ![2, 0] ![1, 256] inb_S8x256_S1x256_2_0, k0_pay1897 (F := Ideal) (fieldOf l) k0_pay1890⟩,
   ⟨Rect.unit (s := S8x256) ![1, 0] ![1, 256] inb_S8x256_S1x256_1_0, k0_pay1896 (F := Ideal) old⟩,
   ⟨Rect.unit (s := S8x256) ![0, 0] ![1, 256] inb_S8x256_S1x256_0_0, k0_pay1895 (F := Ideal) (k0_pay1883 l) (fieldOf l) k0_pay1890⟩]

theorem span_eq (i : grid0.Coords) : min ((32 * (i 1).val) / 1024) 31 = lastSpan i := by unfold lastSpan; omega

theorem off15_eq (i : grid0.Coords) : k0_off15 i = ![1024 * lastSpan i, 0] := by rw [k0_off15_eq, span_eq]

theorem off16_eq (i : grid0.Coords) : k0_off16 i = ![0, 0, 1024 * lastSpan i] := by rw [k0_off16_eq, span_eq]

theorem off17_eq (i : grid0.Coords) : k0_off17 i = ![0, 1024 * lastSpan i, 0] := by rw [k0_off17_eq, span_eq]

theorem off18_eq (i : grid0.Coords) : k0_off18 i = ![0, lastSpan i, 0, 0] := by rw [k0_off18_eq, span_eq]

theorem no_trips6 (i : grid0.Coords) : Scf.trips (k0_t6_loop i).lb (k0_t6_loop i).ub (k0_t6_loop i).st = 0 :=
  Nat.le_zero.mp (k0_t6_abs i).2.1

theorem rowPayD_apply (A : IVec S8x256 32) (S : FVec Ideal S1024x256 .f32) (KS : FVec Ideal S8x128 .f32) (r : Fin 128) (x : S8x256.Idx) :
    rowPayD A S KS r x = if cmpi .sge A (broadcast S8x256 (BitVec.ofNat 32 (8 * r.val))) x = 1#1 then rowPay S KS r x else (Ideal.ofBits .f32 0xFF800000#32 : EReal) := rfl

/-- The scores of a tile: those of the keys no later than the query. -/
def Ym (t : ℕ) (K : Vec Ideal S1x32768x128 .fp8e4m3) (C : Vec Ideal S1x32x8x128 .f32) (Q : Vec Ideal S1x1x128x256 .fp8e4m3) (key : ℕ) (col : Fin 256) : EReal :=
  if key ≤ 32 * t + col.val % 32 then Yf K C Q key col else ⊥

theorem score_apply' (K : Vec Ideal S1x1024x128 .fp8e4m3) (Q : Vec Ideal S1x1x128x256 .fp8e4m3) (j : S1024x256.Idx) :
    k0_pay1372 K Q j = ∑ d : Fin 128, (K (ix3 0 (j 0) d) : EReal) * (Q (ix4 0 0 d (j 1)) : EReal) := by
  pointwise [k0_pay1372]

theorem scale_apply' (C : Vec Ideal S1x1x8x128 .f32) (j : S8x128.Idx) : k0_pay1373 C j = C (ix4 0 0 (j 0) (j 1)) := by
  pointwise [k0_pay1373]

theorem bot_bits : (Ideal.ofBits .f32 0xFF800000#32 : EReal) = ⊥ := by
  simp [Ideal.ofBits, Ideal.ieee]

theorem body_same_rows (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (hn : (i 1).val < 1024) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (r : ℕ) (hr : r < 128) (x : S8x256.Idx) :
    rowPayD (body_same.sl.r_3 i) (body_same.sl.r_1 i arg2 arg5 h2 X2 X5) (body_same.sl.r_2 i arg3 h2 X3) ⟨r, hr⟩ x
      = (Ym (i 1).val (arg2.view.read (Elt Ideal) X2) (arg3.view.read (Elt Ideal) X3) (arg5.view.read (Elt Ideal) X5)) (1024 * lastSpan i + 8 * r + (x 0).val) (x 1) := by
  have hx : (x 0).val < 8 := (x 0).isLt
  have hk : lastSpan i < 32 := by unfold lastSpan; omega
  have e3 : body_same.sl.r_3 i = k0_pay1374 (BitVec.ofNat 32 (i 1).val) (BitVec.ofNat 32 (lastSpan i)) := by
    unfold body_same.sl.r_3 body_same.sl.v2 body_same.sl.v1 body_same.sl.v0
    rw [last_eq i hn]
  have hc := ahead_apply i hn x r hr
  have hy : rowPay (body_same.sl.r_1 i arg2 arg5 h2 X2 X5) (body_same.sl.r_2 i arg3 h2 X3) ⟨r, hr⟩ x
      = Yf (arg2.view.read (Elt Ideal) X2) (arg3.view.read (Elt Ideal) X3) (arg5.view.read (Elt Ideal) X5) (1024 * lastSpan i + 8 * r + (x 0).val) (x 1) := by
    rw [rowPay_apply]
    unfold Yf
    unfold body_same.sl.r_1 body_same.sl.r_2
    rw [score_apply', scale_apply']
    refine congrArg₂ (· * ·) ?_ ?_
    · refine Finset.sum_congr rfl fun d _ => ?_
      refine congrArg₂ (· * ·) ?_ ?_
      · refine readAt_off arg2.view _ X2 _ _ (off17_eq i) ?_
        intro a; fin_cases a
        · rfl
        · show (1024 * lastSpan i + 8 * r + (x 0).val) % 32768 = _
          rw [Nat.mod_eq_of_lt (by omega)]
          show _ = 1024 * lastSpan i + (8 * r + (x 0).val)
          omega
        · exact (Nat.zero_add _).symm
      · refine readAt_off arg5.view _ X5 _ _ rfl ?_
        intro a; fin_cases a
        · rfl
        · rfl
        · exact (Nat.zero_add _).symm
        · exact (Nat.zero_add _).symm
    · refine readAt_off arg3.view _ X3 _ _ (off18_eq i) ?_
      intro a; fin_cases a
      · rfl
      · show (1024 * lastSpan i + 8 * r + (x 0).val) / 1024 % 32 = lastSpan i + 0
        omega
      · show (1024 * lastSpan i + 8 * r + (x 0).val) % 8 % 8 = 0 + (x 0).val
        omega
      · show (1024 * lastSpan i + 8 * r + (x 0).val) % 1024 / 8 % 128 = 0 + r
        omega
  rw [rowPayD_apply, e3, hy]
  unfold Ym
  by_cases hle : 1024 * lastSpan i + 8 * r + (x 0).val ≤ 32 * (i 1).val + (x 1).val % 32
  · rw [if_pos (hc.mpr hle), if_pos hle]
  · rw [if_neg (fun h => hle (hc.mp h)), if_neg hle]
    exact bot_bits

set_option maxHeartbeats 0 in
theorem body_same_stack (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) : body_same.sl.r_173 i arg2 arg3 arg5 h2 X2 X3 X5 = stack (rowPayD (body_same.sl.r_3 i) (body_same.sl.r_1 i arg2 arg5 h2 X2 X5) (body_same.sl.r_2 i arg3 h2 X3)) := rfl

set_option maxHeartbeats 0 in
theorem body_same_fold (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (f8 : BufTy.Contents (Elt Ideal) arg8.view.ty) (f10 : BufTy.Contents (Elt Ideal) arg10.view.ty) :
    body_same.sl.r_310 𝒱 c bd i arg2 harg2 arg3 harg3 arg4 harg4 arg5 harg5 arg6 harg6 arg7 harg7 arg8 harg8 arg9 harg9 arg10 harg10 h2 X2 X3 X4 X5 f8 f10 = foldV max (body_same.sl.r 𝒱 c bd i arg2 harg2 arg3 harg3 arg4 harg4 arg5 harg5 arg6 harg6 arg7 harg7 arg8 harg8 arg9 harg9 arg10 harg10 h2 X2 X3 X4 X5 f8 f10) (body_same.sl.r_173 i arg2 arg3 arg5 h2 X2 X3 X5) := by
  funext x
  rfl

set_option maxHeartbeats 0 in
theorem body_same_form0 (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : ¬ k0_cond1 i = 1#1) (h2 : k0_cond2 i = 1#1) (h5 : k0_cond5 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (G : ℕ → Fin 256 → EReal)
    (hG : ∀ (r : ℕ) (hr : r < 128) (x : S8x256.Idx), rowPayD (body_same.sl.r_3 i) (body_same.sl.r_1 i arg2 arg5 h2 X2 X5) (body_same.sl.r_2 i arg3 h2 X3) ⟨r, hr⟩ x = G (1024 * lastSpan i + 8 * r + (x 0).val) (x 1)) :
    ∃ L, (body_same 𝒱 c bd i arg2 harg2 arg3 harg3 arg4 harg4 arg5 harg5 arg6 harg6 arg7 harg7 arg8 harg8 arg9 harg9 arg10 harg10 h1 h2 h5 X2 X3 X4 X5 X6 f7 f8 f9 f10).2.1 = arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y ((st_k0_t6 𝒱 c bd i arg2 harg2 arg3 harg3 arg4 harg4 arg5 harg5 arg6 harg6 arg7 harg7 arg8 harg8 arg9 harg9 arg10 harg10 (body_same.sl.v2 i) h2 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (body_same.sl.v2152 i) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y ((st_k0_t5 𝒱 c bd i arg2 harg2 arg3 harg3 arg4 harg4 arg5 harg5 arg6 harg6 arg7 harg7 arg8 harg8 arg9 harg9 arg10 harg10 (body_same.sl.v2 i) h2 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L) k0_pay1874 (Scf.trips (k0_t5_loop i).lb (k0_t5_loop i).ub (k0_t5_loop i).st)).2 ++ L)) (st_k0_t5 𝒱 c bd i arg2 harg2 arg3 harg3 arg4 harg4 arg5 harg5 arg6 harg6 arg7 harg7 arg8 harg8 arg9 harg9 arg10 harg10 (body_same.sl.v2 i) h2 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L) k0_pay1874 (Scf.trips (k0_t5_loop i).lb (k0_t5_loop i).ub (k0_t5_loop i).st)).1 (Scf.trips (k0_t6_loop i).lb (k0_t6_loop i).ub (k0_t6_loop i).st)).2 ++ ((st_k0_t5 𝒱 c bd i arg2 harg2 arg3 harg3 arg4 harg4 arg5 harg5 arg6 harg6 arg7 harg7 arg8 harg8 arg9 harg9 arg10 harg10 (body_same.sl.v2 i) h2 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L) k0_pay1874 (Scf.trips (k0_t5_loop i).lb (k0_t5_loop i).ub (k0_t5_loop i).st)).2 ++ L))
      ∧ (body_same 𝒱 c bd i arg2 harg2 arg3 harg3 arg4 harg4 arg5 harg5 arg6 harg6 arg7 harg7 arg8 harg8 arg9 harg9 arg10 harg10 h1 h2 h5 X2 X3 X4 X5 X6 f7 f8 f9 f10).2.2.2.1 = arg10.view.writes (Elt Ideal) f10 (leave (st_k0_t6 𝒱 c bd i arg2 harg2 arg3 harg3 arg4 harg4 arg5 harg5 arg6 harg6 arg7 harg7 arg8 harg8 arg9 harg9 arg10 harg10 (body_same.sl.v2 i) h2 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (body_same.sl.v2152 i) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y ((st_k0_t5 𝒱 c bd i arg2 harg2 arg3 harg3 arg4 harg4 arg5 harg5 arg6 harg6 arg7 harg7 arg8 harg8 arg9 harg9 arg10 harg10 (body_same.sl.v2 i) h2 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L) k0_pay1874 (Scf.trips (k0_t5_loop i).lb (k0_t5_loop i).ub (k0_t5_loop i).st)).2 ++ L)) (st_k0_t5 𝒱 c bd i arg2 harg2 arg3 harg3 arg4 harg4 arg5 harg5 arg6 harg6 arg7 harg7 arg8 harg8 arg9 harg9 arg10 harg10 (body_same.sl.v2 i) h2 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L) k0_pay1874 (Scf.trips (k0_t5_loop i).lb (k0_t5_loop i).ub (k0_t5_loop i).st)).1 (Scf.trips (k0_t6_loop i).lb (k0_t6_loop i).ub (k0_t6_loop i).st)).1 (arg10.view.readAt (Elt Ideal) (Rect.unit (s := S8x256) ![0, 0] ![8, 256] inb_S8x256_S8x256_0_0).toLoadRect f10))
      ∧ Filled arg8.view (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L (1024 * lastSpan i) 128 G := by
  unfold body_same
  dsimp only
  refine ⟨_, rfl, rfl, ?_⟩
  refine Filled.slab ?_ _ _ (rowPayD (body_same.sl.r_3 i) (body_same.sl.r_1 i arg2 arg5 h2 X2 X5) (body_same.sl.r_2 i arg3 h2 X3) ⟨127, by decide⟩) (off19_eq i 1016 (by decide)) rfl (hG 127 (by decide))
  refine Filled.slab ?_ _ _ (rowPayD (body_same.sl.r_3 i) (body_same.sl.r_1 i arg2 arg5 h2 X2 X5) (body_same.sl.r_2 i arg3 h2 X3) ⟨126, by decide⟩) (off19_eq i 1008 (by decide)) rfl (hG 126 (by decide))
  refine Filled.slab ?_ _ _ (rowPayD (body_same.sl.r_3 i) (body_same.sl.r_1 i arg2 arg5 h2 X2 X5) (body_same.sl.r_2 i arg3 h2 X3) ⟨125, by decide⟩) (off19_eq i 1000 (by decide)) rfl (hG 125 (by decide))
  refine Filled.slab ?_ _ _ (rowPayD (body_same.sl.r_3 i) (body_same.sl.r_1 i arg2 arg5 h2 X2 X5) (body_same.sl.r_2 i arg3 h2 X3) ⟨124, by decide⟩) (off19_eq i 992 (by decide)) rfl (hG 124 (by decide))
  refine Filled.slab ?_ _ _ (rowPayD (body_same.sl.r_3 i) (body_same.sl.r_1 i arg2 arg5 h2 X2 X5) (body_same.sl.r_2 i arg3 h2 X3) ⟨123, by decide⟩) (off19_eq i 984 (by decide)) rfl (hG 123 (by decide))
  refine Filled.slab ?_ _ _ (rowPayD (body_same.sl.r_3 i) (body_same.sl.r_1 i arg2 arg5 h2 X2 X5) (body_same.sl.r_2 i arg3 h2 X3) ⟨122, by decide⟩) (off19_eq i 976 (by decide)) rfl (hG 122 (by decide))
  refine Filled.slab ?_ _ _ (rowPayD (body_same.sl.r_3 i) (body_same.sl.r_1 i arg2 arg5 h2 X2 X5) (body_same.sl.r_2 i arg3 h2 X3) ⟨121, by decide⟩) (off19_eq i 968 (by decide)) rfl (hG 121 (by decide))
  refine Filled.slab ?_ _ _ (rowPayD (body_same.sl.r_3 i) (body_same.sl.r_1 i arg2 arg5 h2 X2 X5) (body_same.sl.r_2 i arg3 h2 X3) ⟨120, by decide⟩) (off19_eq i 960 (by decide)) rfl (hG 120 (by decide))
  refine Filled.slab ?_ _ _ (rowPayD (body_same.sl.r_3 i) (body_same.sl.r_1 i arg2 arg5 h2 X2 X5) (body_same.sl.r_2 i arg3 h2 X3) ⟨119, by decide⟩) (off19_eq i 952 (by decide)) rfl (hG 119 (by decide))
  refine Filled.slab ?_ _ _ (rowPayD (body_same.sl.r_3 i) (body_same.sl.r_1 i arg2 arg5 h2 X2 X5) (body_same.sl.r_2 i arg3 h2 X3) ⟨118, by decide⟩) (off19_eq i 944 (by decide)) rfl (hG 118 (by decide))
  refine Filled.slab ?_ _ _ (rowPayD (body_same.sl.r_3 i) (body_same.sl.r_1 i arg2 arg5 h2 X2 X5) (body_same.sl.r_2 i arg3 h2 X3) ⟨117, by decide⟩) (off19_eq i 936 (by decide)) rfl (hG 117 (by decide))
  refine Filled.slab ?_ _ _ (rowPayD (body_same.sl.r_3 i) (body_same.sl.r_1 i arg2 arg5 h2 X2 X5) (body_same.sl.r_2 i arg3 h2 X3) ⟨116, by decide⟩) (off19_eq i 928 (by decide)) rfl (hG 116 (by decide))
  refine Filled.slab ?_ _ _ (rowPayD (body_same.sl.r_3 i) (body_same.sl.r_1 i arg2 arg5 h2 X2 X5) (body_same.sl.r_2 i arg3 h2 X3) ⟨115, by decide⟩) (off19_eq i 920 (by decide)) rfl (hG 115 (by decide))
  refine Filled.slab ?_ _ _ (rowPayD (body_same.sl.r_3 i) (body_same.sl.r_1 i arg2 arg5 h2 X2 X5) (body_same.sl.r_2 i arg3 h2 X3) ⟨114, by decide⟩) (off19_eq i 912 (by decide)) rfl (hG 114 (by decide))
  refine Filled.slab ?_ _ _ (rowPayD (body_same.sl.r_3 i) (body_same.sl.r_1 i arg2 arg5 h2 X2 X5) (body_same.sl.r_2 i arg3 h2 X3) ⟨113, by decide⟩) (off19_eq i 904 (by decide)) rfl (hG 113 (by decide))
  refine Filled.slab ?_ _ _ (rowPayD (body_same.sl.r_3 i) (body_same.sl.r_1 i arg2 arg5 h2 X2 X5) (body_same.sl.r_2 i arg3 h2 X3) ⟨112, by decide⟩) (off19_eq i 896 (by decide)) rfl (hG 112 (by decide))
  refine Filled.slab ?_ _ _ (rowPayD (body_same.sl.r_3 i) (body_same.sl.r_1 i arg2 arg5 h2 X2 X5) (body_same.sl.r_2 i arg3 h2 X3) ⟨111, by decide⟩) (off19_eq i 888 (by decide)) rfl (hG 111 (by decide))
  refine Filled.slab ?_ _ _ (rowPayD (body_same.sl.r_3 i) (body_same.sl.r_1 i arg2 arg5 h2 X2 X5) (body_same.sl.r_2 i arg3 h2 X3) ⟨110, by decide⟩) (off19_eq i 880 (by decide)) rfl (hG 110 (by decide))
  refine Filled.slab ?_ _ _ (rowPayD (body_same.sl.r_3 i) (body_same.sl.r_1 i arg2 arg5 h2 X2 X5) (body_same.sl.r_2 i arg3 h2 X3) ⟨109, by decide⟩) (off19_eq i 872 (by decide)) rfl (hG 109 (by decide))
  refine Filled.slab ?_ _ _ (rowPayD (body_same.sl.r_3 i) (body_same.sl.r_1 i arg2 arg5 h2 X2 X5) (body_same.sl.r_2 i arg3 h2 X3) ⟨108, by decide⟩) (off19_eq i 864 (by decide)) rfl (hG 108 (by decide))
  refine Filled.slab ?_ _ _ (rowPayD (body_same.sl.r_3 i) (body_same.sl.r_1 i arg2 arg5 h2 X2 X5) (body_same.sl.r_2 i arg3 h2 X3) ⟨107, by decide⟩) (off19_eq i 856 (by decide)) rfl (hG 107 (by decide))
  refine Filled.slab ?_ _ _ (rowPayD (body_same.sl.r_3 i) (body_same.sl.r_1 i arg2 arg5 h2 X2 X5) (body_same.sl.r_2 i arg3 h2 X3) ⟨106, by decide⟩) (off19_eq i 848 (by decide)) rfl (hG 106 (by decide))
  refine Filled.slab ?_ _ _ (rowPayD (body_same.sl.r_3 i) (body_same.sl.r_1 i arg2 arg5 h2 X2 X5) (body_same.sl.r_2 i arg3 h2 X3) ⟨105, by decide⟩) (off19_eq i 840 (by decide)) rfl (hG 105 (by decide))
  refine Filled.slab ?_ _ _ (rowPayD (body_same.sl.r_3 i) (body_same.sl.r_1 i arg2 arg5 h2 X2 X5) (body_same.sl.r_2 i arg3 h2 X3) ⟨104, by decide⟩) (off19_eq i 832 (by decide)) rfl (hG 104 (by decide))
  refine Filled.slab ?_ _ _ (rowPayD (body_same.sl.r_3 i) (body_same.sl.r_1 i arg2 arg5 h2 X2 X5) (body_same.sl.r_2 i arg3 h2 X3) ⟨103, by decide⟩) (off19_eq i 824 (by decide)) rfl (hG 103 (by decide))
  refine Filled.slab ?_ _ _ (rowPayD (body_same.sl.r_3 i) (body_same.sl.r_1 i arg2 arg5 h2 X2 X5) (body_same.sl.r_2 i arg3 h2 X3) ⟨102, by decide⟩) (off19_eq i 816 (by decide)) rfl (hG 102 (by decide))
  refine Filled.slab ?_ _ _ (rowPayD (body_same.sl.r_3 i) (body_same.sl.r_1 i arg2 arg5 h2 X2 X5) (body_same.sl.r_2 i arg3 h2 X3) ⟨101, by decide⟩) (off19_eq i 808 (by decide)) rfl (hG 101 (by decide))
  refine Filled.slab ?_ _ _ (rowPayD (body_same.sl.r_3 i) (body_same.sl.r_1 i arg2 arg5 h2 X2 X5) (body_same.sl.r_2 i arg3 h2 X3) ⟨100, by decide⟩) (off19_eq i 800 (by decide)) rfl (hG 100 (by decide))
  refine Filled.slab ?_ _ _ (rowPayD (body_same.sl.r_3 i) (body_same.sl.r_1 i arg2 arg5 h2 X2 X5) (body_same.sl.r_2 i arg3 h2 X3) ⟨99, by decide⟩) (off19_eq i 792 (by decide)) rfl (hG 99 (by decide))
  refine Filled.slab ?_ _ _ (rowPayD (body_same.sl.r_3 i) (body_same.sl.r_1 i arg2 arg5 h2 X2 X5) (body_same.sl.r_2 i arg3 h2 X3) ⟨98, by decide⟩) (off19_eq i 784 (by decide)) rfl (hG 98 (by decide))
  refine Filled.slab ?_ _ _ (rowPayD (body_same.sl.r_3 i) (body_same.sl.r_1 i arg2 arg5 h2 X2 X5) (body_same.sl.r_2 i arg3 h2 X3) ⟨97, by decide⟩) (off19_eq i 776 (by decide)) rfl (hG 97 (by decide))
  refine Filled.slab ?_ _ _ (rowPayD (body_same.sl.r_3 i) (body_same.sl.r_1 i arg2 arg5 h2 X2 X5) (body_same.sl.r_2 i arg3 h2 X3) ⟨96, by decide⟩) (off19_eq i 768 (by decide)) rfl (hG 96 (by decide))
  refine Filled.slab ?_ _ _ (rowPayD (body_same.sl.r_3 i) (body_same.sl.r_1 i arg2 arg5 h2 X2 X5) (body_same.sl.r_2 i arg3 h2 X3) ⟨95, by decide⟩) (off19_eq i 760 (by decide)) rfl (hG 95 (by decide))
  refine Filled.slab ?_ _ _ (rowPayD (body_same.sl.r_3 i) (body_same.sl.r_1 i arg2 arg5 h2 X2 X5) (body_same.sl.r_2 i arg3 h2 X3) ⟨94, by decide⟩) (off19_eq i 752 (by decide)) rfl (hG 94 (by decide))
  refine Filled.slab ?_ _ _ (rowPayD (body_same.sl.r_3 i) (body_same.sl.r_1 i arg2 arg5 h2 X2 X5) (body_same.sl.r_2 i arg3 h2 X3) ⟨93, by decide⟩) (off19_eq i 744 (by decide)) rfl (hG 93 (by decide))
  refine Filled.slab ?_ _ _ (rowPayD (body_same.sl.r_3 i) (body_same.sl.r_1 i arg2 arg5 h2 X2 X5) (body_same.sl.r_2 i arg3 h2 X3) ⟨92, by decide⟩) (off19_eq i 736 (by decide)) rfl (hG 92 (by decide))
  refine Filled.slab ?_ _ _ (rowPayD (body_same.sl.r_3 i) (body_same.sl.r_1 i arg2 arg5 h2 X2 X5) (body_same.sl.r_2 i arg3 h2 X3) ⟨91, by decide⟩) (off19_eq i 728 (by decide)) rfl (hG 91 (by decide))
  refine Filled.slab ?_ _ _ (rowPayD (body_same.sl.r_3 i) (body_same.sl.r_1 i arg2 arg5 h2 X2 X5) (body_same.sl.r_2 i arg3 h2 X3) ⟨90, by decide⟩) (off19_eq i 720 (by decide)) rfl (hG 90 (by decide))
  refine Filled.slab ?_ _ _ (rowPayD (body_same.sl.r_3 i) (body_same.sl.r_1 i arg2 arg5 h2 X2 X5) (body_same.sl.r_2 i arg3 h2 X3) ⟨89, by decide⟩) (off19_eq i 712 (by decide)) rfl (hG 89 (by decide))
  refine Filled.slab ?_ _ _ (rowPayD (body_same.sl.r_3 i) (body_same.sl.r_1 i arg2 arg5 h2 X2 X5) (body_same.sl.r_2 i arg3 h2 X3) ⟨88, by decide⟩) (off19_eq i 704 (by decide)) rfl (hG 88 (by decide))
  refine Filled.slab ?_ _ _ (rowPayD (body_same.sl.r_3 i) (body_same.sl.r_1 i arg2 arg5 h2 X2 X5) (body_same.sl.r_2 i arg3 h2 X3) ⟨87, by decide⟩) (off19_eq i 696 (by decide)) rfl (hG 87 (by decide))
  refine Filled.slab ?_ _ _ (rowPayD (body_same.sl.r_3 i) (body_same.sl.r_1 i arg2 arg5 h2 X2 X5) (body_same.sl.r_2 i arg3 h2 X3) ⟨86, by decide⟩) (off19_eq i 688 (by decide)) rfl (hG 86 (by decide))
  refine Filled.slab ?_ _ _ (rowPayD (body_same.sl.r_3 i) (body_same.sl.r_1 i arg2 arg5 h2 X2 X5) (body_same.sl.r_2 i arg3 h2 X3) ⟨85, by decide⟩) (off19_eq i 680 (by decide)) rfl (hG 85 (by decide))
  refine Filled.slab ?_ _ _ (rowPayD (body_same.sl.r_3 i) (body_same.sl.r_1 i arg2 arg5 h2 X2 X5) (body_same.sl.r_2 i arg3 h2 X3) ⟨84, by decide⟩) (off19_eq i 672 (by decide)) rfl (hG 84 (by decide))
  refine Filled.slab ?_ _ _ (rowPayD (body_same.sl.r_3 i) (body_same.sl.r_1 i arg2 arg5 h2 X2 X5) (body_same.sl.r_2 i arg3 h2 X3) ⟨83, by decide⟩) (off19_eq i 664 (by decide)) rfl (hG 83 (by decide))
  refine Filled.slab ?_ _ _ (rowPayD (body_same.sl.r_3 i) (body_same.sl.r_1 i arg2 arg5 h2 X2 X5) (body_same.sl.r_2 i arg3 h2 X3) ⟨82, by decide⟩) (off19_eq i 656 (by decide)) rfl (hG 82 (by decide))
  refine Filled.slab ?_ _ _ (rowPayD (body_same.sl.r_3 i) (body_same.sl.r_1 i arg2 arg5 h2 X2 X5) (body_same.sl.r_2 i arg3 h2 X3) ⟨81, by decide⟩) (off19_eq i 648 (by decide)) rfl (hG 81 (by decide))
  refine Filled.slab ?_ _ _ (rowPayD (body_same.sl.r_3 i) (body_same.sl.r_1 i arg2 arg5 h2 X2 X5) (body_same.sl.r_2 i arg3 h2 X3) ⟨80, by decide⟩) (off19_eq i 640 (by decide)) rfl (hG 80 (by decide))
  refine Filled.slab ?_ _ _ (rowPayD (body_same.sl.r_3 i) (body_same.sl.r_1 i arg2 arg5 h2 X2 X5) (body_same.sl.r_2 i arg3 h2 X3) ⟨79, by decide⟩) (off19_eq i 632 (by decide)) rfl (hG 79 (by decide))
  refine Filled.slab ?_ _ _ (rowPayD (body_same.sl.r_3 i) (body_same.sl.r_1 i arg2 arg5 h2 X2 X5) (body_same.sl.r_2 i arg3 h2 X3) ⟨78, by decide⟩) (off19_eq i 624 (by decide)) rfl (hG 78 (by decide))
  refine Filled.slab ?_ _ _ (rowPayD (body_same.sl.r_3 i) (body_same.sl.r_1 i arg2 arg5 h2 X2 X5) (body_same.sl.r_2 i arg3 h2 X3) ⟨77, by decide⟩) (off19_eq i 616 (by decide)) rfl (hG 77 (by decide))
  refine Filled.slab ?_ _ _ (rowPayD (body_same.sl.r_3 i) (body_same.sl.r_1 i arg2 arg5 h2 X2 X5) (body_same.sl.r_2 i arg3 h2 X3) ⟨76, by decide⟩) (off19_eq i 608 (by decide)) rfl (hG 76 (by decide))
  refine Filled.slab ?_ _ _ (rowPayD (body_same.sl.r_3 i) (body_same.sl.r_1 i arg2 arg5 h2 X2 X5) (body_same.sl.r_2 i arg3 h2 X3) ⟨75, by decide⟩) (off19_eq i 600 (by decide)) rfl (hG 75 (by decide))
  refine Filled.slab ?_ _ _ (rowPayD (body_same.sl.r_3 i) (body_same.sl.r_1 i arg2 arg5 h2 X2 X5) (body_same.sl.r_2 i arg3 h2 X3) ⟨74, by decide⟩) (off19_eq i 592 (by decide)) rfl (hG 74 (by decide))
  refine Filled.slab ?_ _ _ (rowPayD (body_same.sl.r_3 i) (body_same.sl.r_1 i arg2 arg5 h2 X2 X5) (body_same.sl.r_2 i arg3 h2 X3) ⟨73, by decide⟩) (off19_eq i 584 (by decide)) rfl (hG 73 (by decide))
  refine Filled.slab ?_ _ _ (rowPayD (body_same.sl.r_3 i) (body_same.sl.r_1 i arg2 arg5 h2 X2 X5) (body_same.sl.r_2 i arg3 h2 X3) ⟨72, by decide⟩) (off19_eq i 576 (by decide)) rfl (hG 72 (by decide))
  refine Filled.slab ?_ _ _ (rowPayD (body_same.sl.r_3 i) (body_same.sl.r_1 i arg2 arg5 h2 X2 X5) (body_same.sl.r_2 i arg3 h2 X3) ⟨71, by decide⟩) (off19_eq i 568 (by decide)) rfl (hG 71 (by decide))
  refine Filled.slab ?_ _ _ (rowPayD (body_same.sl.r_3 i) (body_same.sl.r_1 i arg2 arg5 h2 X2 X5) (body_same.sl.r_2 i arg3 h2 X3) ⟨70, by decide⟩) (off19_eq i 560 (by decide)) rfl (hG 70 (by decide))
  refine Filled.slab ?_ _ _ (rowPayD (body_same.sl.r_3 i) (body_same.sl.r_1 i arg2 arg5 h2 X2 X5) (body_same.sl.r_2 i arg3 h2 X3) ⟨69, by decide⟩) (off19_eq i 552 (by decide)) rfl (hG 69 (by decide))
  refine Filled.slab ?_ _ _ (rowPayD (body_same.sl.r_3 i) (body_same.sl.r_1 i arg2 arg5 h2 X2 X5) (body_same.sl.r_2 i arg3 h2 X3) ⟨68, by decide⟩) (off19_eq i 544 (by decide)) rfl (hG 68 (by decide))
  refine Filled.slab ?_ _ _ (rowPayD (body_same.sl.r_3 i) (body_same.sl.r_1 i arg2 arg5 h2 X2 X5) (body_same.sl.r_2 i arg3 h2 X3) ⟨67, by decide⟩) (off19_eq i 536 (by decide)) rfl (hG 67 (by decide))
  refine Filled.slab ?_ _ _ (rowPayD (body_same.sl.r_3 i) (body_same.sl.r_1 i arg2 arg5 h2 X2 X5) (body_same.sl.r_2 i arg3 h2 X3) ⟨66, by decide⟩) (off19_eq i 528 (by decide)) rfl (hG 66 (by decide))
  refine Filled.slab ?_ _ _ (rowPayD (body_same.sl.r_3 i) (body_same.sl.r_1 i arg2 arg5 h2 X2 X5) (body_same.sl.r_2 i arg3 h2 X3) ⟨65, by decide⟩) (off19_eq i 520 (by decide)) rfl (hG 65 (by decide))
  refine Filled.slab ?_ _ _ (rowPayD (body_same.sl.r_3 i) (body_same.sl.r_1 i arg2 arg5 h2 X2 X5) (body_same.sl.r_2 i arg3 h2 X3) ⟨64, by decide⟩) (off19_eq i 512 (by decide)) rfl (hG 64 (by decide))
  refine Filled.slab ?_ _ _ (rowPayD (body_same.sl.r_3 i) (body_same.sl.r_1 i arg2 arg5 h2 X2 X5) (body_same.sl.r_2 i arg3 h2 X3) ⟨63, by decide⟩) (off19_eq i 504 (by decide)) rfl (hG 63 (by decide))
  refine Filled.slab ?_ _ _ (rowPayD (body_same.sl.r_3 i) (body_same.sl.r_1 i arg2 arg5 h2 X2 X5) (body_same.sl.r_2 i arg3 h2 X3) ⟨62, by decide⟩) (off19_eq i 496 (by decide)) rfl (hG 62 (by decide))
  refine Filled.slab ?_ _ _ (rowPayD (body_same.sl.r_3 i) (body_same.sl.r_1 i arg2 arg5 h2 X2 X5) (body_same.sl.r_2 i arg3 h2 X3) ⟨61, by decide⟩) (off19_eq i 488 (by decide)) rfl (hG 61 (by decide))
  refine Filled.slab ?_ _ _ (rowPayD (body_same.sl.r_3 i) (body_same.sl.r_1 i arg2 arg5 h2 X2 X5) (body_same.sl.r_2 i arg3 h2 X3) ⟨60, by decide⟩) (off19_eq i 480 (by decide)) rfl (hG 60 (by decide))
  refine Filled.slab ?_ _ _ (rowPayD (body_same.sl.r_3 i) (body_same.sl.r_1 i arg2 arg5 h2 X2 X5) (body_same.sl.r_2 i arg3 h2 X3) ⟨59, by decide⟩) (off19_eq i 472 (by decide)) rfl (hG 59 (by decide))
  refine Filled.slab ?_ _ _ (rowPayD (body_same.sl.r_3 i) (body_same.sl.r_1 i arg2 arg5 h2 X2 X5) (body_same.sl.r_2 i arg3 h2 X3) ⟨58, by decide⟩) (off19_eq i 464 (by decide)) rfl (hG 58 (by decide))
  refine Filled.slab ?_ _ _ (rowPayD (body_same.sl.r_3 i) (body_same.sl.r_1 i arg2 arg5 h2 X2 X5) (body_same.sl.r_2 i arg3 h2 X3) ⟨57, by decide⟩) (off19_eq i 456 (by decide)) rfl (hG 57 (by decide))
  refine Filled.slab ?_ _ _ (rowPayD (body_same.sl.r_3 i) (body_same.sl.r_1 i arg2 arg5 h2 X2 X5) (body_same.sl.r_2 i arg3 h2 X3) ⟨56, by decide⟩) (off19_eq i 448 (by decide)) rfl (hG 56 (by decide))
  refine Filled.slab ?_ _ _ (rowPayD (body_same.sl.r_3 i) (body_same.sl.r_1 i arg2 arg5 h2 X2 X5) (body_same.sl.r_2 i arg3 h2 X3) ⟨55, by decide⟩) (off19_eq i 440 (by decide)) rfl (hG 55 (by decide))
  refine Filled.slab ?_ _ _ (rowPayD (body_same.sl.r_3 i) (body_same.sl.r_1 i arg2 arg5 h2 X2 X5) (body_same.sl.r_2 i arg3 h2 X3) ⟨54, by decide⟩) (off19_eq i 432 (by decide)) rfl (hG 54 (by decide))
  refine Filled.slab ?_ _ _ (rowPayD (body_same.sl.r_3 i) (body_same.sl.r_1 i arg2 arg5 h2 X2 X5) (body_same.sl.r_2 i arg3 h2 X3) ⟨53, by decide⟩) (off19_eq i 424 (by decide)) rfl (hG 53 (by decide))
  refine Filled.slab ?_ _ _ (rowPayD (body_same.sl.r_3 i) (body_same.sl.r_1 i arg2 arg5 h2 X2 X5) (body_same.sl.r_2 i arg3 h2 X3) ⟨52, by decide⟩) (off19_eq i 416 (by decide)) rfl (hG 52 (by decide))
  refine Filled.slab ?_ _ _ (rowPayD (body_same.sl.r_3 i) (body_same.sl.r_1 i arg2 arg5 h2 X2 X5) (body_same.sl.r_2 i arg3 h2 X3) ⟨51, by decide⟩) (off19_eq i 408 (by decide)) rfl (hG 51 (by decide))
  refine Filled.slab ?_ _ _ (rowPayD (body_same.sl.r_3 i) (body_same.sl.r_1 i arg2 arg5 h2 X2 X5) (body_same.sl.r_2 i arg3 h2 X3) ⟨50, by decide⟩) (off19_eq i 400 (by decide)) rfl (hG 50 (by decide))
  refine Filled.slab ?_ _ _ (rowPayD (body_same.sl.r_3 i) (body_same.sl.r_1 i arg2 arg5 h2 X2 X5) (body_same.sl.r_2 i arg3 h2 X3) ⟨49, by decide⟩) (off19_eq i 392 (by decide)) rfl (hG 49 (by decide))
  refine Filled.slab ?_ _ _ (rowPayD (body_same.sl.r_3 i) (body_same.sl.r_1 i arg2 arg5 h2 X2 X5) (body_same.sl.r_2 i arg3 h2 X3) ⟨48, by decide⟩) (off19_eq i 384 (by decide)) rfl (hG 48 (by decide))
  refine Filled.slab ?_ _ _ (rowPayD (body_same.sl.r_3 i) (body_same.sl.r_1 i arg2 arg5 h2 X2 X5) (body_same.sl.r_2 i arg3 h2 X3) ⟨47, by decide⟩) (off19_eq i 376 (by decide)) rfl (hG 47 (by decide))
  refine Filled.slab ?_ _ _ (rowPayD (body_same.sl.r_3 i) (body_same.sl.r_1 i arg2 arg5 h2 X2 X5) (body_same.sl.r_2 i arg3 h2 X3) ⟨46, by decide⟩) (off19_eq i 368 (by decide)) rfl (hG 46 (by decide))
  refine Filled.slab ?_ _ _ (rowPayD (body_same.sl.r_3 i) (body_same.sl.r_1 i arg2 arg5 h2 X2 X5) (body_same.sl.r_2 i arg3 h2 X3) ⟨45, by decide⟩) (off19_eq i 360 (by decide)) rfl (hG 45 (by decide))
  refine Filled.slab ?_ _ _ (rowPayD (body_same.sl.r_3 i) (body_same.sl.r_1 i arg2 arg5 h2 X2 X5) (body_same.sl.r_2 i arg3 h2 X3) ⟨44, by decide⟩) (off19_eq i 352 (by decide)) rfl (hG 44 (by decide))
  refine Filled.slab ?_ _ _ (rowPayD (body_same.sl.r_3 i) (body_same.sl.r_1 i arg2 arg5 h2 X2 X5) (body_same.sl.r_2 i arg3 h2 X3) ⟨43, by decide⟩) (off19_eq i 344 (by decide)) rfl (hG 43 (by decide))
  refine Filled.slab ?_ _ _ (rowPayD (body_same.sl.r_3 i) (body_same.sl.r_1 i arg2 arg5 h2 X2 X5) (body_same.sl.r_2 i arg3 h2 X3) ⟨42, by decide⟩) (off19_eq i 336 (by decide)) rfl (hG 42 (by decide))
  refine Filled.slab ?_ _ _ (rowPayD (body_same.sl.r_3 i) (body_same.sl.r_1 i arg2 arg5 h2 X2 X5) (body_same.sl.r_2 i arg3 h2 X3) ⟨41, by decide⟩) (off19_eq i 328 (by decide)) rfl (hG 41 (by decide))
  refine Filled.slab ?_ _ _ (rowPayD (body_same.sl.r_3 i) (body_same.sl.r_1 i arg2 arg5 h2 X2 X5) (body_same.sl.r_2 i arg3 h2 X3) ⟨40, by decide⟩) (off19_eq i 320 (by decide)) rfl (hG 40 (by decide))
  refine Filled.slab ?_ _ _ (rowPayD (body_same.sl.r_3 i) (body_same.sl.r_1 i arg2 arg5 h2 X2 X5) (body_same.sl.r_2 i arg3 h2 X3) ⟨39, by decide⟩) (off19_eq i 312 (by decide)) rfl (hG 39 (by decide))
  refine Filled.slab ?_ _ _ (rowPayD (body_same.sl.r_3 i) (body_same.sl.r_1 i arg2 arg5 h2 X2 X5) (body_same.sl.r_2 i arg3 h2 X3) ⟨38, by decide⟩) (off19_eq i 304 (by decide)) rfl (hG 38 (by decide))
  refine Filled.slab ?_ _ _ (rowPayD (body_same.sl.r_3 i) (body_same.sl.r_1 i arg2 arg5 h2 X2 X5) (body_same.sl.r_2 i arg3 h2 X3) ⟨37, by decide⟩) (off19_eq i 296 (by decide)) rfl (hG 37 (by decide))
  refine Filled.slab ?_ _ _ (rowPayD (body_same.sl.r_3 i) (body_same.sl.r_1 i arg2 arg5 h2 X2 X5) (body_same.sl.r_2 i arg3 h2 X3) ⟨36, by decide⟩) (off19_eq i 288 (by decide)) rfl (hG 36 (by decide))
  refine Filled.slab ?_ _ _ (rowPayD (body_same.sl.r_3 i) (body_same.sl.r_1 i arg2 arg5 h2 X2 X5) (body_same.sl.r_2 i arg3 h2 X3) ⟨35, by decide⟩) (off19_eq i 280 (by decide)) rfl (hG 35 (by decide))
  refine Filled.slab ?_ _ _ (rowPayD (body_same.sl.r_3 i) (body_same.sl.r_1 i arg2 arg5 h2 X2 X5) (body_same.sl.r_2 i arg3 h2 X3) ⟨34, by decide⟩) (off19_eq i 272 (by decide)) rfl (hG 34 (by decide))
  refine Filled.slab ?_ _ _ (rowPayD (body_same.sl.r_3 i) (body_same.sl.r_1 i arg2 arg5 h2 X2 X5) (body_same.sl.r_2 i arg3 h2 X3) ⟨33, by decide⟩) (off19_eq i 264 (by decide)) rfl (hG 33 (by decide))
  refine Filled.slab ?_ _ _ (rowPayD (body_same.sl.r_3 i) (body_same.sl.r_1 i arg2 arg5 h2 X2 X5) (body_same.sl.r_2 i arg3 h2 X3) ⟨32, by decide⟩) (off19_eq i 256 (by decide)) rfl (hG 32 (by decide))
  refine Filled.slab ?_ _ _ (rowPayD (body_same.sl.r_3 i) (body_same.sl.r_1 i arg2 arg5 h2 X2 X5) (body_same.sl.r_2 i arg3 h2 X3) ⟨31, by decide⟩) (off19_eq i 248 (by decide)) rfl (hG 31 (by decide))
  refine Filled.slab ?_ _ _ (rowPayD (body_same.sl.r_3 i) (body_same.sl.r_1 i arg2 arg5 h2 X2 X5) (body_same.sl.r_2 i arg3 h2 X3) ⟨30, by decide⟩) (off19_eq i 240 (by decide)) rfl (hG 30 (by decide))
  refine Filled.slab ?_ _ _ (rowPayD (body_same.sl.r_3 i) (body_same.sl.r_1 i arg2 arg5 h2 X2 X5) (body_same.sl.r_2 i arg3 h2 X3) ⟨29, by decide⟩) (off19_eq i 232 (by decide)) rfl (hG 29 (by decide))
  refine Filled.slab ?_ _ _ (rowPayD (body_same.sl.r_3 i) (body_same.sl.r_1 i arg2 arg5 h2 X2 X5) (body_same.sl.r_2 i arg3 h2 X3) ⟨28, by decide⟩) (off19_eq i 224 (by decide)) rfl (hG 28 (by decide))
  refine Filled.slab ?_ _ _ (rowPayD (body_same.sl.r_3 i) (body_same.sl.r_1 i arg2 arg5 h2 X2 X5) (body_same.sl.r_2 i arg3 h2 X3) ⟨27, by decide⟩) (off19_eq i 216 (by decide)) rfl (hG 27 (by decide))
  refine Filled.slab ?_ _ _ (rowPayD (body_same.sl.r_3 i) (body_same.sl.r_1 i arg2 arg5 h2 X2 X5) (body_same.sl.r_2 i arg3 h2 X3) ⟨26, by decide⟩) (off19_eq i 208 (by decide)) rfl (hG 26 (by decide))
  refine Filled.slab ?_ _ _ (rowPayD (body_same.sl.r_3 i) (body_same.sl.r_1 i arg2 arg5 h2 X2 X5) (body_same.sl.r_2 i arg3 h2 X3) ⟨25, by decide⟩) (off19_eq i 200 (by decide)) rfl (hG 25 (by decide))
  refine Filled.slab ?_ _ _ (rowPayD (body_same.sl.r_3 i) (body_same.sl.r_1 i arg2 arg5 h2 X2 X5) (body_same.sl.r_2 i arg3 h2 X3) ⟨24, by decide⟩) (off19_eq i 192 (by decide)) rfl (hG 24 (by decide))
  refine Filled.slab ?_ _ _ (rowPayD (body_same.sl.r_3 i) (body_same.sl.r_1 i arg2 arg5 h2 X2 X5) (body_same.sl.r_2 i arg3 h2 X3) ⟨23, by decide⟩) (off19_eq i 184 (by decide)) rfl (hG 23 (by decide))
  refine Filled.slab ?_ _ _ (rowPayD (body_same.sl.r_3 i) (body_same.sl.r_1 i arg2 arg5 h2 X2 X5) (body_same.sl.r_2 i arg3 h2 X3) ⟨22, by decide⟩) (off19_eq i 176 (by decide)) rfl (hG 22 (by decide))
  refine Filled.slab ?_ _ _ (rowPayD (body_same.sl.r_3 i) (body_same.sl.r_1 i arg2 arg5 h2 X2 X5) (body_same.sl.r_2 i arg3 h2 X3) ⟨21, by decide⟩) (off19_eq i 168 (by decide)) rfl (hG 21 (by decide))
  refine Filled.slab ?_ _ _ (rowPayD (body_same.sl.r_3 i) (body_same.sl.r_1 i arg2 arg5 h2 X2 X5) (body_same.sl.r_2 i arg3 h2 X3) ⟨20, by decide⟩) (off19_eq i 160 (by decide)) rfl (hG 20 (by decide))
  refine Filled.slab ?_ _ _ (rowPayD (body_same.sl.r_3 i) (body_same.sl.r_1 i arg2 arg5 h2 X2 X5) (body_same.sl.r_2 i arg3 h2 X3) ⟨19, by decide⟩) (off19_eq i 152 (by decide)) rfl (hG 19 (by decide))
  refine Filled.slab ?_ _ _ (rowPayD (body_same.sl.r_3 i) (body_same.sl.r_1 i arg2 arg5 h2 X2 X5) (body_same.sl.r_2 i arg3 h2 X3) ⟨18, by decide⟩) (off19_eq i 144 (by decide)) rfl (hG 18 (by decide))
  refine Filled.slab ?_ _ _ (rowPayD (body_same.sl.r_3 i) (body_same.sl.r_1 i arg2 arg5 h2 X2 X5) (body_same.sl.r_2 i arg3 h2 X3) ⟨17, by decide⟩) (off19_eq i 136 (by decide)) rfl (hG 17 (by decide))
  refine Filled.slab ?_ _ _ (rowPayD (body_same.sl.r_3 i) (body_same.sl.r_1 i arg2 arg5 h2 X2 X5) (body_same.sl.r_2 i arg3 h2 X3) ⟨16, by decide⟩) (off19_eq i 128 (by decide)) rfl (hG 16 (by decide))
  refine Filled.slab ?_ _ _ (rowPayD (body_same.sl.r_3 i) (body_same.sl.r_1 i arg2 arg5 h2 X2 X5) (body_same.sl.r_2 i arg3 h2 X3) ⟨15, by decide⟩) (off19_eq i 120 (by decide)) rfl (hG 15 (by decide))
  refine Filled.slab ?_ _ _ (rowPayD (body_same.sl.r_3 i) (body_same.sl.r_1 i arg2 arg5 h2 X2 X5) (body_same.sl.r_2 i arg3 h2 X3) ⟨14, by decide⟩) (off19_eq i 112 (by decide)) rfl (hG 14 (by decide))
  refine Filled.slab ?_ _ _ (rowPayD (body_same.sl.r_3 i) (body_same.sl.r_1 i arg2 arg5 h2 X2 X5) (body_same.sl.r_2 i arg3 h2 X3) ⟨13, by decide⟩) (off19_eq i 104 (by decide)) rfl (hG 13 (by decide))
  refine Filled.slab ?_ _ _ (rowPayD (body_same.sl.r_3 i) (body_same.sl.r_1 i arg2 arg5 h2 X2 X5) (body_same.sl.r_2 i arg3 h2 X3) ⟨12, by decide⟩) (off19_eq i 96 (by decide)) rfl (hG 12 (by decide))
  refine Filled.slab ?_ _ _ (rowPayD (body_same.sl.r_3 i) (body_same.sl.r_1 i arg2 arg5 h2 X2 X5) (body_same.sl.r_2 i arg3 h2 X3) ⟨11, by decide⟩) (off19_eq i 88 (by decide)) rfl (hG 11 (by decide))
  refine Filled.slab ?_ _ _ (rowPayD (body_same.sl.r_3 i) (body_same.sl.r_1 i arg2 arg5 h2 X2 X5) (body_same.sl.r_2 i arg3 h2 X3) ⟨10, by decide⟩) (off19_eq i 80 (by decide)) rfl (hG 10 (by decide))
  refine Filled.slab ?_ _ _ (rowPayD (body_same.sl.r_3 i) (body_same.sl.r_1 i arg2 arg5 h2 X2 X5) (body_same.sl.r_2 i arg3 h2 X3) ⟨9, by decide⟩) (off19_eq i 72 (by decide)) rfl (hG 9 (by decide))
  refine Filled.slab ?_ _ _ (rowPayD (body_same.sl.r_3 i) (body_same.sl.r_1 i arg2 arg5 h2 X2 X5) (body_same.sl.r_2 i arg3 h2 X3) ⟨8, by decide⟩) (off19_eq i 64 (by decide)) rfl (hG 8 (by decide))
  refine Filled.slab ?_ _ _ (rowPayD (body_same.sl.r_3 i) (body_same.sl.r_1 i arg2 arg5 h2 X2 X5) (body_same.sl.r_2 i arg3 h2 X3) ⟨7, by decide⟩) (off19_eq i 56 (by decide)) rfl (hG 7 (by decide))
  refine Filled.slab ?_ _ _ (rowPayD (body_same.sl.r_3 i) (body_same.sl.r_1 i arg2 arg5 h2 X2 X5) (body_same.sl.r_2 i arg3 h2 X3) ⟨6, by decide⟩) (off19_eq i 48 (by decide)) rfl (hG 6 (by decide))
  refine Filled.slab ?_ _ _ (rowPayD (body_same.sl.r_3 i) (body_same.sl.r_1 i arg2 arg5 h2 X2 X5) (body_same.sl.r_2 i arg3 h2 X3) ⟨5, by decide⟩) (off19_eq i 40 (by decide)) rfl (hG 5 (by decide))
  refine Filled.slab ?_ _ _ (rowPayD (body_same.sl.r_3 i) (body_same.sl.r_1 i arg2 arg5 h2 X2 X5) (body_same.sl.r_2 i arg3 h2 X3) ⟨4, by decide⟩) (off19_eq i 32 (by decide)) rfl (hG 4 (by decide))
  refine Filled.slab ?_ _ _ (rowPayD (body_same.sl.r_3 i) (body_same.sl.r_1 i arg2 arg5 h2 X2 X5) (body_same.sl.r_2 i arg3 h2 X3) ⟨3, by decide⟩) (off19_eq i 24 (by decide)) rfl (hG 3 (by decide))
  refine Filled.slab ?_ _ _ (rowPayD (body_same.sl.r_3 i) (body_same.sl.r_1 i arg2 arg5 h2 X2 X5) (body_same.sl.r_2 i arg3 h2 X3) ⟨2, by decide⟩) (off19_eq i 16 (by decide)) rfl (hG 2 (by decide))
  refine Filled.slab ?_ _ _ (rowPayD (body_same.sl.r_3 i) (body_same.sl.r_1 i arg2 arg5 h2 X2 X5) (body_same.sl.r_2 i arg3 h2 X3) ⟨1, by decide⟩) (off19_eq i 8 (by decide)) rfl (hG 1 (by decide))
  refine Filled.slab ?_ _ _ (rowPayD (body_same.sl.r_3 i) (body_same.sl.r_1 i arg2 arg5 h2 X2 X5) (body_same.sl.r_2 i arg3 h2 X3) ⟨0, by decide⟩) (off19_eq i 0 (by decide)) rfl (hG 0 (by decide))
  exact Filled.nil _ _ _

theorem body_same_form (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : ¬ k0_cond1 i = 1#1) (h2 : k0_cond2 i = 1#1) (h5 : k0_cond5 i = 1#1) (hn : (i 1).val < 1024) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) :
    ∃ L, (body_same 𝒱 c bd i arg2 harg2 arg3 harg3 arg4 harg4 arg5 harg5 arg6 harg6 arg7 harg7 arg8 harg8 arg9 harg9 arg10 harg10 h1 h2 h5 X2 X3 X4 X5 X6 f7 f8 f9 f10).2.1 = arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y ((st_k0_t5 𝒱 c bd i arg2 harg2 arg3 harg3 arg4 harg4 arg5 harg5 arg6 harg6 arg7 harg7 arg8 harg8 arg9 harg9 arg10 harg10 (body_same.sl.v2 i) h2 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L) k0_pay1874 (Scf.trips (k0_t5_loop i).lb (k0_t5_loop i).ub (k0_t5_loop i).st)).2 ++ L)
      ∧ (body_same 𝒱 c bd i arg2 harg2 arg3 harg3 arg4 harg4 arg5 harg5 arg6 harg6 arg7 harg7 arg8 harg8 arg9 harg9 arg10 harg10 h1 h2 h5 X2 X3 X4 X5 X6 f7 f8 f9 f10).2.2.2.1 = arg10.view.writes (Elt Ideal) f10 (leave (st_k0_t5 𝒱 c bd i arg2 harg2 arg3 harg3 arg4 harg4 arg5 harg5 arg6 harg6 arg7 harg7 arg8 harg8 arg9 harg9 arg10 harg10 (body_same.sl.v2 i) h2 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L) k0_pay1874 (Scf.trips (k0_t5_loop i).lb (k0_t5_loop i).ub (k0_t5_loop i).st)).1 (arg10.view.readAt (Elt Ideal) (Rect.unit (s := S8x256) ![0, 0] ![8, 256] inb_S8x256_S8x256_0_0).toLoadRect f10))
      ∧ Filled arg8.view (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L (1024 * lastSpan i) 128 (Ym (i 1).val (arg2.view.read (Elt Ideal) X2) (arg3.view.read (Elt Ideal) X3) (arg5.view.read (Elt Ideal) X5)) := by
  obtain ⟨L, e8, e10, hL⟩ := body_same_form0 𝒱 c bd i arg2 harg2 arg3 harg3 arg4 harg4 arg5 harg5 arg6 harg6 arg7 harg7 arg8 harg8 arg9 harg9 arg10 harg10 h1 h2 h5 X2 X3 X4 X5 X6 f7 f8 f9 f10 _ (body_same_rows 𝒱 c bd i arg2 harg2 arg3 harg3 arg4 harg4 arg5 harg5 arg6 harg6 arg7 harg7 arg8 harg8 arg9 harg9 arg10 harg10 h2 hn X2 X3 X4 X5 f10)
  refine ⟨L, e8.trans ?_, e10.trans ?_, hL⟩
  · rw [no_trips6 i, st_k0_t6.eq_1, List.nil_append]
  · rw [no_trips6 i, st_k0_t6.eq_1]

theorem body_new_rows (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (hn : (i 1).val < 1024) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (r : ℕ) (hr : r < 128) (x : S8x256.Idx) :
    rowPayD (body_new.sl.r_3 i) (body_new.sl.r_1 i arg2 arg5 h2 X2 X5) (body_new.sl.r_2 i arg3 h2 X3) ⟨r, hr⟩ x
      = (Ym (i 1).val (arg2.view.read (Elt Ideal) X2) (arg3.view.read (Elt Ideal) X3) (arg5.view.read (Elt Ideal) X5)) (1024 * lastSpan i + 8 * r + (x 0).val) (x 1) := by
  have hx : (x 0).val < 8 := (x 0).isLt
  have hk : lastSpan i < 32 := by unfold lastSpan; omega
  have e3 : body_new.sl.r_3 i = k0_pay1374 (BitVec.ofNat 32 (i 1).val) (BitVec.ofNat 32 (lastSpan i)) := by
    unfold body_new.sl.r_3 body_new.sl.v2 body_new.sl.v1 body_new.sl.v0
    rw [last_eq i hn]
  have hc := ahead_apply i hn x r hr
  have hy : rowPay (body_new.sl.r_1 i arg2 arg5 h2 X2 X5) (body_new.sl.r_2 i arg3 h2 X3) ⟨r, hr⟩ x
      = Yf (arg2.view.read (Elt Ideal) X2) (arg3.view.read (Elt Ideal) X3) (arg5.view.read (Elt Ideal) X5) (1024 * lastSpan i + 8 * r + (x 0).val) (x 1) := by
    rw [rowPay_apply]
    unfold Yf
    unfold body_new.sl.r_1 body_new.sl.r_2
    rw [score_apply', scale_apply']
    refine congrArg₂ (· * ·) ?_ ?_
    · refine Finset.sum_congr rfl fun d _ => ?_
      refine congrArg₂ (· * ·) ?_ ?_
      · refine readAt_off arg2.view _ X2 _ _ (off17_eq i) ?_
        intro a; fin_cases a
        · rfl
        · show (1024 * lastSpan i + 8 * r + (x 0).val) % 32768 = _
          rw [Nat.mod_eq_of_lt (by omega)]
          show _ = 1024 * lastSpan i + (8 * r + (x 0).val)
          omega
        · exact (Nat.zero_add _).symm
      · refine readAt_off arg5.view _ X5 _ _ rfl ?_
        intro a; fin_cases a
        · rfl
        · rfl
        · exact (Nat.zero_add _).symm
        · exact (Nat.zero_add _).symm
    · refine readAt_off arg3.view _ X3 _ _ (off18_eq i) ?_
      intro a; fin_cases a
      · rfl
      · show (1024 * lastSpan i + 8 * r + (x 0).val) / 1024 % 32 = lastSpan i + 0
        omega
      · show (1024 * lastSpan i + 8 * r + (x 0).val) % 8 % 8 = 0 + (x 0).val
        omega
      · show (1024 * lastSpan i + 8 * r + (x 0).val) % 1024 / 8 % 128 = 0 + r
        omega
  rw [rowPayD_apply, e3, hy]
  unfold Ym
  by_cases hle : 1024 * lastSpan i + 8 * r + (x 0).val ≤ 32 * (i 1).val + (x 1).val % 32
  · rw [if_pos (hc.mpr hle), if_pos hle]
  · rw [if_neg (fun h => hle (hc.mp h)), if_neg hle]
    exact bot_bits

set_option maxHeartbeats 0 in
theorem body_new_stack (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) : body_new.sl.r_173 i arg2 arg3 arg5 h2 X2 X3 X5 = stack (rowPayD (body_new.sl.r_3 i) (body_new.sl.r_1 i arg2 arg5 h2 X2 X5) (body_new.sl.r_2 i arg3 h2 X3)) := rfl

set_option maxHeartbeats 0 in
theorem body_new_fold (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (f8 : BufTy.Contents (Elt Ideal) arg8.view.ty) (f10 : BufTy.Contents (Elt Ideal) arg10.view.ty) :
    body_new.sl.r_310 𝒱 c bd i arg2 harg2 arg3 harg3 arg4 harg4 arg5 harg5 arg6 harg6 arg7 harg7 arg8 harg8 arg9 harg9 arg10 harg10 h2 X2 X3 X4 X5 f8 f10 = foldV max (body_new.sl.r 𝒱 c bd i arg2 harg2 arg3 harg3 arg4 harg4 arg5 harg5 arg6 harg6 arg7 harg7 arg8 harg8 arg9 harg9 arg10 harg10 h2 X2 X3 X4 X5 f8 f10) (body_new.sl.r_173 i arg2 arg3 arg5 h2 X2 X3 X5) := by
  funext x
  rfl

set_option maxHeartbeats 0 in
theorem body_new_form0 (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : ¬ k0_cond1 i = 1#1) (h2 : k0_cond2 i = 1#1) (h5 : ¬ k0_cond5 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (G : ℕ → Fin 256 → EReal)
    (hG : ∀ (r : ℕ) (hr : r < 128) (x : S8x256.Idx), rowPayD (body_new.sl.r_3 i) (body_new.sl.r_1 i arg2 arg5 h2 X2 X5) (body_new.sl.r_2 i arg3 h2 X3) ⟨r, hr⟩ x = G (1024 * lastSpan i + 8 * r + (x 0).val) (x 1)) :
    ∃ L, (body_new 𝒱 c bd i arg2 harg2 arg3 harg3 arg4 harg4 arg5 harg5 arg6 harg6 arg7 harg7 arg8 harg8 arg9 harg9 arg10 harg10 h1 h2 h5 X2 X3 X4 X5 X6 f7 f8 f9 f10).2.1 = arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y ((st_k0_t6 𝒱 c bd i arg2 harg2 arg3 harg3 arg4 harg4 arg5 harg5 arg6 harg6 arg7 harg7 arg8 harg8 arg9 harg9 arg10 harg10 (body_new.sl.v2 i) h2 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (body_new.sl.v2152 i) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y ((st_k0_t5 𝒱 c bd i arg2 harg2 arg3 harg3 arg4 harg4 arg5 harg5 arg6 harg6 arg7 harg7 arg8 harg8 arg9 harg9 arg10 harg10 (body_new.sl.v2 i) h2 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L) k0_pay1874 (Scf.trips (k0_t5_loop i).lb (k0_t5_loop i).ub (k0_t5_loop i).st)).2 ++ L)) (st_k0_t5 𝒱 c bd i arg2 harg2 arg3 harg3 arg4 harg4 arg5 harg5 arg6 harg6 arg7 harg7 arg8 harg8 arg9 harg9 arg10 harg10 (body_new.sl.v2 i) h2 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L) k0_pay1874 (Scf.trips (k0_t5_loop i).lb (k0_t5_loop i).ub (k0_t5_loop i).st)).1 (Scf.trips (k0_t6_loop i).lb (k0_t6_loop i).ub (k0_t6_loop i).st)).2 ++ ((st_k0_t5 𝒱 c bd i arg2 harg2 arg3 harg3 arg4 harg4 arg5 harg5 arg6 harg6 arg7 harg7 arg8 harg8 arg9 harg9 arg10 harg10 (body_new.sl.v2 i) h2 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L) k0_pay1874 (Scf.trips (k0_t5_loop i).lb (k0_t5_loop i).ub (k0_t5_loop i).st)).2 ++ L))
      ∧ (body_new 𝒱 c bd i arg2 harg2 arg3 harg3 arg4 harg4 arg5 harg5 arg6 harg6 arg7 harg7 arg8 harg8 arg9 harg9 arg10 harg10 h1 h2 h5 X2 X3 X4 X5 X6 f7 f8 f9 f10).2.2.2.1 = arg10.view.writes (Elt Ideal) f10 (leave (st_k0_t6 𝒱 c bd i arg2 harg2 arg3 harg3 arg4 harg4 arg5 harg5 arg6 harg6 arg7 harg7 arg8 harg8 arg9 harg9 arg10 harg10 (body_new.sl.v2 i) h2 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (body_new.sl.v2152 i) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y ((st_k0_t5 𝒱 c bd i arg2 harg2 arg3 harg3 arg4 harg4 arg5 harg5 arg6 harg6 arg7 harg7 arg8 harg8 arg9 harg9 arg10 harg10 (body_new.sl.v2 i) h2 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L) k0_pay1874 (Scf.trips (k0_t5_loop i).lb (k0_t5_loop i).ub (k0_t5_loop i).st)).2 ++ L)) (st_k0_t5 𝒱 c bd i arg2 harg2 arg3 harg3 arg4 harg4 arg5 harg5 arg6 harg6 arg7 harg7 arg8 harg8 arg9 harg9 arg10 harg10 (body_new.sl.v2 i) h2 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L) k0_pay1874 (Scf.trips (k0_t5_loop i).lb (k0_t5_loop i).ub (k0_t5_loop i).st)).1 (Scf.trips (k0_t6_loop i).lb (k0_t6_loop i).ub (k0_t6_loop i).st)).1 (arg10.view.readAt (Elt Ideal) (Rect.unit (s := S8x256) ![0, 0] ![8, 256] inb_S8x256_S8x256_0_0).toLoadRect f10))
      ∧ Filled arg8.view (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L (1024 * lastSpan i) 128 G := by
  unfold body_new
  dsimp only
  refine ⟨_, rfl, rfl, ?_⟩
  refine Filled.slab ?_ _ _ (rowPayD (body_new.sl.r_3 i) (body_new.sl.r_1 i arg2 arg5 h2 X2 X5) (body_new.sl.r_2 i arg3 h2 X3) ⟨127, by decide⟩) (off19_eq i 1016 (by decide)) rfl (hG 127 (by decide))
  refine Filled.slab ?_ _ _ (rowPayD (body_new.sl.r_3 i) (body_new.sl.r_1 i arg2 arg5 h2 X2 X5) (body_new.sl.r_2 i arg3 h2 X3) ⟨126, by decide⟩) (off19_eq i 1008 (by decide)) rfl (hG 126 (by decide))
  refine Filled.slab ?_ _ _ (rowPayD (body_new.sl.r_3 i) (body_new.sl.r_1 i arg2 arg5 h2 X2 X5) (body_new.sl.r_2 i arg3 h2 X3) ⟨125, by decide⟩) (off19_eq i 1000 (by decide)) rfl (hG 125 (by decide))
  refine Filled.slab ?_ _ _ (rowPayD (body_new.sl.r_3 i) (body_new.sl.r_1 i arg2 arg5 h2 X2 X5) (body_new.sl.r_2 i arg3 h2 X3) ⟨124, by decide⟩) (off19_eq i 992 (by decide)) rfl (hG 124 (by decide))
  refine Filled.slab ?_ _ _ (rowPayD (body_new.sl.r_3 i) (body_new.sl.r_1 i arg2 arg5 h2 X2 X5) (body_new.sl.r_2 i arg3 h2 X3) ⟨123, by decide⟩) (off19_eq i 984 (by decide)) rfl (hG 123 (by decide))
  refine Filled.slab ?_ _ _ (rowPayD (body_new.sl.r_3 i) (body_new.sl.r_1 i arg2 arg5 h2 X2 X5) (body_new.sl.r_2 i arg3 h2 X3) ⟨122, by decide⟩) (off19_eq i 976 (by decide)) rfl (hG 122 (by decide))
  refine Filled.slab ?_ _ _ (rowPayD (body_new.sl.r_3 i) (body_new.sl.r_1 i arg2 arg5 h2 X2 X5) (body_new.sl.r_2 i arg3 h2 X3) ⟨121, by decide⟩) (off19_eq i 968 (by decide)) rfl (hG 121 (by decide))
  refine Filled.slab ?_ _ _ (rowPayD (body_new.sl.r_3 i) (body_new.sl.r_1 i arg2 arg5 h2 X2 X5) (body_new.sl.r_2 i arg3 h2 X3) ⟨120, by decide⟩) (off19_eq i 960 (by decide)) rfl (hG 120 (by decide))
  refine Filled.slab ?_ _ _ (rowPayD (body_new.sl.r_3 i) (body_new.sl.r_1 i arg2 arg5 h2 X2 X5) (body_new.sl.r_2 i arg3 h2 X3) ⟨119, by decide⟩) (off19_eq i 952 (by decide)) rfl (hG 119 (by decide))
  refine Filled.slab ?_ _ _ (rowPayD (body_new.sl.r_3 i) (body_new.sl.r_1 i arg2 arg5 h2 X2 X5) (body_new.sl.r_2 i arg3 h2 X3) ⟨118, by decide⟩) (off19_eq i 944 (by decide)) rfl (hG 118 (by decide))
  refine Filled.slab ?_ _ _ (rowPayD (body_new.sl.r_3 i) (body_new.sl.r_1 i arg2 arg5 h2 X2 X5) (body_new.sl.r_2 i arg3 h2 X3) ⟨117, by decide⟩) (off19_eq i 936 (by decide)) rfl (hG 117 (by decide))
  refine Filled.slab ?_ _ _ (rowPayD (body_new.sl.r_3 i) (body_new.sl.r_1 i arg2 arg5 h2 X2 X5) (body_new.sl.r_2 i arg3 h2 X3) ⟨116, by decide⟩) (off19_eq i 928 (by decide)) rfl (hG 116 (by decide))
  refine Filled.slab ?_ _ _ (rowPayD (body_new.sl.r_3 i) (body_new.sl.r_1 i arg2 arg5 h2 X2 X5) (body_new.sl.r_2 i arg3 h2 X3) ⟨115, by decide⟩) (off19_eq i 920 (by decide)) rfl (hG 115 (by decide))
  refine Filled.slab ?_ _ _ (rowPayD (body_new.sl.r_3 i) (body_new.sl.r_1 i arg2 arg5 h2 X2 X5) (body_new.sl.r_2 i arg3 h2 X3) ⟨114, by decide⟩) (off19_eq i 912 (by decide)) rfl (hG 114 (by decide))
  refine Filled.slab ?_ _ _ (rowPayD (body_new.sl.r_3 i) (body_new.sl.r_1 i arg2 arg5 h2 X2 X5) (body_new.sl.r_2 i arg3 h2 X3) ⟨113, by decide⟩) (off19_eq i 904 (by decide)) rfl (hG 113 (by decide))
  refine Filled.slab ?_ _ _ (rowPayD (body_new.sl.r_3 i) (body_new.sl.r_1 i arg2 arg5 h2 X2 X5) (body_new.sl.r_2 i arg3 h2 X3) ⟨112, by decide⟩) (off19_eq i 896 (by decide)) rfl (hG 112 (by decide))
  refine Filled.slab ?_ _ _ (rowPayD (body_new.sl.r_3 i) (body_new.sl.r_1 i arg2 arg5 h2 X2 X5) (body_new.sl.r_2 i arg3 h2 X3) ⟨111, by decide⟩) (off19_eq i 888 (by decide)) rfl (hG 111 (by decide))
  refine Filled.slab ?_ _ _ (rowPayD (body_new.sl.r_3 i) (body_new.sl.r_1 i arg2 arg5 h2 X2 X5) (body_new.sl.r_2 i arg3 h2 X3) ⟨110, by decide⟩) (off19_eq i 880 (by decide)) rfl (hG 110 (by decide))
  refine Filled.slab ?_ _ _ (rowPayD (body_new.sl.r_3 i) (body_new.sl.r_1 i arg2 arg5 h2 X2 X5) (body_new.sl.r_2 i arg3 h2 X3) ⟨109, by decide⟩) (off19_eq i 872 (by decide)) rfl (hG 109 (by decide))
  refine Filled.slab ?_ _ _ (rowPayD (body_new.sl.r_3 i) (body_new.sl.r_1 i arg2 arg5 h2 X2 X5) (body_new.sl.r_2 i arg3 h2 X3) ⟨108, by decide⟩) (off19_eq i 864 (by decide)) rfl (hG 108 (by decide))
  refine Filled.slab ?_ _ _ (rowPayD (body_new.sl.r_3 i) (body_new.sl.r_1 i arg2 arg5 h2 X2 X5) (body_new.sl.r_2 i arg3 h2 X3) ⟨107, by decide⟩) (off19_eq i 856 (by decide)) rfl (hG 107 (by decide))
  refine Filled.slab ?_ _ _ (rowPayD (body_new.sl.r_3 i) (body_new.sl.r_1 i arg2 arg5 h2 X2 X5) (body_new.sl.r_2 i arg3 h2 X3) ⟨106, by decide⟩) (off19_eq i 848 (by decide)) rfl (hG 106 (by decide))
  refine Filled.slab ?_ _ _ (rowPayD (body_new.sl.r_3 i) (body_new.sl.r_1 i arg2 arg5 h2 X2 X5) (body_new.sl.r_2 i arg3 h2 X3) ⟨105, by decide⟩) (off19_eq i 840 (by decide)) rfl (hG 105 (by decide))
  refine Filled.slab ?_ _ _ (rowPayD (body_new.sl.r_3 i) (body_new.sl.r_1 i arg2 arg5 h2 X2 X5) (body_new.sl.r_2 i arg3 h2 X3) ⟨104, by decide⟩) (off19_eq i 832 (by decide)) rfl (hG 104 (by decide))
  refine Filled.slab ?_ _ _ (rowPayD (body_new.sl.r_3 i) (body_new.sl.r_1 i arg2 arg5 h2 X2 X5) (body_new.sl.r_2 i arg3 h2 X3) ⟨103, by decide⟩) (off19_eq i 824 (by decide)) rfl (hG 103 (by decide))
  refine Filled.slab ?_ _ _ (rowPayD (body_new.sl.r_3 i) (body_new.sl.r_1 i arg2 arg5 h2 X2 X5) (body_new.sl.r_2 i arg3 h2 X3) ⟨102, by decide⟩) (off19_eq i 816 (by decide)) rfl (hG 102 (by decide))
  refine Filled.slab ?_ _ _ (rowPayD (body_new.sl.r_3 i) (body_new.sl.r_1 i arg2 arg5 h2 X2 X5) (body_new.sl.r_2 i arg3 h2 X3) ⟨101, by decide⟩) (off19_eq i 808 (by decide)) rfl (hG 101 (by decide))
  refine Filled.slab ?_ _ _ (rowPayD (body_new.sl.r_3 i) (body_new.sl.r_1 i arg2 arg5 h2 X2 X5) (body_new.sl.r_2 i arg3 h2 X3) ⟨100, by decide⟩) (off19_eq i 800 (by decide)) rfl (hG 100 (by decide))
  refine Filled.slab ?_ _ _ (rowPayD (body_new.sl.r_3 i) (body_new.sl.r_1 i arg2 arg5 h2 X2 X5) (body_new.sl.r_2 i arg3 h2 X3) ⟨99, by decide⟩) (off19_eq i 792 (by decide)) rfl (hG 99 (by decide))
  refine Filled.slab ?_ _ _ (rowPayD (body_new.sl.r_3 i) (body_new.sl.r_1 i arg2 arg5 h2 X2 X5) (body_new.sl.r_2 i arg3 h2 X3) ⟨98, by decide⟩) (off19_eq i 784 (by decide)) rfl (hG 98 (by decide))
  refine Filled.slab ?_ _ _ (rowPayD (body_new.sl.r_3 i) (body_new.sl.r_1 i arg2 arg5 h2 X2 X5) (body_new.sl.r_2 i arg3 h2 X3) ⟨97, by decide⟩) (off19_eq i 776 (by decide)) rfl (hG 97 (by decide))
  refine Filled.slab ?_ _ _ (rowPayD (body_new.sl.r_3 i) (body_new.sl.r_1 i arg2 arg5 h2 X2 X5) (body_new.sl.r_2 i arg3 h2 X3) ⟨96, by decide⟩) (off19_eq i 768 (by decide)) rfl (hG 96 (by decide))
  refine Filled.slab ?_ _ _ (rowPayD (body_new.sl.r_3 i) (body_new.sl.r_1 i arg2 arg5 h2 X2 X5) (body_new.sl.r_2 i arg3 h2 X3) ⟨95, by decide⟩) (off19_eq i 760 (by decide)) rfl (hG 95 (by decide))
  refine Filled.slab ?_ _ _ (rowPayD (body_new.sl.r_3 i) (body_new.sl.r_1 i arg2 arg5 h2 X2 X5) (body_new.sl.r_2 i arg3 h2 X3) ⟨94, by decide⟩) (off19_eq i 752 (by decide)) rfl (hG 94 (by decide))
  refine Filled.slab ?_ _ _ (rowPayD (body_new.sl.r_3 i) (body_new.sl.r_1 i arg2 arg5 h2 X2 X5) (body_new.sl.r_2 i arg3 h2 X3) ⟨93, by decide⟩) (off19_eq i 744 (by decide)) rfl (hG 93 (by decide))
  refine Filled.slab ?_ _ _ (rowPayD (body_new.sl.r_3 i) (body_new.sl.r_1 i arg2 arg5 h2 X2 X5) (body_new.sl.r_2 i arg3 h2 X3) ⟨92, by decide⟩) (off19_eq i 736 (by decide)) rfl (hG 92 (by decide))
  refine Filled.slab ?_ _ _ (rowPayD (body_new.sl.r_3 i) (body_new.sl.r_1 i arg2 arg5 h2 X2 X5) (body_new.sl.r_2 i arg3 h2 X3) ⟨91, by decide⟩) (off19_eq i 728 (by decide)) rfl (hG 91 (by decide))
  refine Filled.slab ?_ _ _ (rowPayD (body_new.sl.r_3 i) (body_new.sl.r_1 i arg2 arg5 h2 X2 X5) (body_new.sl.r_2 i arg3 h2 X3) ⟨90, by decide⟩) (off19_eq i 720 (by decide)) rfl (hG 90 (by decide))
  refine Filled.slab ?_ _ _ (rowPayD (body_new.sl.r_3 i) (body_new.sl.r_1 i arg2 arg5 h2 X2 X5) (body_new.sl.r_2 i arg3 h2 X3) ⟨89, by decide⟩) (off19_eq i 712 (by decide)) rfl (hG 89 (by decide))
  refine Filled.slab ?_ _ _ (rowPayD (body_new.sl.r_3 i) (body_new.sl.r_1 i arg2 arg5 h2 X2 X5) (body_new.sl.r_2 i arg3 h2 X3) ⟨88, by decide⟩) (off19_eq i 704 (by decide)) rfl (hG 88 (by decide))
  refine Filled.slab ?_ _ _ (rowPayD (body_new.sl.r_3 i) (body_new.sl.r_1 i arg2 arg5 h2 X2 X5) (body_new.sl.r_2 i arg3 h2 X3) ⟨87, by decide⟩) (off19_eq i 696 (by decide)) rfl (hG 87 (by decide))
  refine Filled.slab ?_ _ _ (rowPayD (body_new.sl.r_3 i) (body_new.sl.r_1 i arg2 arg5 h2 X2 X5) (body_new.sl.r_2 i arg3 h2 X3) ⟨86, by decide⟩) (off19_eq i 688 (by decide)) rfl (hG 86 (by decide))
  refine Filled.slab ?_ _ _ (rowPayD (body_new.sl.r_3 i) (body_new.sl.r_1 i arg2 arg5 h2 X2 X5) (body_new.sl.r_2 i arg3 h2 X3) ⟨85, by decide⟩) (off19_eq i 680 (by decide)) rfl (hG 85 (by decide))
  refine Filled.slab ?_ _ _ (rowPayD (body_new.sl.r_3 i) (body_new.sl.r_1 i arg2 arg5 h2 X2 X5) (body_new.sl.r_2 i arg3 h2 X3) ⟨84, by decide⟩) (off19_eq i 672 (by decide)) rfl (hG 84 (by decide))
  refine Filled.slab ?_ _ _ (rowPayD (body_new.sl.r_3 i) (body_new.sl.r_1 i arg2 arg5 h2 X2 X5) (body_new.sl.r_2 i arg3 h2 X3) ⟨83, by decide⟩) (off19_eq i 664 (by decide)) rfl (hG 83 (by decide))
  refine Filled.slab ?_ _ _ (rowPayD (body_new.sl.r_3 i) (body_new.sl.r_1 i arg2 arg5 h2 X2 X5) (body_new.sl.r_2 i arg3 h2 X3) ⟨82, by decide⟩) (off19_eq i 656 (by decide)) rfl (hG 82 (by decide))
  refine Filled.slab ?_ _ _ (rowPayD (body_new.sl.r_3 i) (body_new.sl.r_1 i arg2 arg5 h2 X2 X5) (body_new.sl.r_2 i arg3 h2 X3) ⟨81, by decide⟩) (off19_eq i 648 (by decide)) rfl (hG 81 (by decide))
  refine Filled.slab ?_ _ _ (rowPayD (body_new.sl.r_3 i) (body_new.sl.r_1 i arg2 arg5 h2 X2 X5) (body_new.sl.r_2 i arg3 h2 X3) ⟨80, by decide⟩) (off19_eq i 640 (by decide)) rfl (hG 80 (by decide))
  refine Filled.slab ?_ _ _ (rowPayD (body_new.sl.r_3 i) (body_new.sl.r_1 i arg2 arg5 h2 X2 X5) (body_new.sl.r_2 i arg3 h2 X3) ⟨79, by decide⟩) (off19_eq i 632 (by decide)) rfl (hG 79 (by decide))
  refine Filled.slab ?_ _ _ (rowPayD (body_new.sl.r_3 i) (body_new.sl.r_1 i arg2 arg5 h2 X2 X5) (body_new.sl.r_2 i arg3 h2 X3) ⟨78, by decide⟩) (off19_eq i 624 (by decide)) rfl (hG 78 (by decide))
  refine Filled.slab ?_ _ _ (rowPayD (body_new.sl.r_3 i) (body_new.sl.r_1 i arg2 arg5 h2 X2 X5) (body_new.sl.r_2 i arg3 h2 X3) ⟨77, by decide⟩) (off19_eq i 616 (by decide)) rfl (hG 77 (by decide))
  refine Filled.slab ?_ _ _ (rowPayD (body_new.sl.r_3 i) (body_new.sl.r_1 i arg2 arg5 h2 X2 X5) (body_new.sl.r_2 i arg3 h2 X3) ⟨76, by decide⟩) (off19_eq i 608 (by decide)) rfl (hG 76 (by decide))
  refine Filled.slab ?_ _ _ (rowPayD (body_new.sl.r_3 i) (body_new.sl.r_1 i arg2 arg5 h2 X2 X5) (body_new.sl.r_2 i arg3 h2 X3) ⟨75, by decide⟩) (off19_eq i 600 (by decide)) rfl (hG 75 (by decide))
  refine Filled.slab ?_ _ _ (rowPayD (body_new.sl.r_3 i) (body_new.sl.r_1 i arg2 arg5 h2 X2 X5) (body_new.sl.r_2 i arg3 h2 X3) ⟨74, by decide⟩) (off19_eq i 592 (by decide)) rfl (hG 74 (by decide))
  refine Filled.slab ?_ _ _ (rowPayD (body_new.sl.r_3 i) (body_new.sl.r_1 i arg2 arg5 h2 X2 X5) (body_new.sl.r_2 i arg3 h2 X3) ⟨73, by decide⟩) (off19_eq i 584 (by decide)) rfl (hG 73 (by decide))
  refine Filled.slab ?_ _ _ (rowPayD (body_new.sl.r_3 i) (body_new.sl.r_1 i arg2 arg5 h2 X2 X5) (body_new.sl.r_2 i arg3 h2 X3) ⟨72, by decide⟩) (off19_eq i 576 (by decide)) rfl (hG 72 (by decide))
  refine Filled.slab ?_ _ _ (rowPayD (body_new.sl.r_3 i) (body_new.sl.r_1 i arg2 arg5 h2 X2 X5) (body_new.sl.r_2 i arg3 h2 X3) ⟨71, by decide⟩) (off19_eq i 568 (by decide)) rfl (hG 71 (by decide))
  refine Filled.slab ?_ _ _ (rowPayD (body_new.sl.r_3 i) (body_new.sl.r_1 i arg2 arg5 h2 X2 X5) (body_new.sl.r_2 i arg3 h2 X3) ⟨70, by decide⟩) (off19_eq i 560 (by decide)) rfl (hG 70 (by decide))
  refine Filled.slab ?_ _ _ (rowPayD (body_new.sl.r_3 i) (body_new.sl.r_1 i arg2 arg5 h2 X2 X5) (body_new.sl.r_2 i arg3 h2 X3) ⟨69, by decide⟩) (off19_eq i 552 (by decide)) rfl (hG 69 (by decide))
  refine Filled.slab ?_ _ _ (rowPayD (body_new.sl.r_3 i) (body_new.sl.r_1 i arg2 arg5 h2 X2 X5) (body_new.sl.r_2 i arg3 h2 X3) ⟨68, by decide⟩) (off19_eq i 544 (by decide)) rfl (hG 68 (by decide))
  refine Filled.slab ?_ _ _ (rowPayD (body_new.sl.r_3 i) (body_new.sl.r_1 i arg2 arg5 h2 X2 X5) (body_new.sl.r_2 i arg3 h2 X3) ⟨67, by decide⟩) (off19_eq i 536 (by decide)) rfl (hG 67 (by decide))
  refine Filled.slab ?_ _ _ (rowPayD (body_new.sl.r_3 i) (body_new.sl.r_1 i arg2 arg5 h2 X2 X5) (body_new.sl.r_2 i arg3 h2 X3) ⟨66, by decide⟩) (off19_eq i 528 (by decide)) rfl (hG 66 (by decide))
  refine Filled.slab ?_ _ _ (rowPayD (body_new.sl.r_3 i) (body_new.sl.r_1 i arg2 arg5 h2 X2 X5) (body_new.sl.r_2 i arg3 h2 X3) ⟨65, by decide⟩) (off19_eq i 520 (by decide)) rfl (hG 65 (by decide))
  refine Filled.slab ?_ _ _ (rowPayD (body_new.sl.r_3 i) (body_new.sl.r_1 i arg2 arg5 h2 X2 X5) (body_new.sl.r_2 i arg3 h2 X3) ⟨64, by decide⟩) (off19_eq i 512 (by decide)) rfl (hG 64 (by decide))
  refine Filled.slab ?_ _ _ (rowPayD (body_new.sl.r_3 i) (body_new.sl.r_1 i arg2 arg5 h2 X2 X5) (body_new.sl.r_2 i arg3 h2 X3) ⟨63, by decide⟩) (off19_eq i 504 (by decide)) rfl (hG 63 (by decide))
  refine Filled.slab ?_ _ _ (rowPayD (body_new.sl.r_3 i) (body_new.sl.r_1 i arg2 arg5 h2 X2 X5) (body_new.sl.r_2 i arg3 h2 X3) ⟨62, by decide⟩) (off19_eq i 496 (by decide)) rfl (hG 62 (by decide))
  refine Filled.slab ?_ _ _ (rowPayD (body_new.sl.r_3 i) (body_new.sl.r_1 i arg2 arg5 h2 X2 X5) (body_new.sl.r_2 i arg3 h2 X3) ⟨61, by decide⟩) (off19_eq i 488 (by decide)) rfl (hG 61 (by decide))
  refine Filled.slab ?_ _ _ (rowPayD (body_new.sl.r_3 i) (body_new.sl.r_1 i arg2 arg5 h2 X2 X5) (body_new.sl.r_2 i arg3 h2 X3) ⟨60, by decide⟩) (off19_eq i 480 (by decide)) rfl (hG 60 (by decide))
  refine Filled.slab ?_ _ _ (rowPayD (body_new.sl.r_3 i) (body_new.sl.r_1 i arg2 arg5 h2 X2 X5) (body_new.sl.r_2 i arg3 h2 X3) ⟨59, by decide⟩) (off19_eq i 472 (by decide)) rfl (hG 59 (by decide))
  refine Filled.slab ?_ _ _ (rowPayD (body_new.sl.r_3 i) (body_new.sl.r_1 i arg2 arg5 h2 X2 X5) (body_new.sl.r_2 i arg3 h2 X3) ⟨58, by decide⟩) (off19_eq i 464 (by decide)) rfl (hG 58 (by decide))
  refine Filled.slab ?_ _ _ (rowPayD (body_new.sl.r_3 i) (body_new.sl.r_1 i arg2 arg5 h2 X2 X5) (body_new.sl.r_2 i arg3 h2 X3) ⟨57, by decide⟩) (off19_eq i 456 (by decide)) rfl (hG 57 (by decide))
  refine Filled.slab ?_ _ _ (rowPayD (body_new.sl.r_3 i) (body_new.sl.r_1 i arg2 arg5 h2 X2 X5) (body_new.sl.r_2 i arg3 h2 X3) ⟨56, by decide⟩) (off19_eq i 448 (by decide)) rfl (hG 56 (by decide))
  refine Filled.slab ?_ _ _ (rowPayD (body_new.sl.r_3 i) (body_new.sl.r_1 i arg2 arg5 h2 X2 X5) (body_new.sl.r_2 i arg3 h2 X3) ⟨55, by decide⟩) (off19_eq i 440 (by decide)) rfl (hG 55 (by decide))
  refine Filled.slab ?_ _ _ (rowPayD (body_new.sl.r_3 i) (body_new.sl.r_1 i arg2 arg5 h2 X2 X5) (body_new.sl.r_2 i arg3 h2 X3) ⟨54, by decide⟩) (off19_eq i 432 (by decide)) rfl (hG 54 (by decide))
  refine Filled.slab ?_ _ _ (rowPayD (body_new.sl.r_3 i) (body_new.sl.r_1 i arg2 arg5 h2 X2 X5) (body_new.sl.r_2 i arg3 h2 X3) ⟨53, by decide⟩) (off19_eq i 424 (by decide)) rfl (hG 53 (by decide))
  refine Filled.slab ?_ _ _ (rowPayD (body_new.sl.r_3 i) (body_new.sl.r_1 i arg2 arg5 h2 X2 X5) (body_new.sl.r_2 i arg3 h2 X3) ⟨52, by decide⟩) (off19_eq i 416 (by decide)) rfl (hG 52 (by decide))
  refine Filled.slab ?_ _ _ (rowPayD (body_new.sl.r_3 i) (body_new.sl.r_1 i arg2 arg5 h2 X2 X5) (body_new.sl.r_2 i arg3 h2 X3) ⟨51, by decide⟩) (off19_eq i 408 (by decide)) rfl (hG 51 (by decide))
  refine Filled.slab ?_ _ _ (rowPayD (body_new.sl.r_3 i) (body_new.sl.r_1 i arg2 arg5 h2 X2 X5) (body_new.sl.r_2 i arg3 h2 X3) ⟨50, by decide⟩) (off19_eq i 400 (by decide)) rfl (hG 50 (by decide))
  refine Filled.slab ?_ _ _ (rowPayD (body_new.sl.r_3 i) (body_new.sl.r_1 i arg2 arg5 h2 X2 X5) (body_new.sl.r_2 i arg3 h2 X3) ⟨49, by decide⟩) (off19_eq i 392 (by decide)) rfl (hG 49 (by decide))
  refine Filled.slab ?_ _ _ (rowPayD (body_new.sl.r_3 i) (body_new.sl.r_1 i arg2 arg5 h2 X2 X5) (body_new.sl.r_2 i arg3 h2 X3) ⟨48, by decide⟩) (off19_eq i 384 (by decide)) rfl (hG 48 (by decide))
  refine Filled.slab ?_ _ _ (rowPayD (body_new.sl.r_3 i) (body_new.sl.r_1 i arg2 arg5 h2 X2 X5) (body_new.sl.r_2 i arg3 h2 X3) ⟨47, by decide⟩) (off19_eq i 376 (by decide)) rfl (hG 47 (by decide))
  refine Filled.slab ?_ _ _ (rowPayD (body_new.sl.r_3 i) (body_new.sl.r_1 i arg2 arg5 h2 X2 X5) (body_new.sl.r_2 i arg3 h2 X3) ⟨46, by decide⟩) (off19_eq i 368 (by decide)) rfl (hG 46 (by decide))
  refine Filled.slab ?_ _ _ (rowPayD (body_new.sl.r_3 i) (body_new.sl.r_1 i arg2 arg5 h2 X2 X5) (body_new.sl.r_2 i arg3 h2 X3) ⟨45, by decide⟩) (off19_eq i 360 (by decide)) rfl (hG 45 (by decide))
  refine Filled.slab ?_ _ _ (rowPayD (body_new.sl.r_3 i) (body_new.sl.r_1 i arg2 arg5 h2 X2 X5) (body_new.sl.r_2 i arg3 h2 X3) ⟨44, by decide⟩) (off19_eq i 352 (by decide)) rfl (hG 44 (by decide))
  refine Filled.slab ?_ _ _ (rowPayD (body_new.sl.r_3 i) (body_new.sl.r_1 i arg2 arg5 h2 X2 X5) (body_new.sl.r_2 i arg3 h2 X3) ⟨43, by decide⟩) (off19_eq i 344 (by decide)) rfl (hG 43 (by decide))
  refine Filled.slab ?_ _ _ (rowPayD (body_new.sl.r_3 i) (body_new.sl.r_1 i arg2 arg5 h2 X2 X5) (body_new.sl.r_2 i arg3 h2 X3) ⟨42, by decide⟩) (off19_eq i 336 (by decide)) rfl (hG 42 (by decide))
  refine Filled.slab ?_ _ _ (rowPayD (body_new.sl.r_3 i) (body_new.sl.r_1 i arg2 arg5 h2 X2 X5) (body_new.sl.r_2 i arg3 h2 X3) ⟨41, by decide⟩) (off19_eq i 328 (by decide)) rfl (hG 41 (by decide))
  refine Filled.slab ?_ _ _ (rowPayD (body_new.sl.r_3 i) (body_new.sl.r_1 i arg2 arg5 h2 X2 X5) (body_new.sl.r_2 i arg3 h2 X3) ⟨40, by decide⟩) (off19_eq i 320 (by decide)) rfl (hG 40 (by decide))
  refine Filled.slab ?_ _ _ (rowPayD (body_new.sl.r_3 i) (body_new.sl.r_1 i arg2 arg5 h2 X2 X5) (body_new.sl.r_2 i arg3 h2 X3) ⟨39, by decide⟩) (off19_eq i 312 (by decide)) rfl (hG 39 (by decide))
  refine Filled.slab ?_ _ _ (rowPayD (body_new.sl.r_3 i) (body_new.sl.r_1 i arg2 arg5 h2 X2 X5) (body_new.sl.r_2 i arg3 h2 X3) ⟨38, by decide⟩) (off19_eq i 304 (by decide)) rfl (hG 38 (by decide))
  refine Filled.slab ?_ _ _ (rowPayD (body_new.sl.r_3 i) (body_new.sl.r_1 i arg2 arg5 h2 X2 X5) (body_new.sl.r_2 i arg3 h2 X3) ⟨37, by decide⟩) (off19_eq i 296 (by decide)) rfl (hG 37 (by decide))
  refine Filled.slab ?_ _ _ (rowPayD (body_new.sl.r_3 i) (body_new.sl.r_1 i arg2 arg5 h2 X2 X5) (body_new.sl.r_2 i arg3 h2 X3) ⟨36, by decide⟩) (off19_eq i 288 (by decide)) rfl (hG 36 (by decide))
  refine Filled.slab ?_ _ _ (rowPayD (body_new.sl.r_3 i) (body_new.sl.r_1 i arg2 arg5 h2 X2 X5) (body_new.sl.r_2 i arg3 h2 X3) ⟨35, by decide⟩) (off19_eq i 280 (by decide)) rfl (hG 35 (by decide))
  refine Filled.slab ?_ _ _ (rowPayD (body_new.sl.r_3 i) (body_new.sl.r_1 i arg2 arg5 h2 X2 X5) (body_new.sl.r_2 i arg3 h2 X3) ⟨34, by decide⟩) (off19_eq i 272 (by decide)) rfl (hG 34 (by decide))
  refine Filled.slab ?_ _ _ (rowPayD (body_new.sl.r_3 i) (body_new.sl.r_1 i arg2 arg5 h2 X2 X5) (body_new.sl.r_2 i arg3 h2 X3) ⟨33, by decide⟩) (off19_eq i 264 (by decide)) rfl (hG 33 (by decide))
  refine Filled.slab ?_ _ _ (rowPayD (body_new.sl.r_3 i) (body_new.sl.r_1 i arg2 arg5 h2 X2 X5) (body_new.sl.r_2 i arg3 h2 X3) ⟨32, by decide⟩) (off19_eq i 256 (by decide)) rfl (hG 32 (by decide))
  refine Filled.slab ?_ _ _ (rowPayD (body_new.sl.r_3 i) (body_new.sl.r_1 i arg2 arg5 h2 X2 X5) (body_new.sl.r_2 i arg3 h2 X3) ⟨31, by decide⟩) (off19_eq i 248 (by decide)) rfl (hG 31 (by decide))
  refine Filled.slab ?_ _ _ (rowPayD (body_new.sl.r_3 i) (body_new.sl.r_1 i arg2 arg5 h2 X2 X5) (body_new.sl.r_2 i arg3 h2 X3) ⟨30, by decide⟩) (off19_eq i 240 (by decide)) rfl (hG 30 (by decide))
  refine Filled.slab ?_ _ _ (rowPayD (body_new.sl.r_3 i) (body_new.sl.r_1 i arg2 arg5 h2 X2 X5) (body_new.sl.r_2 i arg3 h2 X3) ⟨29, by decide⟩) (off19_eq i 232 (by decide)) rfl (hG 29 (by decide))
  refine Filled.slab ?_ _ _ (rowPayD (body_new.sl.r_3 i) (body_new.sl.r_1 i arg2 arg5 h2 X2 X5) (body_new.sl.r_2 i arg3 h2 X3) ⟨28, by decide⟩) (off19_eq i 224 (by decide)) rfl (hG 28 (by decide))
  refine Filled.slab ?_ _ _ (rowPayD (body_new.sl.r_3 i) (body_new.sl.r_1 i arg2 arg5 h2 X2 X5) (body_new.sl.r_2 i arg3 h2 X3) ⟨27, by decide⟩) (off19_eq i 216 (by decide)) rfl (hG 27 (by decide))
  refine Filled.slab ?_ _ _ (rowPayD (body_new.sl.r_3 i) (body_new.sl.r_1 i arg2 arg5 h2 X2 X5) (body_new.sl.r_2 i arg3 h2 X3) ⟨26, by decide⟩) (off19_eq i 208 (by decide)) rfl (hG 26 (by decide))
  refine Filled.slab ?_ _ _ (rowPayD (body_new.sl.r_3 i) (body_new.sl.r_1 i arg2 arg5 h2 X2 X5) (body_new.sl.r_2 i arg3 h2 X3) ⟨25, by decide⟩) (off19_eq i 200 (by decide)) rfl (hG 25 (by decide))
  refine Filled.slab ?_ _ _ (rowPayD (body_new.sl.r_3 i) (body_new.sl.r_1 i arg2 arg5 h2 X2 X5) (body_new.sl.r_2 i arg3 h2 X3) ⟨24, by decide⟩) (off19_eq i 192 (by decide)) rfl (hG 24 (by decide))
  refine Filled.slab ?_ _ _ (rowPayD (body_new.sl.r_3 i) (body_new.sl.r_1 i arg2 arg5 h2 X2 X5) (body_new.sl.r_2 i arg3 h2 X3) ⟨23, by decide⟩) (off19_eq i 184 (by decide)) rfl (hG 23 (by decide))
  refine Filled.slab ?_ _ _ (rowPayD (body_new.sl.r_3 i) (body_new.sl.r_1 i arg2 arg5 h2 X2 X5) (body_new.sl.r_2 i arg3 h2 X3) ⟨22, by decide⟩) (off19_eq i 176 (by decide)) rfl (hG 22 (by decide))
  refine Filled.slab ?_ _ _ (rowPayD (body_new.sl.r_3 i) (body_new.sl.r_1 i arg2 arg5 h2 X2 X5) (body_new.sl.r_2 i arg3 h2 X3) ⟨21, by decide⟩) (off19_eq i 168 (by decide)) rfl (hG 21 (by decide))
  refine Filled.slab ?_ _ _ (rowPayD (body_new.sl.r_3 i) (body_new.sl.r_1 i arg2 arg5 h2 X2 X5) (body_new.sl.r_2 i arg3 h2 X3) ⟨20, by decide⟩) (off19_eq i 160 (by decide)) rfl (hG 20 (by decide))
  refine Filled.slab ?_ _ _ (rowPayD (body_new.sl.r_3 i) (body_new.sl.r_1 i arg2 arg5 h2 X2 X5) (body_new.sl.r_2 i arg3 h2 X3) ⟨19, by decide⟩) (off19_eq i 152 (by decide)) rfl (hG 19 (by decide))
  refine Filled.slab ?_ _ _ (rowPayD (body_new.sl.r_3 i) (body_new.sl.r_1 i arg2 arg5 h2 X2 X5) (body_new.sl.r_2 i arg3 h2 X3) ⟨18, by decide⟩) (off19_eq i 144 (by decide)) rfl (hG 18 (by decide))
  refine Filled.slab ?_ _ _ (rowPayD (body_new.sl.r_3 i) (body_new.sl.r_1 i arg2 arg5 h2 X2 X5) (body_new.sl.r_2 i arg3 h2 X3) ⟨17, by decide⟩) (off19_eq i 136 (by decide)) rfl (hG 17 (by decide))
  refine Filled.slab ?_ _ _ (rowPayD (body_new.sl.r_3 i) (body_new.sl.r_1 i arg2 arg5 h2 X2 X5) (body_new.sl.r_2 i arg3 h2 X3) ⟨16, by decide⟩) (off19_eq i 128 (by decide)) rfl (hG 16 (by decide))
  refine Filled.slab ?_ _ _ (rowPayD (body_new.sl.r_3 i) (body_new.sl.r_1 i arg2 arg5 h2 X2 X5) (body_new.sl.r_2 i arg3 h2 X3) ⟨15, by decide⟩) (off19_eq i 120 (by decide)) rfl (hG 15 (by decide))
  refine Filled.slab ?_ _ _ (rowPayD (body_new.sl.r_3 i) (body_new.sl.r_1 i arg2 arg5 h2 X2 X5) (body_new.sl.r_2 i arg3 h2 X3) ⟨14, by decide⟩) (off19_eq i 112 (by decide)) rfl (hG 14 (by decide))
  refine Filled.slab ?_ _ _ (rowPayD (body_new.sl.r_3 i) (body_new.sl.r_1 i arg2 arg5 h2 X2 X5) (body_new.sl.r_2 i arg3 h2 X3) ⟨13, by decide⟩) (off19_eq i 104 (by decide)) rfl (hG 13 (by decide))
  refine Filled.slab ?_ _ _ (rowPayD (body_new.sl.r_3 i) (body_new.sl.r_1 i arg2 arg5 h2 X2 X5) (body_new.sl.r_2 i arg3 h2 X3) ⟨12, by decide⟩) (off19_eq i 96 (by decide)) rfl (hG 12 (by decide))
  refine Filled.slab ?_ _ _ (rowPayD (body_new.sl.r_3 i) (body_new.sl.r_1 i arg2 arg5 h2 X2 X5) (body_new.sl.r_2 i arg3 h2 X3) ⟨11, by decide⟩) (off19_eq i 88 (by decide)) rfl (hG 11 (by decide))
  refine Filled.slab ?_ _ _ (rowPayD (body_new.sl.r_3 i) (body_new.sl.r_1 i arg2 arg5 h2 X2 X5) (body_new.sl.r_2 i arg3 h2 X3) ⟨10, by decide⟩) (off19_eq i 80 (by decide)) rfl (hG 10 (by decide))
  refine Filled.slab ?_ _ _ (rowPayD (body_new.sl.r_3 i) (body_new.sl.r_1 i arg2 arg5 h2 X2 X5) (body_new.sl.r_2 i arg3 h2 X3) ⟨9, by decide⟩) (off19_eq i 72 (by decide)) rfl (hG 9 (by decide))
  refine Filled.slab ?_ _ _ (rowPayD (body_new.sl.r_3 i) (body_new.sl.r_1 i arg2 arg5 h2 X2 X5) (body_new.sl.r_2 i arg3 h2 X3) ⟨8, by decide⟩) (off19_eq i 64 (by decide)) rfl (hG 8 (by decide))
  refine Filled.slab ?_ _ _ (rowPayD (body_new.sl.r_3 i) (body_new.sl.r_1 i arg2 arg5 h2 X2 X5) (body_new.sl.r_2 i arg3 h2 X3) ⟨7, by decide⟩) (off19_eq i 56 (by decide)) rfl (hG 7 (by decide))
  refine Filled.slab ?_ _ _ (rowPayD (body_new.sl.r_3 i) (body_new.sl.r_1 i arg2 arg5 h2 X2 X5) (body_new.sl.r_2 i arg3 h2 X3) ⟨6, by decide⟩) (off19_eq i 48 (by decide)) rfl (hG 6 (by decide))
  refine Filled.slab ?_ _ _ (rowPayD (body_new.sl.r_3 i) (body_new.sl.r_1 i arg2 arg5 h2 X2 X5) (body_new.sl.r_2 i arg3 h2 X3) ⟨5, by decide⟩) (off19_eq i 40 (by decide)) rfl (hG 5 (by decide))
  refine Filled.slab ?_ _ _ (rowPayD (body_new.sl.r_3 i) (body_new.sl.r_1 i arg2 arg5 h2 X2 X5) (body_new.sl.r_2 i arg3 h2 X3) ⟨4, by decide⟩) (off19_eq i 32 (by decide)) rfl (hG 4 (by decide))
  refine Filled.slab ?_ _ _ (rowPayD (body_new.sl.r_3 i) (body_new.sl.r_1 i arg2 arg5 h2 X2 X5) (body_new.sl.r_2 i arg3 h2 X3) ⟨3, by decide⟩) (off19_eq i 24 (by decide)) rfl (hG 3 (by decide))
  refine Filled.slab ?_ _ _ (rowPayD (body_new.sl.r_3 i) (body_new.sl.r_1 i arg2 arg5 h2 X2 X5) (body_new.sl.r_2 i arg3 h2 X3) ⟨2, by decide⟩) (off19_eq i 16 (by decide)) rfl (hG 2 (by decide))
  refine Filled.slab ?_ _ _ (rowPayD (body_new.sl.r_3 i) (body_new.sl.r_1 i arg2 arg5 h2 X2 X5) (body_new.sl.r_2 i arg3 h2 X3) ⟨1, by decide⟩) (off19_eq i 8 (by decide)) rfl (hG 1 (by decide))
  refine Filled.slab ?_ _ _ (rowPayD (body_new.sl.r_3 i) (body_new.sl.r_1 i arg2 arg5 h2 X2 X5) (body_new.sl.r_2 i arg3 h2 X3) ⟨0, by decide⟩) (off19_eq i 0 (by decide)) rfl (hG 0 (by decide))
  exact Filled.nil _ _ _

theorem body_new_form (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : ¬ k0_cond1 i = 1#1) (h2 : k0_cond2 i = 1#1) (h5 : ¬ k0_cond5 i = 1#1) (hn : (i 1).val < 1024) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) :
    ∃ L, (body_new 𝒱 c bd i arg2 harg2 arg3 harg3 arg4 harg4 arg5 harg5 arg6 harg6 arg7 harg7 arg8 harg8 arg9 harg9 arg10 harg10 h1 h2 h5 X2 X3 X4 X5 X6 f7 f8 f9 f10).2.1 = arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y ((st_k0_t5 𝒱 c bd i arg2 harg2 arg3 harg3 arg4 harg4 arg5 harg5 arg6 harg6 arg7 harg7 arg8 harg8 arg9 harg9 arg10 harg10 (body_new.sl.v2 i) h2 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L) k0_pay1874 (Scf.trips (k0_t5_loop i).lb (k0_t5_loop i).ub (k0_t5_loop i).st)).2 ++ L)
      ∧ (body_new 𝒱 c bd i arg2 harg2 arg3 harg3 arg4 harg4 arg5 harg5 arg6 harg6 arg7 harg7 arg8 harg8 arg9 harg9 arg10 harg10 h1 h2 h5 X2 X3 X4 X5 X6 f7 f8 f9 f10).2.2.2.1 = arg10.view.writes (Elt Ideal) f10 (leave (st_k0_t5 𝒱 c bd i arg2 harg2 arg3 harg3 arg4 harg4 arg5 harg5 arg6 harg6 arg7 harg7 arg8 harg8 arg9 harg9 arg10 harg10 (body_new.sl.v2 i) h2 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L) k0_pay1874 (Scf.trips (k0_t5_loop i).lb (k0_t5_loop i).ub (k0_t5_loop i).st)).1 (arg10.view.readAt (Elt Ideal) (Rect.unit (s := S8x256) ![0, 0] ![8, 256] inb_S8x256_S8x256_0_0).toLoadRect f10))
      ∧ Filled arg8.view (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L (1024 * lastSpan i) 128 (Ym (i 1).val (arg2.view.read (Elt Ideal) X2) (arg3.view.read (Elt Ideal) X3) (arg5.view.read (Elt Ideal) X5)) := by
  obtain ⟨L, e8, e10, hL⟩ := body_new_form0 𝒱 c bd i arg2 harg2 arg3 harg3 arg4 harg4 arg5 harg5 arg6 harg6 arg7 harg7 arg8 harg8 arg9 harg9 arg10 harg10 h1 h2 h5 X2 X3 X4 X5 X6 f7 f8 f9 f10 _ (body_new_rows 𝒱 c bd i arg2 harg2 arg3 harg3 arg4 harg4 arg5 harg5 arg6 harg6 arg7 harg7 arg8 harg8 arg9 harg9 arg10 harg10 h2 hn X2 X3 X4 X5 f10)
  refine ⟨L, e8.trans ?_, e10.trans ?_, hL⟩
  · rw [no_trips6 i, st_k0_t6.eq_1, List.nil_append]
  · rw [no_trips6 i, st_k0_t6.eq_1]

/-- A score's exponential below the greatest of its column. -/
def Ex (m a y : EReal) : EReal := Ideal.exp2 (y * a - m)

theorem exps_apply (a m : FVec Ideal S1x256 .f32) (y : Vec Ideal S1024x256 .f32) (j : S1024x256.Idx) :
    k0_pay972 a m y j = Ex (m (ix2 0 (j 1))) (a (ix2 0 (j 1))) (y j) := by
  pointwise [k0_pay972]
  rfl

theorem exps_store (a m : FVec Ideal S1x256 .f32) (y : Vec Ideal S1024x256 .f32) (j : S1024x256.Idx) :
    k0_pay973 a m y j = Ex (m (ix2 0 (j 1))) (a (ix2 0 (j 1))) (y j) :=
  (congrFun (shapeCast_self (k0_pay972 a m y) _) j).trans (exps_apply a m y j)

/-- What the loop over exponentials carries and writes. -/
theorem st5_value (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (v2 : BitVec 32) (k0_h2 : k0_cond2 i = 1#1) (v2139 : FVec Ideal S8x256 .f32) (v2141 : FVec Ideal S1x256 .f32) (G8 : BufTy.Contents (Elt Ideal) arg8.view.ty) (init : FVec Ideal S8x256 .f32) (n : ℕ) (hn : n ≤ (k0_t5_loop i).trips) (E : ℕ → Fin 256 → EReal) (hE : E = (fun key col => Ex (k0_pay1873 v2139 v2141 (ix2 0 col)) (v2141 (ix2 0 col)) (rowsOf G8 key col))) :
    (∀ x : S8x256.Idx, (st_k0_t5 𝒱 c bd i arg2 harg2 arg3 harg3 arg4 harg4 arg5 harg5 arg6 harg6 arg7 harg7 arg8 harg8 arg9 harg9 arg10 harg10 v2 k0_h2 v2139 v2141 G8 init n).1 x = (init x : EReal) + ∑ r ∈ Finset.range (128 * n), E (8 * r + (x 0).val) (x 1))
    ∧ (∀ y : S32768x256.Idx, arg8.view.read (Elt Ideal) (arg8.view.writes (Elt Ideal) G8 (st_k0_t5 𝒱 c bd i arg2 harg2 arg3 harg3 arg4 harg4 arg5 harg5 arg6 harg6 arg7 harg7 arg8 harg8 arg9 harg9 arg10 harg10 v2 k0_h2 v2139 v2141 G8 init n).2) y
        = if (y 0).val < 1024 * n then E (y 0).val (y 1) else arg8.view.read (Elt Ideal) G8 y) := by
  induction n with
  | zero =>
    rw [st_k0_t5.eq_1]
    refine ⟨fun x => ?_, fun y => ?_⟩
    · simp only [Nat.mul_zero, Finset.range_zero, Finset.sum_empty, add_zero]
    · rw [if_neg (by omega)]
      rfl
  | succ n ih =>
    obtain ⟨ih1, ih2⟩ := ih (by omega)
    have hk : n < (k0_t5_loop i).trips := by omega
    have hk32 : n < 32 := Nat.lt_of_lt_of_le hk (k0_t5_abs i).2.1
    have hs := st_k0_t5_succ 𝒱 c bd i arg2 harg2 arg3 harg3 arg4 harg4 arg5 harg5 arg6 harg6 arg7 harg7 arg8 harg8 arg9 harg9 arg10 harg10 v2 k0_h2 v2139 v2141 G8 init ⟨n, hk⟩
    simp only [] at hs
    rw [hs]
    generalize hS : st_k0_t5 𝒱 c bd i arg2 harg2 arg3 harg3 arg4 harg4 arg5 harg5 arg6 harg6 arg7 harg7 arg8 harg8 arg9 harg9 arg10 harg10 v2 k0_h2 v2139 v2141 G8 init n = s at ih1 ih2
    have hld : ∀ j : S1024x256.Idx, arg8.view.readAt (Elt Ideal) (Rect.unit (s := S32768x256) (k0_off20 i ⟨n, hk⟩) ![1024, 256] (k0_off20_inb i ⟨n, hk⟩ k0_h2)).toLoadRect (arg8.view.writes (Elt Ideal) G8 s.2) j
        = rowsOf G8 (1024 * n + (j 0).val) (j 1) := by
      intro j
      have hj : (j 0).val < 1024 := (j 0).isLt
      refine (readAt_off arg8.view _ _ _ (ix2 (Fin.ofNat 32768 (1024 * n + (j 0).val)) (j 1)) (k0_off20_eq i ⟨n, hk⟩) ?_).trans ?_
      · intro a; fin_cases a
        · show (1024 * n + (j 0).val) % 32768 = 1024 * n + (j 0).val
          omega
        · exact (Nat.zero_add _).symm
      · rw [ih2, if_neg]
        · rfl
        · show ¬ (1024 * n + (j 0).val) % 32768 < 1024 * n
          omega
    refine ⟨fun x => ?_, fun y => ?_⟩
    · dsimp only
      have hx : (x 0).val < 8 := (x 0).isLt
      rw [trip5_fold, foldV_add, ih1, mul_add, mul_one, Finset.sum_range_add, Finset.sum_range (n := 128), ← add_assoc]
      refine congrArg₂ (· + ·) rfl (Finset.sum_congr rfl fun r _ => ?_)
      rw [exps_apply, hld, hE]
      show Ex _ _ (rowsOf G8 (1024 * n + (8 * r.val + (x 0).val)) (x 1)) = Ex _ _ (rowsOf G8 (8 * (128 * n + r.val) + (x 0).val) (x 1))
      rw [show 1024 * n + (8 * r.val + (x 0).val) = 8 * (128 * n + r.val) + (x 0).val by omega]
      rfl
    · dsimp only
      rw [trip5_list, List.cons_append, List.nil_append]
      by_cases hy : 1024 * n ≤ (y 0).val ∧ (y 0).val < 1024 * n + 1024
      · rw [if_pos (by omega)]
        refine (View.read_writes_cons_rows_of_mem arg8.view G8 _ _ s.2 y (o := 1024 * n) (ix2 (⟨(y 0).val - 1024 * n, by omega⟩ : Fin 1024) (y 1) : S1024x256.Idx) (k0_off20_eq i ⟨n, hk⟩)
          (by show _ = 1024 * n + ((y 0).val - 1024 * n); omega) rfl).trans ?_
        refine (exps_store _ _ _ _).trans ?_
        rw [hld, hE]
        show Ex _ _ (rowsOf G8 (1024 * n + ((y 0).val - 1024 * n)) (y 1)) = _
        rw [show 1024 * n + ((y 0).val - 1024 * n) = (y 0).val by omega]
        rfl
      · refine (View.read_writes_cons_rows_of_not_mem arg8.view G8 _ _ s.2 y (o := 1024 * n) (W := 1024) (k0_off20_eq i ⟨n, hk⟩) rfl (by omega)).trans ?_
        rw [ih2]
        by_cases h1 : (y 0).val < 1024 * n
        · rw [if_pos h1, if_pos (by omega)]
        · rw [if_neg h1, if_neg (by omega)]

/-- One step of the search for the field: `b` is added when the power it stands for is not above `x`. -/
def stepV (x : FVec Ideal S1x256 .f32) (f : IVec S1x256 32) (b : BitVec 32) : IVec S1x256 32 :=
  select (cmpf .ole (bitcastToFloat .f32 (shli (addi f (broadcast S1x256 b)) (broadcast S1x256 23#32))) x) (addi f (broadcast S1x256 b)) f

/-- The power of two with a field. -/
def powN (f : BitVec 32) : EReal := Ideal.ofBits .f32 (IntOp.shli .vector f 23#32)

open Classical in
/-- The same step on one number. -/
noncomputable def stepN (x : EReal) (f b : BitVec 32) : BitVec 32 :=
  if powN (IntOp.addi f b) ≤ x then IntOp.addi f b else f

theorem stepV_apply (x : FVec Ideal S1x256 .f32) (f : IVec S1x256 32) (b : BitVec 32) (j : S1x256.Idx) : stepV x f b j = stepN (x j) (f j) b := by
  pointwise [stepV]
  unfold stepN powN
  congr

/-- The greatest field whose power is not above `x`. -/
noncomputable def fieldN (x : EReal) : BitVec 32 :=
  stepN x (stepN x (stepN x (stepN x (stepN x (stepN x (stepN x (stepN x 0#32 128#32) 64#32) 32#32) 16#32) 8#32) 4#32) 2#32) 1#32

theorem fieldOf_eq (l : FVec Ideal S8x256 .f32) : fieldOf l = (let x := k0_pay1884 l; stepV x (stepV x (stepV x (stepV x (stepV x (stepV x (stepV x (stepV x (broadcast S1x256 0#32) 128#32) 64#32) 32#32) 16#32) 8#32) 4#32) 2#32) 1#32) := rfl

theorem fieldOf_apply (l : FVec Ideal S8x256 .f32) (j : S1x256.Idx) : fieldOf l j = fieldN (k0_pay1884 l j) := by
  rw [fieldOf_eq]
  dsimp only
  simp only [stepV_apply]
  rfl

/-- The exponent of a tile's scale, from its field. -/
def expN (f : BitVec 32) : BitVec 32 := Scalar.select (IntOp.cmpi .eq f 0#32) 0#32 (IntOp.subi f 126#32)

/-- The greatest probability of a column over 448, from the sum of its exponentials. -/
def top (L : EReal) : EReal := Ideal.div 1 L * Ideal.ofBits .f32 0x3B124925#32

/-- The factor that makes codes of exponentials. -/
noncomputable def cOf (L : EReal) : EReal :=
  min (Ideal.div 1 L * powN (IntOp.addi (IntOp.subi 0#32 (expN (fieldN (top L)))) 127#32)) (Ideal.ofBits .f32 0x43E00000#32)

/-- The scale of a tile's codes. -/
noncomputable def sOf (L : EReal) : EReal := powN (IntOp.addi (expN (fieldN (top L))) 127#32)

theorem top_apply (l : FVec Ideal S8x256 .f32) (j : S1x256.Idx) : k0_pay1884 l j = top (∑ r : Fin 8, l (ix2 r (j 1))) := by
  have h : k0_pay1883 l j = Ideal.div 1 (∑ r : Fin 8, l (ix2 r (j 1))) := by pointwise [k0_pay1883]
  pointwise [k0_pay1884]
  rw [h]
  rfl

theorem c_apply (l : FVec Ideal S8x256 .f32) (j : S1x256.Idx) : k0_pay1895 (F := Ideal) (k0_pay1883 l) (fieldOf l) k0_pay1890 j = cOf (∑ r : Fin 8, l (ix2 r (j 1))) := by
  have h : k0_pay1883 l j = Ideal.div 1 (∑ r : Fin 8, l (ix2 r (j 1))) := by pointwise [k0_pay1883]
  pointwise [k0_pay1895, k0_pay1890, k0_pay1894]
  rw [h, fieldOf_apply, top_apply]
  rfl

theorem s_apply (l : FVec Ideal S8x256 .f32) (j : S1x256.Idx) : k0_pay1897 (F := Ideal) (fieldOf l) k0_pay1890 j = sOf (∑ r : Fin 8, l (ix2 r (j 1))) := by
  pointwise [k0_pay1897, k0_pay1890, k0_pay1894]
  rw [fieldOf_apply, top_apply]
  rfl

/-- The rows a tile leaves. -/
theorem leave_rows {v : View sig .tc .vmem S8x256 .f32} (f : v.ty.Contents (Elt Ideal)) (l old : FVec Ideal S8x256 .f32) (col : Fin 256) :
    rowOf (v.writes (Elt Ideal) f (leave l old)) 0 col = cOf (∑ r : Fin 8, l (ix2 r col))
    ∧ rowOf (v.writes (Elt Ideal) f (leave l old)) 2 col = sOf (∑ r : Fin 8, l (ix2 r col)) := by
  unfold leave rowOf
  constructor
  · refine (View.read_writes_cons_rows_of_not_mem v f _ _ _ _ (o := 2) (W := 1) rfl rfl (Or.inl (by show (0 : ℕ) < _; decide))).trans ?_
    refine (View.read_writes_cons_rows_of_not_mem v f _ _ _ _ (o := 1) (W := 1) rfl rfl (Or.inl (by show (0 : ℕ) < _; decide))).trans ?_
    refine (View.read_writes_cons_rows_of_mem v f _ _ _ _ (o := 0) (ix2 0 col : S1x256.Idx) rfl rfl rfl).trans ?_
    exact c_apply l _
  · refine (View.read_writes_cons_rows_of_mem v f _ _ _ _ (o := 2) (ix2 0 col : S1x256.Idx) rfl rfl rfl).trans ?_
    exact s_apply l _

/-- The greatest score of a column, times the column's factor. -/
theorem greatest (mx : FVec Ideal S8x256 .f32) (a : FVec Ideal S1x256 .f32) (col : Fin 256) :
    ∃ M : EReal, k0_pay1873 mx a (ix2 0 col) = M * a (ix2 0 col) ∧ ∀ z, M ≤ z ↔ ∀ r : Fin 8, mx (ix2 r col) ≤ z := by
  refine ⟨Finset.fold max (Ideal.ofBits .f32 0xFF800000#32 : EReal) (fun r : Fin 8 => mx (ix2 r col)) Finset.univ, ?_, fun z => ?_⟩
  · pointwise [k0_pay1873]
  · rw [Finset.fold_max_le, bot_bits]
    simp

end Cert.AttendIdeal.Hand

end
-- ==== Proof.Numbers.lean ====
module

public import proofs.«01_k».proof.Proof.IdealRun
public import proofs.«01_k».proof.Proof.Gen.AttendIdeal.Frame
public import proofs.«01_k».proof.Proof.Tile
public import Idealize.ShloMosaic.Lib.Pointwise
public import Idealize.ShloMosaic.Lib.WritesUnit

@[expose] public section

set_option maxRecDepth 16384

noncomputable section

namespace Cert.AttendIdeal.Hand

open Cert.AttendIdeal.Gen
open Idealize.ShloMosaic Idealize.ShloMosaic.TcCoe Idealize.ShloMosaic.Tactic
open Idealize.ShloMosaic.Pipeline (Dat RDat Cfg Window BodyObligation cellOf)
open Idealize.ShloMosaic.Rounds
open Idealize.SL Idealize.SL.RA Idealize.SL.BI
open scoped Idealize.SL.BI
open Idealize.SL.BI.BIBase Idealize.SL.BI.Laws Idealize.SL.ProofMode Idealize.SL.Sem

/-! The numbers of one column: the kernel's sum of codes and the reference's are the same. -/

/-- The power of two of an exponent field. -/
abbrev Pw (n : ℕ) : ℝ := (2 : ℝ) ^ ((n : ℤ) - 127)

theorem pw_bits : ∀ n : Fin 255, ((IntOp.shli .vector (BitVec.ofNat 32 n.val) 23#32).extractLsb' 23 8).toNat = n.val
    ∧ ((IntOp.shli .vector (BitVec.ofNat 32 n.val) 23#32).extractLsb' 0 23).toNat = 0
    ∧ ((IntOp.shli .vector (BitVec.ofNat 32 n.val) 23#32).extractLsb' 31 1 == 1#1) = false := by
  decide +kernel

theorem powN_eq (n : ℕ) (h0 : 1 ≤ n) (h : n ≤ 254) : powN (BitVec.ofNat 32 n) = ((Pw n : ℝ) : EReal) := by
  obtain ⟨e1, e2, e3⟩ := pw_bits ⟨n, by omega⟩
  show Ideal.ieee 8 23 (IntOp.shli .vector (BitVec.ofNat 32 n) 23#32) = _
  unfold Ideal.ieee
  dsimp only at e1 e2 e3 ⊢
  rw [e1, e2, e3, if_neg (by omega), if_neg (by omega)]
  refine congrArg Real.toEReal ?_
  unfold Pw
  rw [show ((n : ℤ) - (2 ^ (8 - 1) - 1) - ((23 : ℕ) : ℤ)) = ((n : ℤ) - 127) + (-23) by norm_num; ring, zpow_add₀ (by norm_num)]
  norm_num
  ring

theorem add_bits (a b : ℕ) : IntOp.addi (BitVec.ofNat 32 a) (BitVec.ofNat 32 b) = BitVec.ofNat 32 (a + b) := (BitVec.ofNat_add a b).symm

/-- A step of the search. -/
theorem step_spec (x : ℝ) (n b : ℕ) (hn : 1 ≤ n) (h : n + b ≤ 254) (lo : Pw n ≤ x) (hi : x < Pw (n + (b + b))) :
    ∃ n', stepN x (BitVec.ofNat 32 n) (BitVec.ofNat 32 b) = BitVec.ofNat 32 n' ∧ n ≤ n' ∧ n' ≤ n + b ∧ Pw n' ≤ x ∧ x < Pw (n' + b) := by
  unfold stepN
  rw [add_bits, powN_eq _ (by omega) h]
  by_cases hx : Pw (n + b) ≤ x
  · rw [if_pos (EReal.coe_le_coe_iff.mpr hx)]
    exact ⟨n + b, rfl, by omega, le_refl _, hx, by rw [show n + b + b = n + (b + b) by ring]; exact hi⟩
  · rw [if_neg (by rw [EReal.coe_le_coe_iff]; exact hx)]
    exact ⟨n, rfl, le_refl _, by omega, lo, not_le.mp hx⟩

theorem pw_mono {a b : ℕ} (h : a ≤ b) : Pw a ≤ Pw b := zpow_le_zpow_right₀ (by norm_num) (by omega)

theorem pw_pos (a : ℕ) : 0 < Pw a := zpow_pos (by norm_num) _

/-- The field of a number that 2⁻²⁴ ≤ x < 1/2. -/
theorem field_spec (x : ℝ) (lo : Pw 96 ≤ x) (hi : x < Pw 126) : ∃ n, fieldN x = BitVec.ofNat 32 n ∧ 96 ≤ n ∧ n ≤ 127 ∧ Pw n ≤ x ∧ x < Pw (n + 1) := by
  have s1 : stepN (x : EReal) 0#32 128#32 = BitVec.ofNat 32 0 := by
    unfold stepN
    rw [show IntOp.addi 0#32 128#32 = BitVec.ofNat 32 128 from rfl, powN_eq _ (by norm_num) (by norm_num), if_neg]
    rw [EReal.coe_le_coe_iff, not_le]
    exact lt_of_lt_of_le hi (pw_mono (by norm_num))
  have s2 : stepN (x : EReal) (BitVec.ofNat 32 0) 64#32 = BitVec.ofNat 32 64 := by
    unfold stepN
    rw [show IntOp.addi (BitVec.ofNat 32 0) 64#32 = BitVec.ofNat 32 64 from rfl, powN_eq _ (by norm_num) (by norm_num), if_pos]
    rw [EReal.coe_le_coe_iff]
    exact le_trans (pw_mono (by norm_num)) lo
  have s3 : stepN (x : EReal) (BitVec.ofNat 32 64) 32#32 = BitVec.ofNat 32 96 := by
    unfold stepN
    rw [show IntOp.addi (BitVec.ofNat 32 64) 32#32 = BitVec.ofNat 32 96 from rfl, powN_eq _ (by norm_num) (by norm_num), if_pos]
    rw [EReal.coe_le_coe_iff]
    exact lo
  obtain ⟨n4, s4, a4, b4, l4, u4⟩ := step_spec x 96 16 (by norm_num) (by norm_num) lo (lt_of_lt_of_le hi (pw_mono (by norm_num)))
  obtain ⟨n5, s5, a5, b5, l5, u5⟩ := step_spec x n4 8 (by omega) (by omega) l4 u4
  obtain ⟨n6, s6, a6, b6, l6, u6⟩ := step_spec x n5 4 (by omega) (by omega) l5 u5
  obtain ⟨n7, s7, a7, b7, l7, u7⟩ := step_spec x n6 2 (by omega) (by omega) l6 u6
  obtain ⟨n8, s8, a8, b8, l8, u8⟩ := step_spec x n7 1 (by omega) (by omega) l7 u7
  refine ⟨n8, ?_, by omega, by omega, l8, u8⟩
  unfold fieldN
  rw [s1, s2, s3]
  rw [show (16#32 : BitVec 32) = BitVec.ofNat 32 16 from rfl, s4, show (8#32 : BitVec 32) = BitVec.ofNat 32 8 from rfl, s5,
    show (4#32 : BitVec 32) = BitVec.ofNat 32 4 from rfl, s6, show (2#32 : BitVec 32) = BitVec.ofNat 32 2 from rfl, s7,
    show (1#32 : BitVec 32) = BitVec.ofNat 32 1 from rfl, s8]

theorem exp_bits : ∀ n : Fin 128, 96 ≤ n.val → IntOp.addi (expN (BitVec.ofNat 32 n.val)) 127#32 = BitVec.ofNat 32 (n.val + 1)
    ∧ IntOp.addi (IntOp.subi 0#32 (expN (BitVec.ofNat 32 n.val))) 127#32 = BitVec.ofNat 32 (253 - n.val) := by
  decide +kernel

/-- The word of 1/448, and its reciprocal's bounds. -/
def Rr : ℝ := 9586981 / 2 ^ 32

theorem r_bits : Ideal.ofBits .f32 0x3B124925#32 = ((Rr : ℝ) : EReal) := by
  simp [Ideal.ofBits, Ideal.ieee, Rr, ← EReal.coe_mul]
  norm_num

theorem big_bits : Ideal.ofBits .f32 0x43E00000#32 = ((448 : ℝ) : EReal) := by
  simp [Ideal.ofBits, Ideal.ieee, ← EReal.coe_mul]
  norm_num

theorem div_one_coe (l : ℝ) (h : 0 < l) : Ideal.div 1 (l : EReal) = ((l⁻¹ : ℝ) : EReal) := by
  unfold Ideal.div
  rw [if_neg (by exact_mod_cast h.ne'), one_mul, EReal.coe_inv]

/-- The factor and the scale of a column whose sum is `l`. -/
theorem factors (l : ℝ) (h1 : 1 ≤ l) (h2 : l ≤ 32768) : ∃ n : ℕ, 96 ≤ n ∧ n ≤ 127 ∧ cOf (l : EReal) = ((l⁻¹ * (Pw (n + 1))⁻¹ : ℝ) : EReal)
    ∧ sOf (l : EReal) = ((Pw (n + 1) : ℝ) : EReal) ∧ Pw n ≤ l⁻¹ * Rr ∧ l⁻¹ * Rr < Pw (n + 1) ∧ l⁻¹ * (Pw (n + 1))⁻¹ ≤ 448 := by
  have hl : 0 < l := by linarith
  have hi1 : l⁻¹ ≤ 1 := inv_le_one_of_one_le₀ h1
  have hi0 : 0 < l⁻¹ := inv_pos.mpr hl
  have hi2 : (1 : ℝ) / 32768 ≤ l⁻¹ := by rw [one_div]; exact inv_anti₀ hl h2
  have et : top (l : EReal) = ((l⁻¹ * Rr : ℝ) : EReal) := by
    unfold top
    rw [div_one_coe l hl, r_bits, EReal.coe_mul]
  have hr : (0 : ℝ) < Rr := by unfold Rr; norm_num
  obtain ⟨n, ef, a, b, lo, hi⟩ := field_spec (l⁻¹ * Rr)
    (by refine le_trans ?_ (mul_le_mul_of_nonneg_right hi2 hr.le); unfold Pw Rr; norm_num)
    (by refine lt_of_le_of_lt (mul_le_mul_of_nonneg_right hi1 hr.le) ?_; unfold Pw Rr; norm_num)
  obtain ⟨x1, x2⟩ := exp_bits ⟨n, by omega⟩ a
  dsimp only at x1 x2
  have einv : Pw (253 - n) = (Pw (n + 1))⁻¹ := by
    unfold Pw
    rw [← zpow_neg]
    congr 1
    omega
  have hp : 0 < Pw (n + 1) := pw_pos _
  have hc : l⁻¹ * (Pw (n + 1))⁻¹ ≤ 448 := by
    rw [← div_eq_mul_inv, div_le_iff₀ hp]
    have : l⁻¹ * Rr < Pw (n + 1) := hi
    have e : (1 : ℝ) ≤ 448 * Rr := by unfold Rr; norm_num
    nlinarith
  refine ⟨n, a, b, ?_, ?_, lo, hi, hc⟩
  · unfold cOf
    rw [et, ef, x2, powN_eq _ (by omega) (by omega), div_one_coe l hl, big_bits, einv, ← EReal.coe_mul, min_eq_left]
    exact EReal.coe_le_coe_iff.mpr hc
  · unfold sOf
    rw [et, ef, x1, powN_eq _ (by omega) (by omega)]

/-! The reference's column. -/

section Reference
variable (s v : ℕ → EReal)

/-- The greatest score. -/
def rM : EReal := (Finset.univ : Finset (Fin 32768)).fold max ⊥ fun k => s k.val
/-- The exponentials. -/
def rE (k : ℕ) : EReal := Ideal.pow ((2 : ℝ) : EReal) (s k - rM s)
/-- Their sum. -/
def rL : EReal := ∑ k : Fin 32768, rE s k.val
/-- The probabilities. -/
def rP (k : ℕ) : EReal := Ideal.div (rE s k) (rL s)
/-- The greatest probability. -/
def rA : EReal := (Finset.univ : Finset (Fin 32768)).fold max ⊥ fun k => max (rP s k.val) (-rP s k.val)
open Classical in
/-- The scale: the least power of two above the greatest probability over 448. -/
def rS : EReal := if rA s = 0 then 1 else (Finset.univ : Finset (Fin 254)).fold min ⊤ fun f =>
  if rA s * ((Rr : ℝ) : EReal) < Ideal.pow ((2 : ℝ) : EReal) (((f.val : ℝ) - 126 : ℝ) : EReal) then Ideal.pow ((2 : ℝ) : EReal) (((f.val : ℝ) - 126 : ℝ) : EReal) else ⊤
/-- The codes. -/
def rC (k : ℕ) : EReal := min ((448 : ℝ) : EReal) (max ((-448 : ℝ) : EReal) (rP s k * Ideal.div 1 (rS s)))
/-- The output. -/
def rO : EReal := (∑ k : Fin 32768, rC s k.val * v k.val) * rS s

end Reference

theorem exp2_bot : Ideal.exp2 ⊥ = 0 := rfl

theorem pow_two (x : EReal) : Ideal.pow ((2 : ℝ) : EReal) x = Ideal.exp2 x := by
  induction x using EReal.rec with
  | bot =>
    show (if (2 : ℝ) < 0 then (⊥ : EReal) else if 1 < (2 : ℝ) then 0 else if (2 : ℝ) = 1 then 1 else ⊤) = 0
    norm_num
  | top =>
    show (if (2 : ℝ) < 0 then (⊥ : EReal) else if 1 < (2 : ℝ) then ⊤ else if (2 : ℝ) = 1 then 1 else 0) = ⊤
    norm_num
  | coe r => rfl

theorem exp2_coe (r : ℝ) : Ideal.exp2 (r : EReal) = ((Real.rpow 2 r : ℝ) : EReal) := rfl

theorem pow_field (f : ℕ) : Ideal.pow ((2 : ℝ) : EReal) (((f : ℝ) - 126 : ℝ) : EReal) = ((Pw (f + 1) : ℝ) : EReal) := by
  rw [pow_two, exp2_coe]
  refine congrArg Real.toEReal ?_
  show (2 : ℝ) ^ ((f : ℝ) - 126) = _
  rw [show ((f : ℝ) - 126) = (((f : ℤ) - 126 : ℤ) : ℝ) by push_cast; ring, Real.rpow_intCast]
  unfold Pw
  congr 1
  push_cast
  ring

theorem fold_max_eq {n : ℕ} (f : Fin n → EReal) (M : EReal) (h : ∀ k, f k ≤ M) (h' : ∃ k, f k = M) : (Finset.univ : Finset (Fin n)).fold max ⊥ f = M := by
  obtain ⟨k, e⟩ := h'
  refine le_antisymm ?_ ?_
  · rw [Finset.fold_max_le]
    exact ⟨bot_le, fun k _ => h k⟩
  · rw [Finset.le_fold_max]
    exact Or.inr ⟨k, Finset.mem_univ _, e.ge⟩

/-- The exponentials of scores under their greatest are real, at most one, and one at the greatest — unless all are zero. -/
theorem exps_real (s : ℕ → EReal) (m : EReal) (k0 : ℕ) (h0 : s k0 = m) (h : ∀ k, s k ≤ m) :
    ∃ g : ℕ → ℝ, (∀ k, Ideal.exp2 (s k - m) = ((g k : ℝ) : EReal)) ∧ (∀ k, 0 ≤ g k ∧ g k ≤ 1) ∧ (∀ k, s k = ⊥ → g k = 0) ∧ ((∀ k, g k = 0) ∨ g k0 = 1) := by
  induction m using EReal.rec with
  | bot =>
    refine ⟨fun _ => 0, fun k => ?_, fun _ => ⟨le_refl _, zero_le_one⟩, fun _ _ => rfl, Or.inl fun _ => rfl⟩
    rw [le_bot_iff.mp (h k), sub_eq_add_neg, EReal.bot_add, exp2_bot, EReal.coe_zero]
  | top =>
    refine ⟨fun _ => 0, fun k => ?_, fun _ => ⟨le_refl _, zero_le_one⟩, fun _ _ => rfl, Or.inl fun _ => rfl⟩
    rw [sub_eq_add_neg, EReal.neg_top, EReal.add_bot, exp2_bot, EReal.coe_zero]
  | coe r =>
    have hk : ∀ k, ∃ g : ℝ, Ideal.exp2 (s k - (r : EReal)) = (g : EReal) ∧ (0 ≤ g ∧ g ≤ 1) ∧ (s k = ⊥ → g = 0) ∧ (s k = r → g = 1) := by
      intro k
      have hs := h k
      generalize s k = x at hs
      induction x using EReal.rec with
      | bot => exact ⟨0, by rw [sub_eq_add_neg, EReal.bot_add, exp2_bot, EReal.coe_zero], ⟨le_refl _, zero_le_one⟩, fun _ => rfl, fun e => absurd e.symm (EReal.coe_ne_bot r)⟩
      | top => exact absurd (top_le_iff.mp hs) (EReal.coe_ne_top r)
      | coe y =>
        have hy : y ≤ r := EReal.coe_le_coe_iff.mp hs
        refine ⟨(2 : ℝ) ^ (y - r), ?_, ⟨(Real.rpow_pos_of_pos two_pos _).le, ?_⟩, fun e => absurd e (EReal.coe_ne_bot y), fun e => ?_⟩
        · rw [← EReal.coe_sub]
          rfl
        · exact Real.rpow_le_one_of_one_le_of_nonpos one_le_two (by linarith)
        · have : y = r := EReal.coe_eq_coe_iff.mp e
          rw [this, sub_self, Real.rpow_zero]
    choose g hg using hk
    exact ⟨g, fun k => (hg k).1, fun k => (hg k).2.1, fun k => (hg k).2.2.1, Or.inr ((hg k0).2.2.2 h0)⟩

theorem coe_sum' {ι : Type} (t : Finset ι) (g : ι → ℝ) : ∑ k ∈ t, ((g k : ℝ) : EReal) = ((∑ k ∈ t, g k : ℝ) : EReal) := by
  classical
  induction t using Finset.induction_on with
  | empty => simp
  | insert a t ha ih => rw [Finset.sum_insert ha, Finset.sum_insert ha, ih, EReal.coe_add]

/-- THE COLUMN. -/
theorem column (N q : ℕ) (hN : N ≤ 32768) (hq : q < N) (a : EReal) (ha : 0 < a) (z v s : ℕ → EReal) (hz : ∀ k, q < k → z k = ⊥)
    (hs : ∀ k, s k = z k * a) :
    (∑ k ∈ Finset.range N, v k * (Ex ((Finset.range N).sup z * a) a (z k) * cOf (∑ k ∈ Finset.range N, Ex ((Finset.range N).sup z * a) a (z k))))
      * sOf (∑ k ∈ Finset.range N, Ex ((Finset.range N).sup z * a) a (z k)) = rO s v := by
  obtain ⟨k0, hk0, eM⟩ := Finset.exists_mem_eq_sup (Finset.range N) ⟨q, Finset.mem_range.mpr hq⟩ z
  have hk0' : k0 < N := Finset.mem_range.mp hk0
  have hle : ∀ k, s k ≤ s k0 := by
    intro k
    rw [hs, hs]
    refine mul_le_mul_of_nonneg_right ?_ ha.le
    by_cases hk : k < N
    · rw [← eM]; exact Finset.le_sup (Finset.mem_range.mpr hk)
    · rw [hz k (by omega)]; exact bot_le
  have hm : (Finset.range N).sup z * a = s k0 := by rw [eM, hs]
  have hbot : ∀ k, q < k → s k = ⊥ := fun k hk => by rw [hs, hz k hk, EReal.bot_mul_of_pos ha]
  have hrM : rM s = s k0 := fold_max_eq _ _ (fun k => hle k.val) ⟨⟨k0, by omega⟩, rfl⟩
  obtain ⟨g, hg, hb, hg0, hcase⟩ := exps_real s (s k0) k0 rfl hle
  have hE : ∀ k, Ex ((Finset.range N).sup z * a) a (z k) = ((g k : ℝ) : EReal) := fun k => by
    unfold Ex
    rw [hm, ← hs, hg]
  have hrE : ∀ k, rE s k = ((g k : ℝ) : EReal) := fun k => by unfold rE; rw [pow_two, hrM, hg]
  have hzero : ∀ k, N ≤ k → g k = 0 := fun k hk => hg0 k (hbot k (by omega))
  have hext : ∀ (u : ℕ → EReal), (∀ k, N ≤ k → u k = 0) → ∑ k : Fin 32768, u k.val = ∑ k ∈ Finset.range N, u k := by
    intro u hu
    rw [← Finset.sum_range (fun k => u k)]
    refine (Finset.sum_subset (Finset.range_subset_range.mpr hN) fun k _ hk => hu k ?_).symm
    simpa using hk
  have hL : ∑ k ∈ Finset.range N, Ex ((Finset.range N).sup z * a) a (z k) = ((∑ k ∈ Finset.range N, g k : ℝ) : EReal) := by
    rw [← coe_sum']
    exact Finset.sum_congr rfl fun k _ => hE k
  have hrL : rL s = ((∑ k ∈ Finset.range N, g k : ℝ) : EReal) := by
    unfold rL
    rw [hext (rE s) (fun k hk => by rw [hrE, hzero k hk]; rfl), ← coe_sum']
    exact Finset.sum_congr rfl fun k _ => hrE k
  rw [hL]
  simp only [hE]
  rcases hcase with hall | hone
  · -- every exponential is zero
    have hl : ∑ k ∈ Finset.range N, g k = 0 := Finset.sum_eq_zero fun k _ => hall k
    have e1 : ∑ k ∈ Finset.range N, v k * (((g k : ℝ) : EReal) * cOf ((∑ k ∈ Finset.range N, g k : ℝ) : EReal)) = 0 :=
      Finset.sum_eq_zero fun k _ => by rw [hall k, EReal.coe_zero, zero_mul, mul_zero]
    rw [e1, zero_mul]
    have hP : ∀ k, rP s k = ⊥ := fun k => by
      unfold rP
      rw [hrE, hrL, hl, hall k]
      simp [Ideal.div]
    have hA : rA s = ⊤ := by
      unfold rA
      refine fold_max_eq _ _ (fun k => le_top) ⟨⟨0, by norm_num⟩, ?_⟩
      rw [hP]
      simp
    have hr : (0 : ℝ) < Rr := by unfold Rr; norm_num
    have hS : rS s = ⊤ := by
      unfold rS
      rw [hA, if_neg (by simp), EReal.top_mul_coe_of_pos hr]
      refine le_antisymm le_top ?_
      rw [Finset.le_fold_min]
      exact ⟨le_refl _, fun f _ => by rw [if_neg not_top_lt]⟩
    have hC : ∀ k, rC s k = 0 := fun k => by
      unfold rC
      rw [hP, hS]
      have : Ideal.div 1 ⊤ = 0 := by simp [Ideal.div]
      rw [this, mul_zero, max_eq_right (by exact_mod_cast (by norm_num : (-448 : ℝ) ≤ 0)), min_eq_right (by exact_mod_cast (by norm_num : (0 : ℝ) ≤ 448))]
    unfold rO
    rw [Finset.sum_eq_zero fun k _ => by rw [hC, zero_mul], zero_mul]
  · -- the greatest exponential is one
    set l : ℝ := ∑ k ∈ Finset.range N, g k with hldef
    have hl1 : 1 ≤ l := by
      rw [← hone]
      exact Finset.single_le_sum (f := g) (fun k _ => (hb k).1) hk0
    have hl2 : l ≤ 32768 := by
      refine (Finset.sum_le_card_nsmul _ _ 1 fun k _ => (hb k).2).trans ?_
      rw [Finset.card_range, nsmul_eq_mul, mul_one]
      exact_mod_cast hN
    have hl0 : 0 < l := by linarith
    obtain ⟨n, n1, n2, ec, es, lo, hi, h448⟩ := factors l hl1 hl2
    have hP : ∀ k, rP s k = ((g k * l⁻¹ : ℝ) : EReal) := fun k => by
      unfold rP Ideal.div
      rw [hrL, if_neg (by exact_mod_cast hl0.ne'), hrE, ← EReal.coe_inv, ← EReal.coe_mul]
    have hi0 : 0 < l⁻¹ := inv_pos.mpr hl0
    have hA : rA s = ((l⁻¹ : ℝ) : EReal) := by
      unfold rA
      refine fold_max_eq _ _ (fun k => ?_) ⟨⟨k0, by omega⟩, ?_⟩
      · rw [hP, ← EReal.coe_neg, max_le_iff, EReal.coe_le_coe_iff, EReal.coe_le_coe_iff]
        have := hb k.val
        constructor <;> nlinarith
      · dsimp only
        rw [hP, hone, one_mul, ← EReal.coe_neg, max_eq_left]
        rw [EReal.coe_le_coe_iff]
        linarith
    have hS : rS s = ((Pw (n + 1) : ℝ) : EReal) := by
      unfold rS
      rw [hA, if_neg (by exact_mod_cast hi0.ne'), ← EReal.coe_mul]
      refine le_antisymm ?_ ?_
      · rw [Finset.fold_min_le]
        refine Or.inr ⟨⟨n, by omega⟩, Finset.mem_univ _, ?_⟩
        rw [pow_field, if_pos (EReal.coe_lt_coe_iff.mpr hi)]
      · rw [Finset.le_fold_min]
        refine ⟨le_top, fun f _ => ?_⟩
        rw [pow_field]
        split
        · next hlt =>
          have hlt' := EReal.coe_lt_coe_iff.mp hlt
          rw [EReal.coe_le_coe_iff]
          have : n < f.val + 1 := by
            by_contra hc
            exact absurd (lt_of_le_of_lt lo hlt') (not_lt.mpr (pw_mono (by omega)))
          exact pw_mono (by omega)
        · exact le_top
    have hp := pw_pos (n + 1)
    have hC : ∀ k, rC s k = ((g k * (l⁻¹ * (Pw (n + 1))⁻¹) : ℝ) : EReal) := fun k => by
      unfold rC
      rw [hP, hS, div_one_coe _ hp, ← EReal.coe_mul]
      have hbk := hb k
      have hq0 : 0 < l⁻¹ * (Pw (n + 1))⁻¹ := mul_pos hi0 (inv_pos.mpr hp)
      have e : g k * l⁻¹ * (Pw (n + 1))⁻¹ = g k * (l⁻¹ * (Pw (n + 1))⁻¹) := by ring
      rw [e, max_eq_right (EReal.coe_le_coe_iff.mpr (by nlinarith)), min_eq_right (EReal.coe_le_coe_iff.mpr (by nlinarith))]
    unfold rO
    rw [hext (fun k => rC s k * v k) (fun k hk => by rw [hC, hzero k hk, zero_mul, EReal.coe_zero, zero_mul]), ec, es, hS]
    refine congrArg (· * _) (Finset.sum_congr rfl fun k _ => ?_)
    rw [hC, ← EReal.coe_mul, mul_comm]

end Cert.AttendIdeal.Hand

end
-- ==== Proof.Ref.lean ====
module

public import proofs.«01_k».proof.Proof.Gen.ReferenceIdeal.Read
public import proofs.«01_k».proof.Proof.Numbers
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Cert.AttendIdeal.Hand (rM rE rL rP rA rS rC rO Rr r_bits big_bits)
open Idealize.ShloMosaic Idealize.ShloMosaic.TcCoe Idealize.ShloMosaic.Tactic

/-! One element of the reference: the arithmetic of one query's column. -/

theorem bot_bits : Ideal.ofBits .f32 0xFF800000#32 = ⊥ := by simp [Ideal.ofBits, Ideal.ieee]
theorem top_bits : Ideal.ofBits .f32 0x7F800000#32 = ⊤ := by simp [Ideal.ofBits, Ideal.ieee]
theorem zero_bits : Ideal.ofBits .f32 0x00000000#32 = 0 := by simp [Ideal.ofBits, Ideal.ieee]
theorem one_bits : Ideal.ofBits .f32 0x3F800000#32 = 1 := by
  simp [Ideal.ofBits, Ideal.ieee, ← EReal.coe_mul]
  norm_num
theorem two_bits : Ideal.ofBits .f32 0x40000000#32 = ((2 : ℝ) : EReal) := by
  simp [Ideal.ofBits, Ideal.ieee, ← EReal.coe_mul]
  norm_num
theorem neg_bits : Ideal.ofBits .f32 0xC3E00000#32 = ((-448 : ℝ) : EReal) := by
  simp [Ideal.ofBits, Ideal.ieee, ← EReal.coe_mul]
  norm_num

theorem ofn (k : Fin 32768) : Fin.ofNat 32768 k.val = k := Fin.ext (Nat.mod_eq_of_lt k.isLt)

theorem exps : ∀ f : Fin 254, (IntOp.addi 4294967170#32 (BitVec.ofNat 32 f.val)).toInt = (f.val : ℤ) - 126 := by decide +kernel

section Column
variable (x1 : Vec Ideal S2x32x8x128 .f32) (x2 : Vec Ideal S2x128x32768 .bf16) (x4 : Vec Ideal S2x1024x1x256 .f32) (r0 : Vec Ideal S2x32768x128 .f32) (r1 : Vec Ideal S2x1024x128x256 .f32)
  (b : Fin 2) (tok : Fin 32768) (h : Fin 8)

/-- A query's score at a key. -/
def sc (k : ℕ) : EReal := val_main_v24 (F := Ideal) x1 x4 r0 r1 (ix4 b tok h (Fin.ofNat 32768 k))

theorem sc_val (k : Fin 32768) : val_main_v24 (F := Ideal) x1 x4 r0 r1 (ix4 b tok h k) = sc x1 x4 r0 r1 b tok h k.val := by
  unfold sc; rw [ofn]

theorem red4 : S2x32768x8x32768.Reduces [3] S2x32768x8 := by decide
theorem redf : S2x32768x8x254.Reduces [3] S2x32768x8 := by decide

theorem lift4 (k : Fin 32768) : red4.lift (ix3 b tok h) k = ix4 b tok h k :=
  funext fun a => Fin.ext (by match a with | ⟨0, _⟩ => rfl | ⟨1, _⟩ => rfl | ⟨2, _⟩ => rfl | ⟨3, _⟩ => rfl)
theorem liftf (k : Fin 254) : redf.lift (ix3 b tok h) k = ix4 b tok h k :=
  funext fun a => Fin.ext (by match a with | ⟨0, _⟩ => rfl | ⟨1, _⟩ => rfl | ⟨2, _⟩ => rfl | ⟨3, _⟩ => rfl)

/-- An index of the column, without its key. -/
theorem drop4 (i : S2x32768x8.Idx) (h0 : i 0 = b) (h1 : i 1 = tok) (h2 : i 2 = h) : i = ix3 b tok h :=
  funext fun a => match a with | ⟨0, _⟩ => h0 | ⟨1, _⟩ => h1 | ⟨2, _⟩ => h2
theorem mk4 {n : ℕ} (k : Fin n) (i : (⟨4, ![2, 32768, 8, n]⟩ : Shape).Idx) (h0 : i 0 = b) (h1 : i 1 = tok) (h2 : i 2 = h) (h3 : i 3 = k) : i = ix4 b tok h k :=
  funext fun a => match a with | ⟨0, _⟩ => h0 | ⟨1, _⟩ => h1 | ⟨2, _⟩ => h2 | ⟨3, _⟩ => h3

theorem v25 : val_main_v25 (F := Ideal) x1 x4 r0 r1 (ix3 b tok h) = rM (sc x1 x4 r0 r1 b tok h) := by
  unfold val_main_v25
  refine (Host.reduce_eq_fold_single FloatOps.maximumf _ _ _ red4 h_S_ _).trans ?_
  unfold rM
  rw [show val_main_cst_0 (F := Ideal) (Shape.Idx.first h_S_) = (⊥ : EReal) from bot_bits]
  refine Finset.fold_congr fun k _ => ?_
  exact (congrArg (val_main_v24 (F := Ideal) x1 x4 r0 r1) (lift4 b tok h k)).trans (sc_val x1 x4 r0 r1 b tok h k)

theorem v30 (k : Fin 32768) : val_main_v30 (F := Ideal) x1 x4 r0 r1 (ix4 b tok h k) = rE (sc x1 x4 r0 r1 b tok h) k.val := by
  unfold rE
  rw [val_main_v30_apply, val_main_v29_apply, val_main_v28_apply, val_main_v27_apply, val_main_v26_apply, sc_val, drop4 b tok h (idx_main_v26 _) rfl rfl rfl, v25]
  show Ideal.pow (Ideal.ofBits .f32 0x40000000#32) _ = _
  rw [two_bits]
  rfl

theorem v31 : val_main_v31 (F := Ideal) x1 x4 r0 r1 (ix3 b tok h) = rL (sc x1 x4 r0 r1 b tok h) := by
  unfold rL
  rw [val_main_v31_apply, show val_main_cst_2 (F := Ideal) (Shape.Idx.first h_S_) = (0 : EReal) from zero_bits, zero_add]
  refine Finset.sum_congr rfl fun k _ => ?_
  rw [mk4 b tok h k (idx_main_v31 _ k) rfl rfl rfl rfl, v30]

theorem v34 (k : Fin 32768) : val_main_v34 (F := Ideal) x1 x4 r0 r1 (ix4 b tok h k) = rP (sc x1 x4 r0 r1 b tok h) k.val := by
  unfold rP
  rw [val_main_v34_apply, v30, val_main_v33_apply, val_main_v32_apply, drop4 b tok h (idx_main_v32 _) rfl rfl rfl, v31]
  rfl

theorem v35 (k : Fin 32768) : val_main_v35 (F := Ideal) x1 x4 r0 r1 (ix4 b tok h k) = max (rP (sc x1 x4 r0 r1 b tok h) k.val) (-rP (sc x1 x4 r0 r1 b tok h) k.val) := by
  rw [val_main_v35_apply, v34]
  exact rfl

theorem v36 : val_main_v36 (F := Ideal) x1 x4 r0 r1 (ix3 b tok h) = rA (sc x1 x4 r0 r1 b tok h) := by
  unfold val_main_v36
  refine (Host.reduce_eq_fold_single FloatOps.maximumf _ _ _ red4 h_S_ _).trans ?_
  unfold rA
  rw [show val_main_cst_3 (F := Ideal) (Shape.Idx.first h_S_) = (⊥ : EReal) from bot_bits]
  refine Finset.fold_congr fun k _ => ?_
  exact (congrArg (val_main_v35 (F := Ideal) x1 x4 r0 r1) (lift4 b tok h k)).trans (v35 x1 x4 r0 r1 b tok h k)

theorem v42 (f : Fin 254) (i : S254.Idx) (hi : i 0 = f) : val_main_v42 (F := Ideal) i = Ideal.pow ((2 : ℝ) : EReal) (((f.val : ℝ) - 126 : ℝ) : EReal) := by
  rw [val_main_v42_apply, val_main_v41_apply, val_main_v40_apply, val_main_v39_apply, val_main_v38_apply, val_main_v37_apply, hi]
  show Ideal.pow (Ideal.ofBits .f32 0x40000000#32) (((IntOp.addi 4294967170#32 (BitVec.ofNat 32 f.val)).toInt : ℝ) : EReal) = _
  rw [two_bits, exps]
  push_cast
  rfl

theorem sel_eq (x y a b : EReal) [Decidable (x = y)] : Scalar.select (FloatOps.cmpf (F := Ideal) (φ := .f32) .oeq x y) a b = if x = y then a else b := by
  unfold Scalar.select
  show (if Ideal.cmp .oeq x y = 1 then a else b) = _
  unfold Ideal.cmp
  by_cases e : x = y <;> simp [e]
theorem sel_gt (x y a b : EReal) [Decidable (y < x)] : Scalar.select (FloatOps.cmpf (F := Ideal) (φ := .f32) .ogt x y) a b = if y < x then a else b := by
  unfold Scalar.select
  show (if Ideal.cmp .ogt x y = 1 then a else b) = _
  unfold Ideal.cmp
  by_cases e : y < x <;> simp [e]

theorem v50 (f : Fin 254) [Decidable (rA (sc x1 x4 r0 r1 b tok h) * ((Rr : ℝ) : EReal) < Ideal.pow ((2 : ℝ) : EReal) (((f.val : ℝ) - 126 : ℝ) : EReal))] : val_main_v50 (F := Ideal) x1 x4 r0 r1 (ix4 b tok h f)
    = if rA (sc x1 x4 r0 r1 b tok h) * ((Rr : ℝ) : EReal) < Ideal.pow ((2 : ℝ) : EReal) (((f.val : ℝ) - 126 : ℝ) : EReal) then Ideal.pow ((2 : ℝ) : EReal) (((f.val : ℝ) - 126 : ℝ) : EReal) else ⊤ := by
  have e : val_main_v48 (F := Ideal) x1 x4 r0 r1 (ix4 b tok h f) = (rA (sc x1 x4 r0 r1 b tok h) * ((Rr : ℝ) : EReal) : EReal) := by
    rw [val_main_v48_apply, val_main_v45_apply, drop4 b tok h (idx_main_v45 _) rfl rfl rfl, val_main_v44_apply, v36, val_main_v43_apply, val_main_cst_5_apply]
    exact congrArg (rA (sc x1 x4 r0 r1 b tok h) * ·) r_bits
  have e' : val_main_call1_v2 (F := Ideal) (ix4 b tok h f) = (⊤ : EReal) := by
    rw [val_main_call1_v2_apply, val_main_call1_v0_apply, val_main_cst_6_apply]
    exact top_bits
  rw [val_main_v50_apply, val_main_v49_apply, e, e', val_main_v47_apply, val_main_v46_apply, v42 f _ rfl, val_main_call1_v1_apply, v42 f _ rfl]
  exact sel_gt _ _ _ _

open Classical in
theorem v51 : val_main_v51 (F := Ideal) x1 x4 r0 r1 (ix3 b tok h) = (Finset.univ : Finset (Fin 254)).fold min ⊤ fun f =>
    if rA (sc x1 x4 r0 r1 b tok h) * ((Rr : ℝ) : EReal) < Ideal.pow ((2 : ℝ) : EReal) (((f.val : ℝ) - 126 : ℝ) : EReal) then Ideal.pow ((2 : ℝ) : EReal) (((f.val : ℝ) - 126 : ℝ) : EReal) else ⊤ := by
  unfold val_main_v51
  refine (Host.reduce_eq_fold_single FloatOps.minimumf _ _ _ redf h_S_ _).trans ?_
  rw [show val_main_cst_7 (F := Ideal) (Shape.Idx.first h_S_) = (⊤ : EReal) from top_bits]
  have key : ∀ f : Fin 254, val_main_v50 (F := Ideal) x1 x4 r0 r1 (redf.lift (ix3 b tok h) f) = (fun f : Fin 254 => if rA (sc x1 x4 r0 r1 b tok h) * ((Rr : ℝ) : EReal) < Ideal.pow ((2 : ℝ) : EReal) (((f.val : ℝ) - 126 : ℝ) : EReal) then Ideal.pow ((2 : ℝ) : EReal) (((f.val : ℝ) - 126 : ℝ) : EReal) else ⊤) f := fun f => by
    rw [liftf]
    exact v50 x1 x4 r0 r1 b tok h f
  generalize (fun f : Fin 254 => if rA (sc x1 x4 r0 r1 b tok h) * ((Rr : ℝ) : EReal) < Ideal.pow ((2 : ℝ) : EReal) (((f.val : ℝ) - 126 : ℝ) : EReal) then Ideal.pow ((2 : ℝ) : EReal) (((f.val : ℝ) - 126 : ℝ) : EReal) else ⊤) = g at key ⊢
  refine Finset.fold_congr fun f _ => ?_
  have kf := key f
  rw [Function.comp_apply]
  rw [kf]

open Classical in
theorem v54 : val_main_v54 (F := Ideal) x1 x4 r0 r1 (ix3 b tok h) = rS (sc x1 x4 r0 r1 b tok h) := by
  have e : val_main_v52 (F := Ideal) (ix3 b tok h) = (0 : EReal) := by
    rw [val_main_v52_apply, val_main_cst_8_apply]
    exact zero_bits
  have e' : val_main_call2_v1 (F := Ideal) (ix3 b tok h) = (1 : EReal) := by
    rw [val_main_call2_v1_apply, val_main_call2_v0_apply, val_main_cst_9_apply]
    exact one_bits
  unfold rS
  rw [val_main_v54_apply, val_main_v53_apply, v36, e, e', v51]
  exact sel_eq _ _ _ _

theorem v60 (k : Fin 32768) : val_main_v60 (F := Ideal) x1 x4 r0 r1 (ix4 b tok h k) = rC (sc x1 x4 r0 r1 b tok h) k.val := by
  unfold rC
  rw [val_main_v60_apply, val_main_call3_v4_apply, val_main_call3_v2_apply, val_main_call3_v1_apply, val_main_v59_apply, v34, val_main_v58_apply, val_main_v57_apply,
    drop4 b tok h (idx_main_v57 _) rfl rfl rfl, val_main_v56_apply, v54, val_main_v55_apply]
  show min (Ideal.ofBits .f32 0x43E00000#32) (max (Ideal.ofBits .f32 0xC3E00000#32) (_ * Ideal.div (Ideal.ofBits .f32 0x3F800000#32) _)) = _
  rw [big_bits, neg_bits, one_bits]

/-- The reference's element, of its query's column of scores and its lane's column of values. -/
theorem v65 (d : Fin 128) : val_main_v65 (F := Ideal) x1 x2 x4 r0 r1 (ix4 b tok h d) = rO (sc x1 x4 r0 r1 b tok h) fun k => (x2 (ix3 b d (Fin.ofNat 32768 k)) : EReal) := by
  have e9 : ∀ k : Fin 32768, val_main_v9 (F := Ideal) x2 (ridx_main_v62 (ix4 b tok h d) k) = x2 (ix3 b d (Fin.ofNat 32768 k.val)) := fun k => by
    rw [val_main_v9_apply, ofn]
    refine congrArg x2 (funext fun a => ?_)
    match a with | ⟨0, _⟩ => rfl | ⟨1, _⟩ => rfl | ⟨2, _⟩ => rfl
  have e61 : ∀ k : Fin 32768, val_main_v61 (F := Ideal) x1 x4 r0 r1 (lidx_main_v62 (ix4 b tok h d) k) = rC (sc x1 x4 r0 r1 b tok h) k.val := fun k => by
    rw [mk4 b tok h k (lidx_main_v62 _ k) rfl rfl rfl rfl, val_main_v61_apply]
    exact v60 x1 x4 r0 r1 b tok h k
  have e62 : val_main_v62 (F := Ideal) x1 x2 x4 r0 r1 (ix4 b tok h d) = ∑ k : Fin 32768, rC (sc x1 x4 r0 r1 b tok h) k.val * (x2 (ix3 b d (Fin.ofNat 32768 k.val)) : EReal) := by
    rw [val_main_v62_apply]
    exact Finset.sum_congr rfl fun k _ => congrArg₂ (· * ·) (e61 k) (e9 k)
  unfold rO
  rw [val_main_v65_apply, val_main_v64_apply, val_main_v63_apply, drop4 b tok h (idx_main_v63 _) rfl rfl rfl, v54, e62]
  exact rfl

theorem at3 (d : Fin 128) : val_main_v3 (F := Ideal) r1 (ix4 b tok h d) = r1 (ix4 b ⟨tok.val / 32, by omega⟩ d ⟨32 * h.val + tok.val % 32, by omega⟩) := by
  have hb := b.isLt; have ht := tok.isLt; have hh := h.isLt; have hd := d.isLt
  have e3 : idx_main_v3 (ix4 b tok h d) = ix5 b ⟨tok.val / 32, by omega⟩ ⟨tok.val % 32, by omega⟩ h d := by
    refine funext fun a => Fin.ext ?_
    match a with
    | ⟨0, _⟩ => dsimp only [ix4, ix5, idx_main_v3]; omega
    | ⟨1, _⟩ => dsimp only [ix4, ix5, idx_main_v3]; omega
    | ⟨2, _⟩ => dsimp only [ix4, ix5, idx_main_v3]; omega
    | ⟨3, _⟩ => dsimp only [ix4, ix5, idx_main_v3]; omega
    | ⟨4, _⟩ => dsimp only [ix4, ix5, idx_main_v3]; omega
  rw [val_main_v3_apply, e3, val_main_v2_apply, val_main_v1_apply]
  refine congrArg r1 (funext fun a => Fin.ext ?_)
  match a with
  | ⟨0, _⟩ => dsimp only [ix4, ix5, idx_main_v1, idx_main_v2]; omega
  | ⟨1, _⟩ =>
    dsimp only [ix4, ix5, idx_main_v1, idx_main_v2]
    have q : ((((b.val * 1024 + tok.val / 32) * 128 + d.val) * 8 + h.val) * 32 + tok.val % 32) / 32768 = b.val * 1024 + tok.val / 32 := by omega
    rw [q]; omega
  | ⟨2, _⟩ => dsimp only [ix4, ix5, idx_main_v1, idx_main_v2]; omega
  | ⟨3, _⟩ => dsimp only [ix4, ix5, idx_main_v1, idx_main_v2]; omega

theorem at6 : val_main_v6 (F := Ideal) x4 (ix3 b tok h) = x4 (ix4 b ⟨tok.val / 32, by omega⟩ 0 ⟨32 * h.val + tok.val % 32, by omega⟩) := by
  have hb := b.isLt; have ht := tok.isLt; have hh := h.isLt
  have e6 : idx_main_v6 (ix3 b tok h) = ix4 b ⟨tok.val / 32, by omega⟩ ⟨tok.val % 32, by omega⟩ h := by
    refine funext fun a => Fin.ext ?_
    match a with
    | ⟨0, _⟩ => dsimp only [ix3, ix4, idx_main_v6]; omega
    | ⟨1, _⟩ => dsimp only [ix3, ix4, idx_main_v6]; omega
    | ⟨2, _⟩ => dsimp only [ix3, ix4, idx_main_v6]; omega
    | ⟨3, _⟩ => dsimp only [ix3, ix4, idx_main_v6]; omega
  rw [val_main_v6_apply, e6, val_main_v5_apply, val_main_v4_apply]
  refine congrArg x4 (funext fun a => Fin.ext ?_)
  match a with
  | ⟨0, _⟩ => dsimp only [ix4, idx_main_v4, idx_main_v5]; omega
  | ⟨1, _⟩ => dsimp only [ix4, idx_main_v4, idx_main_v5]; omega
  | ⟨2, _⟩ => rfl
  | ⟨3, _⟩ => dsimp only [ix4, idx_main_v4, idx_main_v5]; omega

/-- The score, from the arguments and the decoded codes. -/
theorem sc_eq (k : ℕ) (hk : k < 32768) : sc x1 x4 r0 r1 b tok h k = if k ≤ tok.val then
      (∑ d : Fin 128, (r1 (ix4 b ⟨tok.val / 32, by omega⟩ d ⟨32 * h.val + tok.val % 32, by omega⟩) : EReal) * (r0 (ix3 b ⟨k, hk⟩ d) : EReal))
        * (x4 (ix4 b ⟨tok.val / 32, by omega⟩ 0 ⟨32 * h.val + tok.val % 32, by omega⟩) : EReal)
        * (x1 (ix4 b ⟨k / 1024, by omega⟩ ⟨k % 8, by omega⟩ ⟨k % 1024 / 8, by omega⟩) : EReal)
    else ⊥ := by
  have e : (Fin.ofNat 32768 k) = ⟨k, hk⟩ := Fin.ext (Nat.mod_eq_of_lt hk)
  unfold sc
  have eb : val_main_call0_v2 (F := Ideal) (ix4 b tok h ⟨k, hk⟩) = (⊥ : EReal) := by
    rw [val_main_call0_v2_apply, val_main_call0_v0_apply, val_main_cst_apply]
    exact bot_bits
  have ec : val_main_call0_v1 (F := Ideal) (ix4 b tok h ⟨k, hk⟩) = IntOp.cmpi .sle (BitVec.ofNat 32 k) (BitVec.ofNat 32 tok.val) := by
    rw [val_main_call0_v1_apply, val_main_v23_apply, val_main_v22_apply, val_main_v20_apply, val_main_v18_apply, val_main_v17_apply,
      val_main_v21_apply, val_main_v19_apply, val_main_v17_apply]
    rfl
  rw [e, val_main_v24_apply, ec, eb]
  unfold Scalar.select
  refine if_congr (WordCmp.cmpi_sle_ofNat_eq_one_iff (by omega) (by omega)) ?_ rfl
  rw [val_main_v16_apply, val_main_v13_apply, val_main_v10_apply, val_main_v12_apply, val_main_v11_apply, val_main_v15_apply, val_main_v14_apply,
    val_main_v8_apply, val_main_v7_apply]
  refine congrArg₂ (· * ·) (congrArg₂ (· * ·) (Finset.sum_congr rfl fun d _ => congrArg₂ (· * ·) ?_ (congrArg r0 ?_)) ?_) (congrArg x1 ?_)
  · exact (congrArg (val_main_v3 (F := Ideal) r1) (mk4 b tok h d _ rfl rfl rfl rfl)).trans (at3 r1 b tok h d)
  · funext a; match a with | ⟨0, _⟩ => rfl | ⟨1, _⟩ => rfl | ⟨2, _⟩ => rfl
  · exact (congrArg (val_main_v6 (F := Ideal) x4) (drop4 b tok h _ rfl rfl rfl)).trans (at6 x4 b tok h)
  · refine funext fun a => Fin.ext ?_
    have hb := b.isLt
    match a with
    | ⟨0, _⟩ => dsimp only [ix4, ix3, idx_main_v7, idx_main_v8, idx_main_v14, idx_main_v15]; omega
    | ⟨1, _⟩ => dsimp only [ix4, ix3, idx_main_v7, idx_main_v8, idx_main_v14, idx_main_v15]; omega
    | ⟨2, _⟩ => dsimp only [ix4, ix3, idx_main_v7, idx_main_v8, idx_main_v14, idx_main_v15]; omega
    | ⟨3, _⟩ => dsimp only [ix4, ix3, idx_main_v7, idx_main_v8, idx_main_v14, idx_main_v15]; omega

/-- The result at an index. -/
theorem v67 (i : S2x32768x1024.Idx) : val_main_v67 (F := Ideal) x1 x2 x4 r0 r1 i
    = rO (sc x1 x4 r0 r1 (i 0) (i 1) ⟨(i 2).val / 128, by have : (i 2).val < 1024 := (i 2).isLt; omega⟩)
        fun k => (x2 (ix3 (i 0) ⟨(i 2).val % 128, by omega⟩ (Fin.ofNat 32768 k)) : EReal) := by
  have h2 : (i 2).val < 1024 := (i 2).isLt
  have h1 : (i 1).val < 32768 := (i 1).isLt
  have h0 : (i 0).val < 2 := (i 0).isLt
  refine Eq.trans ?_ (v65 x1 x2 x4 r0 r1 (i 0) (i 1) _ _)
  rw [val_main_v67_apply, val_main_v66_apply]
  refine congrArg (val_main_v65 (F := Ideal) x1 x2 x4 r0 r1) (funext fun a => Fin.ext ?_)
  match a with
  | ⟨0, _⟩ => dsimp only [ix4, idx_main_v67]; omega
  | ⟨1, _⟩ => dsimp only [ix4, idx_main_v67]; omega
  | ⟨2, _⟩ => dsimp only [ix4, idx_main_v67]; omega
  | ⟨3, _⟩ => dsimp only [ix4, idx_main_v67]; omega

end Column

end Cert.ReferenceIdeal.Hand

end
-- ==== Proof.ReadOut.lean ====
module

public import proofs.«01_k».proof.Proof.IdealRun
public import proofs.«01_k».proof.Proof.Gen.AttendIdeal.Frame
public import proofs.«01_k».proof.Proof.Tile
public import Idealize.ShloMosaic.Lib.Pointwise
public import Idealize.ShloMosaic.Lib.WritesUnit

@[expose] public section

set_option maxRecDepth 16384

noncomputable section

namespace Cert.AttendIdeal.Hand

open Cert.AttendIdeal.Gen
open Idealize.ShloMosaic Idealize.ShloMosaic.TcCoe Idealize.ShloMosaic.Tactic
open Idealize.ShloMosaic.Pipeline (Dat RDat Cfg Window BodyObligation cellOf)
open Idealize.ShloMosaic.Rounds
open Idealize.SL Idealize.SL.RA Idealize.SL.BI
open scoped Idealize.SL.BI
open Idealize.SL.BI.BIBase Idealize.SL.BI.Laws Idealize.SL.ProofMode Idealize.SL.Sem

/-- The output block of a read-out `s` and scales `w`, head by head. -/
def put (s : Vec Ideal S128x256 .f32) (w : Vec Ideal S1x256 .f32) : List (View.Piece (Elt Ideal) S1x32x1024 .bf16) :=
  [⟨Rect.unit (s := S1x32x1024) ![0, 0, 896] ![1, 32, 128] inb_S1x32x1024_S1x32x128_0_0_896, k0_pay7 (k0_pay1899 s w)⟩,
   ⟨Rect.unit (s := S1x32x1024) ![0, 0, 768] ![1, 32, 128] inb_S1x32x1024_S1x32x128_0_0_768, k0_pay6 (k0_pay1899 s w)⟩,
   ⟨Rect.unit (s := S1x32x1024) ![0, 0, 640] ![1, 32, 128] inb_S1x32x1024_S1x32x128_0_0_640, k0_pay5 (k0_pay1899 s w)⟩,
   ⟨Rect.unit (s := S1x32x1024) ![0, 0, 512] ![1, 32, 128] inb_S1x32x1024_S1x32x128_0_0_512, k0_pay4 (k0_pay1899 s w)⟩,
   ⟨Rect.unit (s := S1x32x1024) ![0, 0, 384] ![1, 32, 128] inb_S1x32x1024_S1x32x128_0_0_384, k0_pay3 (k0_pay1899 s w)⟩,
   ⟨Rect.unit (s := S1x32x1024) ![0, 0, 256] ![1, 32, 128] inb_S1x32x1024_S1x32x128_0_0_256, k0_pay2 (k0_pay1899 s w)⟩,
   ⟨Rect.unit (s := S1x32x1024) ![0, 0, 128] ![1, 32, 128] inb_S1x32x1024_S1x32x128_0_0_128, k0_pay1 (k0_pay1901 s w)⟩,
   ⟨Rect.unit (s := S1x32x1024) ![0, 0, 0] ![1, 32, 128] inb_S1x32x1024_S1x32x128_0_0_0, k0_pay1900 s w⟩]

/-- The block at an index, if it has been written. -/
def Heads (v : View sig .tc .vmem S1x32x1024 .bf16) (f : v.ty.Contents (Elt Ideal)) (L : List (View.Piece (Elt Ideal) S1x32x1024 .bf16)) (n : ℕ)
    (G : ℕ → Fin 128 → EReal) : Prop :=
  ∀ y : S1x32x1024.Idx, (y 2).val < 128 * n → v.read (Elt Ideal) (v.writes (Elt Ideal) f L) y = G (32 * ((y 2).val / 128) + (y 1).val) (Fin.ofNat 128 ((y 2).val % 128))

theorem Heads.cons {v : View sig .tc .vmem S1x32x1024 .bf16} {f : v.ty.Contents (Elt Ideal)} {L : List (View.Piece (Elt Ideal) S1x32x1024 .bf16)} {n : ℕ} {G : ℕ → Fin 128 → EReal}
    (h : Heads v f L n G) {off : Fin 3 → ℕ} (inb : ∀ a : Fin 3, off a + (![1, 32, 128] : Fin 3 → ℕ) a ≤ S1x32x1024.size a)
    (w : S1x32x128.Idx → EReal) (hoff : off = ![0, 0, 128 * n])
    (hw : ∀ x : S1x32x128.Idx, w x = G (32 * n + (x 1).val) (x 2)) :
    Heads v f ((⟨Rect.unit (s := S1x32x1024) off ![1, 32, 128] inb, w⟩ : View.Piece (Elt Ideal) S1x32x1024 .bf16) :: L) (n + 1) G := by
  intro y hy
  have h0 : (y 0).val = 0 := by have : (y 0).val < 1 := (y 0).isLt; omega
  by_cases hl : (y 2).val < 128 * n
  · refine (View.read_writes_cons_unit_of_not_mem v f inb w L y hoff 2 (Or.inl hl)).trans ?_
    exact h y hl
  · have hq : (y 2).val / 128 = n := by omega
    refine (View.read_writes_cons_unit_of_mem v f inb w L y (ix3 0 (y 1) (Fin.ofNat 128 ((y 2).val % 128)) : S1x32x128.Idx) hoff ?_).trans ?_
    · intro a; fin_cases a
      · exact h0
      · exact (Nat.zero_add _).symm
      · show (y 2).val = 128 * n + (y 2).val % 128 % 128
        omega
    · rw [hw, hq]
      rfl

/-- A read-out's block at an index. -/
theorem put_read (v : View sig .tc .vmem S1x32x1024 .bf16) (f : v.ty.Contents (Elt Ideal)) (s : Vec Ideal S128x256 .f32) (w : Vec Ideal S1x256 .f32) (y : S1x32x1024.Idx) :
    v.read (Elt Ideal) (v.writes (Elt Ideal) f (put s w)) y
      = (s (ix2 (Fin.ofNat 128 ((y 2).val % 128)) (Fin.ofNat 256 (32 * ((y 2).val / 128) + (y 1).val))) : EReal) * (w (ix2 0 (Fin.ofNat 256 (32 * ((y 2).val / 128) + (y 1).val))) : EReal) := by
  have hy : (y 2).val < 1024 := (y 2).isLt
  have hb : Heads v f (put s w) 8 (fun col d => (s (ix2 d (Fin.ofNat 256 col)) : EReal) * (w (ix2 0 (Fin.ofNat 256 col)) : EReal)) := by
    unfold put
    refine Heads.cons ?_ _ _ rfl (fun x => ?_)
    rotate_left
    · have hx : (x 1).val < 32 := (x 1).isLt
      pointwise [k0_pay7, k0_pay1899]
      exact congrArg (fun u : Fin 256 => (s (ix2 (x 2) u) : EReal) * (w (ix2 0 u) : EReal)) (Fin.ext (by show 224 + (x 1).val = (32 * 7 + (x 1).val) % 256; omega))
    refine Heads.cons ?_ _ _ rfl (fun x => ?_)
    rotate_left
    · have hx : (x 1).val < 32 := (x 1).isLt
      pointwise [k0_pay6, k0_pay1899]
      exact congrArg (fun u : Fin 256 => (s (ix2 (x 2) u) : EReal) * (w (ix2 0 u) : EReal)) (Fin.ext (by show 192 + (x 1).val = (32 * 6 + (x 1).val) % 256; omega))
    refine Heads.cons ?_ _ _ rfl (fun x => ?_)
    rotate_left
    · have hx : (x 1).val < 32 := (x 1).isLt
      pointwise [k0_pay5, k0_pay1899]
      exact congrArg (fun u : Fin 256 => (s (ix2 (x 2) u) : EReal) * (w (ix2 0 u) : EReal)) (Fin.ext (by show 160 + (x 1).val = (32 * 5 + (x 1).val) % 256; omega))
    refine Heads.cons ?_ _ _ rfl (fun x => ?_)
    rotate_left
    · have hx : (x 1).val < 32 := (x 1).isLt
      pointwise [k0_pay4, k0_pay1899]
      exact congrArg (fun u : Fin 256 => (s (ix2 (x 2) u) : EReal) * (w (ix2 0 u) : EReal)) (Fin.ext (by show 128 + (x 1).val = (32 * 4 + (x 1).val) % 256; omega))
    refine Heads.cons ?_ _ _ rfl (fun x => ?_)
    rotate_left
    · have hx : (x 1).val < 32 := (x 1).isLt
      pointwise [k0_pay3, k0_pay1899]
      exact congrArg (fun u : Fin 256 => (s (ix2 (x 2) u) : EReal) * (w (ix2 0 u) : EReal)) (Fin.ext (by show 96 + (x 1).val = (32 * 3 + (x 1).val) % 256; omega))
    refine Heads.cons ?_ _ _ rfl (fun x => ?_)
    rotate_left
    · have hx : (x 1).val < 32 := (x 1).isLt
      pointwise [k0_pay2, k0_pay1899]
      exact congrArg (fun u : Fin 256 => (s (ix2 (x 2) u) : EReal) * (w (ix2 0 u) : EReal)) (Fin.ext (by show 64 + (x 1).val = (32 * 2 + (x 1).val) % 256; omega))
    refine Heads.cons ?_ _ _ rfl (fun x => ?_)
    rotate_left
    · have hx : (x 1).val < 32 := (x 1).isLt
      pointwise [k0_pay1, k0_pay1901, k0_pay1899]
      exact congrArg (fun u : Fin 256 => (s (ix2 (x 2) u) : EReal) * (w (ix2 0 u) : EReal)) (Fin.ext (by show 32 + (x 1).val = (32 * 1 + (x 1).val) % 256; omega))
    refine Heads.cons ?_ _ _ rfl (fun x => ?_)
    rotate_left
    · have hx : (x 1).val < 32 := (x 1).isLt
      pointwise [k0_pay1900, k0_pay1899]
      exact congrArg (fun u : Fin 256 => (s (ix2 (x 2) u) : EReal) * (w (ix2 0 u) : EReal)) (Fin.ext (by show (x 1).val = ((x 1).val) % 256; omega))
    intro z hz
    omega
  exact hb y hy

theorem steps1 : ∀ n : Fin 32, (Scalar.indexCast (Scalar.muli (Scf.iv 0#32 1#32 n.val) 1024#32)).toNat = 1024 * n.val := by decide +kernel

theorem off1_eq (i : grid0.Coords) (k : Fin (k0_t1_loop i).trips) (h : k.val < 32) : k0_off1 i k = ![1024 * k.val, 0] := by
  show ![(Scalar.indexCast (Scalar.muli (Scf.iv 0#32 1#32 k.val) 1024#32)).toNat, 0] = _
  rw [steps1 ⟨k.val, h⟩]

theorem off2_eq (i : grid0.Coords) (k : Fin (k0_t1_loop i).trips) (h : k.val < 32) : k0_off2 i k = ![0, 0, 1024 * k.val] := by
  show ![0, 0, (Scalar.indexCast (Scalar.muli (Scf.iv 0#32 1#32 k.val) 1024#32)).toNat] = _
  rw [steps1 ⟨k.val, h⟩]

theorem pay1892_eq : @k0_pay1892 Ideal _ = @k0_pay8 Ideal _ := rfl

theorem pay1371_eq : @k0_pay1371 Ideal _ = @k0_pay8 Ideal _ := rfl

theorem trip1_list (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : k0_cond1 i = 1#1) (X4 : BufTy.Contents (Elt Ideal) arg4.view.ty) (f8 : BufTy.Contents (Elt Ideal) arg8.view.ty) (f10 : BufTy.Contents (Elt Ideal) arg10.view.ty) (k : Fin (k0_t1_loop i).trips) (acc : BitVec 32) (f9 : BufTy.Contents (Elt Ideal) arg9.view.ty) :
    tripL_k0_t1 𝒱 c bd i arg2 harg2 arg3 harg3 arg4 harg4 arg5 harg5 arg6 harg6 arg7 harg7 arg8 harg8 arg9 harg9 arg10 harg10 h1 X4 f8 f10 k acc f9 = [⟨Rect.unit (s := S128x256) ![0, 0] ![128, 256] inb_S128x256_S128x256_0_0,
      k0_pay8 (arg10.view.readAt (Elt Ideal) (Rect.unit (s := S8x256) ![0, 0] ![1, 256] inb_S8x256_S1x256_0_0).toLoadRect f10)
        (arg8.view.readAt (Elt Ideal) (Rect.unit (s := S32768x256) (k0_off1 i k) ![1024, 256] (k0_off1_inb i k h1)).toLoadRect f8)
        (arg9.view.readAt (Elt Ideal) (Rect.unit (s := S128x256) ![0, 0] ![128, 256] inb_S128x256_S128x256_0_0).toLoadRect f9)
        (arg4.view.readAt (Elt Ideal) (Rect.unit (s := S1x128x32768) (k0_off2 i k) ![1, 128, 1024] (k0_off2_inb i k h1)).toLoadRect X4)⟩] := by
  unfold tripL_k0_t1 trip_k0_t1
  dsimp only
  rw [pay1892_eq]

/-- What the loop over the last tile's spans leaves. -/
theorem st1_value (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : k0_cond1 i = 1#1) (X4 : BufTy.Contents (Elt Ideal) arg4.view.ty) (f8 : BufTy.Contents (Elt Ideal) arg8.view.ty) (f10 : BufTy.Contents (Elt Ideal) arg10.view.ty) (G9 : BufTy.Contents (Elt Ideal) arg9.view.ty) (init : BitVec 32) (n : ℕ) (hn : n ≤ (k0_t1_loop i).trips) (h32 : (k0_t1_loop i).trips = 32) (j : S128x256.Idx) :
    arg9.view.read (Elt Ideal) (arg9.view.writes (Elt Ideal) G9 (st_k0_t1 𝒱 c bd i arg2 harg2 arg3 harg3 arg4 harg4 arg5 harg5 arg6 harg6 arg7 harg7 arg8 harg8 arg9 harg9 arg10 harg10 h1 X4 f8 f10 G9 init n).2) j
      = (arg9.view.read (Elt Ideal) G9 j : EReal) + Of (arg4.view.read (Elt Ideal) X4) (rowsOf f8) (rowOf f10 0) (1024 * n) (j 0) (j 1) := by
  induction n generalizing j with
  | zero =>
    rw [st_k0_t1.eq_1]
    simp only [Of, Nat.mul_zero, Finset.range_zero, Finset.sum_empty, add_zero]
    rfl
  | succ n ih =>
    have ih := ih (by omega)
    have hk : n < (k0_t1_loop i).trips := by omega
    have hs := st_k0_t1_succ 𝒱 c bd i arg2 harg2 arg3 harg3 arg4 harg4 arg5 harg5 arg6 harg6 arg7 harg7 arg8 harg8 arg9 harg9 arg10 harg10 h1 X4 f8 f10 G9 init ⟨n, hk⟩
    simp only [] at hs
    rw [hs]
    generalize hS : st_k0_t1 𝒱 c bd i arg2 harg2 arg3 harg3 arg4 harg4 arg5 harg5 arg6 harg6 arg7 harg7 arg8 harg8 arg9 harg9 arg10 harg10 h1 X4 f8 f10 G9 init n = s at ih
    dsimp only
    rw [trip1_list, List.cons_append, List.nil_append]
    refine (read_sum _ _ _ _ j).trans ?_
    refine (read_out_span f8 f10 X4 _ n (by omega) (off1_eq i ⟨n, hk⟩ (by show n < 32; omega)) (off2_eq i ⟨n, hk⟩ (by show n < 32; omega)) _ _ _ j).trans ?_
    unfold Of
    rw [sum_step, ← add_assoc]
    refine congrArg₂ (· + ·) ?_ rfl
    refine Eq.trans ?_ (ih j)
    refine readAt_off arg9.view _ _ _ _ rfl ?_
    intro a; fin_cases a <;> exact (Nat.zero_add _).symm

theorem no_trips2 (i : grid0.Coords) (hn : (i 1).val = 1024) : Scf.trips (k0_t2_loop i).lb (k0_t2_loop i).ub (k0_t2_loop i).st = 0 :=
  ((by decide +kernel : ∀ n : Fin 1025, n.val = 1024 → (k0_t2_loop (pointAt n)).trips = 0) (i 1)) hn

end Cert.AttendIdeal.Hand

end
-- ==== Proof.Value.lean ====
module

public import proofs.«01_k».proof.Proof.IdealRun
public import proofs.«01_k».proof.Proof.Gen.AttendIdeal.Frame
public import proofs.«01_k».proof.Proof.ReadOut
public import Idealize.ShloMosaic.Lib.Pointwise
public import Idealize.ShloMosaic.Lib.WritesUnit

@[expose] public section

set_option maxRecDepth 16384

noncomputable section

namespace Cert.AttendIdeal.Hand

open Cert.AttendIdeal.Gen
open Idealize.ShloMosaic Idealize.ShloMosaic.TcCoe Idealize.ShloMosaic.Tactic
open Idealize.ShloMosaic.Pipeline (Dat RDat Cfg Window BodyObligation cellOf)
open Idealize.ShloMosaic.Rounds
open Idealize.SL Idealize.SL.RA Idealize.SL.BI
open scoped Idealize.SL.BI
open Idealize.SL.BI.BIBase Idealize.SL.BI.Laws Idealize.SL.ProofMode Idealize.SL.Sem

theorem le3 (i : grid0.Coords) : (Scf.trips (k0_t3_loop i).lb (k0_t3_loop i).ub (k0_t3_loop i).st) ≤ (k0_t3_loop i).trips := le_refl _

theorem le5 (i : grid0.Coords) : (Scf.trips (k0_t5_loop i).lb (k0_t5_loop i).ub (k0_t5_loop i).st) ≤ (k0_t5_loop i).trips := le_refl _

theorem trips3' (i : grid0.Coords) (hn : (i 1).val < 1024) : (Scf.trips (k0_t3_loop i).lb (k0_t3_loop i).ub (k0_t3_loop i).st) = lastSpan i := trips3 i hn

theorem trips5' (i : grid0.Coords) (hn : (i 1).val < 1024) : (Scf.trips (k0_t5_loop i).lb (k0_t5_loop i).ub (k0_t5_loop i).st) = lastSpan i + 1 := trips5 i hn

/-- The last span of a tile. -/
def lastOf (t : ℕ) : ℕ := min (t / 32) 31

section Spec
variable (t : ℕ) (K : Vec Ideal S1x32768x128 .fp8e4m3) (C : Vec Ideal S1x32x8x128 .f32) (Q : Vec Ideal S1x1x128x256 .fp8e4m3) (A : Vec Ideal S1x1x1x256 .f32)

/-- The greatest score of a column. -/
def Mx (col : Fin 256) : EReal := (Finset.range (1024 * (lastOf t + 1))).sup fun key => Ym t K C Q key col

/-- A tile's exponentials. -/
def Es (key : ℕ) (col : Fin 256) : EReal := Ex (Mx t K C Q col * (A (ix4 0 0 0 col) : EReal)) (A (ix4 0 0 0 col)) (Ym t K C Q key col)

/-- Their sum. -/
def Ls (col : Fin 256) : EReal := ∑ key ∈ Finset.range (1024 * (lastOf t + 1)), Es t K C Q A key col

end Spec

theorem sum_eight (f : ℕ → EReal) (m : ℕ) : ∑ r : Fin 8, ∑ q ∈ Finset.range m, f (8 * q + r.val) = ∑ key ∈ Finset.range (8 * m), f key := by
  induction m with
  | zero => simp
  | succ m ih =>
    simp only [Finset.sum_range_succ _ m]
    rw [Finset.sum_add_distrib, ih, show 8 * (m + 1) = 8 * m + 8 by ring, Finset.sum_range_add, Finset.sum_range (n := 8)]

theorem factor_apply (arg6 : Memref sig .tc .vmem S1x1x1x256 .f32) (X6 : BufTy.Contents (Elt Ideal) arg6.view.ty) (col : Fin 256) :
    k0_pay1872 (arg6.view.readAt (Elt Ideal) (Rect.unit (s := S1x1x1x256) ![0, 0, 0, 0] ![1, 1, 1, 256] inb_S1x1x1x256_S1x1x1x256_0_0_0_0).toLoadRect X6) (ix2 0 col)
      = arg6.view.read (Elt Ideal) X6 (ix4 0 0 0 col) := by
  pointwise [k0_pay1872]
  refine readAt_off arg6.view _ X6 _ _ rfl ?_
  intro a; fin_cases a
  · rfl
  · rfl
  · rfl
  · exact (Nat.zero_add _).symm

theorem zero_apply (x : S8x256.Idx) : k0_pay1874 (F := Ideal) x = (0 : EReal) := by
  pointwise [k0_pay1874]

theorem bot_apply (x : S8x256.Idx) : k0_pay1368 (F := Ideal) x = (⊥ : EReal) := by
  pointwise [k0_pay1368]
  exact bot_bits

/-- The greatest scores by row of eight. -/
theorem body_same_max (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (hn : (i 1).val < 1024) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (f8 : BufTy.Contents (Elt Ideal) arg8.view.ty) (f10 : BufTy.Contents (Elt Ideal) arg10.view.ty) (x : S8x256.Idx) (z : EReal) :
    (body_same.sl.r_310 𝒱 c bd i arg2 harg2 arg3 harg3 arg4 harg4 arg5 harg5 arg6 harg6 arg7 harg7 arg8 harg8 arg9 harg9 arg10 harg10 h2 X2 X3 X4 X5 f8 f10) x ≤ z ↔ ∀ key < 1024 * (lastSpan i + 1), key % 8 = (x 0).val → (Ym (i 1).val (arg2.view.read (Elt Ideal) X2) (arg3.view.read (Elt Ideal) X3) (arg5.view.read (Elt Ideal) X5)) key (x 1) ≤ z := by
  have hl : 1024 * lastSpan i ≤ 32 * (i 1).val := by unfold lastSpan; omega
  have hm : body_same.sl.r 𝒱 c bd i arg2 harg2 arg3 harg3 arg4 harg4 arg5 harg5 arg6 harg6 arg7 harg7 arg8 harg8 arg9 harg9 arg10 harg10 h2 X2 X3 X4 X5 f8 f10 x ≤ z ↔ ∀ key < 1024 * lastSpan i, key % 8 = (x 0).val → (Ym (i 1).val (arg2.view.read (Elt Ideal) X2) (arg3.view.read (Elt Ideal) X3) (arg5.view.read (Elt Ideal) X5)) key (x 1) ≤ z := by
    obtain ⟨hmx, -, -⟩ := (st3_value 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (cond3_of i hn) (Scf.trips (k0_t3_loop i).lb (k0_t3_loop i).ub (k0_t3_loop i).st) (le3 i))
    have h := hmx x z
    clear hmx
    have hu : body_same.sl.r 𝒱 c bd i arg2 harg2 arg3 harg3 arg4 harg4 arg5 harg5 arg6 harg6 arg7 harg7 arg8 harg8 arg9 harg9 arg10 harg10 h2 X2 X3 X4 X5 f8 f10 = (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).mx := by unfold body_same.sl.r; rfl
    rw [hu]
    refine h.trans ?_
    rw [bot_apply, trips3' i hn]
    refine (and_iff_right bot_le).trans (forall_congr' fun key => forall_congr' fun hk => ?_)
    unfold Ym
    rw [if_pos (by omega)]
  rw [body_same_fold 𝒱 c bd i arg2 harg2 arg3 harg3 arg4 harg4 arg5 harg5 arg6 harg6 arg7 harg7 arg8 harg8 arg9 harg9 arg10 harg10 h2 X2 X3 X4 X5 X10 f8 f10, body_same_stack 𝒱 c bd i arg2 harg2 arg3 harg3 arg4 harg4 arg5 harg5 arg6 harg6 arg7 harg7 arg8 harg8 arg9 harg9 arg10 harg10 h2 X2 X3 X4 X5 X10, foldV_max_le, keys_step _ _ _ (x 0).isLt]
  refine and_congr hm (forall_congr' fun r => forall_congr' fun hr => ?_)
  rw [stack_apply _ r hr x, body_same_rows 𝒱 c bd i arg2 harg2 arg3 harg3 arg4 harg4 arg5 harg5 arg6 harg6 arg7 harg7 arg8 harg8 arg9 harg9 arg10 harg10 h2 hn X2 X3 X4 X5 f10 r hr x]

theorem body_same_greatest (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (hn : (i 1).val < 1024) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (X6 : BufTy.Contents (Elt Ideal) arg6.view.ty) (f8 : BufTy.Contents (Elt Ideal) arg8.view.ty) (f10 : BufTy.Contents (Elt Ideal) arg10.view.ty) (col : Fin 256) :
    k0_pay1873 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (ix2 0 col) = Mx (i 1).val (arg2.view.read (Elt Ideal) X2) (arg3.view.read (Elt Ideal) X3) (arg5.view.read (Elt Ideal) X5) col * (body_same.sl.r_311 arg6 X6 (ix2 0 col) : EReal) := by
  obtain ⟨M, e, hM⟩ := greatest (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) col
  rw [e]
  refine congrArg (· * _) (eq_of_forall_ge_iff fun z => ?_)
  rw [hM, Mx, Finset.sup_le_iff]
  constructor
  · intro h key hk
    exact (body_same_max 𝒱 c bd i arg2 harg2 arg3 harg3 arg4 harg4 arg5 harg5 arg6 harg6 arg7 harg7 arg8 harg8 arg9 harg9 arg10 harg10 h2 hn X2 X3 X4 X5 f10 f8 f10 _ z).mp (h (Fin.ofNat 8 key)) key (Finset.mem_range.mp hk) rfl
  · intro h r
    exact (body_same_max 𝒱 c bd i arg2 harg2 arg3 harg3 arg4 harg4 arg5 harg5 arg6 harg6 arg7 harg7 arg8 harg8 arg9 harg9 arg10 harg10 h2 hn X2 X3 X4 X5 f10 f8 f10 _ z).mpr fun key hk _ => h key (Finset.mem_range.mpr hk)

/-- What the tile leaves for the next point. -/
theorem body_same_leaves (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : ¬ k0_cond1 i = 1#1) (h2 : k0_cond2 i = 1#1) (h5 : k0_cond5 i = 1#1) (hn : (i 1).val < 1024) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) :
    (∀ key < 1024 * (lastSpan i + 1), ∀ col, rowsOf (body_same 𝒱 c bd i arg2 harg2 arg3 harg3 arg4 harg4 arg5 harg5 arg6 harg6 arg7 harg7 arg8 harg8 arg9 harg9 arg10 harg10 h1 h2 h5 X2 X3 X4 X5 X6 f7 f8 f9 f10).2.1 key col = Es (i 1).val (arg2.view.read (Elt Ideal) X2) (arg3.view.read (Elt Ideal) X3) (arg5.view.read (Elt Ideal) X5) (arg6.view.read (Elt Ideal) X6) key col)
    ∧ (∀ col, rowOf (body_same 𝒱 c bd i arg2 harg2 arg3 harg3 arg4 harg4 arg5 harg5 arg6 harg6 arg7 harg7 arg8 harg8 arg9 harg9 arg10 harg10 h1 h2 h5 X2 X3 X4 X5 X6 f7 f8 f9 f10).2.2.2.1 0 col = cOf (Ls (i 1).val (arg2.view.read (Elt Ideal) X2) (arg3.view.read (Elt Ideal) X3) (arg5.view.read (Elt Ideal) X5) (arg6.view.read (Elt Ideal) X6) col))
    ∧ (∀ col, rowOf (body_same 𝒱 c bd i arg2 harg2 arg3 harg3 arg4 harg4 arg5 harg5 arg6 harg6 arg7 harg7 arg8 harg8 arg9 harg9 arg10 harg10 h1 h2 h5 X2 X3 X4 X5 X6 f7 f8 f9 f10).2.2.2.1 2 col = sOf (Ls (i 1).val (arg2.view.read (Elt Ideal) X2) (arg3.view.read (Elt Ideal) X3) (arg5.view.read (Elt Ideal) X5) (arg6.view.read (Elt Ideal) X6) col)) := by
  have hl : 1024 * lastSpan i ≤ 32 * (i 1).val ∧ lastSpan i < 32 := by unfold lastSpan; omega
  obtain ⟨L, e8, e10, hL⟩ := body_same_form 𝒱 c bd i arg2 harg2 arg3 harg3 arg4 harg4 arg5 harg5 arg6 harg6 arg7 harg7 arg8 harg8 arg9 harg9 arg10 harg10 h1 h2 h5 hn X2 X3 X4 X5 X6 f7 f8 f9 f10
  have hrow : ∀ key < 1024 * (lastSpan i + 1), ∀ col, rowsOf (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L) key col = (Ym (i 1).val (arg2.view.read (Elt Ideal) X2) (arg3.view.read (Elt Ideal) X3) (arg5.view.read (Elt Ideal) X5)) key col := by
    intro key hk col
    have e : (Fin.ofNat 32768 key).val = key := Nat.mod_eq_of_lt (by omega)
    refine (hL _).trans ?_
    show (if 1024 * lastSpan i ≤ (Fin.ofNat 32768 key).val ∧ (Fin.ofNat 32768 key).val < 1024 * lastSpan i + 8 * 128 then _ else _) = _
    rw [e]
    by_cases hlt : key < 1024 * lastSpan i
    · rw [if_neg (by omega)]
      refine ((st3_value 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (cond3_of i hn) (Scf.trips (k0_t3_loop i).lb (k0_t3_loop i).ub (k0_t3_loop i).st) (le3 i)).2.1 _).trans ?_
      show (if (Fin.ofNat 32768 key).val < 1024 * (Scf.trips (k0_t3_loop i).lb (k0_t3_loop i).ub (k0_t3_loop i).st) then _ else _) = _
      rw [e, trips3' i hn, if_pos hlt]
      show Yf _ _ _ (Fin.ofNat 32768 key).val col = _
      unfold Ym
      rw [e, if_pos (by omega)]
    · rw [if_pos (by omega)]
      show (Ym (i 1).val (arg2.view.read (Elt Ideal) X2) (arg3.view.read (Elt Ideal) X3) (arg5.view.read (Elt Ideal) X5)) (Fin.ofNat 32768 key).val col = _
      rw [e]
  have hv := st5_value 𝒱 c bd i arg2 harg2 arg3 harg3 arg4 harg4 arg5 harg5 arg6 harg6 arg7 harg7 arg8 harg8 arg9 harg9 arg10 harg10 (body_same.sl.v2 i) h2 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L) k0_pay1874 (Scf.trips (k0_t5_loop i).lb (k0_t5_loop i).ub (k0_t5_loop i).st) (le5 i) _ rfl
  have hE : ∀ key < 1024 * (lastSpan i + 1), ∀ col, Ex (k0_pay1873 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (ix2 0 col)) (body_same.sl.r_311 arg6 X6 (ix2 0 col)) (rowsOf (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L) key col)
      = Es (i 1).val (arg2.view.read (Elt Ideal) X2) (arg3.view.read (Elt Ideal) X3) (arg5.view.read (Elt Ideal) X5) (arg6.view.read (Elt Ideal) X6) key col := by
    intro key hk col
    rw [hrow key hk col, body_same_greatest 𝒱 c bd i arg2 harg2 arg3 harg3 arg4 harg4 arg5 harg5 arg6 harg6 arg7 harg7 arg8 harg8 arg9 harg9 arg10 harg10 h2 hn X2 X3 X4 X5 f10 X6 f8 f10 col, show body_same.sl.r_311 arg6 X6 (ix2 0 col) = arg6.view.read (Elt Ideal) X6 (ix4 0 0 0 col) from factor_apply arg6 X6 col]
    rfl
  obtain ⟨hs, hw⟩ := hv
  have ht : (Scf.trips (k0_t5_loop i).lb (k0_t5_loop i).ub (k0_t5_loop i).st) = lastSpan i + 1 := trips5' i hn
  have hsum : ∀ col, ∑ r : Fin 8, ((st_k0_t5 𝒱 c bd i arg2 harg2 arg3 harg3 arg4 harg4 arg5 harg5 arg6 harg6 arg7 harg7 arg8 harg8 arg9 harg9 arg10 harg10 (body_same.sl.v2 i) h2 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L) k0_pay1874 (Scf.trips (k0_t5_loop i).lb (k0_t5_loop i).ub (k0_t5_loop i).st)).1 (ix2 r col) : EReal) = Ls (i 1).val (arg2.view.read (Elt Ideal) X2) (arg3.view.read (Elt Ideal) X3) (arg5.view.read (Elt Ideal) X5) (arg6.view.read (Elt Ideal) X6) col := by
    intro col
    unfold Ls
    refine Eq.trans (Finset.sum_congr rfl fun r _ => (hs (ix2 r col)).trans (congrArg (· + _) (zero_apply _))) ?_
    simp only [zero_add]
    refine (sum_eight (fun key => Ex (k0_pay1873 (body_same.sl.r_310 𝒱 c bd i arg2 harg2 arg3 harg3 arg4 harg4 arg5 harg5 arg6 harg6 arg7 harg7 arg8 harg8 arg9 harg9 arg10 harg10 h2 X2 X3 X4 X5 f8 f10) (body_same.sl.r_311 arg6 X6) (ix2 0 col)) (body_same.sl.r_311 arg6 X6 (ix2 0 col)) (rowsOf (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y L) key col)) (128 * (Scf.trips (k0_t5_loop i).lb (k0_t5_loop i).ub (k0_t5_loop i).st))).trans ?_
    rw [ht, show 8 * (128 * (lastSpan i + 1)) = 1024 * (lastSpan i + 1) by ring]
    exact Finset.sum_congr rfl fun key hk => hE key (Finset.mem_range.mp hk) col
  refine ⟨fun key hk col => ?_, fun col => ?_, fun col => ?_⟩
  · have e : (Fin.ofNat 32768 key).val = key := Nat.mod_eq_of_lt (by omega)
    rw [e8, View.writes_append]
    refine (hw (ix2 (Fin.ofNat 32768 key) col)).trans ?_
    show (if (Fin.ofNat 32768 key).val < 1024 * (Scf.trips (k0_t5_loop i).lb (k0_t5_loop i).ub (k0_t5_loop i).st) then _ else _) = _
    rw [e, ht, if_pos hk]
    show Ex _ _ (rowsOf _ (Fin.ofNat 32768 key).val col) = _
    rw [e]
    exact hE key hk col
  · rw [e10, (leave_rows _ _ _ col).1, hsum col]
  · rw [e10, (leave_rows _ _ _ col).2, hsum col]

theorem body_same_out (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : ¬ k0_cond1 i = 1#1) (h2 : k0_cond2 i = 1#1) (h5 : k0_cond5 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) : (body_same 𝒱 c bd i arg2 harg2 arg3 harg3 arg4 harg4 arg5 harg5 arg6 harg6 arg7 harg7 arg8 harg8 arg9 harg9 arg10 harg10 h1 h2 h5 X2 X3 X4 X5 X6 f7 f8 f9 f10).1 = arg7.view.writes (Elt Ideal) f7 (put (body_same.sl.v19 𝒱 c bd i arg2 harg2 arg3 harg3 arg4 harg4 arg5 harg5 arg6 harg6 arg7 harg7 arg8 harg8 arg9 harg9 arg10 harg10 h2 h5 X2 X3 X4 X5 f8 f10) (body_same.sl.v20 𝒱 c bd i arg2 harg2 arg3 harg3 arg4 harg4 arg5 harg5 arg6 harg6 arg7 harg7 arg8 harg8 arg9 harg9 arg10 harg10 h2 X2 X3 X4 X5 X6 f8 f10)) := by
  unfold body_same
  dsimp only
  rfl

theorem body_same_scale (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (X6 : BufTy.Contents (Elt Ideal) arg6.view.ty) (f8 : BufTy.Contents (Elt Ideal) arg8.view.ty) (f10 : BufTy.Contents (Elt Ideal) arg10.view.ty) (col : Fin 256) : ((body_same.sl.v20 𝒱 c bd i arg2 harg2 arg3 harg3 arg4 harg4 arg5 harg5 arg6 harg6 arg7 harg7 arg8 harg8 arg9 harg9 arg10 harg10 h2 X2 X3 X4 X5 X6 f8 f10) (ix2 0 col) : EReal) = rowOf f10 2 col := by
  unfold body_same.sl.v20 View.readCov body_same.sl.H10_3
  refine (readAt_off arg10.view _ _ _ (ix2 1 col) rfl ?_).trans ?_
  · intro a; fin_cases a
    · rfl
    · exact (Nat.zero_add _).symm
  · refine (View.read_writes_cons_rows_of_not_mem arg10.view _ _ _ _ _ (o := 2) (W := 1) rfl rfl (Or.inl (by show (1 : ℕ) < 2; decide))).trans ?_
    refine (View.read_writes_cons_rows_of_mem arg10.view _ _ _ _ _ (o := 1) (ix2 0 col : S1x256.Idx) rfl rfl rfl).trans ?_
    pointwise [k0_pay1896]
    refine readAt_off arg10.view _ f10 _ (ix2 2 col) rfl ?_
    intro a; fin_cases a
    · rfl
    · exact (Nat.zero_add _).symm

theorem body_same_sum (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (h5 : k0_cond5 i = 1#1) (hn : (i 1).val < 1024) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (f8 : BufTy.Contents (Elt Ideal) arg8.view.ty) (f10 : BufTy.Contents (Elt Ideal) arg10.view.ty) (j : S128x256.Idx) :
    ((body_same.sl.v19 𝒱 c bd i arg2 harg2 arg3 harg3 arg4 harg4 arg5 harg5 arg6 harg6 arg7 harg7 arg8 harg8 arg9 harg9 arg10 harg10 h2 h5 X2 X3 X4 X5 f8 f10) j : EReal) = Of (arg4.view.read (Elt Ideal) X4) (rowsOf f8) (rowOf f10 0) (1024 * (lastSpan i + 1)) (j 0) (j 1) := by
  have hl : lastSpan i < 32 := by unfold lastSpan; omega
  have hbase : ∀ j : S128x256.Idx, arg9.view.read (Elt Ideal) (arg9.view.writes (Elt Ideal) arg9.view.junk ((st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).sum ++ body_same.sl.H9_1)) j
      = Of (arg4.view.read (Elt Ideal) X4) (rowsOf f8) (rowOf f10 0) (1024 * lastSpan i) (j 0) (j 1) := by
    intro j
    have h := (st3_value 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (cond3_of i hn) (Scf.trips (k0_t3_loop i).lb (k0_t3_loop i).ub (k0_t3_loop i).st) (le3 i)).2.2 j
    refine (congrArg (fun f => arg9.view.read (Elt Ideal) f j) (View.writes_append arg9.view _ _ _)).trans (h.trans ?_)
    rw [trips3' i hn]
    refine (congrArg (· + _) ((read_sum _ _ _ _ j).trans ?_)).trans (zero_add _)
    pointwise [k0_pay1891]

  unfold body_same.sl.v19 View.readCov
  rw [pay1371_eq]
  refine (readAt_off arg9.view _ _ _ j rfl (by intro a; fin_cases a <;> exact (Nat.zero_add _).symm)).trans ?_
  refine (read_sum _ _ _ _ j).trans ?_
  unfold body_same.sl.v2269
  refine (read_out_span (st3 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (Scf.trips (k0_t3_loop i).lb (k0_t3_loop i).ub (k0_t3_loop i).st)).y f10 X4 _ (lastSpan i) hl (off15_eq i) (off16_eq i) _ _ _ j).trans ?_
  unfold Of
  rw [sum_step]
  refine congrArg₂ (· + ·) ?_ ?_
  · unfold body_same.sl.v2273 View.readCov
    refine (readAt_off arg9.view _ _ _ j rfl ?_).trans (hbase j)
    intro a; fin_cases a <;> exact (Nat.zero_add _).symm
  · refine Finset.sum_congr rfl fun r _ => ?_
    have hr := r.isLt
    dsimp only
    unfold rowsOf
    rw [(st3_value 𝒱 c bd i arg2 harg2 arg3 harg3 arg4 harg4 arg5 harg5 arg6 harg6 arg7 harg7 arg8 harg8 arg9 harg9 arg10 harg10 (BitVec.ofNat 32 (i 1).val) (body_same.sl.v2 i) (body_same.sl.v5 i) h2 X2 X3 X4 X5 f10 f8 (arg9.view.writes (Elt Ideal) arg9.view.junk body_same.sl.H9_1) k0_pay1368 (cond3_of i hn) (Scf.trips (k0_t3_loop i).lb (k0_t3_loop i).ub (k0_t3_loop i).st) (le3 i)).2.1, if_neg]
    show ¬ (1024 * lastSpan i + r.val) % 32768 < 1024 * (Scf.trips (k0_t3_loop i).lb (k0_t3_loop i).ub (k0_t3_loop i).st)
    rw [trips3' i hn]
    omega

/-- The greatest scores by row of eight. -/
theorem body_new_max (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (hn : (i 1).val < 1024) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (f8 : BufTy.Contents (Elt Ideal) arg8.view.ty) (f10 : BufTy.Contents (Elt Ideal) arg10.view.ty) (x : S8x256.Idx) (z : EReal) :
    (body_new.sl.r_310 𝒱 c bd i arg2 harg2 arg3 harg3 arg4 harg4 arg5 harg5 arg6 harg6 arg7 harg7 arg8 harg8 arg9 harg9 arg10 harg10 h2 X2 X3 X4 X5 f8 f10) x ≤ z ↔ ∀ key < 1024 * (lastSpan i + 1), key % 8 = (x 0).val → (Ym (i 1).val (arg2.view.read (Elt Ideal) X2) (arg3.view.read (Elt Ideal) X3) (arg5.view.read (Elt Ideal) X5)) key (x 1) ≤ z := by
  have hl : 1024 * lastSpan i ≤ 32 * (i 1).val := by unfold lastSpan; omega
  have hm : body_new.sl.r 𝒱 c bd i arg2 harg2 arg3 harg3 arg4 harg4 arg5 harg5 arg6 harg6 arg7 harg7 arg8 harg8 arg9 harg9 arg10 harg10 h2 X2 X3 X4 X5 f8 f10 x ≤ z ↔ ∀ key < 1024 * lastSpan i, key % 8 = (x 0).val → (Ym (i 1).val (arg2.view.read (Elt Ideal) X2) (arg3.view.read (Elt Ideal) X3) (arg5.view.read (Elt Ideal) X5)) key (x 1) ≤ z := by
    obtain ⟨hmx, -, -⟩ := (st3_value 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (cond3_of i hn) (Scf.trips (k0_t3_loop i).lb (k0_t3_loop i).ub (k0_t3_loop i).st) (le3 i))
    have h := hmx x z
    clear hmx
    have hu : body_new.sl.r 𝒱 c bd i arg2 harg2 arg3 harg3 arg4 harg4 arg5 harg5 arg6 harg6 arg7 harg7 arg8 harg8 arg9 harg9 arg10 harg10 h2 X2 X3 X4 X5 f8 f10 = (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).mx := by unfold body_new.sl.r; rfl
    rw [hu]
    refine h.trans ?_
    rw [bot_apply, trips3' i hn]
    refine (and_iff_right bot_le).trans (forall_congr' fun key => forall_congr' fun hk => ?_)
    unfold Ym
    rw [if_pos (by omega)]
  rw [body_new_fold 𝒱 c bd i arg2 harg2 arg3 harg3 arg4 harg4 arg5 harg5 arg6 harg6 arg7 harg7 arg8 harg8 arg9 harg9 arg10 harg10 h2 X2 X3 X4 X5 X10 f8 f10, body_new_stack 𝒱 c bd i arg2 harg2 arg3 harg3 arg4 harg4 arg5 harg5 arg6 harg6 arg7 harg7 arg8 harg8 arg9 harg9 arg10 harg10 h2 X2 X3 X4 X5 X10, foldV_max_le, keys_step _ _ _ (x 0).isLt]
  refine and_congr hm (forall_congr' fun r => forall_congr' fun hr => ?_)
  rw [stack_apply _ r hr x, body_new_rows 𝒱 c bd i arg2 harg2 arg3 harg3 arg4 harg4 arg5 harg5 arg6 harg6 arg7 harg7 arg8 harg8 arg9 harg9 arg10 harg10 h2 hn X2 X3 X4 X5 f10 r hr x]

theorem body_new_greatest (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (hn : (i 1).val < 1024) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (X6 : BufTy.Contents (Elt Ideal) arg6.view.ty) (f8 : BufTy.Contents (Elt Ideal) arg8.view.ty) (f10 : BufTy.Contents (Elt Ideal) arg10.view.ty) (col : Fin 256) :
    k0_pay1873 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (ix2 0 col) = Mx (i 1).val (arg2.view.read (Elt Ideal) X2) (arg3.view.read (Elt Ideal) X3) (arg5.view.read (Elt Ideal) X5) col * (body_new.sl.r_311 arg6 X6 (ix2 0 col) : EReal) := by
  obtain ⟨M, e, hM⟩ := greatest (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) col
  rw [e]
  refine congrArg (· * _) (eq_of_forall_ge_iff fun z => ?_)
  rw [hM, Mx, Finset.sup_le_iff]
  constructor
  · intro h key hk
    exact (body_new_max 𝒱 c bd i arg2 harg2 arg3 harg3 arg4 harg4 arg5 harg5 arg6 harg6 arg7 harg7 arg8 harg8 arg9 harg9 arg10 harg10 h2 hn X2 X3 X4 X5 f10 f8 f10 _ z).mp (h (Fin.ofNat 8 key)) key (Finset.mem_range.mp hk) rfl
  · intro h r
    exact (body_new_max 𝒱 c bd i arg2 harg2 arg3 harg3 arg4 harg4 arg5 harg5 arg6 harg6 arg7 harg7 arg8 harg8 arg9 harg9 arg10 harg10 h2 hn X2 X3 X4 X5 f10 f8 f10 _ z).mpr fun key hk _ => h key (Finset.mem_range.mpr hk)

/-- What the tile leaves for the next point. -/
theorem body_new_leaves (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : ¬ k0_cond1 i = 1#1) (h2 : k0_cond2 i = 1#1) (h5 : ¬ k0_cond5 i = 1#1) (hn : (i 1).val < 1024) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) :
    (∀ key < 1024 * (lastSpan i + 1), ∀ col, rowsOf (body_new 𝒱 c bd i arg2 harg2 arg3 harg3 arg4 harg4 arg5 harg5 arg6 harg6 arg7 harg7 arg8 harg8 arg9 harg9 arg10 harg10 h1 h2 h5 X2 X3 X4 X5 X6 f7 f8 f9 f10).2.1 key col = Es (i 1).val (arg2.view.read (Elt Ideal) X2) (arg3.view.read (Elt Ideal) X3) (arg5.view.read (Elt Ideal) X5) (arg6.view.read (Elt Ideal) X6) key col)
    ∧ (∀ col, rowOf (body_new 𝒱 c bd i arg2 harg2 arg3 harg3 arg4 harg4 arg5 harg5 arg6 harg6 arg7 harg7 arg8 harg8 arg9 harg9 arg10 harg10 h1 h2 h5 X2 X3 X4 X5 X6 f7 f8 f9 f10).2.2.2.1 0 col = cOf (Ls (i 1).val (arg2.view.read (Elt Ideal) X2) (arg3.view.read (Elt Ideal) X3) (arg5.view.read (Elt Ideal) X5) (arg6.view.read (Elt Ideal) X6) col))
    ∧ (∀ col, rowOf (body_new 𝒱 c bd i arg2 harg2 arg3 harg3 arg4 harg4 arg5 harg5 arg6 harg6 arg7 harg7 arg8 harg8 arg9 harg9 arg10 harg10 h1 h2 h5 X2 X3 X4 X5 X6 f7 f8 f9 f10).2.2.2.1 2 col = sOf (Ls (i 1).val (arg2.view.read (Elt Ideal) X2) (arg3.view.read (Elt Ideal) X3) (arg5.view.read (Elt Ideal) X5) (arg6.view.read (Elt Ideal) X6) col)) := by
  have hl : 1024 * lastSpan i ≤ 32 * (i 1).val ∧ lastSpan i < 32 := by unfold lastSpan; omega
  obtain ⟨L, e8, e10, hL⟩ := body_new_form 𝒱 c bd i arg2 harg2 arg3 harg3 arg4 harg4 arg5 harg5 arg6 harg6 arg7 harg7 arg8 harg8 arg9 harg9 arg10 harg10 h1 h2 h5 hn X2 X3 X4 X5 X6 f7 f8 f9 f10
  have hrow : ∀ key < 1024 * (lastSpan i + 1), ∀ col, rowsOf (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L) key col = (Ym (i 1).val (arg2.view.read (Elt Ideal) X2) (arg3.view.read (Elt Ideal) X3) (arg5.view.read (Elt Ideal) X5)) key col := by
    intro key hk col
    have e : (Fin.ofNat 32768 key).val = key := Nat.mod_eq_of_lt (by omega)
    refine (hL _).trans ?_
    show (if 1024 * lastSpan i ≤ (Fin.ofNat 32768 key).val ∧ (Fin.ofNat 32768 key).val < 1024 * lastSpan i + 8 * 128 then _ else _) = _
    rw [e]
    by_cases hlt : key < 1024 * lastSpan i
    · rw [if_neg (by omega)]
      refine ((st3_value 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (cond3_of i hn) (Scf.trips (k0_t3_loop i).lb (k0_t3_loop i).ub (k0_t3_loop i).st) (le3 i)).2.1 _).trans ?_
      show (if (Fin.ofNat 32768 key).val < 1024 * (Scf.trips (k0_t3_loop i).lb (k0_t3_loop i).ub (k0_t3_loop i).st) then _ else _) = _
      rw [e, trips3' i hn, if_pos hlt]
      show Yf _ _ _ (Fin.ofNat 32768 key).val col = _
      unfold Ym
      rw [e, if_pos (by omega)]
    · rw [if_pos (by omega)]
      show (Ym (i 1).val (arg2.view.read (Elt Ideal) X2) (arg3.view.read (Elt Ideal) X3) (arg5.view.read (Elt Ideal) X5)) (Fin.ofNat 32768 key).val col = _
      rw [e]
  have hv := st5_value 𝒱 c bd i arg2 harg2 arg3 harg3 arg4 harg4 arg5 harg5 arg6 harg6 arg7 harg7 arg8 harg8 arg9 harg9 arg10 harg10 (body_new.sl.v2 i) h2 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L) k0_pay1874 (Scf.trips (k0_t5_loop i).lb (k0_t5_loop i).ub (k0_t5_loop i).st) (le5 i) _ rfl
  have hE : ∀ key < 1024 * (lastSpan i + 1), ∀ col, Ex (k0_pay1873 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (ix2 0 col)) (body_new.sl.r_311 arg6 X6 (ix2 0 col)) (rowsOf (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L) key col)
      = Es (i 1).val (arg2.view.read (Elt Ideal) X2) (arg3.view.read (Elt Ideal) X3) (arg5.view.read (Elt Ideal) X5) (arg6.view.read (Elt Ideal) X6) key col := by
    intro key hk col
    rw [hrow key hk col, body_new_greatest 𝒱 c bd i arg2 harg2 arg3 harg3 arg4 harg4 arg5 harg5 arg6 harg6 arg7 harg7 arg8 harg8 arg9 harg9 arg10 harg10 h2 hn X2 X3 X4 X5 f10 X6 f8 f10 col, show body_new.sl.r_311 arg6 X6 (ix2 0 col) = arg6.view.read (Elt Ideal) X6 (ix4 0 0 0 col) from factor_apply arg6 X6 col]
    rfl
  obtain ⟨hs, hw⟩ := hv
  have ht : (Scf.trips (k0_t5_loop i).lb (k0_t5_loop i).ub (k0_t5_loop i).st) = lastSpan i + 1 := trips5' i hn
  have hsum : ∀ col, ∑ r : Fin 8, ((st_k0_t5 𝒱 c bd i arg2 harg2 arg3 harg3 arg4 harg4 arg5 harg5 arg6 harg6 arg7 harg7 arg8 harg8 arg9 harg9 arg10 harg10 (body_new.sl.v2 i) h2 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L) k0_pay1874 (Scf.trips (k0_t5_loop i).lb (k0_t5_loop i).ub (k0_t5_loop i).st)).1 (ix2 r col) : EReal) = Ls (i 1).val (arg2.view.read (Elt Ideal) X2) (arg3.view.read (Elt Ideal) X3) (arg5.view.read (Elt Ideal) X5) (arg6.view.read (Elt Ideal) X6) col := by
    intro col
    unfold Ls
    refine Eq.trans (Finset.sum_congr rfl fun r _ => (hs (ix2 r col)).trans (congrArg (· + _) (zero_apply _))) ?_
    simp only [zero_add]
    refine (sum_eight (fun key => Ex (k0_pay1873 (body_new.sl.r_310 𝒱 c bd i arg2 harg2 arg3 harg3 arg4 harg4 arg5 harg5 arg6 harg6 arg7 harg7 arg8 harg8 arg9 harg9 arg10 harg10 h2 X2 X3 X4 X5 f8 f10) (body_new.sl.r_311 arg6 X6) (ix2 0 col)) (body_new.sl.r_311 arg6 X6 (ix2 0 col)) (rowsOf (arg8.view.writes (Elt Ideal) (st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).y L) key col)) (128 * (Scf.trips (k0_t5_loop i).lb (k0_t5_loop i).ub (k0_t5_loop i).st))).trans ?_
    rw [ht, show 8 * (128 * (lastSpan i + 1)) = 1024 * (lastSpan i + 1) by ring]
    exact Finset.sum_congr rfl fun key hk => hE key (Finset.mem_range.mp hk) col
  refine ⟨fun key hk col => ?_, fun col => ?_, fun col => ?_⟩
  · have e : (Fin.ofNat 32768 key).val = key := Nat.mod_eq_of_lt (by omega)
    rw [e8, View.writes_append]
    refine (hw (ix2 (Fin.ofNat 32768 key) col)).trans ?_
    show (if (Fin.ofNat 32768 key).val < 1024 * (Scf.trips (k0_t5_loop i).lb (k0_t5_loop i).ub (k0_t5_loop i).st) then _ else _) = _
    rw [e, ht, if_pos hk]
    show Ex _ _ (rowsOf _ (Fin.ofNat 32768 key).val col) = _
    rw [e]
    exact hE key hk col
  · rw [e10, (leave_rows _ _ _ col).1, hsum col]
  · rw [e10, (leave_rows _ _ _ col).2, hsum col]

theorem body_new_out (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : ¬ k0_cond1 i = 1#1) (h2 : k0_cond2 i = 1#1) (h5 : ¬ k0_cond5 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) : (body_new 𝒱 c bd i arg2 harg2 arg3 harg3 arg4 harg4 arg5 harg5 arg6 harg6 arg7 harg7 arg8 harg8 arg9 harg9 arg10 harg10 h1 h2 h5 X2 X3 X4 X5 X6 f7 f8 f9 f10).1 = arg7.view.writes (Elt Ideal) f7 (put (body_new.sl.v19 𝒱 c bd i arg2 harg2 arg3 harg3 arg4 harg4 arg5 harg5 arg6 harg6 arg7 harg7 arg8 harg8 arg9 harg9 arg10 harg10 h2 X2 X3 X4 X5 f8 f10) (body_new.sl.v20 𝒱 c bd i arg2 harg2 arg3 harg3 arg4 harg4 arg5 harg5 arg6 harg6 arg7 harg7 arg8 harg8 arg9 harg9 arg10 harg10 h2 X2 X3 X4 X5 X6 f8 f10)) := by
  unfold body_new
  dsimp only
  rfl

theorem body_new_scale (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (X6 : BufTy.Contents (Elt Ideal) arg6.view.ty) (f8 : BufTy.Contents (Elt Ideal) arg8.view.ty) (f10 : BufTy.Contents (Elt Ideal) arg10.view.ty) (col : Fin 256) : ((body_new.sl.v20 𝒱 c bd i arg2 harg2 arg3 harg3 arg4 harg4 arg5 harg5 arg6 harg6 arg7 harg7 arg8 harg8 arg9 harg9 arg10 harg10 h2 X2 X3 X4 X5 X6 f8 f10) (ix2 0 col) : EReal) = rowOf f10 2 col := by
  unfold body_new.sl.v20 View.readCov body_new.sl.H10_3
  refine (readAt_off arg10.view _ _ _ (ix2 1 col) rfl ?_).trans ?_
  · intro a; fin_cases a
    · rfl
    · exact (Nat.zero_add _).symm
  · refine (View.read_writes_cons_rows_of_not_mem arg10.view _ _ _ _ _ (o := 2) (W := 1) rfl rfl (Or.inl (by show (1 : ℕ) < 2; decide))).trans ?_
    refine (View.read_writes_cons_rows_of_mem arg10.view _ _ _ _ _ (o := 1) (ix2 0 col : S1x256.Idx) rfl rfl rfl).trans ?_
    pointwise [k0_pay1896]
    refine readAt_off arg10.view _ f10 _ (ix2 2 col) rfl ?_
    intro a; fin_cases a
    · rfl
    · exact (Nat.zero_add _).symm

theorem body_new_sum (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h2 : k0_cond2 i = 1#1) (hn : (i 1).val < 1024) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (f8 : BufTy.Contents (Elt Ideal) arg8.view.ty) (f10 : BufTy.Contents (Elt Ideal) arg10.view.ty) (j : S128x256.Idx) :
    ((body_new.sl.v19 𝒱 c bd i arg2 harg2 arg3 harg3 arg4 harg4 arg5 harg5 arg6 harg6 arg7 harg7 arg8 harg8 arg9 harg9 arg10 harg10 h2 X2 X3 X4 X5 f8 f10) j : EReal) = Of (arg4.view.read (Elt Ideal) X4) (rowsOf f8) (rowOf f10 0) (1024 * lastSpan i) (j 0) (j 1) := by
  have hbase : ∀ j : S128x256.Idx, arg9.view.read (Elt Ideal) (arg9.view.writes (Elt Ideal) arg9.view.junk ((st3 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (Scf.trips (k0_t3_loop i).lb (k0_t3_loop i).ub (k0_t3_loop i).st)).sum ++ body_new.sl.H9_1)) j
      = Of (arg4.view.read (Elt Ideal) X4) (rowsOf f8) (rowOf f10 0) (1024 * lastSpan i) (j 0) (j 1) := by
    intro j
    have h := (st3_value 𝒱 c bd i arg2 harg2 arg3 harg3 arg4 harg4 arg5 harg5 arg6 harg6 arg7 harg7 arg8 harg8 arg9 harg9 arg10 harg10 (BitVec.ofNat 32 (i 1).val) (body_new.sl.v2 i) (body_new.sl.v5 i) h2 X2 X3 X4 X5 f10 f8 (arg9.view.writes (Elt Ideal) arg9.view.junk body_new.sl.H9_1) k0_pay1368 (cond3_of i hn) (Scf.trips (k0_t3_loop i).lb (k0_t3_loop i).ub (k0_t3_loop i).st) (le3 i)).2.2 j
    refine (congrArg (fun f => arg9.view.read (Elt Ideal) f j) (View.writes_append arg9.view _ _ _)).trans (h.trans ?_)
    rw [trips3' i hn]
    refine (congrArg (· + _) ((read_sum _ _ _ _ j).trans ?_)).trans (zero_add _)
    pointwise [k0_pay1891]

  unfold body_new.sl.v19 View.readCov
  refine (readAt_off arg9.view _ _ _ j rfl ?_).trans (hbase j)
  intro a; fin_cases a <;> exact (Nat.zero_add _).symm

theorem body_last_out (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : k0_cond1 i = 1#1) (h2 : ¬ k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) : (body_last 𝒱 c bd i arg2 harg2 arg3 harg3 arg4 harg4 arg5 harg5 arg6 harg6 arg7 harg7 arg8 harg8 arg9 harg9 arg10 harg10 h1 h2 X2 X3 X4 X5 X6 f7 f8 f9 f10).1 = arg7.view.writes (Elt Ideal) f7 (put (body_last.sl.v19 𝒱 c bd i arg2 harg2 arg3 harg3 arg4 harg4 arg5 harg5 arg6 harg6 arg7 harg7 arg8 harg8 arg9 harg9 arg10 harg10 h1 X4 f8 f10) (body_last.sl.v20 arg10 f10)) := by
  unfold body_last
  dsimp only
  rfl

theorem body_last_scale (arg10 : Memref sig .tc .vmem S8x256 .f32) (f10 : BufTy.Contents (Elt Ideal) arg10.view.ty) (col : Fin 256) : (body_last.sl.v20 arg10 f10 (ix2 0 col) : EReal) = rowOf f10 2 col := by
  unfold body_last.sl.v20 View.readCov body_last.sl.H10_1
  refine (readAt_off arg10.view _ _ _ (ix2 1 col) rfl ?_).trans ?_
  · intro a; fin_cases a
    · rfl
    · exact (Nat.zero_add _).symm
  · refine (View.read_writes_cons_rows_of_mem arg10.view _ _ _ _ _ (o := 1) (ix2 0 col : S1x256.Idx) rfl rfl rfl).trans ?_
    pointwise [k0_pay1898]
    refine readAt_off arg10.view _ f10 _ (ix2 2 col) rfl ?_
    intro a; fin_cases a
    · rfl
    · exact (Nat.zero_add _).symm

theorem body_last_sum (𝒱 : Variants) (c : Dev nD) (bd : Option 𝒱.V) (i : grid0.Coords) (arg2 : Memref sig .tc .vmem S1x32768x128 .fp8e4m3) (harg2 : arg2.IsWhole) (arg3 : Memref sig .tc .vmem S1x32x8x128 .f32) (harg3 : arg3.IsWhole) (arg4 : Memref sig .tc .vmem S1x128x32768 .bf16) (harg4 : arg4.IsWhole) (arg5 : Memref sig .tc .vmem S1x1x128x256 .fp8e4m3) (harg5 : arg5.IsWhole) (arg6 : Memref sig .tc .vmem S1x1x1x256 .f32) (harg6 : arg6.IsWhole) (arg7 : Memref sig .tc .vmem S1x32x1024 .bf16) (harg7 : arg7.IsWhole) (arg8 : Memref sig .tc .vmem S32768x256 .f32) (harg8 : arg8.IsWhole) (arg9 : Memref sig .tc .vmem S128x256 .f32) (harg9 : arg9.IsWhole) (arg10 : Memref sig .tc .vmem S8x256 .f32) (harg10 : arg10.IsWhole) (h1 : k0_cond1 i = 1#1) (X4 : BufTy.Contents (Elt Ideal) arg4.view.ty) (f8 : BufTy.Contents (Elt Ideal) arg8.view.ty) (f10 : BufTy.Contents (Elt Ideal) arg10.view.ty) (j : S128x256.Idx) :
    ((body_last.sl.v19 𝒱 c bd i arg2 harg2 arg3 harg3 arg4 harg4 arg5 harg5 arg6 harg6 arg7 harg7 arg8 harg8 arg9 harg9 arg10 harg10 h1 X4 f8 f10) j : EReal) = Of (arg4.view.read (Elt Ideal) X4) (rowsOf f8) (rowOf f10 0) 32768 (j 0) (j 1) := by
  have hn := (cond1_iff i).mp h1
  unfold body_last.sl.v19 View.readCov
  rw [no_trips2 i hn, st_k0_t2.eq_1, List.nil_append]
  refine (readAt_off arg9.view _ _ _ j rfl (by intro a; fin_cases a <;> exact (Nat.zero_add _).symm)).trans ?_
  have h := st1_value 𝒱 c bd i arg2 harg2 arg3 harg3 arg4 harg4 arg5 harg5 arg6 harg6 arg7 harg7 arg8 harg8 arg9 harg9 arg10 harg10 h1 X4 f8 f10 (arg9.view.writes (Elt Ideal) arg9.view.junk body_last.sl.H9_1) 0#32 (k0_t1_loop i).trips (le_refl _) (trips1 i hn) j
  rw [congrArg (1024 * ·) (trips1 i hn)] at h
  refine (congrArg (fun f => arg9.view.read (Elt Ideal) f j) (View.writes_append arg9.view _ _ _)).trans (h.trans ?_)
  refine (congrArg (· + _) ((read_sum _ _ _ _ j).trans ?_)).trans (zero_add _)
  pointwise [k0_pay1891]

end Cert.AttendIdeal.Hand

end
-- ==== Proof.Kernel.lean ====
module

public import proofs.«01_k».proof.Proof.IdealRun
public import proofs.«01_k».proof.Proof.Gen.AttendIdeal.Frame
public import proofs.«01_k».proof.Proof.Value
public import proofs.«01_k».proof.Proof.Numbers
public import Idealize.ShloMosaic.Lib.Pipeline.Value
public import Idealize.ShloMosaic.Lib.Pointwise
public import Idealize.ShloMosaic.Lib.WritesUnit

@[expose] public section

set_option maxRecDepth 16384

noncomputable section

namespace Cert.AttendIdeal.Hand

open Cert.AttendIdeal.Gen
open Idealize.ShloMosaic Idealize.ShloMosaic.TcCoe Idealize.ShloMosaic.Tactic
open Idealize.ShloMosaic.Pipeline (Dat RDat Cfg Window BodyObligation cellOf)
open Idealize.ShloMosaic.Rounds
open Idealize.SL Idealize.SL.RA Idealize.SL.BI
open scoped Idealize.SL.BI
open Idealize.SL.BI.BIBase Idealize.SL.BI.Laws Idealize.SL.ProofMode Idealize.SL.Sem

/-! What the launch keeps between grid points: after the point of tile T, the exponentials of tile T in the
    scratch and its factors in the rows; the next point's block is tile T's output. -/

variable (m : (ℓ : Loc nD τ sig) → Buf (Elt Ideal) ℓ)

abbrev bK (c : Dev nD) (t : Fin cfg0.N) : Vec Ideal S1x32768x128 .fp8e4m3 := iblk m c 0 t
abbrev bC (c : Dev nD) (t : Fin cfg0.N) : Vec Ideal S1x32x8x128 .f32 := iblk m c 1 t
abbrev bV (c : Dev nD) (t : Fin cfg0.N) : Vec Ideal S1x128x32768 .bf16 := iblk m c 2 t
abbrev bQ (c : Dev nD) (t : Fin cfg0.N) : Vec Ideal S1x1x128x256 .fp8e4m3 := iblk m c 3 t
abbrev bA (c : Dev nD) (t : Fin cfg0.N) : Vec Ideal S1x1x1x256 .f32 := iblk m c 4 t

/-- The exponentials of the tile of point `t`. -/
def tE (c : Dev nD) (t : Fin cfg0.N) (key : ℕ) (col : Fin 256) : EReal := Es (t.val % 1025) (bK m c t) (bC m c t) (bQ m c t) (bA m c t) key col

/-- Their sum. -/
def tL (c : Dev nD) (t : Fin cfg0.N) (col : Fin 256) : EReal := Ls (t.val % 1025) (bK m c t) (bC m c t) (bQ m c t) (bA m c t) col

/-- The scratch before point `n`. -/
def Inv (c : Dev nD) (n : ℕ) (f8 : C8 Ideal) (f10 : C10 Ideal) : Prop :=
  ∀ t : Fin cfg0.N, n = t.val + 1 → t.val % 1025 < 1024 →
    (∀ key < 1024 * (lastOf (t.val % 1025) + 1), ∀ col, rowsOf f8 key col = tE m c t key col)
    ∧ (∀ col, rowOf f10 0 col = cOf (tL m c t col)) ∧ (∀ col, rowOf f10 2 col = sOf (tL m c t col))

/-- A column of a block. -/
abbrev colOf (y : S1x32x1024.Idx) : Fin 256 := Fin.ofNat 256 (32 * ((y 2).val / 128) + (y 1).val)

/-- The output block of the point after `t`. -/
def blkOut (c : Dev nD) (t t' : Fin cfg0.N) (y : S1x32x1024.Idx) : EReal :=
  Of (bV m c t') (tE m c t) (fun col => cOf (tL m c t col)) (1024 * (lastOf (t.val % 1025) + 1)) (Fin.ofNat 128 ((y 2).val % 128)) (colOf y) * sOf (tL m c t (colOf y))

/-- The block point `t'` leaves. -/
def Out (c : Dev nD) (t' : Fin cfg0.N) (X : Vec Ideal S1x32x1024 .bf16) : Prop :=
  ∀ t : Fin cfg0.N, t'.val = t.val + 1 → t.val % 1025 < 1024 → ∀ y : S1x32x1024.Idx, (X y : EReal) = blkOut m c t t' y

theorem Of_congr (V : Vec Ideal S1x128x32768 .bf16) {E E' : ℕ → Fin 256 → EReal} {a a' : Fin 256 → EReal} {N : ℕ} (d : Fin 128) (col : Fin 256)
    (hE : ∀ key < N, E key col = E' key col) (ha : a col = a' col) : Of V E a N d col = Of V E' a' N d col := by
  unfold Of
  rw [ha]
  exact Finset.sum_congr rfl fun key hk => by rw [hE key (Finset.mem_range.1 hk)]

theorem coords_val (t : Fin cfg0.N) : (grid0.coords t 0).val = t.val / 1025 % 2 ∧ (grid0.coords t 1).val = t.val % 1025 := by
  refine ⟨Pipeline.Grid.coords_val t 0 (S := 1025) (B := 2) (by decide) rfl, ?_⟩
  rw [Pipeline.Grid.coords_val t 1 (S := 1) (B := 1025) (by decide) rfl, Nat.div_one]

theorem out_of {c : Dev nD} {t : Fin cfg0.N} {v7 : View sig .tc .vmem S1x32x1024 .bf16} (f7 : v7.ty.Contents (Elt Ideal)) (f8 : C8 Ideal) (f10 : C10 Ideal)
    (s : Vec Ideal S128x256 .f32) (w : Vec Ideal S1x256 .f32) (N : ℕ) (hI : Inv m c t.val f8 f10)
    (hs : ∀ j : S128x256.Idx, (s j : EReal) = Of (bV m c t) (rowsOf f8) (rowOf f10 0) N (j 0) (j 1)) (hw : ∀ col, (w (ix2 0 col) : EReal) = rowOf f10 2 col)
    (hN : ∀ t0 : Fin cfg0.N, t.val = t0.val + 1 → t0.val % 1025 < 1024 → N = 1024 * (lastOf (t0.val % 1025) + 1)) :
    Out m c t (v7.read (Elt Ideal) (v7.writes (Elt Ideal) f7 (put s w))) := by
  intro t0 h0 hT y
  obtain ⟨hE, hc, hsc⟩ := hI t0 h0 hT
  refine (put_read v7 f7 s w y).trans ?_
  refine congrArg₂ (· * ·) ?_ ((hw _).trans (hsc _))
  rw [hs, hN t0 h0 hT]
  exact Of_congr _ _ _ (fun key hk => hE key hk _) (hc _)

theorem leaves_of (c : Dev nD) (t : Fin cfg0.N) {f8 : C8 Ideal} {f10 : C10 Ideal} {K : Vec Ideal S1x32768x128 .fp8e4m3} {C : Vec Ideal S1x32x8x128 .f32} {Q : Vec Ideal S1x1x128x256 .fp8e4m3} {A : Vec Ideal S1x1x1x256 .f32} {n l : ℕ}
    (hK : K = bK m c t) (hC : C = bC m c t) (hQ : Q = bQ m c t) (hA : A = bA m c t) (hn : n = t.val % 1025) (hl : l = lastOf (t.val % 1025))
    (q : (∀ key < 1024 * (l + 1), ∀ col, rowsOf f8 key col = Es n K C Q A key col) ∧ (∀ col, rowOf f10 0 col = cOf (Ls n K C Q A col)) ∧ (∀ col, rowOf f10 2 col = sOf (Ls n K C Q A col))) :
    (∀ key < 1024 * (lastOf (t.val % 1025) + 1), ∀ col, rowsOf f8 key col = tE m c t key col)
    ∧ (∀ col, rowOf f10 0 col = cOf (tL m c t col)) ∧ (∀ col, rowOf f10 2 col = sOf (tL m c t col)) := by
  subst hK hC hQ hA hn hl
  exact q

theorem keeps : Keeps m (Inv m) (Out m) := by
  intro c t arg2 harg2 arg3 harg3 arg4 harg4 arg5 harg5 arg6 harg6 arg7 harg7 X2 X3 X4 X5 X6 f7 f8 f9 f10 e2 e3 e4 e5 e6 hI
  have hi := (coords_val t).2
  have hlt : t.val % 1025 < 1025 := Nat.mod_lt _ (by norm_num)
  have hls : lastSpan (grid0.coords t) = lastOf (t.val % 1025) := by unfold lastSpan lastOf; rw [hi]
  by_cases h1 : k0_cond1 (grid0.coords t) = 1#1
  · have h2 := (cond_cases (grid0.coords t)).2 h1
    have h1024 := (cond1_iff _).1 h1
    have hA : after Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) X2 X3 X4 X5 X6 f7 f8 f9 f10 = ⟨(body_last Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 X2 X3 X4 X5 X6 f7 f8 f9 f10).1, (body_last Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 X2 X3 X4 X5 X6 f7 f8 f9 f10).2.1, (body_last Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 X2 X3 X4 X5 X6 f7 f8 f9 f10).2.2.1, (body_last Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 X2 X3 X4 X5 X6 f7 f8 f9 f10).2.2.2.1⟩ := by unfold after; exact dif_pos h1
    rw [hA]
    refine ⟨fun t0 h0 hT => absurd hT (by have : t.val = t0.val := by omega
                                          omega), ?_⟩
    dsimp only
    rw [body_last_out Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 X2 X3 X4 X5 X6 f7 f8 f9 f10]
    refine out_of m f7 f8 f10 _ _ 32768 hI (fun j => ?_) (fun col => body_last_scale _ f10 col) (fun t0 h0 hT => ?_)
    · rw [body_last_sum Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 X4 f8 f10 j, e4]
    · have : t0.val % 1025 = 1023 := by omega
      rw [this]; rfl
  · have h2 := (cond_cases (grid0.coords t)).1 h1
    have hne : (grid0.coords t 1).val ≠ 1024 := fun h => h1 ((cond1_iff _).2 h)
    have hn : (grid0.coords t 1).val < 1024 := by omega
    by_cases h5 : k0_cond5 (grid0.coords t) = 1#1
    · have h5' := (cond5_iff _ hn).1 h5
      have hA : after Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) X2 X3 X4 X5 X6 f7 f8 f9 f10 = ⟨(body_same Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 h5 X2 X3 X4 X5 X6 f7 f8 f9 f10).1, (body_same Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 h5 X2 X3 X4 X5 X6 f7 f8 f9 f10).2.1, (body_same Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 h5 X2 X3 X4 X5 X6 f7 f8 f9 f10).2.2.1, (body_same Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 h5 X2 X3 X4 X5 X6 f7 f8 f9 f10).2.2.2.1⟩ := by unfold after; exact (dif_neg h1).trans (dif_pos h5)
      rw [hA]
      refine ⟨fun t0 h0 hT => ?_, ?_⟩
      · have ht : t = t0 := Fin.ext (by omega)
        subst ht
        exact leaves_of m c t e2 e3 e5 e6 hi hls (body_same_leaves Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 h5 hn X2 X3 X4 X5 X6 f7 f8 f9 f10)
      · dsimp only
        rw [body_same_out Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 h5 X2 X3 X4 X5 X6 f7 f8 f9 f10]
        refine out_of m f7 f8 f10 _ _ (1024 * (lastSpan (grid0.coords t) + 1)) hI (fun j => ?_) (fun col => body_same_scale Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h2 X2 X3 X4 X5 f10 X6 f8 f10 col) (fun t0 h0 hT => ?_)
        · rw [body_same_sum Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h2 h5 hn X2 X3 X4 X5 f10 f8 f10 j, e4]
        · rw [hls]; unfold lastOf; rw [hi] at h5'
          have : t.val % 1025 = t0.val % 1025 + 1 := by omega
          omega
    · have h5' := (cond5_iff _ hn).not.1 h5
      have hA : after Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) X2 X3 X4 X5 X6 f7 f8 f9 f10 = ⟨(body_new Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 h5 X2 X3 X4 X5 X6 f7 f8 f9 f10).1, (body_new Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 h5 X2 X3 X4 X5 X6 f7 f8 f9 f10).2.1, (body_new Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 h5 X2 X3 X4 X5 X6 f7 f8 f9 f10).2.2.1, (body_new Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 h5 X2 X3 X4 X5 X6 f7 f8 f9 f10).2.2.2.1⟩ := by unfold after; exact (dif_neg h1).trans (dif_neg h5)
      rw [hA]
      refine ⟨fun t0 h0 hT => ?_, ?_⟩
      · have ht : t = t0 := Fin.ext (by omega)
        subst ht
        exact leaves_of m c t e2 e3 e5 e6 hi hls (body_new_leaves Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 h5 hn X2 X3 X4 X5 X6 f7 f8 f9 f10)
      · dsimp only
        rw [body_new_out Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h1 h2 h5 X2 X3 X4 X5 X6 f7 f8 f9 f10]
        refine out_of m f7 f8 f10 _ _ (1024 * lastSpan (grid0.coords t)) hI (fun j => ?_) (fun col => body_new_scale Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h2 X2 X3 X4 X5 f10 X6 f8 f10 col) (fun t0 h0 hT => ?_)
        · rw [body_new_sum Variants.none c none (grid0.coords t) arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) h2 hn X2 X3 X4 X5 f10 f8 f10 j, e4]
        · rw [hls]; unfold lastOf; rw [hi] at h5' hn
          have : t.val % 1025 = t0.val % 1025 + 1 := by omega
          omega

theorem inv_zero (c : Dev nD) (f8 : C8 Ideal) (f10 : C10 Ideal) : Inv m c 0 f8 f10 := fun t h => absurd h (by omega)

end Cert.AttendIdeal.Hand

end
-- ==== Proof.Output.lean ====
module

public import proofs.«01_k».proof.Proof.Kernel
public import proofs.«01_k».proof.Proof.Gen.AttendIdeal.Frame
public import proofs.«01_k».proof.Proof.Value
public import proofs.«01_k».proof.Proof.Numbers
public import Idealize.ShloMosaic.Lib.Pipeline.Value
public import Idealize.ShloMosaic.Lib.Pointwise
public import Idealize.ShloMosaic.Lib.Pipeline.Covers
public import Idealize.ShloMosaic.Lib.Pipeline.ValueKit
public import Idealize.ShloMosaic.Lib.WritesUnit

@[expose] public section

set_option maxRecDepth 16384

noncomputable section

namespace Cert.AttendIdeal.Hand

open Cert.AttendIdeal.Gen
open Idealize.ShloMosaic Idealize.ShloMosaic.TcCoe Idealize.ShloMosaic.Tactic
open Idealize.ShloMosaic.Pipeline (Dat RDat Cfg Window BodyObligation cellOf)
open Idealize.ShloMosaic.Rounds
open Idealize.SL Idealize.SL.RA Idealize.SL.BI
open scoped Idealize.SL.BI
open Idealize.SL.BI.BIBase Idealize.SL.BI.Laws Idealize.SL.ProofMode Idealize.SL.Sem

/-! What the output array holds after the launch: every block from the tile of the point before. -/

variable (m : (ℓ : Loc nD τ sig) → Buf (Elt Ideal) ℓ)

theorem tr5 (i : grid0.Coords) : cc0_transform_5 i = ![(i 0).val, (i 1).val - 1, 0] := by
  have h0 : ∀ x : Fin 2, (BitVec.ofNat 32 x.val).toNat = x.val := by decide
  have h1 : ∀ x : Fin 1025, (Scalar.maxsi (Scalar.subi (BitVec.ofNat 32 x.val) 1#32) 0#32).toNat = x.val - 1 := by decide +kernel
  unfold cc0_transform_5
  dsimp only
  rw [h0 (i 0), h1 (i 1)]
  rfl
theorem tr3 (i : grid0.Coords) (h : (i 1).val < 1024) : cc0_transform_3 i = ![(i 0).val, (i 1).val, 0, 0] := by
  have h0 : ∀ x : Fin 2, (BitVec.ofNat 32 x.val).toNat = x.val := by decide
  have h1 : ∀ x : Fin 1025, x.val < 1024 → (Scalar.minsi (BitVec.ofNat 32 x.val) 1023#32).toNat = x.val := by decide +kernel
  unfold cc0_transform_3
  dsimp only
  rw [h0 (i 0), h1 (i 1) h]
  rfl
theorem tr4 (i : grid0.Coords) (h : (i 1).val < 1024) : cc0_transform_4 i = ![(i 0).val, (i 1).val, 0, 0] := by
  have h0 : ∀ x : Fin 2, (BitVec.ofNat 32 x.val).toNat = x.val := by decide
  have h1 : ∀ x : Fin 1025, x.val < 1024 → (Scalar.minsi (BitVec.ofNat 32 x.val) 1023#32).toNat = x.val := by decide +kernel
  unfold cc0_transform_4
  dsimp only
  rw [h0 (i 0), h1 (i 1) h]
  rfl
theorem tr0 (i : grid0.Coords) : cc0_transform_0 i = ![(i 0).val, 0, 0] := by
  have h0 : ∀ x : Fin 2, (BitVec.ofNat 32 x.val).toNat = x.val := by decide
  unfold cc0_transform_0
  dsimp only
  rw [h0 (i 0)]
  rfl
theorem tr1 (i : grid0.Coords) : cc0_transform_1 i = ![(i 0).val, 0, 0, 0] := by
  have h0 : ∀ x : Fin 2, (BitVec.ofNat 32 x.val).toNat = x.val := by decide
  unfold cc0_transform_1
  dsimp only
  rw [h0 (i 0)]
  rfl
theorem tr2 (i : grid0.Coords) : cc0_transform_2 i = ![(i 0).val, 0, 0] := by
  have h0 : ∀ x : Fin 2, (BitVec.ofNat 32 x.val).toNat = x.val := by decide
  unfold cc0_transform_2
  dsimp only
  rw [h0 (i 0)]
  rfl

abbrev aK (c : Dev nD) : Vec Ideal S2x32768x128 .fp8e4m3 := m ((c.tc : Thread nD τ).loc main_arg0)
abbrev aC (c : Dev nD) : Vec Ideal S2x32x8x128 .f32 := m ((c.tc : Thread nD τ).loc main_arg1)
abbrev aV (c : Dev nD) : Vec Ideal S2x128x32768 .bf16 := m ((c.tc : Thread nD τ).loc main_arg2)
abbrev aQ (c : Dev nD) : Vec Ideal S2x1024x128x256 .fp8e4m3 := m ((c.tc : Thread nD τ).loc main_arg3)
abbrev aA (c : Dev nD) : Vec Ideal S2x1024x1x256 .f32 := m ((c.tc : Thread nD τ).loc main_arg4)

/-- A batch number. -/
abbrev bOf (t : Fin cfg0.N) : Fin 2 := Fin.ofNat 2 (t.val / 1025)

theorem bK_at (c : Dev nD) (t : Fin cfg0.N) (k : Fin 32768) (d : Fin 128) : bK m c t (ix3 0 k d) = aK m c (ix3 (bOf t) k d) := by
  have e : win0_0.index t = ![t.val / 1025 % 2, 0, 0] := (tr0 (grid0.coords t)).trans (by rw [(coords_val t).1])
  refine congrArg (aK m c) (funext fun a => Fin.ext ?_)
  refine (win0_0.rect_emb_val t _ a).trans ?_
  rw [e]
  match a with
  | ⟨0, _⟩ => show t.val / 1025 % 2 * 1 + 0 = t.val / 1025 % 2; omega
  | ⟨1, _⟩ => show 0 * 32768 + k.val = k.val; omega
  | ⟨2, _⟩ => show 0 * 128 + d.val = d.val; omega
theorem bC_at (c : Dev nD) (t : Fin cfg0.N) (j : Fin 32) (k : Fin 8) (d : Fin 128) : bC m c t (ix4 0 j k d) = aC m c (ix4 (bOf t) j k d) := by
  have e : win0_1.index t = ![t.val / 1025 % 2, 0, 0, 0] := (tr1 (grid0.coords t)).trans (by rw [(coords_val t).1])
  refine congrArg (aC m c) (funext fun a => Fin.ext ?_)
  refine (win0_1.rect_emb_val t _ a).trans ?_
  rw [e]
  match a with
  | ⟨0, _⟩ => show t.val / 1025 % 2 * 1 + 0 = t.val / 1025 % 2; omega
  | ⟨1, _⟩ => show 0 * 32 + j.val = j.val; omega
  | ⟨2, _⟩ => show 0 * 8 + k.val = k.val; omega
  | ⟨3, _⟩ => show 0 * 128 + d.val = d.val; omega
theorem bV_at (c : Dev nD) (t : Fin cfg0.N) (d : Fin 128) (k : Fin 32768) : bV m c t (ix3 0 d k) = aV m c (ix3 (bOf t) d k) := by
  have e : win0_2.index t = ![t.val / 1025 % 2, 0, 0] := (tr2 (grid0.coords t)).trans (by rw [(coords_val t).1])
  refine congrArg (aV m c) (funext fun a => Fin.ext ?_)
  refine (win0_2.rect_emb_val t _ a).trans ?_
  rw [e]
  match a with
  | ⟨0, _⟩ => show t.val / 1025 % 2 * 1 + 0 = t.val / 1025 % 2; omega
  | ⟨1, _⟩ => show 0 * 128 + d.val = d.val; omega
  | ⟨2, _⟩ => show 0 * 32768 + k.val = k.val; omega
theorem bQ_at (c : Dev nD) (t : Fin cfg0.N) (h : t.val % 1025 < 1024) (d : Fin 128) (q : Fin 256) : bQ m c t (ix4 0 0 d q) = aQ m c (ix4 (bOf t) (Fin.ofNat 1024 (t.val % 1025)) d q) := by
  have e : win0_3.index t = ![t.val / 1025 % 2, t.val % 1025, 0, 0] := (tr3 (grid0.coords t) (by rw [(coords_val t).2]; exact h)).trans (by rw [(coords_val t).1, (coords_val t).2])
  refine congrArg (aQ m c) (funext fun a => Fin.ext ?_)
  refine (win0_3.rect_emb_val t _ a).trans ?_
  rw [e]
  match a with
  | ⟨0, _⟩ => show t.val / 1025 % 2 * 1 + 0 = t.val / 1025 % 2; omega
  | ⟨1, _⟩ => show t.val % 1025 * 1 + 0 = t.val % 1025 % 1024; omega
  | ⟨2, _⟩ => show 0 * 128 + d.val = d.val; omega
  | ⟨3, _⟩ => show 0 * 256 + q.val = q.val; omega
theorem bA_at (c : Dev nD) (t : Fin cfg0.N) (h : t.val % 1025 < 1024) (q : Fin 256) : bA m c t (ix4 0 0 0 q) = aA m c (ix4 (bOf t) (Fin.ofNat 1024 (t.val % 1025)) 0 q) := by
  have e : win0_4.index t = ![t.val / 1025 % 2, t.val % 1025, 0, 0] := (tr4 (grid0.coords t) (by rw [(coords_val t).2]; exact h)).trans (by rw [(coords_val t).1, (coords_val t).2])
  refine congrArg (aA m c) (funext fun a => Fin.ext ?_)
  refine (win0_4.rect_emb_val t _ a).trans ?_
  rw [e]
  match a with
  | ⟨0, _⟩ => show t.val / 1025 % 2 * 1 + 0 = t.val / 1025 % 2; omega
  | ⟨1, _⟩ => show t.val % 1025 * 1 + 0 = t.val % 1025 % 1024; omega
  | ⟨2, _⟩ => show 0 * 1 + 0 = 0; omega
  | ⟨3, _⟩ => show 0 * 256 + q.val = q.val; omega

section Spec
variable (K : Vec Ideal S2x32768x128 .fp8e4m3) (C : Vec Ideal S2x32x8x128 .f32) (V : Vec Ideal S2x128x32768 .bf16) (Q : Vec Ideal S2x1024x128x256 .fp8e4m3) (A : Vec Ideal S2x1024x1x256 .f32)
  (b : Fin 2) (tok : ℕ) (col : Fin 256) (d : Fin 128)

/-- A query's score at a key, before the query's scale. -/
def zA (k : ℕ) : EReal := if k ≤ tok then
    (∑ d : Fin 128, (K (ix3 b (Fin.ofNat 32768 k) d) : EReal) * (Q (ix4 b (Fin.ofNat 1024 (tok / 32)) d col) : EReal))
      * (C (ix4 b (Fin.ofNat 32 (k / 1024)) (Fin.ofNat 8 (k % 8)) (Fin.ofNat 128 (k % 1024 / 8))) : EReal)
  else ⊥

/-- One element of the output. -/
def oA : EReal := rO (fun k => zA K C Q b tok col k * (A (ix4 b (Fin.ofNat 1024 (tok / 32)) 0 col) : EReal)) (fun k => (V (ix3 b d (Fin.ofNat 32768 k)) : EReal))

/-- The output. -/
def out (i : S2x32768x1024.Idx) : EReal := oA K C V Q A (i 0) (i 1).val (Fin.ofNat 256 (32 * ((i 2).val / 128) + (i 1).val % 32)) (Fin.ofNat 128 ((i 2).val % 128))

end Spec

/-- A block is the output at its place. -/
theorem blk_value (c : Dev nD) (hA : ∀ i : S2x1024x1x256.Idx, (0 : EReal) < aA m c i) (t t' : Fin cfg0.N) (ht : t'.val = t.val + 1) (h : t.val % 1025 < 1024) (y : S1x32x1024.Idx) (i : S2x32768x1024.Idx)
    (h0 : (i 0).val = t.val / 1025) (h1 : (i 1).val = 32 * (t.val % 1025) + (y 1).val) (h2 : (i 2).val = (y 2).val) :
    blkOut m c t t' y = out (aK m c) (aC m c) (aV m c) (aQ m c) (aA m c) i := by
  have y1 : (y 1).val < 32 := (y 1).isLt
  have y2 : (y 2).val < 1024 := (y 2).isLt
  have e0 : bOf t = i 0 := Fin.ext (by show t.val / 1025 % 2 = _; rw [← h0]; exact Nat.mod_eq_of_lt (i 0).isLt)
  have e0' : bOf t' = i 0 := Fin.ext (by
    have : (i 0).val < 2 := (i 0).isLt
    show t'.val / 1025 % 2 = _; rw [h0, ht]; omega)
  have ec : Fin.ofNat 256 (32 * ((i 2).val / 128) + (i 1).val % 32) = colOf y := Fin.ext (by
    show (32 * ((i 2).val / 128) + (i 1).val % 32) % 256 = (32 * ((y 2).val / 128) + (y 1).val) % 256
    rw [h1, h2]; omega)
  have eT : (i 1).val / 32 = t.val % 1025 := by omega
  have ez : ∀ key, Ym (t.val % 1025) (bK m c t) (bC m c t) (bQ m c t) key (colOf y) = zA (aK m c) (aC m c) (aQ m c) (i 0) (i 1).val (colOf y) key := fun key => by
    unfold Ym zA Yf
    refine if_congr ?_ ?_ rfl
    · show key ≤ 32 * (t.val % 1025) + (32 * ((y 2).val / 128) + (y 1).val) % 256 % 32 ↔ _
      rw [h1]; omega
    · rw [bC_at, e0, eT]
      refine congrArg₂ (· * ·) (Finset.sum_congr rfl fun d _ => ?_) rfl
      rw [bK_at, bQ_at m c t h, e0]
  have ea : bA m c t (ix4 0 0 0 (colOf y)) = aA m c (ix4 (i 0) (Fin.ofNat 1024 ((i 1).val / 32)) 0 (colOf y)) := by
    rw [bA_at m c t h, e0, eT]
  unfold out oA
  rw [ec, h2]
  have hb : 1024 * (lastOf (t.val % 1025) + 1) ≤ 32768 ∧ (i 1).val < 1024 * (lastOf (t.val % 1025) + 1) := by unfold lastOf; omega
  refine Eq.trans ?_ (column (1024 * (lastOf (t.val % 1025) + 1)) (i 1).val hb.1 hb.2 (aA m c (ix4 (i 0) (Fin.ofNat 1024 ((i 1).val / 32)) 0 (colOf y))) (hA _)
    (zA (aK m c) (aC m c) (aQ m c) (i 0) (i 1).val (colOf y)) _ _ (fun k hk => if_neg (by omega)) (fun k => rfl))
  have eE : ∀ key, tE m c t key (colOf y) = Ex ((Finset.range (1024 * (lastOf (t.val % 1025) + 1))).sup (zA (aK m c) (aC m c) (aQ m c) (i 0) (i 1).val (colOf y)) * (aA m c (ix4 (i 0) (Fin.ofNat 1024 ((i 1).val / 32)) 0 (colOf y)) : EReal)) (aA m c (ix4 (i 0) (Fin.ofNat 1024 ((i 1).val / 32)) 0 (colOf y))) (zA (aK m c) (aC m c) (aQ m c) (i 0) (i 1).val (colOf y) key) := fun key => by
    unfold tE Es Mx
    rw [ea, ez, Finset.sup_congr rfl fun key _ => ez key]
  have eL : tL m c t (colOf y) = ∑ key ∈ Finset.range (1024 * (lastOf (t.val % 1025) + 1)), tE m c t key (colOf y) := rfl
  unfold blkOut Of
  dsimp only
  rw [eL, Finset.sum_congr rfl fun key _ => eE key]
  refine congrArg₂ (· * ·) (Finset.sum_congr rfl fun key _ => ?_) rfl
  rw [bV_at, e0', eE]

theorem flush_prev (t : Fin cfg0.N) (hf : (cfg0.win 5).flush t = true) : 1 ≤ t.val % 1025 := by
  have hN : cfg0.N = 2050 := rfl
  by_contra h
  have h0 : t.val % 1025 = 0 := by omega
  have hlt : t.val < 2050 := t.isLt
  rcases ((cfg0.win 5).flush_out rfl t).1 hf with h1 | ⟨h1, h2⟩
  · have : t.val + 1 = 2050 := h1
    omega
  · refine h2 ?_
    refine (tr5 (grid0.coords ⟨t.val + 1, h1⟩)).trans (Eq.trans ?_ (tr5 (grid0.coords t)).symm)
    rw [(coords_val _).1, (coords_val _).2, (coords_val t).1, (coords_val t).2]
    have a1 : (t.val + 1) / 1025 % 2 = t.val / 1025 % 2 := by omega
    have a2 : (t.val + 1) % 1025 - 1 = t.val % 1025 - 1 := by omega
    show ![(t.val + 1) / 1025 % 2, (t.val + 1) % 1025 - 1, 0] = _
    rw [a1, a2]

theorem covers5 : (cfg0.win 5).Covers := by
  refine (cfg0.win 5).covers_of_index_surj rfl (by decide) fun β => ?_
  have b0 : (β 0).val < 2 := (β 0).isLt
  have b1 : (β 1).val < 1024 := (β 1).isLt
  have b2 : (β 2).val < 1 := (β 2).isLt
  have hN : 1025 * (β 0).val + (β 1).val + 1 < cfg0.N := by show _ < 2050; omega
  refine ⟨⟨1025 * (β 0).val + (β 1).val + 1, hN⟩, fun a => ?_⟩
  have e := tr5 (grid0.coords ⟨1025 * (β 0).val + (β 1).val + 1, hN⟩)
  rw [(coords_val _).1, (coords_val _).2] at e
  refine (congrFun e a).trans ?_
  match a with
  | ⟨0, _⟩ => show (1025 * (β 0).val + (β 1).val + 1) / 1025 % 2 = (β 0).val; omega
  | ⟨1, _⟩ => show (1025 * (β 0).val + (β 1).val + 1) % 1025 - 1 = (β 1).val; omega
  | ⟨2, _⟩ => show 0 = (β 2).val; omega

/-- The launch's result: the output, and the arguments unchanged. -/
theorem result (ρ : Dev nD → PrngReg) (hA : ∀ (c : Dev nD) (i : S2x1024x1x256.Idx), (0 : EReal) < aA m c i) :
    θ_run defs (onTc (τ := τ) (main (F := Ideal))) ⟨m, fun _ => 0, ρ⟩ (fun r => ∀ c : Dev nD,
      (r.2.mem ((c.tc : Thread nD τ).loc main_v0) = fun i : S2x32768x1024.Idx => out (aK m c) (aC m c) (aV m c) (aQ m c) (aA m c) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ (Inv m) (Out m) (keeps m) (inv_zero m))
  refine ⟨?_, h.1.arr_in c 0 rfl, h.1.arr_in c 1 rfl, h.1.arr_in c 2 rfl, h.1.arr_in c 3 rfl, h.1.arr_in c 4 rfl⟩
  obtain ⟨after, hL, hr⟩ := h.1.exists_exact c
  refine (hr 5).trans (funext fun i => ?_)
  refine Dat.arrAt_forall_of_covers ((rdat m (Inv m) (Out m) c).withAfter after) 5 (fun i v => (v : EReal) = out (aK m c) (aC m c) (aV m c) (aQ m c) (aA m c) i) covers5 (fun t hf y => ?_) i
  have ho : Out m c t (after 5 t) := by
    have := hL 5 t hf
    exact Eq.mp (Rl_5 (Out m) c t (after 5 t)) (Dat.toRRel_leaves (dats m (Inv m) 0 c) (Rl := Rl (Out m) c) (fgt := marked) (w := 5) rfl this)
  have hp := flush_prev t hf
  have hlt : t.val < 2050 := t.isLt
  have hN : t.val - 1 < cfg0.N := by show _ < 2050; omega
  have e1 : t.val = (⟨t.val - 1, hN⟩ : Fin cfg0.N).val + 1 := by show _ = t.val - 1 + 1; omega
  have e2 : (⟨t.val - 1, hN⟩ : Fin cfg0.N).val % 1025 < 1024 := by show (t.val - 1) % 1025 < 1024; omega
  have ix : win0_5.index t = ![t.val / 1025 % 2, t.val % 1025 - 1, 0] := (tr5 (grid0.coords t)).trans (by rw [(coords_val t).1, (coords_val t).2])
  have em : ∀ a, (((cfg0.win 5).blk t).view.emb y a).val = ![t.val / 1025 % 2, t.val % 1025 - 1, 0] a * S1x32x1024.size a + (y a).val := fun a =>
    (win0_5.rect_emb_val t y a).trans (by rw [ix])
  refine (ho ⟨t.val - 1, hN⟩ e1 e2 y).trans (blk_value m c (hA c) ⟨t.val - 1, hN⟩ t e1 e2 y _ ?_ ?_ ?_)
  · have q : (y 0).val < 1 := (y 0).isLt
    refine (em 0).trans ?_
    show t.val / 1025 % 2 * 1 + (y 0).val = (t.val - 1) / 1025
    omega
  · refine (em 1).trans ?_
    show (t.val % 1025 - 1) * 32 + (y 1).val = 32 * ((t.val - 1) % 1025) + (y 1).val
    omega
  · refine (em 2).trans ?_
    show 0 * 1024 + (y 2).val = (y 2).val
    omega

end Cert.AttendIdeal.Hand

end
-- ==== Proof.Agree.lean ====
module

public import proofs.«01_k».proof.Defs
public import proofs.«01_k».proof.Proof.Gen.Pre_pre
public import proofs.«01_k».proof.Proof.Gen.ReferenceIdeal.Run
public import proofs.«01_k».proof.Proof.Ref
public import proofs.«01_k».proof.Proof.Output
public import Idealize.ShloMosaic.Lib.Pipeline.ValueKit
public import Idealize.ShloMosaic.Lib.ReduceAll

@[expose] public section

set_option maxRecDepth 16384

noncomputable section

namespace Cert.ReferenceIdeal.Hand

open Cert.ReferenceIdeal Cert.ReferenceIdeal.Gen Cert.ReferenceIdeal.Read
open Cert.AttendIdeal.Hand (rM rE rL rP rA rS rC rO zA oA out)
open Idealize.ShloMosaic Idealize.ShloMosaic.TcCoe Idealize.ShloMosaic.Tactic Idealize.ShloMosaic.ValueIdx
open Idealize.ShloMosaic.Pipeline (Dat Window)

/-! The reference's result as a function of the arguments. -/

section Congr
variable {s s' v v' : ℕ → EReal} (h : ∀ k : Fin 32768, s k.val = s' k.val)
include h

theorem rM_congr : rM s = rM s' := by
  unfold rM
  exact Finset.fold_congr fun k _ => h k
theorem rE_congr (k : Fin 32768) : rE s k.val = rE s' k.val := by
  unfold rE
  rw [rM_congr h, h k]
theorem rL_congr : rL s = rL s' := by
  unfold rL
  exact Finset.sum_congr rfl fun k _ => rE_congr h k
theorem rP_congr (k : Fin 32768) : rP s k.val = rP s' k.val := by
  unfold rP
  rw [rL_congr h, rE_congr h k]
theorem rA_congr : rA s = rA s' := by
  unfold rA
  exact Finset.fold_congr fun k _ => by rw [rP_congr h k]
theorem rS_congr : rS s = rS s' := by
  unfold rS
  rw [rA_congr h]
theorem rC_congr (k : Fin 32768) : rC s k.val = rC s' k.val := by
  unfold rC
  rw [rS_congr h, rP_congr h k]
theorem rO_congr (hv : ∀ k : Fin 32768, v k.val = v' k.val) : rO s v = rO s' v' := by
  unfold rO
  rw [rS_congr h, Finset.sum_congr rfl fun k _ => congrArg₂ (· * ·) (rC_congr h k) (hv k)]

end Congr

variable (m : (ℓ : Loc nD τ sig) → Buf (Elt Ideal) ℓ)

/-- The decoded keys are the codes' values. -/
theorem codesK (c : Dev nD) (j : S2x32768x128.Idx) : (Value.reg_main_v0_0 (F := Ideal) m c : Vec Ideal S2x32768x128 .f32) j = (m ((c.tc : Thread nD τ).loc main_arg0) : Vec Ideal S2x32768x128 .fp8e4m3) j := by
  unfold Value.reg_main_v0_0
  refine congrFun ((Gen.dats m 0 c).arrAt_eq_of_after_last 2 ⟨0, by decide⟩ (by decide +kernel) (m ((c.tc : Thread nD τ).loc main_arg0)) fun j => ?_) j
  refine (congrFun (after0_2 m c ⟨0, by decide⟩) _).trans ?_
  unfold out0_2
  rw [View.canon_cons_unit_lit _ _ _ (by decide), View.ld_unit_lit _ _ (by decide)]
  refine congrArg (m ((c.tc : Thread nD τ).loc main_arg0)) (funext fun a => Fin.ext ?_)
  exact win0_0.rect_emb_val_of_index_zero _ a (match a with | ⟨0, _⟩ => rfl | ⟨1, _⟩ => rfl | ⟨2, _⟩ => rfl) _
theorem codesQ (c : Dev nD) (j : S2x1024x128x256.Idx) : (Value.reg_main_v0_1 (F := Ideal) m c : Vec Ideal S2x1024x128x256 .f32) j = (m ((c.tc : Thread nD τ).loc main_arg3) : Vec Ideal S2x1024x128x256 .fp8e4m3) j := by
  unfold Value.reg_main_v0_1
  refine congrFun ((Gen.dats m 0 c).arrAt_eq_of_after_last 3 ⟨0, by decide⟩ (by decide +kernel) (m ((c.tc : Thread nD τ).loc main_arg3)) fun j => ?_) j
  refine (congrFun (after0_3 m c ⟨0, by decide⟩) _).trans ?_
  unfold out0_3
  rw [View.canon_cons_unit_lit _ _ _ (by decide), View.ld_unit_lit _ _ (by decide)]
  refine congrArg (m ((c.tc : Thread nD τ).loc main_arg3)) (funext fun a => Fin.ext ?_)
  exact win0_1.rect_emb_val_of_index_zero _ a (match a with | ⟨0, _⟩ => rfl | ⟨1, _⟩ => rfl | ⟨2, _⟩ => rfl | ⟨3, _⟩ => rfl) _

/-- The reference's result is the kernel's output. -/
theorem v67_out (K : Vec Ideal S2x32768x128 .fp8e4m3) (x1 : Vec Ideal S2x32x8x128 .f32) (x2 : Vec Ideal S2x128x32768 .bf16) (Q : Vec Ideal S2x1024x128x256 .fp8e4m3) (x4 : Vec Ideal S2x1024x1x256 .f32)
    (r0 : Vec Ideal S2x32768x128 .f32) (r1 : Vec Ideal S2x1024x128x256 .f32) (h0 : ∀ j, (r0 j : EReal) = K j) (h1 : ∀ j, (r1 j : EReal) = Q j)
    (hA : ∀ j, (0 : EReal) < x4 j) (i : S2x32768x1024.Idx) : (val_main_v67 (F := Ideal) x1 x2 x4 r0 r1 i : EReal) = out K x1 x2 Q x4 i := by
  have i0 : (i 0).val < 2 := (i 0).isLt
  have i1 : (i 1).val < 32768 := (i 1).isLt
  have i2 : (i 2).val < 1024 := (i 2).isLt
  have eT : Fin.ofNat 1024 ((i 1).val / 32) = ⟨(i 1).val / 32, by omega⟩ := Fin.ext (Nat.mod_eq_of_lt (by omega))
  have ec : Fin.ofNat 256 (32 * ((i 2).val / 128) + (i 1).val % 32) = ⟨32 * ((i 2).val / 128) + (i 1).val % 32, by omega⟩ := Fin.ext (Nat.mod_eq_of_lt (by omega))
  have ed : Fin.ofNat 128 ((i 2).val % 128) = ⟨(i 2).val % 128, by omega⟩ := Fin.ext (Nat.mod_eq_of_lt (by omega))
  unfold out oA
  rw [eT, ec, ed]
  refine (v67 x1 x2 x4 r0 r1 i).trans (rO_congr (fun k => ?_) fun k => rfl)
  have hk : k.val < 32768 := k.isLt
  refine (sc_eq x1 x4 r0 r1 (i 0) (i 1) ⟨(i 2).val / 128, by omega⟩ k.val hk).trans ?_
  have e1 : Fin.ofNat 32 (k.val / 1024) = ⟨k.val / 1024, by omega⟩ := Fin.ext (Nat.mod_eq_of_lt (by omega))
  have e2 : Fin.ofNat 8 (k.val % 8) = ⟨k.val % 8, by omega⟩ := Fin.ext (Nat.mod_eq_of_lt (by omega))
  have e3 : Fin.ofNat 128 (k.val % 1024 / 8) = ⟨k.val % 1024 / 8, by omega⟩ := Fin.ext (Nat.mod_eq_of_lt (by omega))
  unfold zA
  rw [eT, e1, e2, e3, ofn]
  by_cases hq : k.val ≤ (i 1).val
  · rw [if_pos hq, if_pos hq]
    refine (mul_right_comm _ _ _).trans (congrArg₂ (· * ·) (congrArg₂ (· * ·) (Finset.sum_congr rfl fun d _ => ?_) rfl) rfl)
    exact (mul_comm _ _).trans (congrArg₂ (· * ·) (h0 _) (h1 _))
  · rw [if_neg hq, if_neg hq]
    exact (EReal.bot_mul_of_pos (hA _)).symm

end Cert.ReferenceIdeal.Hand

namespace Cert.Proof

open Idealize.ShloMosaic Idealize.ShloMosaic.TcCoe Idealize.SL.Sem

/-- The precondition, at an index. -/
theorem pos_of_pre (m : (ℓ : Loc Cert.AttendIdeal.nD Cert.AttendIdeal.τ Cert.AttendIdeal.sig) → Buf (Elt Ideal) ℓ) (h : Cert.Pre_AttendIdeal_pre (hPre_pre := Cert.Pre_pre.Gen.facts) m)
    (c : Dev Cert.AttendIdeal.nD) (i : Cert.AttendIdeal.S2x1024x1x256.Idx) :
    (0 : EReal) < (m ((c.tc : Thread Cert.AttendIdeal.nD Cert.AttendIdeal.τ).loc Cert.AttendIdeal.main_arg4) : Vec Ideal Cert.AttendIdeal.S2x1024x1x256 .f32) i := by
  have h1 := congrFun (h c) (Shape.Idx.first (by decide))
  dsimp only [Cert.Pre_pre.fn] at h1
  have h2 := Host.reduce_andi_all _ _ _ _ _ h1 i
  have h3 : Ideal.cmp .ogt ((m ((c.tc : Thread Cert.AttendIdeal.nD Cert.AttendIdeal.τ).loc Cert.AttendIdeal.main_arg4) : Vec Ideal Cert.AttendIdeal.S2x1024x1x256 .f32) i) (Ideal.ofBits .f32 0x00000000#32) = 1 := h2
  rw [Cert.ReferenceIdeal.Hand.zero_bits] at h3
  unfold Ideal.cmp at h3
  by_contra hn
  simp [hn] at h3

/-- The kernel's result is the reference's. -/
theorem agree : Cert.algebraic_AttendIdeal_ReferenceIdeal_pre_pre (hAttendIdeal := Cert.AttendIdeal.Gen.facts) (hReferenceIdeal := Cert.ReferenceIdeal.Gen.facts) (hPre_pre := Cert.Pre_pre.Gen.facts) := by
  intro m g m' g' hpre hargs
  have hA := pos_of_pre m hpre
  refine ⟨fun c => fun i => Cert.AttendIdeal.Hand.out (Cert.AttendIdeal.Hand.aK m c) (Cert.AttendIdeal.Hand.aC m c) (Cert.AttendIdeal.Hand.aV m c) (Cert.AttendIdeal.Hand.aQ m c) (Cert.AttendIdeal.Hand.aA m c) i,
    Cert.AttendIdeal.Hand.result m g hA, (θ_run _ _ _).mono (fun r h c => ?_) (Cert.ReferenceIdeal.Value.run m' g')⟩
  obtain ⟨a0, a1, a2, a3, a4⟩ := hargs c
  refine ⟨(h c).1.trans ((Cert.ReferenceIdeal.Read.val_main_v67_eq (Cert.ReferenceIdeal.Value.exitV m' c)).trans (funext fun i => ?_)), (h c).2⟩
  rw [Cert.ReferenceIdeal.Value.exit_main_arg1, Cert.ReferenceIdeal.Value.exit_main_arg2, Cert.ReferenceIdeal.Value.exit_main_arg4, Cert.ReferenceIdeal.Value.exit_main_v0_0, Cert.ReferenceIdeal.Value.exit_main_v0_1, a1, a2, a4]
  exact Cert.ReferenceIdeal.Hand.v67_out _ _ _ _ _ _ _ (fun j => (Cert.ReferenceIdeal.Hand.codesK m' c j).trans (congrFun a0 j)) (fun j => (Cert.ReferenceIdeal.Hand.codesQ m' c j).trans (congrFun a3 j)) (hA c) i

end Cert.Proof

end
-- ==== Proof.lean ====
/- The claim of this certificate, assembled: the frames of the kernel (Run.lean, IdealRun.lean), the reference's frame
   (generated) and the rest. -/
module

public import proofs.«01_k».proof.Defs
public import proofs.«01_k».proof.Proof.Gen.Attend
public import proofs.«01_k».proof.Proof.Gen.Attend.Skeleton
public import proofs.«01_k».proof.Proof.Gen.Attend.Loops
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Loops
public import proofs.«01_k».proof.Proof.Gen.AttendIdeal.Launch
public import proofs.«01_k».proof.Proof.Gen.AttendIdeal.Points
public import proofs.«01_k».proof.Proof.Gen.AttendIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_pre
public import proofs.«01_k».proof.Proof.Run
public import proofs.«01_k».proof.Proof.IdealRun
public import proofs.«01_k».proof.Proof.Agree
public import Idealize.ShloMosaic.Adequacy
public import Idealize.ShloMosaic.Init

@[expose] public section

noncomputable section

namespace Cert.Proof

open Idealize.ShloMosaic Idealize.SL.Sem Cert.Attend

theorem claim : Cert.Claim := ⟨Cert.Attend.Gen.facts, Cert.AttendIdeal.Gen.facts, Cert.ReferenceIdeal.Gen.facts, Cert.Pre_pre.Gen.facts, by
  exact ⟨fun m g _ => Cert.Attend.Hand.frame_main m g, fun m g _ => Cert.AttendIdeal.Hand.frame_main m g,
    fun m g _ => Cert.AttendIdeal.Hand.frame_main m g, fun m g _ => Cert.ReferenceIdeal.Gen.frame m g,
    fun m g _ => Cert.ReferenceIdeal.Gen.frame m g, trivial, agree⟩⟩

end Cert.Proof

end
